-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "q_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v129) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)) (v2 : (c : Dev Cert.Kernel3Ideal.nD) → Buf (Elt Ideal) ((c.tc : Thread Cert.Kernel3Ideal.nD Cert.Kernel3Ideal.τ).loc Cert.Kernel3Ideal.main_v45_2)) (v3 : (c : Dev Cert.Kernel3Ideal.nD) → Buf (Elt Ideal) ((c.tc : Thread Cert.Kernel3Ideal.nD Cert.Kernel3Ideal.τ).loc Cert.Kernel3Ideal.main_v45_3)) (v4 : (c : Dev Cert.Kernel3Ideal.nD) → Buf (Elt Ideal) ((c.tc : Thread Cert.Kernel3Ideal.nD Cert.Kernel3Ideal.τ).loc Cert.Kernel3Ideal.main_v51)) (v5 : (c : Dev Cert.Kernel3Ideal.nD) → Buf (Elt Ideal) ((c.tc : Thread Cert.Kernel3Ideal.nD Cert.Kernel3Ideal.τ).loc Cert.Kernel3Ideal.main_v53)) (v6 : (c : Dev Cert.Kernel3Ideal.nD) → Buf (Elt Ideal) ((c.tc : Thread Cert.Kernel3Ideal.nD Cert.Kernel3Ideal.τ).loc Cert.Kernel3Ideal.main_v55)) (v7 : (c : Dev Cert.Kernel3Ideal.nD) → Buf (Elt Ideal) ((c.tc : Thread Cert.Kernel3Ideal.nD Cert.Kernel3Ideal.τ).loc Cert.Kernel3Ideal.main_v57)) (v8 : (c : Dev Cert.Kernel3Ideal.nD) → Buf (Elt Ideal) ((c.tc : Thread Cert.Kernel3Ideal.nD Cert.Kernel3Ideal.τ).loc Cert.Kernel3Ideal.main_v49)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_v45_2) = v2 c
          ∧ r.2.mem ((c.tc : Thread Cert.Kernel3Ideal.nD Cert.Kernel3Ideal.τ).loc Cert.Kernel3Ideal.main_v45_3) = v3 c
          ∧ r.2.mem ((c.tc : Thread Cert.Kernel3Ideal.nD Cert.Kernel3Ideal.τ).loc Cert.Kernel3Ideal.main_v51) = v4 c
          ∧ r.2.mem ((c.tc : Thread Cert.Kernel3Ideal.nD Cert.Kernel3Ideal.τ).loc Cert.Kernel3Ideal.main_v53) = v5 c
          ∧ r.2.mem ((c.tc : Thread Cert.Kernel3Ideal.nD Cert.Kernel3Ideal.τ).loc Cert.Kernel3Ideal.main_v55) = v6 c
          ∧ r.2.mem ((c.tc : Thread Cert.Kernel3Ideal.nD Cert.Kernel3Ideal.τ).loc Cert.Kernel3Ideal.main_v57) = v7 c
          ∧ r.2.mem ((c.tc : Thread Cert.Kernel3Ideal.nD Cert.Kernel3Ideal.τ).loc Cert.Kernel3Ideal.main_v49) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v98) = v1 c
          ∧ r.2.mem ((c.tc : Thread Cert.Reference3Ideal.nD Cert.Reference3Ideal.τ).loc Cert.Reference3Ideal.main_v100) = v2 c
          ∧ r.2.mem ((c.tc : Thread Cert.Reference3Ideal.nD Cert.Reference3Ideal.τ).loc Cert.Reference3Ideal.main_v102) = v3 c
          ∧ r.2.mem ((c.tc : Thread Cert.Reference3Ideal.nD Cert.Reference3Ideal.τ).loc Cert.Reference3Ideal.main_v104) = v4 c
          ∧ r.2.mem ((c.tc : Thread Cert.Reference3Ideal.nD Cert.Reference3Ideal.τ).loc Cert.Reference3Ideal.main_v106) = v5 c
          ∧ r.2.mem ((c.tc : Thread Cert.Reference3Ideal.nD Cert.Reference3Ideal.τ).loc Cert.Reference3Ideal.main_v108) = v6 c
          ∧ r.2.mem ((c.tc : Thread Cert.Reference3Ideal.nD Cert.Reference3Ideal.τ).loc Cert.Reference3Ideal.main_v110) = v7 c
          ∧ r.2.mem ((c.tc : Thread Cert.Reference3Ideal.nD Cert.Reference3Ideal.τ).loc Cert.Reference3Ideal.main_v117) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x8x64 : Shape := ⟨4, ![16, 2048, 8, 64]⟩
abbrev S16x2x2048x32 : Shape := ⟨4, ![16, 2, 2048, 32]⟩
abbrev S16x2048x8x3 : Shape := ⟨4, ![16, 2048, 8, 3]⟩
abbrev S16x2x2048x64 : Shape := ⟨4, ![16, 2, 2048, 64]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S2 : Shape := ⟨1, ![2]⟩
abbrev S2x1x1 : Shape := ⟨3, ![2, 1, 1]⟩
abbrev S_ : Shape := ⟨0, ![]⟩
abbrev S2x128x1 : Shape := ⟨3, ![2, 128, 1]⟩
abbrev S2x128x256 : Shape := ⟨3, ![2, 128, 256]⟩
abbrev S1x128 : Shape := ⟨2, ![1, 128]⟩
abbrev S128x1 : Shape := ⟨2, ![128, 1]⟩
abbrev S128x128 : Shape := ⟨2, ![128, 128]⟩
abbrev S256x1 : Shape := ⟨2, ![256, 1]⟩
abbrev S512 : Shape := ⟨1, ![512]⟩
abbrev S1x512 : Shape := ⟨2, ![1, 512]⟩
abbrev S256x512 : Shape := ⟨2, ![256, 512]⟩
abbrev S256x1024 : Shape := ⟨2, ![256, 1024]⟩
abbrev S16x2048x2x32 : Shape := ⟨4, ![16, 2048, 2, 32]⟩
abbrev S16x2048x2x1x32 : Shape := ⟨5, ![16, 2048, 2, 1, 32]⟩
abbrev S16x2048x2x4x32 : Shape := ⟨5, ![16, 2048, 2, 4, 32]⟩
abbrev S32768x8x64 : Shape := ⟨3, ![32768, 8, 64]⟩
abbrev S32768x8x32 : Shape := ⟨3, ![32768, 8, 32]⟩
abbrev S32768x8x128 : Shape := ⟨3, ![32768, 8, 128]⟩
abbrev S32768x1024 : Shape := ⟨2, ![32768, 1024]⟩
abbrev S32768x2x12 : Shape := ⟨3, ![32768, 2, 12]⟩
abbrev S32768x2x116 : Shape := ⟨3, ![32768, 2, 116]⟩
abbrev S32768x2x128 : Shape := ⟨3, ![32768, 2, 128]⟩
abbrev S32768x256 : Shape := ⟨2, ![32768, 256]⟩
abbrev S64 : Shape := ⟨1, ![64]⟩
abbrev S1x64 : Shape := ⟨2, ![1, 64]⟩
abbrev S2048 : Shape := ⟨1, ![2048]⟩
abbrev S2048x1 : Shape := ⟨2, ![2048, 1]⟩
abbrev S2048x64 : Shape := ⟨2, ![2048, 64]⟩
abbrev S1x2048x1x64 : Shape := ⟨4, ![1, 2048, 1, 64]⟩
abbrev S16x2048x2x64 : Shape := ⟨4, ![16, 2048, 2, 64]⟩
abbrev S32768x2x64 : Shape := ⟨3, ![32768, 2, 64]⟩
abbrev S32768x2x256 : Shape := ⟨3, ![32768, 2, 256]⟩
abbrev S32768x512 : Shape := ⟨2, ![32768, 512]⟩
abbrev S128x1024 : Shape := ⟨2, ![128, 1024]⟩
abbrev S128x256 : Shape := ⟨2, ![128, 256]⟩
abbrev S128x512 : Shape := ⟨2, ![128, 512]⟩
abbrev S2048x128 : Shape := ⟨2, ![2048, 128]⟩
abbrev S1x128x256 : Shape := ⟨3, ![1, 128, 256]⟩
abbrev S256x256 : Shape := ⟨2, ![256, 256]⟩
abbrev S256x128 : Shape := ⟨2, ![256, 128]⟩
abbrev S512x128 : Shape := ⟨2, ![512, 128]⟩
abbrev S640x128 : Shape := ⟨2, ![640, 128]⟩
abbrev S256x640 : Shape := ⟨2, ![256, 640]⟩
abbrev S256x384 : Shape := ⟨2, ![256, 384]⟩
abbrev S768x128 : Shape := ⟨2, ![768, 128]⟩
abbrev S256x768 : Shape := ⟨2, ![256, 768]⟩
abbrev S1024x128 : Shape := ⟨2, ![1024, 128]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 208
  | .vmem => 27
  | .smem => 0
  | _ => 0

abbrev hbmTy0_0 (i : Nat) : BufTy := match i % 128 with
  | 0 => ⟨S16x2048x8x64, .f32⟩
  | 1 => ⟨S16x2x2048x32, .i32⟩
  | 2 => ⟨S16x2048x8x3, .f32⟩
  | 3 => ⟨S16x2048x8x64, .f32⟩
  | 4 => ⟨S16x2x2048x64, .f32⟩
  | 5 => ⟨S16x2x2048x64, .f32⟩
  | 6 => ⟨S16x2x2048x64, .f32⟩
  | 7 => ⟨S16x2x2048x64, .f32⟩
  | 8 => ⟨S128, .i32⟩
  | 9 => ⟨S1x128x1, .i32⟩
  | 10 => ⟨S256, .i32⟩
  | 11 => ⟨S1x1x256, .i32⟩
  | 12 => ⟨S2, .i32⟩
  | 13 => ⟨S2x1x1, .i32⟩
  | 14 => ⟨S_, .i32⟩
  | 15 => ⟨S2x1x1, .i32⟩
  | 16 => ⟨S2x1x1, .i32⟩
  | 17 => ⟨S2x128x1, .i32⟩
  | 18 => ⟨S2x128x1, .i32⟩
  | 19 => ⟨S2x128x1, .i32⟩
  | 20 => ⟨S2x128x256, .i32⟩
  | 21 => ⟨S2x128x256, .i32⟩
  | 22 => ⟨S2x128x256, .i1⟩
  | 23 => ⟨S_, .f32⟩
  | 24 => ⟨S_, .f32⟩
  | 25 => ⟨S2x128x256, .f32⟩
  | 26 => ⟨S2x128x256, .f32⟩
  | 27 => ⟨S2x128x256, .f32⟩
  | 28 => ⟨S2x128x256, .f32⟩
  | 29 => ⟨S128, .i32⟩
  | 30 => ⟨S1x128, .i32⟩
  | 31 => ⟨S128, .i32⟩
  | 32 => ⟨S128x1, .i32⟩
  | 33 => ⟨S128x128, .i32⟩
  | 34 => ⟨S128x128, .i32⟩
  | 35 => ⟨S128x128, .i1⟩
  | 36 => ⟨S_, .f32⟩
  | 37 => ⟨S_, .f32⟩
  | 38 => ⟨S128x128, .f32⟩
  | 39 => ⟨S128x128, .f32⟩
  | 40 => ⟨S128x128, .f32⟩
  | 41 => ⟨S128x128, .f32⟩
  | 42 => ⟨S256, .i32⟩
  | 43 => ⟨S256x1, .i32⟩
  | 44 => ⟨S512, .i32⟩
  | 45 => ⟨S1x512, .i32⟩
  | 46 => ⟨S_, .i32⟩
  | 47 => ⟨S_, .i32⟩
  | 48 => ⟨S1x512, .i32⟩
  | 49 => ⟨S1x512, .i32⟩
  | 50 => ⟨S1x512, .i32⟩
  | 51 => ⟨S_, .i32⟩
  | 52 => ⟨S1x512, .i32⟩
  | 53 => ⟨S1x512, .i1⟩
  | 54 => ⟨S1x512, .i32⟩
  | 55 => ⟨S1x512, .i32⟩
  | 56 => ⟨S_, .i32⟩
  | 57 => ⟨S1x512, .i32⟩
  | 58 => ⟨S1x512, .i1⟩
  | 59 => ⟨S1x512, .i1⟩
  | 60 => ⟨S_, .i32⟩
  | 61 => ⟨S1x512, .i32⟩
  | 62 => ⟨S1x512, .i32⟩
  | 63 => ⟨S1x512, .i32⟩
  | 64 => ⟨S_, .i32⟩
  | 65 => ⟨S_, .i32⟩
  | 66 => ⟨S1x512, .i32⟩
  | 67 => ⟨S1x512, .i32⟩
  | 68 => ⟨S1x512, .i32⟩
  | 69 => ⟨S_, .i32⟩
  | 70 => ⟨S1x512, .i32⟩
  | 71 => ⟨S1x512, .i1⟩
  | 72 => ⟨S1x512, .i32⟩
  | 73 => ⟨S1x512, .i32⟩
  | 74 => ⟨S_, .i32⟩
  | 75 => ⟨S1x512, .i32⟩
  | 76 => ⟨S1x512, .i1⟩
  | 77 => ⟨S1x512, .i1⟩
  | 78 => ⟨S_, .i32⟩
  | 79 => ⟨S1x512, .i32⟩
  | 80 => ⟨S1x512, .i32⟩
  | 81 => ⟨S1x512, .i32⟩
  | 82 => ⟨S_, .i32⟩
  | 83 => ⟨S1x512, .i32⟩
  | 84 => ⟨S1x512, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S1x512, .i32⟩
  | 92 => ⟨S1x512, .i32⟩
  | 93 => ⟨S_, .i32⟩
  | 94 => ⟨S1x512, .i32⟩
  | 95 => ⟨S1x512, .i1⟩
  | 96 => ⟨S_, .i32⟩
  | 97 => ⟨S1x512, .i32⟩
  | 98 => ⟨S1x512, .i1⟩
  | 99 => ⟨S_, .i32⟩
  | 100 => ⟨S_, .i1⟩
  | 101 => ⟨S1x512, .i1⟩
  | 102 => ⟨S1x512, .i1⟩
  | 103 => ⟨S1x512, .i1⟩
  | 104 => ⟨S1x512, .i32⟩
  | 105 => ⟨S1x512, .i32⟩
  | 106 => ⟨S1x512, .i32⟩
  | 107 => ⟨S_, .i32⟩
  | 108 => ⟨S1x512, .i32⟩
  | 109 => ⟨S1x512, .i32⟩
  | 110 => ⟨S1x512, .i32⟩
  | 111 => ⟨S_, .i32⟩
  | 112 => ⟨S1x512, .i32⟩
  | 113 => ⟨S1x512, .i32⟩
  | 114 => ⟨S256x512, .i32⟩
  | 115 => ⟨S256x512, .i32⟩
  | 116 => ⟨S256x512, .i1⟩
  | 117 => ⟨S256x512, .bf16⟩
  | 118 => ⟨S_, .i32⟩
  | 119 => ⟨S1x512, .i32⟩
  | 120 => ⟨S1x512, .i32⟩
  | 121 => ⟨S256x512, .i32⟩
  | 122 => ⟨S256x512, .i32⟩
  | 123 => ⟨S256x512, .i1⟩
  | 124 => ⟨S256x512, .bf16⟩
  | 125 => ⟨S256x1024, .bf16⟩
  | 126 => ⟨S_, .i32⟩
  | 127 => ⟨S16x2x2048x32, .i32⟩
  | _ => ⟨S16x2048x8x64, .f32⟩

abbrev hbmTy0_1 (i : Nat) : BufTy := match i % 128 with
  | 0 => ⟨S16x2x2048x32, .i1⟩
  | 1 => ⟨S_, .f32⟩
  | 2 => ⟨S_, .f32⟩
  | 3 => ⟨S16x2x2048x32, .f32⟩
  | 4 => ⟨S16x2x2048x32, .f32⟩
  | 5 => ⟨S16x2x2048x32, .f32⟩
  | 6 => ⟨S16x2048x2x32, .f32⟩
  | 7 => ⟨S16x2048x2x1x32, .f32⟩
  | 8 => ⟨S16x2048x2x4x32, .f32⟩
  | 9 => ⟨S32768x8x64, .f32⟩
  | 10 => ⟨S32768x8x32, .f32⟩
  | 11 => ⟨S_, .f32⟩
  | 12 => ⟨S32768x8x32, .f32⟩
  | 13 => ⟨S32768x8x32, .f32⟩
  | 14 => ⟨S32768x8x128, .f32⟩
  | 15 => ⟨S32768x1024, .f32⟩
  | 16 => ⟨S32768x1024, .bf16⟩
  | 17 => ⟨S16x2048x8x3, .f32⟩
  | 18 => ⟨S16x2048x8x3, .f32⟩
  | 19 => ⟨S_, .f32⟩
  | 20 => ⟨S16x2048x8x3, .f32⟩
  | 21 => ⟨S16x2048x8x3, .f32⟩
  | 22 => ⟨S_, .f32⟩
  | 23 => ⟨S16x2048x8x3, .f32⟩
  | 24 => ⟨S16x2048x8x3, .f32⟩
  | 25 => ⟨S32768x2x12, .f32⟩
  | 26 => ⟨S_, .f32⟩
  | 27 => ⟨S32768x2x116, .f32⟩
  | 28 => ⟨S32768x2x128, .f32⟩
  | 29 => ⟨S32768x256, .f32⟩
  | 30 => ⟨S64, .i32⟩
  | 31 => ⟨S1x64, .i32⟩
  | 32 => ⟨S2048, .i32⟩
  | 33 => ⟨S2048x1, .i32⟩
  | 34 => ⟨S_, .i32⟩
  | 35 => ⟨S_, .i32⟩
  | 36 => ⟨S2048x1, .i32⟩
  | 37 => ⟨S2048x1, .i32⟩
  | 38 => ⟨S2048x1, .i32⟩
  | 39 => ⟨S_, .i32⟩
  | 40 => ⟨S2048x1, .i32⟩
  | 41 => ⟨S2048x1, .i1⟩
  | 42 => ⟨S2048x1, .i32⟩
  | 43 => ⟨S2048x1, .i32⟩
  | 44 => ⟨S_, .i32⟩
  | 45 => ⟨S2048x1, .i32⟩
  | 46 => ⟨S2048x1, .i1⟩
  | 47 => ⟨S2048x1, .i1⟩
  | 48 => ⟨S_, .i32⟩
  | 49 => ⟨S2048x1, .i32⟩
  | 50 => ⟨S2048x1, .i32⟩
  | 51 => ⟨S2048x1, .i32⟩
  | 52 => ⟨S2048x64, .i32⟩
  | 53 => ⟨S2048x64, .i32⟩
  | 54 => ⟨S2048x64, .i1⟩
  | 55 => ⟨S2048x64, .f32⟩
  | 56 => ⟨S1x2048x1x64, .f32⟩
  | 57 => ⟨S16x2048x2x64, .f32⟩
  | 58 => ⟨S32768x2x64, .f32⟩
  | 59 => ⟨S_, .f32⟩
  | 60 => ⟨S32768x2x64, .f32⟩
  | 61 => ⟨S16x2048x2x64, .f32⟩
  | 62 => ⟨S32768x2x64, .f32⟩
  | 63 => ⟨S16x2048x2x64, .f32⟩
  | 64 => ⟨S32768x2x64, .f32⟩
  | 65 => ⟨S32768x2x256, .f32⟩
  | 66 => ⟨S32768x512, .f32⟩
  | 67 => ⟨S16x2048x2x64, .f32⟩
  | 68 => ⟨S32768x2x64, .f32⟩
  | 69 => ⟨S_, .f32⟩
  | 70 => ⟨S32768x2x64, .f32⟩
  | 71 => ⟨S16x2048x2x64, .f32⟩
  | 72 => ⟨S32768x2x64, .f32⟩
  | 73 => ⟨S32768x2x256, .f32⟩
  | 74 => ⟨S32768x512, .f32⟩
  | 75 => ⟨S32768x1024, .f32⟩
  | 76 => ⟨S32768x1024, .bf16⟩
  | 77 => ⟨S32768x512, .f32⟩
  | 78 => ⟨S32768x512, .bf16⟩
  | 79 => ⟨S32768x512, .bf16⟩
  | _ => ⟨S16x2048x8x64, .f32⟩

abbrev hbmTy (i : Nat) : BufTy := match i / 128 with
  | 0 => hbmTy0_0 i
  | 1 => hbmTy0_1 i
  | _ => ⟨S16x2048x8x64, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .f32⟩
  | .local _ .vmem, ⟨3, _⟩ => ⟨S128x256, .f32⟩
  | .local _ .vmem, ⟨4, _⟩ => ⟨S128x512, .bf16⟩
  | .local _ .vmem, ⟨5, _⟩ => ⟨S128x512, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2x128x256, .f32⟩
  | .local _ .vmem, ⟨23, _⟩ => ⟨S128x128, .f32⟩
  | .local _ .vmem, ⟨24, _⟩ => ⟨S256x1024, .bf16⟩
  | .local _ .vmem, ⟨25, _⟩ => ⟨S128x512, .bf16⟩
  | .local _ .vmem, ⟨26, _⟩ => ⟨S128x512, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v29 : Ref sig .tc := ⟨.hbm, 63, rfl⟩
abbrev main_c_4 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v30 : Ref sig .tc := ⟨.hbm, 81, rfl⟩
abbrev main_c_5 : Ref sig .tc := ⟨.hbm, 82, rfl⟩
abbrev main_v31 : Ref sig .tc := ⟨.hbm, 83, rfl⟩
abbrev main_v32 : Ref sig .tc := ⟨.hbm, 84, rfl⟩
abbrev main_c_6 : Ref sig .tc := ⟨.hbm, 85, rfl⟩
abbrev main_call4_v0 : Ref sig .tc := ⟨.hbm, 86, rfl⟩
abbrev main_call4_c : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_1 : Ref sig .tc := ⟨.hbm, 93, rfl⟩
abbrev main_call4_v5 : Ref sig .tc := ⟨.hbm, 94, rfl⟩
abbrev main_call4_v6 : Ref sig .tc := ⟨.hbm, 95, rfl⟩
abbrev main_call4_c_2 : Ref sig .tc := ⟨.hbm, 96, rfl⟩
abbrev main_call4_v7 : Ref sig .tc := ⟨.hbm, 97, rfl⟩
abbrev main_call4_v8 : Ref sig .tc := ⟨.hbm, 98, rfl⟩
abbrev main_call4_c_3 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_v33 : Ref sig .tc := ⟨.hbm, 106, rfl⟩
abbrev main_c_7 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_c_8 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_c_9 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_c_10 : Ref sig .tc := ⟨.hbm, 126, rfl⟩
abbrev main_v50 : Ref sig .tc := ⟨.hbm, 127, rfl⟩
abbrev main_v51 : Ref sig .tc := ⟨.hbm, 128, rfl⟩
abbrev main_cst_11 : Ref sig .tc := ⟨.hbm, 129, rfl⟩
abbrev main_cst_12 : Ref sig .tc := ⟨.hbm, 130, rfl⟩
abbrev main_call5_v0 : Ref sig .tc := ⟨.hbm, 131, rfl⟩
abbrev main_call5_v1 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_cst_13 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_cst_14 : Ref sig .tc := ⟨.hbm, 147, rfl⟩
abbrev main_v65 : Ref sig .tc := ⟨.hbm, 148, rfl⟩
abbrev main_v66 : Ref sig .tc := ⟨.hbm, 149, rfl⟩
abbrev main_cst_15 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_cst_16 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_c_17 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_c : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_c_0 : Ref sig .tc := ⟨.hbm, 176, rfl⟩
abbrev main_call6_v12 : Ref sig .tc := ⟨.hbm, 177, rfl⟩
abbrev main_call6_v13 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_cst_18 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_19 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_off1 (i : grid0.Coords) : Fin 3 → Nat :=
  let arg1 : BitVec 32 := BitVec.ofNat 32 (i 1).val
  let c2_i32_64 : BitVec 32 := 2#32
  let c0_i32_65 : BitVec 32 := 0#32
  let v161 : BitVec 1 := Scalar.cmpi .eq c2_i32_64 c0_i32_65
  let c1_i32_66 : BitVec 32 := 1#32
  let v162 : BitVec 32 := Scalar.select v161 c1_i32_66 c2_i32_64
  let v163 : BitVec 32 := Scalar.remsi arg1 v162
  let c0_i32_68 : BitVec 32 := 0#32
  let v165 : BitVec 1 := Scalar.cmpi .slt v163 c0_i32_68
  let c0_i32_69 : BitVec 32 := 0#32
  let v166 : BitVec 1 := Scalar.cmpi .slt v162 c0_i32_69
  let v167 : BitVec 1 := Scalar.xori v165 v166
  let c0_i32_67 : BitVec 32 := 0#32
  let v164 : BitVec 1 := Scalar.cmpi .ne v163 c0_i32_67
  let v168 : BitVec 1 := Scalar.andi v167 v164
  let v169 : BitVec 32 := Scalar.addi v163 v162
  let v170 : BitVec 32 := Scalar.select v168 v169 v163
  let v171 : Index := Scalar.indexCast v170
  let c0 : Index := 0#32
  let c0_70 : Index := 0#32
  ![v171.toNat, 0, 0]
def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_off2 (i : grid0.Coords) : Fin 3 → Nat :=
  let arg1 : BitVec 32 := BitVec.ofNat 32 (i 1).val
  let c2_i32_64 : BitVec 32 := 2#32
  let c0_i32_65 : BitVec 32 := 0#32
  let v161 : BitVec 1 := Scalar.cmpi .eq c2_i32_64 c0_i32_65
  let c1_i32_66 : BitVec 32 := 1#32
  let v162 : BitVec 32 := Scalar.select v161 c1_i32_66 c2_i32_64
  let v163 : BitVec 32 := Scalar.remsi arg1 v162
  let c0_i32_68 : BitVec 32 := 0#32
  let v165 : BitVec 1 := Scalar.cmpi .slt v163 c0_i32_68
  let c0_i32_69 : BitVec 32 := 0#32
  let v166 : BitVec 1 := Scalar.cmpi .slt v162 c0_i32_69
  let v167 : BitVec 1 := Scalar.xori v165 v166
  let c0_i32_67 : BitVec 32 := 0#32
  let v164 : BitVec 1 := Scalar.cmpi .ne v163 c0_i32_67
  let v168 : BitVec 1 := Scalar.andi v167 v164
  let v169 : BitVec 32 := Scalar.addi v163 v162
  let v170 : BitVec 32 := Scalar.select v168 v169 v163
  let v171 : Index := Scalar.indexCast v170
  let c0 : Index := 0#32
  let c0_70 : Index := 0#32
  ![v171.toNat, 0, 0]
def k0_cond3 (i : grid0.Coords) : BitVec 1 :=
  let arg1 : BitVec 32 := BitVec.ofNat 32 (i 1).val
  let c0_i32_16 : BitVec 32 := 0#32
  let v41 : BitVec 1 := Scalar.cmpi .sgt arg1 c0_i32_16
  let v42 : BitVec 32 := Scalar.extui v41
  let c0_i32_17 : BitVec 32 := 0#32
  let v43 : BitVec 1 := Scalar.cmpi .slt arg1 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg1 c2_i32_15
  let c0_i32_20 : BitVec 32 := 0#32
  let v53 : BitVec 1 := Scalar.cmpi .ne v52 c0_i32_20
  let v54 : BitVec 1 := Scalar.andi v51 v53
  let v40 : BitVec 32 := Scalar.divsi arg1 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_mult1 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off3 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off4 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg1 c2_i32_24
  let c0_i32_29 : BitVec 32 := 0#32
  let v73 : BitVec 1 := Scalar.cmpi .ne v72 c0_i32_29
  let v74 : BitVec 1 := Scalar.andi v71 v73
  let v60 : BitVec 32 := Scalar.divsi arg1 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_mult2 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off5 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off6 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def k0_cond5 (i : grid0.Coords) : BitVec 1 :=
  let arg1 : BitVec 32 := BitVec.ofNat 32 (i 1).val
  let c0_i32_33 : BitVec 32 := 0#32
  let v81 : BitVec 1 := Scalar.cmpi .sgt arg1 c0_i32_33
  let v82 : BitVec 32 := Scalar.extui v81
  let c0_i32_34 : BitVec 32 := 0#32
  let v83 : BitVec 1 := Scalar.cmpi .slt arg1 c0_i32_34
  let v84 : BitVec 32 := Scalar.extui v83
  let v85 : BitVec 32 := Scalar.subi v82 v84
  let c2_i32_32 : BitVec 32 := 2#32
  let c0_i32_35 : BitVec 32 := 0#32
  let v86 : BitVec 1 := Scalar.cmpi .sgt c2_i32_32 c0_i32_35
  let v87 : BitVec 32 := Scalar.extui v86
  let c0_i32_36 : BitVec 32 := 0#32
  let v88 : BitVec 1 := Scalar.cmpi .slt c2_i32_32 c0_i32_36
  let v89 : BitVec 32 := Scalar.extui v88
  let v90 : BitVec 32 := Scalar.subi v87 v89
  let v91 : BitVec 1 := Scalar.cmpi .ne v85 v90
  let v92 : BitVec 32 := Scalar.remsi arg1 c2_i32_32
  let c0_i32_37 : BitVec 32 := 0#32
  let v93 : BitVec 1 := Scalar.cmpi .ne v92 c0_i32_37
  let v94 : BitVec 1 := Scalar.andi v91 v93
  let v80 : BitVec 32 := Scalar.divsi arg1 c2_i32_32
  let c1_i32_38 : BitVec 32 := 1#32
  let v95 : BitVec 32 := Scalar.subi v80 c1_i32_38
  let v96 : BitVec 32 := Scalar.select v94 v95 v80
  let c4_i32 : BitVec 32 := 4#32
  let v97 : BitVec 1 := Scalar.cmpi .eq v96 c4_i32
  let v98 : BitVec 32 := Scalar.extui v97
  let c0_i32_39 : BitVec 32 := 0#32
  let v99 : BitVec 1 := Scalar.cmpi .ne v98 c0_i32_39
  v99

def k0_mult3 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off7 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off8 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def k0_cond6 (i : grid0.Coords) : BitVec 1 :=
  let arg1 : BitVec 32 := BitVec.ofNat 32 (i 1).val
  let c0_i32_41 : BitVec 32 := 0#32
  let v101 : BitVec 1 := Scalar.cmpi .sgt arg1 c0_i32_41
  let v102 : BitVec 32 := Scalar.extui v101
  let c0_i32_42 : BitVec 32 := 0#32
  let v103 : BitVec 1 := Scalar.cmpi .slt arg1 c0_i32_42
  let v104 : BitVec 32 := Scalar.extui v103
  let v105 : BitVec 32 := Scalar.subi v102 v104
  let c2_i32_40 : BitVec 32 := 2#32
  let c0_i32_43 : BitVec 32 := 0#32
  let v106 : BitVec 1 := Scalar.cmpi .sgt c2_i32_40 c0_i32_43
  let v107 : BitVec 32 := Scalar.extui v106
  let c0_i32_44 : BitVec 32 := 0#32
  let v108 : BitVec 1 := Scalar.cmpi .slt c2_i32_40 c0_i32_44
  let v109 : BitVec 32 := Scalar.extui v108
  let v110 : BitVec 32 := Scalar.subi v107 v109
  let v111 : BitVec 1 := Scalar.cmpi .ne v105 v110
  let v112 : BitVec 32 := Scalar.remsi arg1 c2_i32_40
  let c0_i32_45 : BitVec 32 := 0#32
  let v113 : BitVec 1 := Scalar.cmpi .ne v112 c0_i32_45
  let v114 : BitVec 1 := Scalar.andi v111 v113
  let v100 : BitVec 32 := Scalar.divsi arg1 c2_i32_40
  let c1_i32_46 : BitVec 32 := 1#32
  let v115 : BitVec 32 := Scalar.subi v100 c1_i32_46
  let v116 : BitVec 32 := Scalar.select v114 v115 v100
  let c5_i32 : BitVec 32 := 5#32
  let v117 : BitVec 1 := Scalar.cmpi .eq v116 c5_i32
  let v118 : BitVec 32 := Scalar.extui v117
  let c0_i32_47 : BitVec 32 := 0#32
  let v119 : BitVec 1 := Scalar.cmpi .ne v118 c0_i32_47
  v119

def k0_mult4 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off9 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off10 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def k0_cond7 (i : grid0.Coords) : BitVec 1 :=
  let arg1 : BitVec 32 := BitVec.ofNat 32 (i 1).val
  let c0_i32_49 : BitVec 32 := 0#32
  let v121 : BitVec 1 := Scalar.cmpi .sgt arg1 c0_i32_49
  let v122 : BitVec 32 := Scalar.extui v121
  let c0_i32_50 : BitVec 32 := 0#32
  let v123 : BitVec 1 := Scalar.cmpi .slt arg1 c0_i32_50
  let v124 : BitVec 32 := Scalar.extui v123
  let v125 : BitVec 32 := Scalar.subi v122 v124
  let c2_i32_48 : BitVec 32 := 2#32
  let c0_i32_51 : BitVec 32 := 0#32
  let v126 : BitVec 1 := Scalar.cmpi .sgt c2_i32_48 c0_i32_51
  let v127 : BitVec 32 := Scalar.extui v126
  let c0_i32_52 : BitVec 32 := 0#32
  let v128 : BitVec 1 := Scalar.cmpi .slt c2_i32_48 c0_i32_52
  let v129 : BitVec 32 := Scalar.extui v128
  let v130 : BitVec 32 := Scalar.subi v127 v129
  let v131 : BitVec 1 := Scalar.cmpi .ne v125 v130
  let v132 : BitVec 32 := Scalar.remsi arg1 c2_i32_48
  let c0_i32_53 : BitVec 32 := 0#32
  let v133 : BitVec 1 := Scalar.cmpi .ne v132 c0_i32_53
  let v134 : BitVec 1 := Scalar.andi v131 v133
  let v120 : BitVec 32 := Scalar.divsi arg1 c2_i32_48
  let c1_i32_54 : BitVec 32 := 1#32
  let v135 : BitVec 32 := Scalar.subi v120 c1_i32_54
  let v136 : BitVec 32 := Scalar.select v134 v135 v120
  let c6_i32 : BitVec 32 := 6#32
  let v137 : BitVec 1 := Scalar.cmpi .eq v136 c6_i32
  let v138 : BitVec 32 := Scalar.extui v137
  let c0_i32_55 : BitVec 32 := 0#32
  let v139 : BitVec 1 := Scalar.cmpi .ne v138 c0_i32_55
  v139

def k0_mult5 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off11 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off12 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def k0_cond8 (i : grid0.Coords) : BitVec 1 :=
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32_56 : BitVec 32 := 2#32
  let c0_i32_59 : BitVec 32 := 0#32
  let v146 : BitVec 1 := Scalar.cmpi .sgt c2_i32_56 c0_i32_59
  let v147 : BitVec 32 := Scalar.extui v146
  let c0_i32_60 : BitVec 32 := 0#32
  let v148 : BitVec 1 := Scalar.cmpi .slt c2_i32_56 c0_i32_60
  let v149 : BitVec 32 := Scalar.extui v148
  let v150 : BitVec 32 := Scalar.subi v147 v149
  let v151 : BitVec 1 := Scalar.cmpi .ne v145 v150
  let v152 : BitVec 32 := Scalar.remsi arg1 c2_i32_56
  let c0_i32_61 : BitVec 32 := 0#32
  let v153 : BitVec 1 := Scalar.cmpi .ne v152 c0_i32_61
  let v154 : BitVec 1 := Scalar.andi v151 v153
  let v140 : BitVec 32 := Scalar.divsi arg1 c2_i32_56
  let c1_i32_62 : BitVec 32 := 1#32
  let v155 : BitVec 32 := Scalar.subi v140 c1_i32_62
  let v156 : BitVec 32 := Scalar.select v154 v155 v140
  let c7_i32 : BitVec 32 := 7#32
  let v157 : BitVec 1 := Scalar.cmpi .eq v156 c7_i32
  let v158 : BitVec 32 := Scalar.extui v157
  let c0_i32_63 : BitVec 32 := 0#32
  let v159 : BitVec 1 := Scalar.cmpi .ne v158 c0_i32_63
  v159

def k0_mult6 (i : grid0.Coords) : BitVec 32 :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  v162
def k0_off13 (i : grid0.Coords) : Fin 3 → Nat :=
  let arg1 : BitVec 32 := BitVec.ofNat 32 (i 1).val
  let c2_i32_64 : BitVec 32 := 2#32
  let c0_i32_65 : BitVec 32 := 0#32
  let v164 : BitVec 1 := Scalar.cmpi .eq c2_i32_64 c0_i32_65
  let c1_i32_66 : BitVec 32 := 1#32
  let v165 : BitVec 32 := Scalar.select v164 c1_i32_66 c2_i32_64
  let v166 : BitVec 32 := Scalar.remsi arg1 v165
  let c0_i32_68 : BitVec 32 := 0#32
  let v168 : BitVec 1 := Scalar.cmpi .slt v166 c0_i32_68
  let c0_i32_69 : BitVec 32 := 0#32
  let v169 : BitVec 1 := Scalar.cmpi .slt v165 c0_i32_69
  let v170 : BitVec 1 := Scalar.xori v168 v169
  let c0_i32_67 : BitVec 32 := 0#32
  let v167 : BitVec 1 := Scalar.cmpi .ne v166 c0_i32_67
  let v171 : BitVec 1 := Scalar.andi v170 v167
  let v172 : BitVec 32 := Scalar.addi v166 v165
  let v173 : BitVec 32 := Scalar.select v171 v172 v166
  let v174 : Index := Scalar.indexCast v173
  let c0 : Index := 0#32
  let c0_70 : Index := 0#32
  ![v174.toNat, 0, 0]
def k0_off14 (i : grid0.Coords) : Fin 2 → Nat :=
  let arg1 : BitVec 32 := BitVec.ofNat 32 (i 1).val
  let c128_i32 : BitVec 32 := 128#32
  let v160 : BitVec 32 := Scalar.muli arg1 c128_i32
  let c512_i32 : BitVec 32 := 512#32
  let v162 : BitVec 32 := Scalar.subi v160 c512_i32
  let v163 : BitVec 32 := v162
  let v220 : Index := Scalar.indexCast v163
  let c0_88 : Index := 0#32
  ![v220.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | "q_scale" => some (((1 / 8) * (Real.log 2)⁻¹ : ℝ) : EReal)
  | _ => none
-- ==== ReferenceIdeal.lean ====
abbrev S16x2048x8x64 : Shape := ⟨4, ![16, 2048, 8, 64]⟩
abbrev S16x2x2048x32 : Shape := ⟨4, ![16, 2, 2048, 32]⟩
abbrev S16x2048x8x3 : Shape := ⟨4, ![16, 2048, 8, 3]⟩
abbrev S16x2x2048x64 : Shape := ⟨4, ![16, 2, 2048, 64]⟩
abbrev S16x2048x2x4x64 : Shape := ⟨5, ![16, 2048, 2, 4, 64]⟩
abbrev S16x2x4x2048x64 : Shape := ⟨5, ![16, 2, 4, 2048, 64]⟩
abbrev S_ : Shape := ⟨0, ![]⟩
abbrev S16x2048x2x4x3 : Shape := ⟨5, ![16, 2048, 2, 4, 3]⟩
abbrev S16x2x4x2048x3 : Shape := ⟨5, ![16, 2, 4, 2048, 3]⟩
abbrev S2048 : Shape := ⟨1, ![2048]⟩
abbrev S2048x1 : Shape := ⟨2, ![2048, 1]⟩
abbrev S1x2048 : Shape := ⟨2, ![1, 2048]⟩
abbrev S16x2x2048x32x1 : Shape := ⟨5, ![16, 2, 2048, 32, 1]⟩
abbrev S16x2x2048x32x64 : Shape := ⟨5, ![16, 2, 2048, 32, 64]⟩
abbrev S16x2x2048x2048 : Shape := ⟨4, ![16, 2, 2048, 2048]⟩
abbrev S16x2x4x2048x2048 : Shape := ⟨5, ![16, 2, 4, 2048, 2048]⟩
abbrev S2048x2048 : Shape := ⟨2, ![2048, 2048]⟩
abbrev S1x1x2048x2048 : Shape := ⟨4, ![1, 1, 2048, 2048]⟩
abbrev S16x2x1x2048x2048 : Shape := ⟨5, ![16, 2, 1, 2048, 2048]⟩
abbrev S16x2x4x2048 : Shape := ⟨4, ![16, 2, 4, 2048]⟩
abbrev S16x2x4x2048x1 : Shape := ⟨5, ![16, 2, 4, 2048, 1]⟩
abbrev S32768x512 : Shape := ⟨2, ![32768, 512]⟩

abbrev nBuf : Space → Nat
  | .hbm => 118
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2x2048x32, .i32⟩
  | .hbm, ⟨2, _⟩ => ⟨S16x2048x8x3, .f32⟩
  | .hbm, ⟨3, _⟩ => ⟨S16x2048x8x64, .f32⟩
  | .hbm, ⟨4, _⟩ => ⟨S16x2x2048x64, .f32⟩
  | .hbm, ⟨5, _⟩ => ⟨S16x2x2048x64, .f32⟩
  | .hbm, ⟨6, _⟩ => ⟨S16x2x2048x64, .f32⟩
  | .hbm, ⟨7, _⟩ => ⟨S16x2x2048x64, .f32⟩
  | .hbm, ⟨8, _⟩ => ⟨S16x2048x2x4x64, .f32⟩
  | .hbm, ⟨9, _⟩ => ⟨S16x2x4x2048x64, .f32⟩
  | .hbm, ⟨10, _⟩ => ⟨S16x2048x8x3, .f32⟩
  | .hbm, ⟨11, _⟩ => ⟨S16x2048x8x3, .f32⟩
  | .hbm, ⟨12, _⟩ => ⟨S_, .f32⟩
  | .hbm, ⟨13, _⟩ => ⟨S16x2048x8x3, .f32⟩
  | .hbm, ⟨14, _⟩ => ⟨S16x2048x8x3, .f32⟩
  | .hbm, ⟨15, _⟩ => ⟨S_, .f32⟩
  | .hbm, ⟨16, _⟩ => ⟨S16x2048x8x3, .f32⟩
  | .hbm, ⟨17, _⟩ => ⟨S16x2048x8x3, .f32⟩
  | .hbm, ⟨18, _⟩ => ⟨S16x2048x2x4x3, .f32⟩
  | .hbm, ⟨19, _⟩ => ⟨S16x2x4x2048x3, .f32⟩
  | .hbm, ⟨20, _⟩ => ⟨S16x2048x2x4x64, .f32⟩
  | .hbm, ⟨21, _⟩ => ⟨S16x2x4x2048x64, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S16x2x2048x32x1, .i32⟩
  | .hbm, ⟨27, _⟩ => ⟨S_, .i32⟩
  | .hbm, ⟨28, _⟩ => ⟨S16x2x2048x32x1, .i32⟩
  | .hbm, ⟨29, _⟩ => ⟨S16x2x2048x32x1, .i1⟩
  | .hbm, ⟨30, _⟩ => ⟨S16x2x2048x32x64, .i1⟩
  | .hbm, ⟨31, _⟩ => ⟨S16x2x2048x2048, .i1⟩
  | .hbm, ⟨32, _⟩ => ⟨S16x2x4x2048x2048, .f32⟩
  | .hbm, ⟨33, _⟩ => ⟨S_, .f32⟩
  | .hbm, ⟨34, _⟩ => ⟨S16x2x4x2048x2048, .f32⟩
  | .hbm, ⟨35, _⟩ => ⟨S16x2x4x2048x2048, .f32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S1x1x2048x2048, .i1⟩
  | .hbm, ⟨40, _⟩ => ⟨S16x2x2048x2048, .i1⟩
  | .hbm, ⟨41, _⟩ => ⟨S16x2x2048x2048, .i1⟩
  | .hbm, ⟨42, _⟩ => ⟨S16x2x1x2048x2048, .i1⟩
  | .hbm, ⟨43, _⟩ => ⟨S_, .f32⟩
  | .hbm, ⟨44, _⟩ => ⟨S_, .f32⟩
  | .hbm, ⟨45, _⟩ => ⟨S16x2x4x2048x2048, .i1⟩
  | .hbm, ⟨46, _⟩ => ⟨S16x2x4x2048x2048, .f32⟩
  | .hbm, ⟨47, _⟩ => ⟨S16x2x4x2048x2048, .f32⟩
  | .hbm, ⟨48, _⟩ => ⟨S_, .f32⟩
  | .hbm, ⟨49, _⟩ => ⟨S16x2x4x2048, .f32⟩
  | .hbm, ⟨50, _⟩ => ⟨S16x2x4x2048x1, .f32⟩
  | .hbm, ⟨51, _⟩ => ⟨S16x2x4x2048x2048, .f32⟩
  | .hbm, ⟨52, _⟩ => ⟨S16x2x4x2048x2048, .f32⟩
  | .hbm, ⟨53, _⟩ => ⟨S16x2x4x2048x2048, .f32⟩
  | .hbm, ⟨54, _⟩ => ⟨S_, .f32⟩
  | .hbm, ⟨55, _⟩ => ⟨S_, .f32⟩
  | .hbm, ⟨56, _⟩ => ⟨S16x2x4x2048x2048, .i1⟩
  | .hbm, ⟨57, _⟩ => ⟨S16x2x4x2048x2048, .f32⟩
  | .hbm, ⟨58, _⟩ => ⟨S16x2x4x2048x2048, .f32⟩
  | .hbm, ⟨59, _⟩ => ⟨S_, .f32⟩
  | .hbm, ⟨60, _⟩ => ⟨S16x2x4x2048, .f32⟩
  | .hbm, ⟨61, _⟩ => ⟨S16x2x4x2048x1, .f32⟩
  | .hbm, ⟨62, _⟩ => ⟨S_, .f32⟩
  | .hbm, ⟨63, _⟩ => ⟨S16x2x4x2048x1, .f32⟩
  | .hbm, ⟨64, _⟩ => ⟨S16x2x4x2048x1, .f32⟩
  | .hbm, ⟨65, _⟩ => ⟨S16x2x4x2048x2048, .f32⟩
  | .hbm, ⟨66, _⟩ => ⟨S16x2x4x2048x2048, .f32⟩
  | .hbm, ⟨67, _⟩ => ⟨S16x2x4x2048x64, .f32⟩
  | .hbm, ⟨68, _⟩ => ⟨S16x2x4x2048x2048, .f32⟩
  | .hbm, ⟨69, _⟩ => ⟨S_, .f32⟩
  | .hbm, ⟨70, _⟩ => ⟨S16x2x4x2048x2048, .f32⟩
  | .hbm, ⟨71, _⟩ => ⟨S16x2x4x2048x2048, .f32⟩
  | .hbm, ⟨72, _⟩ => ⟨S2048x2048, .i32⟩
  | .hbm, ⟨73, _⟩ => ⟨S2048x2048, .i32⟩
  | .hbm, ⟨74, _⟩ => ⟨S2048x2048, .i1⟩
  | .hbm, ⟨75, _⟩ => ⟨S_, .i32⟩
  | .hbm, ⟨76, _⟩ => ⟨S2048x1, .i32⟩
  | .hbm, ⟨77, _⟩ => ⟨S2048x1, .i32⟩
  | .hbm, ⟨78, _⟩ => ⟨S2048x2048, .i32⟩
  | .hbm, ⟨79, _⟩ => ⟨S2048x2048, .i32⟩
  | .hbm, ⟨80, _⟩ => ⟨S2048x2048, .i1⟩
  | .hbm, ⟨81, _⟩ => ⟨S2048x2048, .i1⟩
  | .hbm, ⟨82, _⟩ => ⟨S_, .f32⟩
  | .hbm, ⟨83, _⟩ => ⟨S_, .f32⟩
  | .hbm, ⟨84, _⟩ => ⟨S16x2x4x2048x2048, .i1⟩
  | .hbm, ⟨85, _⟩ => ⟨S16x2x4x2048x2048, .f32⟩
  | .hbm, ⟨86, _⟩ => ⟨S16x2x4x2048x2048, .f32⟩
  | .hbm, ⟨87, _⟩ => ⟨S_, .f32⟩
  | .hbm, ⟨88, _⟩ => ⟨S16x2x4x2048, .f32⟩
  | .hbm, ⟨89, _⟩ => ⟨S16x2x4x2048x1, .f32⟩
  | .hbm, ⟨90, _⟩ => ⟨S16x2x4x2048x2048, .f32⟩
  | .hbm, ⟨91, _⟩ => ⟨S16x2x4x2048x2048, .f32⟩
  | .hbm, ⟨92, _⟩ => ⟨S16x2x4x2048x2048, .f32⟩
  | .hbm, ⟨93, _⟩ => ⟨S_, .f32⟩
  | .hbm, ⟨94, _⟩ => ⟨S_, .f32⟩
  | .hbm, ⟨95, _⟩ => ⟨S16x2x4x2048x2048, .i1⟩
  | .hbm, ⟨96, _⟩ => ⟨S16x2x4x2048x2048, .f32⟩
  | .hbm, ⟨97, _⟩ => ⟨S16x2x4x2048x2048, .f32⟩
  | .hbm, ⟨98, _⟩ => ⟨S_, .f32⟩
  | .hbm, ⟨99, _⟩ => ⟨S16x2x4x2048, .f32⟩
  | .hbm, ⟨100, _⟩ => ⟨S16x2x4x2048x1, .f32⟩
  | .hbm, ⟨101, _⟩ => ⟨S_, .f32⟩
  | .hbm, ⟨102, _⟩ => ⟨S16x2x4x2048x1, .f32⟩
  | .hbm, ⟨103, _⟩ => ⟨S16x2x4x2048x1, .f32⟩
  | .hbm, ⟨104, _⟩ => ⟨S16x2x4x2048x2048, .f32⟩
  | .hbm, ⟨105, _⟩ => ⟨S16x2x4x2048x2048, .f32⟩
  | .hbm, ⟨106, _⟩ => ⟨S16x2x4x2048x64, .f32⟩
  | .hbm, ⟨107, _⟩ => ⟨S16x2x4x2048x1, .f32⟩
  | .hbm, ⟨108, _⟩ => ⟨S16x2x4x2048x64, .f32⟩
  | .hbm, ⟨109, _⟩ => ⟨S16x2x4x2048x64, .f32⟩
  | .hbm, ⟨110, _⟩ => ⟨S16x2x4x2048x64, .f32⟩
  | .hbm, ⟨111, _⟩ => ⟨S16x2x4x2048x1, .f32⟩
  | .hbm, ⟨112, _⟩ => ⟨S16x2x4x2048x64, .f32⟩
  | .hbm, ⟨113, _⟩ => ⟨S16x2x4x2048x64, .f32⟩
  | .hbm, ⟨114, _⟩ => ⟨S16x2x4x2048x64, .f32⟩
  | .hbm, ⟨115, _⟩ => ⟨S16x2048x2x4x64, .f32⟩
  | .hbm, ⟨116, _⟩ => ⟨S32768x512, .f32⟩
  | .hbm, ⟨117, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S32768x512 : Shape := ⟨2, ![32768, 512]⟩
abbrev S32768x1024 : Shape := ⟨2, ![32768, 1024]⟩
abbrev S32768x256 : Shape := ⟨2, ![32768, 256]⟩
abbrev S_ : Shape := ⟨0, ![]⟩
abbrev S5x512 : Shape := ⟨2, ![5, 512]⟩
abbrev S8x512 : Shape := ⟨2, ![8, 512]⟩
abbrev S1x512 : Shape := ⟨2, ![1, 512]⟩
abbrev S1x1024 : Shape := ⟨2, ![1, 1024]⟩
abbrev S5x5632 : Shape := ⟨2, ![5, 5632]⟩
abbrev S8x5632 : Shape := ⟨2, ![8, 5632]⟩
abbrev S512x512 : Shape := ⟨2, ![512, 512]⟩
abbrev S16x512 : Shape := ⟨2, ![16, 512]⟩
abbrev S512x1024 : Shape := ⟨2, ![512, 1024]⟩
abbrev S512x256 : Shape := ⟨2, ![512, 256]⟩
abbrev S512x2816 : Shape := ⟨2, ![512, 2816]⟩
abbrev S16x1024 : Shape := ⟨2, ![16, 1024]⟩
abbrev S512x1 : Shape := ⟨2, ![512, 1]⟩
abbrev S528x1024 : Shape := ⟨2, ![528, 1024]⟩
abbrev S1024x256 : Shape := ⟨2, ![1024, 256]⟩
abbrev S528x256 : Shape := ⟨2, ![528, 256]⟩
abbrev S16x256 : Shape := ⟨2, ![16, 256]⟩
abbrev S1x256 : Shape := ⟨2, ![1, 256]⟩
abbrev S8x256 : Shape := ⟨2, ![8, 256]⟩

abbrev nBuf : Space → Nat
  | .hbm => 44
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x512, .f32⟩
  | .hbm, ⟨6, _⟩ => ⟨S3x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x5632, .f32⟩
  | .hbm, ⟨12, _⟩ => ⟨S3x5632, .f32⟩
  | .hbm, ⟨13, _⟩ => ⟨S2816x1024, .f32⟩
  | .hbm, ⟨14, _⟩ => ⟨S1024, .f32⟩
  | .hbm, ⟨15, _⟩ => ⟨S1024x1024, .f32⟩
  | .hbm, ⟨16, _⟩ => ⟨S256x1024, .f32⟩
  | .hbm, ⟨17, _⟩ => ⟨S1024, .f32⟩
  | .hbm, ⟨18, _⟩ => ⟨S16x2048x512, .f32⟩
  | .hbm, ⟨19, _⟩ => ⟨S32768x512, .f32⟩
  | .hbm, ⟨20, _⟩ => ⟨S32768x512, .bf16⟩
  | .hbm, ⟨21, _⟩ => ⟨S32768x512, .f32⟩
  | .hbm, ⟨22, _⟩ => ⟨S32768x512, .bf16⟩
  | .hbm, ⟨23, _⟩ => ⟨S32768x512, .f32⟩
  | .hbm, ⟨24, _⟩ => ⟨S32768x512, .bf16⟩
  | .hbm, ⟨25, _⟩ => ⟨S32768x1024, .f32⟩
  | .hbm, ⟨26, _⟩ => ⟨S32768x256, .f32⟩
  | .hbm, ⟨27, _⟩ => ⟨S_, .f32⟩
  | .hbm, ⟨28, _⟩ => ⟨S5x512, .f32⟩
  | .hbm, ⟨29, _⟩ => ⟨S8x512, .f32⟩
  | .hbm, ⟨30, _⟩ => ⟨S1x512, .f32⟩
  | .hbm, ⟨31, _⟩ => ⟨S1x512, .f32⟩
  | .hbm, ⟨32, _⟩ => ⟨S1024x1024, .bf16⟩
  | .hbm, ⟨33, _⟩ => ⟨S1x1024, .f32⟩
  | .hbm, ⟨34, _⟩ => ⟨S1024x5632, .bf16⟩
  | .hbm, ⟨35, _⟩ => ⟨S_, .f32⟩
  | .hbm, ⟨36, _⟩ => ⟨S5x5632, .f32⟩
  | .hbm, ⟨37, _⟩ => ⟨S8x5632, .f32⟩
  | .hbm, ⟨38, _⟩ => ⟨S2816x1024, .bf16⟩
  | .hbm, ⟨39, _⟩ => ⟨S1x1024, .f32⟩
  | .hbm, ⟨40, _⟩ => ⟨S1024x1024, .bf16⟩
  | .hbm, ⟨41, _⟩ => ⟨S256x1024, .bf16⟩
  | .hbm, ⟨42, _⟩ => ⟨S1x1024, .f32⟩
  | .hbm, ⟨43, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S8x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S1x1024, .f32⟩
  | .local _ .vmem, ⟨17, _⟩ => ⟨S1024x5632, .bf16⟩
  | .local _ .vmem, ⟨18, _⟩ => ⟨S8x5632, .f32⟩
  | .local _ .vmem, ⟨19, _⟩ => ⟨S2816x1024, .bf16⟩
  | .local _ .vmem, ⟨20, _⟩ => ⟨S1x1024, .f32⟩
  | .local _ .vmem, ⟨21, _⟩ => ⟨S1024x1024, .bf16⟩
  | .local _ .vmem, ⟨22, _⟩ => ⟨S256x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x2816, .bf16⟩
  | .local _ .vmem, ⟨27, _⟩ => ⟨S16x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S3x512 : Shape := ⟨2, ![3, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S_ : Shape := ⟨0, ![]⟩
abbrev S16x2050x512 : Shape := ⟨3, ![16, 2050, 512]⟩
abbrev S1x512 : Shape := ⟨2, ![1, 512]⟩
abbrev S1x1x512 : Shape := ⟨3, ![1, 1, 512]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S5632 : Shape := ⟨1, ![5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 177
  | .vmem => 0
  | .smem => 0
  | _ => 0

abbrev hbmTy0_0 (i : Nat) : BufTy := match i % 128 with
  | 0 => ⟨S16x2048x1024, .f32⟩
  | 1 => ⟨S16x2048x256, .f32⟩
  | 2 => ⟨S16x2048x512, .f32⟩
  | 3 => ⟨S16x2048x512, .f32⟩
  | 4 => ⟨S16x2048x512, .f32⟩
  | 5 => ⟨S16x2048x512, .f32⟩
  | 6 => ⟨S3x512, .f32⟩
  | 7 => ⟨S512, .f32⟩
  | 8 => ⟨S512, .f32⟩
  | 9 => ⟨S1024x1024, .f32⟩
  | 10 => ⟨S1024, .f32⟩
  | 11 => ⟨S1024x5632, .f32⟩
  | 12 => ⟨S3x5632, .f32⟩
  | 13 => ⟨S2816x1024, .f32⟩
  | 14 => ⟨S1024, .f32⟩
  | 15 => ⟨S1024x1024, .f32⟩
  | 16 => ⟨S256x1024, .f32⟩
  | 17 => ⟨S1024, .f32⟩
  | 18 => ⟨S16x2048x512, .f32⟩
  | 19 => ⟨S_, .i32⟩
  | 20 => ⟨S_, .f32⟩
  | 21 => ⟨S16x2050x512, .f32⟩
  | 22 => ⟨S1x512, .f32⟩
  | 23 => ⟨S512, .f32⟩
  | 24 => ⟨S16x2048x512, .f32⟩
  | 25 => ⟨S1x1x512, .f32⟩
  | 26 => ⟨S16x2048x512, .f32⟩
  | 27 => ⟨S16x2048x512, .f32⟩
  | 28 => ⟨S1x512, .f32⟩
  | 29 => ⟨S512, .f32⟩
  | 30 => ⟨S16x2048x512, .f32⟩
  | 31 => ⟨S1x1x512, .f32⟩
  | 32 => ⟨S16x2048x512, .f32⟩
  | 33 => ⟨S16x2048x512, .f32⟩
  | 34 => ⟨S16x2048x512, .f32⟩
  | 35 => ⟨S1x512, .f32⟩
  | 36 => ⟨S512, .f32⟩
  | 37 => ⟨S16x2048x512, .f32⟩
  | 38 => ⟨S1x1x512, .f32⟩
  | 39 => ⟨S16x2048x512, .f32⟩
  | 40 => ⟨S16x2048x512, .f32⟩
  | 41 => ⟨S16x2048x512, .f32⟩
  | 42 => ⟨S16x2048x512, .f32⟩
  | 43 => ⟨S16x2048x512, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .f32⟩
  | 51 => ⟨S16x2048x1, .f32⟩
  | 52 => ⟨S16x2048x1, .f32⟩
  | 53 => ⟨S16x2048x1, .f32⟩
  | 54 => ⟨S16x2048x512, .f32⟩
  | 55 => ⟨S16x2048x512, .f32⟩
  | 56 => ⟨S1x1x512, .f32⟩
  | 57 => ⟨S16x2048x512, .f32⟩
  | 58 => ⟨S16x2048x512, .f32⟩
  | 59 => ⟨S16x2048x512, .f32⟩
  | 60 => ⟨S_, .f32⟩
  | 61 => ⟨S16x2048, .f32⟩
  | 62 => ⟨S16x2048x1, .f32⟩
  | 63 => ⟨S_, .f32⟩
  | 64 => ⟨S16x2048x1, .f32⟩
  | 65 => ⟨S16x2048x1, .f32⟩
  | 66 => ⟨S_, .f32⟩
  | 67 => ⟨S16x2048x1, .f32⟩
  | 68 => ⟨S16x2048x1, .f32⟩
  | 69 => ⟨S16x2048x1, .f32⟩
  | 70 => ⟨S16x2048x512, .f32⟩
  | 71 => ⟨S16x2048x512, .f32⟩
  | 72 => ⟨S1x1x512, .f32⟩
  | 73 => ⟨S16x2048x512, .f32⟩
  | 74 => ⟨S16x2048x512, .f32⟩
  | 75 => ⟨S16x2048x1024, .f32⟩
  | 76 => ⟨S16x2048x1024, .f32⟩
  | 77 => ⟨S16x2048x1024, .f32⟩
  | 78 => ⟨S16x2048x1024, .f32⟩
  | 79 => ⟨S_, .f32⟩
  | 80 => ⟨S16x2048, .f32⟩
  | 81 => ⟨S16x2048x1, .f32⟩
  | 82 => ⟨S_, .f32⟩
  | 83 => ⟨S16x2048x1, .f32⟩
  | 84 => ⟨S16x2048x1, .f32⟩
  | 85 => ⟨S_, .f32⟩
  | 86 => ⟨S16x2048x1, .f32⟩
  | 87 => ⟨S16x2048x1, .f32⟩
  | 88 => ⟨S16x2048x1, .f32⟩
  | 89 => ⟨S16x2048x1024, .f32⟩
  | 90 => ⟨S16x2048x1024, .f32⟩
  | 91 => ⟨S1x1x1024, .f32⟩
  | 92 => ⟨S16x2048x1024, .f32⟩
  | 93 => ⟨S16x2048x1024, .f32⟩
  | 94 => ⟨S16x2048x5632, .f32⟩
  | 95 => ⟨S_, .i32⟩
  | 96 => ⟨S_, .f32⟩
  | 97 => ⟨S16x2050x5632, .f32⟩
  | 98 => ⟨S1x5632, .f32⟩
  | 99 => ⟨S5632, .f32⟩
  | 100 => ⟨S16x2048x5632, .f32⟩
  | 101 => ⟨S1x1x5632, .f32⟩
  | 102 => ⟨S16x2048x5632, .f32⟩
  | 103 => ⟨S16x2048x5632, .f32⟩
  | 104 => ⟨S1x5632, .f32⟩
  | 105 => ⟨S5632, .f32⟩
  | 106 => ⟨S16x2048x5632, .f32⟩
  | 107 => ⟨S1x1x5632, .f32⟩
  | 108 => ⟨S16x2048x5632, .f32⟩
  | 109 => ⟨S16x2048x5632, .f32⟩
  | 110 => ⟨S16x2048x5632, .f32⟩
  | 111 => ⟨S1x5632, .f32⟩
  | 112 => ⟨S5632, .f32⟩
  | 113 => ⟨S16x2048x5632, .f32⟩
  | 114 => ⟨S1x1x5632, .f32⟩
  | 115 => ⟨S16x2048x5632, .f32⟩
  | 116 => ⟨S16x2048x5632, .f32⟩
  | 117 => ⟨S16x2048x5632, .f32⟩
  | 118 => ⟨S16x2048x2816, .f32⟩
  | 119 => ⟨S16x2048x2816, .f32⟩
  | 120 => ⟨S16x2048x2816, .f32⟩
  | 121 => ⟨S16x2048x2816, .f32⟩
  | 122 => ⟨S_, .f32⟩
  | 123 => ⟨S16x2048x2816, .f32⟩
  | 124 => ⟨S16x2048x2816, .f32⟩
  | 125 => ⟨S_, .f32⟩
  | 126 => ⟨S16x2048x2816, .f32⟩
  | 127 => ⟨S16x2048x2816, .f32⟩
  | _ => ⟨S16x2048x1024, .f32⟩

abbrev hbmTy0_1 (i : Nat) : BufTy := match i % 128 with
  | 0 => ⟨S16x2048x2816, .f32⟩
  | 1 => ⟨S16x2048x2816, .f32⟩
  | 2 => ⟨S16x2048x1024, .f32⟩
  | 3 => ⟨S16x2048x1024, .f32⟩
  | 4 => ⟨S16x2048x1024, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S_, .f32⟩
  | 12 => ⟨S16x2048x1, .f32⟩
  | 13 => ⟨S16x2048x1, .f32⟩
  | 14 => ⟨S16x2048x1, .f32⟩
  | 15 => ⟨S16x2048x1024, .f32⟩
  | 16 => ⟨S16x2048x1024, .f32⟩
  | 17 => ⟨S1x1x1024, .f32⟩
  | 18 => ⟨S16x2048x1024, .f32⟩
  | 19 => ⟨S16x2048x1024, .f32⟩
  | 20 => ⟨S16x2048x1024, .f32⟩
  | 21 => ⟨S16x2048x1024, .f32⟩
  | 22 => ⟨S16x2048x1024, .f32⟩
  | 23 => ⟨S_, .f32⟩
  | 24 => ⟨S16x2048x1024, .f32⟩
  | 25 => ⟨S16x2048x1024, .f32⟩
  | 26 => ⟨S_, .f32⟩
  | 27 => ⟨S16x2048x1024, .f32⟩
  | 28 => ⟨S16x2048x1024, .f32⟩
  | 29 => ⟨S16x2048x1024, .f32⟩
  | 30 => ⟨S16x2048x1024, .f32⟩
  | 31 => ⟨S16x2048x1024, .f32⟩
  | 32 => ⟨S16x2048x1024, .f32⟩
  | 33 => ⟨S_, .f32⟩
  | 34 => ⟨S16x2048, .f32⟩
  | 35 => ⟨S16x2048x1, .f32⟩
  | 36 => ⟨S_, .f32⟩
  | 37 => ⟨S16x2048x1, .f32⟩
  | 38 => ⟨S16x2048x1, .f32⟩
  | 39 => ⟨S_, .f32⟩
  | 40 => ⟨S16x2048x1, .f32⟩
  | 41 => ⟨S16x2048x1, .f32⟩
  | 42 => ⟨S16x2048x1, .f32⟩
  | 43 => ⟨S16x2048x1024, .f32⟩
  | 44 => ⟨S16x2048x1024, .f32⟩
  | 45 => ⟨S1x1x1024, .f32⟩
  | 46 => ⟨S16x2048x1024, .f32⟩
  | 47 => ⟨S16x2048x1024, .f32⟩
  | 48 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_8 : Ref sig .tc := ⟨.hbm, 95, rfl⟩
abbrev main_call1_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_9 : Ref sig .tc := ⟨.hbm, 133, rfl⟩
abbrev main_v94 : Ref sig .tc := ⟨.hbm, 134, rfl⟩
abbrev main_v95 : Ref sig .tc := ⟨.hbm, 135, rfl⟩
abbrev main_cst_10 : Ref sig .tc := ⟨.hbm, 136, rfl⟩
abbrev main_v96 : Ref sig .tc := ⟨.hbm, 137, rfl⟩
abbrev main_v97 : Ref sig .tc := ⟨.hbm, 138, rfl⟩
abbrev main_cst_11 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_12 : Ref sig .tc := ⟨.hbm, 151, rfl⟩
abbrev main_v109 : Ref sig .tc := ⟨.hbm, 152, rfl⟩
abbrev main_v110 : Ref sig .tc := ⟨.hbm, 153, rfl⟩
abbrev main_cst_13 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_14 : Ref sig .tc := ⟨.hbm, 161, rfl⟩
abbrev main_v117 : Ref sig .tc := ⟨.hbm, 162, rfl⟩
abbrev main_v118 : Ref sig .tc := ⟨.hbm, 163, rfl⟩
abbrev main_cst_15 : Ref sig .tc := ⟨.hbm, 164, rfl⟩
abbrev main_v119 : Ref sig .tc := ⟨.hbm, 165, rfl⟩
abbrev main_v120 : Ref sig .tc := ⟨.hbm, 166, rfl⟩
abbrev main_cst_16 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x2840 : Shape := ⟨2, ![1024, 2840]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S128 : Shape := ⟨1, ![128]⟩
abbrev S1x128 : Shape := ⟨2, ![1, 128]⟩
abbrev S32768x1024 : Shape := ⟨2, ![32768, 1024]⟩
abbrev S1x1024 : Shape := ⟨2, ![1, 1024]⟩
abbrev S1024x116 : Shape := ⟨2, ![1024, 116]⟩
abbrev S1024x12 : Shape := ⟨2, ![1024, 12]⟩
abbrev S1024x256 : Shape := ⟨2, ![1024, 256]⟩
abbrev S32768x512 : Shape := ⟨2, ![32768, 512]⟩
abbrev S2048x4096 : Shape := ⟨2, ![2048, 4096]⟩
abbrev S32768x256 : Shape := ⟨2, ![32768, 256]⟩
abbrev S1024x1024 : Shape := ⟨2, ![1024, 1024]⟩
abbrev S1024x128 : Shape := ⟨2, ![1024, 128]⟩
abbrev S1024x512 : Shape := ⟨2, ![1024, 512]⟩
abbrev S64x4096 : Shape := ⟨2, ![64, 4096]⟩
abbrev S2x1024x128 : Shape := ⟨3, ![2, 1024, 128]⟩
abbrev S1024x1 : Shape := ⟨2, ![1024, 1]⟩
abbrev S1x1024x128 : Shape := ⟨3, ![1, 1024, 128]⟩
abbrev S1x64x128 : Shape := ⟨3, ![1, 64, 128]⟩
abbrev S64x128 : Shape := ⟨2, ![64, 128]⟩
abbrev S32768x2x2x2x128 : Shape := ⟨5, ![32768, 2, 2, 2, 128]⟩
abbrev S32768x2x2x2x64 : Shape := ⟨5, ![32768, 2, 2, 2, 64]⟩
abbrev S32768x2x128 : Shape := ⟨3, ![32768, 2, 128]⟩
abbrev S32768x2x12 : Shape := ⟨3, ![32768, 2, 12]⟩
abbrev S32768x1x2x1x64 : Shape := ⟨5, ![32768, 1, 2, 1, 64]⟩
abbrev S32768x2x64 : Shape := ⟨3, ![32768, 2, 64]⟩

abbrev nBuf : Space → Nat
  | .hbm => 89
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2840, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x64, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x128, .f32⟩
  | .hbm, ⟨32, _⟩ => ⟨S2048x128, .f32⟩
  | .hbm, ⟨33, _⟩ => ⟨S128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i32⟩
  | .hbm, ⟨38, _⟩ => ⟨S2048, .i32⟩
  | .hbm, ⟨39, _⟩ => ⟨S2048x1, .i32⟩
  | .hbm, ⟨40, _⟩ => ⟨S_, .i32⟩
  | .hbm, ⟨41, _⟩ => ⟨S_, .i32⟩
  | .hbm, ⟨42, _⟩ => ⟨S2048x1, .i32⟩
  | .hbm, ⟨43, _⟩ => ⟨S2048x1, .i32⟩
  | .hbm, ⟨44, _⟩ => ⟨S2048x1, .i32⟩
  | .hbm, ⟨45, _⟩ => ⟨S_, .i32⟩
  | .hbm, ⟨46, _⟩ => ⟨S2048x1, .i32⟩
  | .hbm, ⟨47, _⟩ => ⟨S2048x1, .i1⟩
  | .hbm, ⟨48, _⟩ => ⟨S2048x1, .i32⟩
  | .hbm, ⟨49, _⟩ => ⟨S2048x1, .i32⟩
  | .hbm, ⟨50, _⟩ => ⟨S_, .i32⟩
  | .hbm, ⟨51, _⟩ => ⟨S2048x1, .i32⟩
  | .hbm, ⟨52, _⟩ => ⟨S2048x1, .i1⟩
  | .hbm, ⟨53, _⟩ => ⟨S2048x1, .i1⟩
  | .hbm, ⟨54, _⟩ => ⟨S_, .i32⟩
  | .hbm, ⟨55, _⟩ => ⟨S2048x1, .i32⟩
  | .hbm, ⟨56, _⟩ => ⟨S2048x1, .i32⟩
  | .hbm, ⟨57, _⟩ => ⟨S2048x1, .i32⟩
  | .hbm, ⟨58, _⟩ => ⟨S2048x128, .i32⟩
  | .hbm, ⟨59, _⟩ => ⟨S2048x128, .i32⟩
  | .hbm, ⟨60, _⟩ => ⟨S2048x128, .i1⟩
  | .hbm, ⟨61, _⟩ => ⟨S2048x128, .f32⟩
  | .hbm, ⟨62, _⟩ => ⟨S32768x1024, .f32⟩
  | .hbm, ⟨63, _⟩ => ⟨S1x1024, .f32⟩
  | .hbm, ⟨64, _⟩ => ⟨S1024x2840, .bf16⟩
  | .hbm, ⟨65, _⟩ => ⟨S_, .f32⟩
  | .hbm, ⟨66, _⟩ => ⟨S1024x116, .f32⟩
  | .hbm, ⟨67, _⟩ => ⟨S1024x12, .f32⟩
  | .hbm, ⟨68, _⟩ => ⟨S1024x12, .f32⟩
  | .hbm, ⟨69, _⟩ => ⟨S1024x256, .f32⟩
  | .hbm, ⟨70, _⟩ => ⟨S1024x256, .bf16⟩
  | .hbm, ⟨71, _⟩ => ⟨S32768x512, .bf16⟩
  | .hbm, ⟨72, _⟩ => ⟨S32768x512, .bf16⟩
  | .hbm, ⟨73, _⟩ => ⟨S32768x512, .bf16⟩
  | .hbm, ⟨74, _⟩ => ⟨S2048x4096, .bf16⟩
  | .hbm, ⟨75, _⟩ => ⟨S32768x1024, .bf16⟩
  | .hbm, ⟨76, _⟩ => ⟨S32768x256, .f32⟩
  | .hbm, ⟨77, _⟩ => ⟨S32768x2x2x2x128, .bf16⟩
  | .hbm, ⟨78, _⟩ => ⟨S32768x2x2x2x64, .bf16⟩
  | .hbm, ⟨79, _⟩ => ⟨S32768x2x128, .f32⟩
  | .hbm, ⟨80, _⟩ => ⟨S32768x2x12, .f32⟩
  | .hbm, ⟨81, _⟩ => ⟨S32768x1x2x1x64, .bf16⟩
  | .hbm, ⟨82, _⟩ => ⟨S32768x2x64, .bf16⟩
  | .hbm, ⟨83, _⟩ => ⟨S32768x1x2x1x64, .bf16⟩
  | .hbm, ⟨84, _⟩ => ⟨S32768x2x64, .bf16⟩
  | .hbm, ⟨85, _⟩ => ⟨S32768x1x2x1x64, .bf16⟩
  | .hbm, ⟨86, _⟩ => ⟨S32768x2x64, .bf16⟩
  | .hbm, ⟨87, _⟩ => ⟨S32768x1x2x1x64, .bf16⟩
  | .hbm, ⟨88, _⟩ => ⟨S32768x2x64, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2840, .bf16⟩
  | .local _ .vmem, ⟨4, _⟩ => ⟨S1024x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S64x4096, .bf16⟩
  | .local _ .vmem, ⟨18, _⟩ => ⟨S64x4096, .bf16⟩
  | .local _ .vmem, ⟨19, _⟩ => ⟨S1024x1024, .bf16⟩
  | .local _ .vmem, ⟨20, _⟩ => ⟨S1024x1024, .bf16⟩
  | .local _ .vmem, ⟨21, _⟩ => ⟨S1024x256, .f32⟩
  | .local _ .vmem, ⟨22, _⟩ => ⟨S1024x256, .f32⟩
  | .local _ .vmem, ⟨23, _⟩ => ⟨S2x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_v45_3 : Ref sig .tc := ⟨.hbm, 74, rfl⟩
abbrev main_v45_4 : Ref sig .tc := ⟨.hbm, 75, rfl⟩
abbrev main_v45_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S16x2048x1024 : Shape := ⟨3, ![16, 2048, 1024]⟩
abbrev S1024 : Shape := ⟨1, ![1024]⟩
abbrev S1024x2840 : Shape := ⟨2, ![1024, 2840]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2840 : Shape := ⟨3, ![16, 2048, 2840]⟩
abbrev S16x2048x512 : Shape := ⟨3, ![16, 2048, 512]⟩
abbrev S16x2048x256 : Shape := ⟨3, ![16, 2048, 256]⟩
abbrev S16x2048x128 : Shape := ⟨3, ![16, 2048, 128]⟩
abbrev S16x2048x24 : Shape := ⟨3, ![16, 2048, 24]⟩
abbrev S16x2048x8x64 : Shape := ⟨4, ![16, 2048, 8, 64]⟩
abbrev S2048x1x64 : Shape := ⟨3, ![2048, 1, 64]⟩
abbrev S16x2048x8x32 : Shape := ⟨4, ![16, 2048, 8, 32]⟩
abbrev S1x2048x1x64 : Shape := ⟨4, ![1, 2048, 1, 64]⟩
abbrev S16x2048x2x64 : Shape := ⟨4, ![16, 2048, 2, 64]⟩
abbrev S16x2048x2x32 : Shape := ⟨4, ![16, 2048, 2, 32]⟩
abbrev S32768x512 : Shape := ⟨2, ![32768, 512]⟩
abbrev S2048x4096 : Shape := ⟨2, ![2048, 4096]⟩
abbrev S32768x2x64 : Shape := ⟨3, ![32768, 2, 64]⟩
abbrev S32768x2x12 : Shape := ⟨3, ![32768, 2, 12]⟩

abbrev nBuf : Space → Nat
  | .hbm => 132
  | .vmem => 0
  | .smem => 0
  | _ => 0

abbrev hbmTy0_0 (i : Nat) : BufTy := match i % 128 with
  | 0 => ⟨S16x2048x1024, .f32⟩
  | 1 => ⟨S1024, .f32⟩
  | 2 => ⟨S1024x2840, .f32⟩
  | 3 => ⟨S2048, .i32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x64, .f32⟩
  | 25 => ⟨S2048x64, .f32⟩
  | 26 => ⟨S2048x64, .f32⟩
  | 27 => ⟨S16x2048x1024, .f32⟩
  | 28 => ⟨S_, .f32⟩
  | 29 => ⟨S16x2048, .f32⟩
  | 30 => ⟨S16x2048x1, .f32⟩
  | 31 => ⟨S_, .f32⟩
  | 32 => ⟨S16x2048x1, .f32⟩
  | 33 => ⟨S16x2048x1, .f32⟩
  | 34 => ⟨S_, .f32⟩
  | 35 => ⟨S16x2048x1, .f32⟩
  | 36 => ⟨S16x2048x1, .f32⟩
  | 37 => ⟨S16x2048x1, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S16x2048x2840, .f32⟩
  | 44 => ⟨S16x2048x512, .f32⟩
  | 45 => ⟨S16x2048x512, .f32⟩
  | 46 => ⟨S16x2048x512, .f32⟩
  | 47 => ⟨S16x2048x512, .f32⟩
  | 48 => ⟨S16x2048x256, .f32⟩
  | 49 => ⟨S16x2048x128, .f32⟩
  | 50 => ⟨S16x2048x128, .f32⟩
  | 51 => ⟨S16x2048x128, .f32⟩
  | 52 => ⟨S16x2048x128, .f32⟩
  | 53 => ⟨S16x2048x24, .f32⟩
  | 54 => ⟨S16x2048x8x64, .f32⟩
  | 55 => ⟨S2048x1x64, .f32⟩
  | 56 => ⟨S2048x1x64, .f32⟩
  | 57 => ⟨S16x2048x8x32, .f32⟩
  | 58 => ⟨S16x2048x8x32, .f32⟩
  | 59 => ⟨S16x2048x8x32, .f32⟩
  | 60 => ⟨S16x2048x8x64, .f32⟩
  | 61 => ⟨S1x2048x1x64, .f32⟩
  | 62 => ⟨S16x2048x8x64, .f32⟩
  | 63 => ⟨S16x2048x8x64, .f32⟩
  | 64 => ⟨S1x2048x1x64, .f32⟩
  | 65 => ⟨S16x2048x8x64, .f32⟩
  | 66 => ⟨S16x2048x8x64, .f32⟩
  | 67 => ⟨S16x2048x8x64, .f32⟩
  | 68 => ⟨S_, .f32⟩
  | 69 => ⟨S16x2048x8x64, .f32⟩
  | 70 => ⟨S16x2048x8x64, .f32⟩
  | 71 => ⟨S_, .f32⟩
  | 72 => ⟨S_, .f32⟩
  | 73 => ⟨S_, .f32⟩
  | 74 => ⟨S16x2048x8x64, .f32⟩
  | 75 => ⟨S16x2048x8x64, .f32⟩
  | 76 => ⟨S16x2048x2x64, .f32⟩
  | 77 => ⟨S16x2048x2x64, .f32⟩
  | 78 => ⟨S16x2048x2x64, .f32⟩
  | 79 => ⟨S16x2048x2x64, .f32⟩
  | 80 => ⟨S2048x1x64, .f32⟩
  | 81 => ⟨S2048x1x64, .f32⟩
  | 82 => ⟨S16x2048x2x32, .f32⟩
  | 83 => ⟨S16x2048x2x32, .f32⟩
  | 84 => ⟨S16x2048x2x32, .f32⟩
  | 85 => ⟨S16x2048x2x64, .f32⟩
  | 86 => ⟨S1x2048x1x64, .f32⟩
  | 87 => ⟨S16x2048x2x64, .f32⟩
  | 88 => ⟨S16x2048x2x64, .f32⟩
  | 89 => ⟨S1x2048x1x64, .f32⟩
  | 90 => ⟨S16x2048x2x64, .f32⟩
  | 91 => ⟨S16x2048x2x64, .f32⟩
  | 92 => ⟨S16x2048x2x64, .f32⟩
  | 93 => ⟨S2048x1x64, .f32⟩
  | 94 => ⟨S2048x1x64, .f32⟩
  | 95 => ⟨S16x2048x2x32, .f32⟩
  | 96 => ⟨S16x2048x2x32, .f32⟩
  | 97 => ⟨S16x2048x2x32, .f32⟩
  | 98 => ⟨S16x2048x2x64, .f32⟩
  | 99 => ⟨S1x2048x1x64, .f32⟩
  | 100 => ⟨S16x2048x2x64, .f32⟩
  | 101 => ⟨S16x2048x2x64, .f32⟩
  | 102 => ⟨S1x2048x1x64, .f32⟩
  | 103 => ⟨S16x2048x2x64, .f32⟩
  | 104 => ⟨S16x2048x2x64, .f32⟩
  | 105 => ⟨S16x2048x2x64, .f32⟩
  | 106 => ⟨S16x2048x512, .f32⟩
  | 107 => ⟨S32768x512, .f32⟩
  | 108 => ⟨S32768x512, .bf16⟩
  | 109 => ⟨S32768x512, .f32⟩
  | 110 => ⟨S32768x512, .bf16⟩
  | 111 => ⟨S32768x512, .f32⟩
  | 112 => ⟨S32768x512, .bf16⟩
  | 113 => ⟨S2048x4096, .f32⟩
  | 114 => ⟨S2048x4096, .bf16⟩
  | 115 => ⟨S32768x2x64, .f32⟩
  | 116 => ⟨S32768x2x64, .bf16⟩
  | 117 => ⟨S32768x2x64, .f32⟩
  | 118 => ⟨S32768x2x64, .bf16⟩
  | 119 => ⟨S32768x2x64, .f32⟩
  | 120 => ⟨S32768x2x64, .bf16⟩
  | 121 => ⟨S32768x2x64, .f32⟩
  | 122 => ⟨S32768x2x64, .bf16⟩
  | 123 => ⟨S16x2048x24, .f32⟩
  | 124 => ⟨S16x2048x24, .f32⟩
  | 125 => ⟨S_, .f32⟩
  | 126 => ⟨S16x2048x24, .f32⟩
  | 127 => ⟨S16x2048x24, .f32⟩
  | _ => ⟨S16x2048x1024, .f32⟩

abbrev hbmTy0_1 (i : Nat) : BufTy := match i % 128 with
  | 0 => ⟨S_, .f32⟩
  | 1 => ⟨S16x2048x24, .f32⟩
  | 2 => ⟨S16x2048x24, .f32⟩
  | 3 => ⟨S32768x2x12, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_8 : Ref sig .tc := ⟨.hbm, 125, rfl⟩
abbrev main_v113 : Ref sig .tc := ⟨.hbm, 126, rfl⟩
abbrev main_v114 : Ref sig .tc := ⟨.hbm, 127, rfl⟩
abbrev main_cst_9 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩

abbrev nD : Nat := 1
abbrev τ : Topo := Topo.v7x

variable {F : FTy → Type} [FloatOps F]
-- ==== Proof.Slab.lean ====
/- The attention body's vector operations read at an index, for any number of keys. -/
module

public import Idealize.ShloMosaic.Lib.Pointwise
public import Idealize.ShloMosaic.Lib.MatmulPlain
public import Idealize.ShloMosaic.Lib.KernelVsHost
public import Idealize.ShloMosaic.Init

@[expose] public section

set_option maxRecDepth 16384

noncomputable section

namespace Cert.Attend

open Idealize.ShloMosaic

/-- A matrix's shape. -/
abbrev Sh (a b : ℕ) : Shape := ⟨2, ![a, b]⟩

theorem zero_at {s : Shape} (i : s.Idx) : constant (F := Ideal) s .f32 0x00000000#32 i = 0 := by
  simp [constant, Scalar.ofBits, Ideal.ofBits, Ideal.ieee]

theorem first_half : ∀ c : Fin 128, IntOp.cmpi CmpIPredicate.slt (BitVec.ofNat 32 c.val) 64#32 = if c.val < 64 then 1#1 else 0#1 := by
  decide

theorem select_half {α : Type} (c : Fin 128) (x y : α) :
    Scalar.select (IntOp.cmpi CmpIPredicate.slt (BitVec.ofNat 32 c.val) 64#32) x y = if c.val < 64 then x else y := by
  rw [first_half]
  split_ifs <;> rfl

theorem bits_lt : FTy.bits .bf16 < FTy.bits .f32 := by decide

theorem ofBits_neg_inf : Ideal.ofBits FTy.f32 0xFF800000#32 = ⊥ := by
  simp [Ideal.ofBits, Ideal.ieee]

theorem ix2_of {a b : ℕ} (i : (Sh a b).Idx) (r : Fin a) (c : Fin b) (h0 : (i 0).val = r.val) (h1 : (i 1).val = c.val) :
    i = ix2 r c := by
  funext k
  refine Fin.ext ?_
  fin_cases k
  · exact h0
  · exact h1

/-- `2 ^ (s - row maximum)`, row by row. -/
def nume {n : ℕ} (hr : (Sh 256 n).Reduces [1] ⟨1, ![256]⟩) (hc : (⟨1, ![256]⟩ : Shape).ShapeCasts (Sh 256 1))
    (hb : (Sh 256 1).Broadcasts (Sh 256 n)) (s : FVec Ideal (Sh 256 n) .f32) : FVec Ideal (Sh 256 n) .bf16 :=
  truncf .bf16 (exp2 (subf s (broadcastTo (Sh 256 n) (shapeCast (Sh 256 1)
    (multiReduction .maximumf [1] ⟨1, ![256]⟩ s 0xFF800000#32 hr (.inl rfl) rfl) hc) hb))) bits_lt

theorem nume_apply {n : ℕ} (hr : (Sh 256 n).Reduces [1] ⟨1, ![256]⟩) (hc : (⟨1, ![256]⟩ : Shape).ShapeCasts (Sh 256 1))
    (hb : (Sh 256 1).Broadcasts (Sh 256 n)) (s : FVec Ideal (Sh 256 n) .f32) (r : Fin 256) (j : Fin n) :
    nume hr hc hb s (ix2 r j) = Ideal.exp2 (s (ix2 r j) - Finset.univ.fold max ⊥ fun k : Fin n => s (ix2 r k)) := by
  pointwise [nume]
  rw [ofBits_neg_inf]
  rfl

/-- Two heads' queries, each scaled lane by lane, one above the other. -/
def qst (h0 : (Sh 128 128).ShapeCasts (Sh 128 128))
    (hc : Shape.Concatenates [Sh 128 128, Sh 128 128] (Sh 256 128) 0)
    (lam : FVec Ideal (Sh 128 128) .f32) (qe qo : FVec Ideal (Sh 128 128) .bf16) : FVec Ideal (Sh 256 128) .bf16 :=
  concatenate (Sh 256 128) 0
    [⟨Sh 128 128, (truncf .bf16 (mulf (extf .f32 (shapeCast (Sh 128 128) qe h0) bits_lt) lam) bits_lt : FVec Ideal (Sh 128 128) .bf16)⟩,
     ⟨Sh 128 128, (truncf .bf16 (mulf (extf .f32 (shapeCast (Sh 128 128) qo h0) bits_lt) lam) bits_lt : FVec Ideal (Sh 128 128) .bf16)⟩] hc

theorem qst_apply (h0 : (Sh 128 128).ShapeCasts (Sh 128 128))
    (hc : Shape.Concatenates [Sh 128 128, Sh 128 128] (Sh 256 128) 0)
    (lam : FVec Ideal (Sh 128 128) .f32) (qe qo : FVec Ideal (Sh 128 128) .bf16) (r : Fin 256) (l : Fin 128) :
    qst h0 hc lam qe qo (ix2 r l) = if h : r.val < 128 then qe (ix2 (⟨r.val, h⟩ : Fin 128) l) * lam (ix2 (⟨r.val, h⟩ : Fin 128) l)
      else qo (ix2 (⟨r.val - 128, by omega⟩ : Fin 128) l) * lam (ix2 (⟨r.val - 128, by omega⟩ : Fin 128) l) := by
  pointwise [qst]

/-- The products of the queries with `n` keys. -/
def qk {n : ℕ} (h0 : (Sh n 128).ShapeCasts (Sh n 128)) (q : FVec Ideal (Sh 256 128) .bf16)
    (k : FVec Ideal (Sh n 128) .bf16) : FVec Ideal (Sh 256 n) .f32 :=
  matmul (DotDims.transposedRhs 256 128 n) none q (shapeCast (Sh n 128) k h0) (constant (Sh 256 n) .f32 0x00000000#32)

theorem qk_apply {n : ℕ} (h0 : (Sh n 128).ShapeCasts (Sh n 128)) (q : FVec Ideal (Sh 256 128) .bf16)
    (k : FVec Ideal (Sh n 128) .bf16) (r : Fin 256) (j : Fin n) :
    qk h0 q k (ix2 r j) = ∑ l : Fin 128, q (ix2 r l) * k (ix2 j l) := by
  pointwise [qk]
  refine Finset.sum_congr rfl fun x _ => congrArg (q (ix2 r x) * k ·) ?_
  refine ix2_of _ _ _ ?_ ?_
  · rfl
  · rfl

/-- The weighted sum of the values. -/
def pv {n : ℕ} (h0 : (Sh n 128).ShapeCasts (Sh n 128)) (e : FVec Ideal (Sh 256 n) .bf16)
    (v : FVec Ideal (Sh n 128) .bf16) : FVec Ideal (Sh 256 128) .f32 :=
  matmul (DotDims.plain 256 n 128) none e (shapeCast (Sh n 128) v h0) (constant (Sh 256 128) .f32 0x00000000#32)

theorem pv_apply {n : ℕ} (h0 : (Sh n 128).ShapeCasts (Sh n 128)) (e : FVec Ideal (Sh 256 n) .bf16)
    (v : FVec Ideal (Sh n 128) .bf16) (r : Fin 256) (l : Fin 128) :
    pv h0 e v (ix2 r l) = ∑ j : Fin n, e (ix2 r j) * v (ix2 j l) := by
  have h := Ideal.matmul_plain_apply none e v (constant (F := Ideal) (Sh 256 128) .f32 0x00000000#32) r l
  rw [zero_at, zero_add] at h
  refine Eq.trans ?_ h
  pointwise [pv]
  rfl

/-- The causal bias on the last 256 of the keys. -/
def causal {p n : ℕ} (h1 : (Sh 256 n).Slices ![0, 0] (Sh 256 p)) (h2 : (Sh 256 n).Slices ![0, p] (Sh 256 256))
    (hc : Shape.Concatenates [Sh 256 p, Sh 256 256] (Sh 256 n) 1)
    (s : FVec Ideal (Sh 256 n) .f32) (tri : FVec Ideal (Sh 256 256) .f32) : FVec Ideal (Sh 256 n) .f32 :=
  concatenate (Sh 256 n) 1
    [⟨Sh 256 p, (extractStridedSlice (Sh 256 p) ![0, 0] s h1 : FVec Ideal (Sh 256 p) .f32)⟩,
     ⟨Sh 256 256, (addf (extractStridedSlice (Sh 256 256) ![0, p] s h2) tri : FVec Ideal (Sh 256 256) .f32)⟩] hc

theorem causal_apply {p n : ℕ} (hn : n = p + 256) (h1 : (Sh 256 n).Slices ![0, 0] (Sh 256 p)) (h2 : (Sh 256 n).Slices ![0, p] (Sh 256 256))
    (hc : Shape.Concatenates [Sh 256 p, Sh 256 256] (Sh 256 n) 1)
    (s : FVec Ideal (Sh 256 n) .f32) (tri : FVec Ideal (Sh 256 256) .f32) (r : Fin 256) (j : Fin n) :
    causal h1 h2 hc s tri (ix2 r j) = s (ix2 r j) + if h : j.val < p then 0 else tri (ix2 r (⟨j.val - p, by omega⟩ : Fin 256)) := by
  pointwise [causal]
  by_cases h : j.val < p
  · rw [dif_pos h, dif_pos h, add_zero]
    exact congrArg s (ix2_of _ _ _ (Nat.zero_add _) (Nat.zero_add _))
  · rw [dif_neg h, dif_neg h]
    refine congrArg (s · + _) (ix2_of _ _ _ (Nat.zero_add _) ?_)
    change p + (j.val - p) = j.val
    omega

/-- The window's biases: `edge` on the first 128 keys, `diag` on the last 128. -/
def windowed (h1 : (Sh 256 640).Slices ![0, 0] (Sh 256 128)) (h2 : (Sh 256 640).Slices ![0, 128] (Sh 256 384))
    (h3 : (Sh 256 640).Slices ![0, 512] (Sh 256 128))
    (hc : Shape.Concatenates [Sh 256 128, Sh 256 384, Sh 256 128] (Sh 256 640) 1)
    (s : FVec Ideal (Sh 256 640) .f32) (edge diag : FVec Ideal (Sh 256 128) .f32) : FVec Ideal (Sh 256 640) .f32 :=
  concatenate (Sh 256 640) 1
    [⟨Sh 256 128, (addf (extractStridedSlice (Sh 256 128) ![0, 0] s h1) edge : FVec Ideal (Sh 256 128) .f32)⟩,
     ⟨Sh 256 384, (extractStridedSlice (Sh 256 384) ![0, 128] s h2 : FVec Ideal (Sh 256 384) .f32)⟩,
     ⟨Sh 256 128, (addf (extractStridedSlice (Sh 256 128) ![0, 512] s h3) diag : FVec Ideal (Sh 256 128) .f32)⟩] hc

theorem windowed_apply (h1 : (Sh 256 640).Slices ![0, 0] (Sh 256 128)) (h2 : (Sh 256 640).Slices ![0, 128] (Sh 256 384))
    (h3 : (Sh 256 640).Slices ![0, 512] (Sh 256 128))
    (hc : Shape.Concatenates [Sh 256 128, Sh 256 384, Sh 256 128] (Sh 256 640) 1)
    (s : FVec Ideal (Sh 256 640) .f32) (edge diag : FVec Ideal (Sh 256 128) .f32) (r : Fin 256) (j : Fin 640) :
    windowed h1 h2 h3 hc s edge diag (ix2 r j) = s (ix2 r j) +
      if h : j.val < 128 then edge (ix2 r (⟨j.val, h⟩ : Fin 128)) else if h' : j.val < 512 then 0
        else diag (ix2 r (⟨j.val - 512, by omega⟩ : Fin 128)) := by
  pointwise [windowed]
  have hj := j.isLt
  by_cases h : j.val < 128
  · rw [dif_pos h, dif_pos h]
  · rw [dif_neg h, dif_neg h]
    by_cases h' : j.val < 512
    · rw [dif_pos (by omega), dif_pos h', add_zero]
      exact congrArg s (ix2_of _ _ _ rfl (by change 128 + (j.val - 128) = j.val; omega))
    · rw [dif_neg (by omega), dif_neg h']
      refine congrArg₂ (· + ·) (congrArg s (ix2_of _ _ _ rfl ?_)) (congrArg diag (ix2_of _ _ _ rfl ?_))
      · change 512 + (j.val - 128 - 384) = j.val; omega
      · change j.val - 128 - 384 = j.val - 512; omega

/-- A table stacked on itself and scaled. -/
def twice {n : ℕ} (hc : Shape.Concatenates [Sh 128 n, Sh 128 n] (Sh 256 n) 0) (x : FVec Ideal (Sh 128 n) .f32) (neg : Ideal .f32) :
    FVec Ideal (Sh 256 n) .f32 :=
  concatenate (Sh 256 n) 0 [⟨Sh 128 n, (mulf x (broadcast (Sh 128 n) neg) : FVec Ideal (Sh 128 n) .f32)⟩,
    ⟨Sh 128 n, (mulf x (broadcast (Sh 128 n) neg) : FVec Ideal (Sh 128 n) .f32)⟩] hc

theorem twice_apply {n : ℕ} (hc : Shape.Concatenates [Sh 128 n, Sh 128 n] (Sh 256 n) 0) (x : FVec Ideal (Sh 128 n) .f32) (neg : Ideal .f32)
    (r : Fin 256) (j : Fin n) :
    twice hc x neg (ix2 r j) = x (ix2 (⟨r.val % 128, Nat.mod_lt _ (by decide)⟩ : Fin 128) j) * neg := by
  pointwise [twice]
  have hr := r.isLt
  split_ifs with h
  · refine congrArg (x · * neg) (ix2_of _ _ _ ?_ rfl)
    change r.val = r.val % 128
    omega
  · refine congrArg (x · * neg) (ix2_of _ _ _ ?_ rfl)
    change r.val - 128 = r.val % 128
    omega

/-- The gates spread over the output's lanes, in two products: the rounded part and the rest. -/
def gexp (h0 : (Sh 256 1024).ShapeCasts (Sh 256 1024)) (h1 : (Sh 128 256).ShapeCasts (Sh 128 256)) (g : FVec Ideal (Sh 128 256) .f32)
    (x : FVec Ideal (Sh 256 1024) .bf16) : FVec Ideal (Sh 128 1024) .f32 :=
  addf (matmul (DotDims.plain 128 256 1024) none (truncf .bf16 (shapeCast (Sh 128 256) g h1) bits_lt) (shapeCast (Sh 256 1024) x h0)
      (constant (Sh 128 1024) .f32 0x00000000#32))
    (matmul (DotDims.plain 128 256 1024) none (truncf .bf16 (subf (shapeCast (Sh 128 256) g h1)
        (extf .f32 (truncf .bf16 (shapeCast (Sh 128 256) g h1) bits_lt) bits_lt)) bits_lt) (shapeCast (Sh 256 1024) x h0)
      (constant (Sh 128 1024) .f32 0x00000000#32))

theorem gexp_apply (h0 : (Sh 256 1024).ShapeCasts (Sh 256 1024)) (h1 : (Sh 128 256).ShapeCasts (Sh 128 256)) (g : FVec Ideal (Sh 128 256) .f32)
    (x : FVec Ideal (Sh 256 1024) .bf16) (r : Fin 128) (c : Fin 1024) :
    gexp h0 h1 g x (ix2 r c) = (∑ l : Fin 256, g (ix2 r l) * x (ix2 l c)) + ∑ l : Fin 256, (g (ix2 r l) - g (ix2 r l)) * x (ix2 l c) := by
  have e (w : FVec Ideal (Sh 128 256) .bf16) : FloatOps.matmul (DotDims.plain 128 256 1024) none w x
      (constant (F := Ideal) (Sh 128 1024) .f32 0x00000000#32) (ix2 r c) = ∑ l : Fin 256, w (ix2 r l) * x (ix2 l c) := by
    have h := Ideal.matmul_plain_apply none w x (constant (F := Ideal) (Sh 128 1024) .f32 0x00000000#32) r c
    rw [zero_at, zero_add] at h
    exact h
  have ha : shapeCast (Sh 128 256) g h1 = g := by funext i; pointwise []
  have hb : shapeCast (Sh 256 1024) x h0 = x := by funext i; pointwise []
  unfold gexp
  rw [ha, hb]
  exact congrArg₂ (· + ·) (e _) (e _)

/-- The lanes' scales: `sc` on the first 64, `neg` on the rest. -/
def lanes (hi : (Sh 128 128).Iotas .tc 32 [1]) (sc neg : Ideal .f32) : FVec Ideal (Sh 128 128) .f32 :=
  select (cmpi .slt (iota .tc (Sh 128 128) 32 [1] hi) (broadcast (Sh 128 128) 64#32)) (broadcast (Sh 128 128) sc) (broadcast (Sh 128 128) neg)

theorem lanes_apply (hi : (Sh 128 128).Iotas .tc 32 [1]) (sc neg : Ideal .f32) (r l : Fin 128) :
    lanes hi sc neg (ix2 r l) = if l.val < 64 then sc else neg := by
  pointwise [lanes]
  exact select_half l sc neg

/-- One branch's share of a tile: the weighted sum over the denominator, times the gate, added to what is there. -/
def merge (hi : (Sh 128 128).Iotas .tc 32 [1]) (h0 : (Sh 256 128).Slices ![0, 0] (Sh 128 128)) (h1 : (Sh 256 128).Slices ![128, 0] (Sh 128 128))
    (hr : (Sh 128 128).Rotates 1 none) (o gate : FVec Ideal (Sh 128 128) .f32) (acc : FVec Ideal (Sh 256 128) .f32) : FVec Ideal (Sh 128 128) .f32 :=
  addf o (mulf
    (select (cmpi .slt (iota .tc (Sh 128 128) 32 [1] hi) (broadcast (Sh 128 128) 64#32)) (extractStridedSlice (Sh 128 128) ![0, 0] acc h0)
      (dynamicRotate 1 64#32 none (extractStridedSlice (Sh 128 128) ![128, 0] acc h1) hr))
    (divf gate (maximumf
      (select (cmpi .slt (iota .tc (Sh 128 128) 32 [1] hi) (broadcast (Sh 128 128) 64#32))
        (dynamicRotate 1 64#32 none (extractStridedSlice (Sh 128 128) ![0, 0] acc h0) hr) (extractStridedSlice (Sh 128 128) ![128, 0] acc h1))
      (broadcast (Sh 128 128) (Scalar.ofBits .f32 0x0DA24260#32)))))

theorem merge_apply (hi : (Sh 128 128).Iotas .tc 32 [1]) (h0 : (Sh 256 128).Slices ![0, 0] (Sh 128 128)) (h1 : (Sh 256 128).Slices ![128, 0] (Sh 128 128))
    (hr : (Sh 128 128).Rotates 1 none) (o gate : FVec Ideal (Sh 128 128) .f32) (acc : FVec Ideal (Sh 256 128) .f32) (r c : Fin 128) :
    merge hi h0 h1 hr o gate acc (ix2 r c) = o (ix2 r c) +
      acc (ix2 (⟨128 * (c.val / 64) + r.val, by omega⟩ : Fin 256) (⟨c.val % 64, by omega⟩ : Fin 128)) *
        Ideal.div (gate (ix2 r c)) (max (acc (ix2 (⟨128 * (c.val / 64) + r.val, by omega⟩ : Fin 256) (⟨64 + c.val % 64, by omega⟩ : Fin 128)))
          (Ideal.ofBits .f32 0x0DA24260#32)) := by
  pointwise [merge]
  rw [select_half, select_half]
  have hc := c.isLt
  split_ifs with h
  · refine congrArg₂ (fun a b => o (ix2 r c) + a * Ideal.div (gate (ix2 r c)) (max b _)) (congrArg acc (ix2_of _ _ _ ?_ ?_))
      (congrArg acc (ix2_of _ _ _ ?_ ?_))
    · change r.val = 128 * (c.val / 64) + r.val; omega
    · change c.val = c.val % 64; omega
    · change r.val = 128 * (c.val / 64) + r.val; omega
    · change (c.val + 128 - 64) % 128 = 64 + c.val % 64; omega
  · refine congrArg₂ (fun a b => o (ix2 r c) + a * Ideal.div (gate (ix2 r c)) (max b _)) (congrArg acc (ix2_of _ _ _ ?_ ?_))
      (congrArg acc (ix2_of _ _ _ ?_ ?_))
    · change 128 + r.val = 128 * (c.val / 64) + r.val; omega
    · change (c.val + 128 - 64) % 128 = c.val % 64; omega
    · change 128 + r.val = 128 * (c.val / 64) + r.val; omega
    · change c.val = 64 + c.val % 64; omega

end Cert.Attend

end
-- ==== Proof.Row.lean ====
/- One row of attention, and a tile of the attention kernel's output read through it. -/
module

public import proofs.«01_k».proof.Proof.Slab

@[expose] public section

set_option maxRecDepth 16384

noncomputable section

namespace Cert.Attend

open Idealize.ShloMosaic

/-- The unnormalised weighted sum of a row: weights `2 ^ (score - maximum)`. -/
def row {n : ℕ} (s v : Fin n → EReal) : EReal :=
  ∑ j, Ideal.exp2 (s j - Finset.univ.fold max ⊥ s) * v j

theorem exp2_bot : Ideal.exp2 ⊥ = 0 := rfl

/-- Keys masked out carry no weight: a row over some of the keys is the row over all of them with the others at `⊥`. -/
theorem row_extend {n N : ℕ} (f : Fin n → Fin N) (hf : Function.Injective f) (s v : Fin n → EReal) (s' v' : Fin N → EReal)
    (hs : ∀ j, s j = s' (f j)) (hv : ∀ j, v j = v' (f j)) (hb : ∀ k, (∀ j, f j ≠ k) → s' k = ⊥) : row s v = row s' v' := by
  have hm : Finset.univ.fold max ⊥ s = Finset.univ.fold max ⊥ s' := by
    refine le_antisymm ?_ ?_
    · rw [Finset.fold_max_le]
      refine ⟨bot_le, fun j _ => ?_⟩
      rw [Finset.le_fold_max]
      exact Or.inr ⟨f j, Finset.mem_univ _, (hs j).le⟩
    · rw [Finset.fold_max_le]
      refine ⟨bot_le, fun k _ => ?_⟩
      by_cases h : ∃ j, f j = k
      · obtain ⟨j, rfl⟩ := h
        rw [Finset.le_fold_max]
        exact Or.inr ⟨j, Finset.mem_univ _, (hs j).ge⟩
      · rw [hb k fun j e => h ⟨j, e⟩]
        exact bot_le
  unfold row
  rw [hm]
  refine Finset.sum_of_injOn f hf.injOn (fun _ _ => Finset.mem_coe.mpr (Finset.mem_univ _)) (fun k _ hk => ?_) (fun j _ => ?_)
  · rw [hb k fun j e => hk ⟨j, Finset.mem_coe.mpr (Finset.mem_univ _), e⟩, EReal.bot_sub, exp2_bot, zero_mul]
  · rw [hs, hv]

/-- A table of masks: 1 where a key is masked out. -/
def hide (p : Prop) [Decidable p] : EReal := if p then 1 else 0

theorem add_hide (x : EReal) (p : Prop) [Decidable p] : x + hide p * ⊥ = if p then ⊥ else x := by
  unfold hide
  split_ifs
  · rw [one_mul, EReal.add_bot]
  · rw [zero_mul, add_zero]

/-- The scores of one row against every key, masked. -/
def masked (keep : Fin 2048 → Prop) [DecidablePred keep] (q : Fin 128 → EReal) (X : FVec Ideal (Sh 2048 128) .bf16) : Fin 2048 → EReal :=
  fun k => if keep k then ∑ l : Fin 128, q l * X (ix2 k l) else ⊥

/-- The first `n` keys, the causal mask on the last 256 of them. -/
theorem row_causal {p n : ℕ} (hn : n = p + 256) (hN : n ≤ 2048) (a i : ℕ) (ha : a < 2) (hi : p + 128 * a = 128 * i)
    (s : Fin n → EReal) (q : Fin 128 → EReal) (X V : FVec Ideal (Sh 2048 128) .bf16) (d : Fin 128) (r : Fin 128)
    (hs : ∀ j : Fin n, s j = (∑ l : Fin 128, q l * X (ix2 (⟨j.val, by omega⟩ : Fin 2048) l)) +
      if j.val < p then 0 else hide (128 * a + r.val < j.val - p) * ⊥)
    (v : Fin n → EReal) (hv : ∀ j, v j = V (ix2 (⟨j.val, by omega⟩ : Fin 2048) d)) :
    row s v = row (masked (fun k => k.val ≤ 128 * i + r.val) q X) fun k => V (ix2 k d) := by
  refine row_extend (fun j => ⟨j.val, by omega⟩) (fun a b h => Fin.ext (Fin.mk.inj h)) s v _ _ (fun j => ?_) hv (fun k hk => ?_)
  · rw [hs]
    unfold masked
    change _ = if j.val ≤ 128 * i + r.val then _ else _
    have hr := r.isLt
    by_cases h : j.val < p
    · rw [if_pos h, add_zero, if_pos (by omega)]
    · rw [if_neg h, add_hide]
      by_cases h' : 128 * a + r.val < j.val - p
      · rw [if_pos h', if_neg (by omega)]
      · rw [if_neg h', if_pos (by omega)]
  · have h : ¬ k.val < n := fun h => hk ⟨k.val, h⟩ rfl
    unfold masked
    have hr := r.isLt
    exact if_neg (by omega)

/-- The window's 640 keys: the oldest 128 and the newest 128 masked by two tables. -/
theorem row_windowed (i w : ℕ) (hi : i < 16) (hw : 128 * i = w + 512)
    (s : Fin 640 → EReal) (q : Fin 128 → EReal) (X V : FVec Ideal (Sh 2048 128) .bf16) (d : Fin 128) (r : Fin 128)
    (hs : ∀ j : Fin 640, s j = (∑ l : Fin 128, q l * X (ix2 (⟨w + j.val, by omega⟩ : Fin 2048) l)) +
      if j.val < 128 then hide (j.val ≤ r.val) * ⊥ else if j.val < 512 then 0 else hide (r.val < j.val - 512) * ⊥)
    (v : Fin 640 → EReal) (hv : ∀ j, v j = V (ix2 (⟨w + j.val, by omega⟩ : Fin 2048) d)) :
    row s v = row (masked (fun k => k.val ≤ 128 * i + r.val ∧ 128 * i + r.val < k.val + 512) q X) fun k => V (ix2 k d) := by
  refine row_extend (fun j => ⟨w + j.val, by omega⟩) (fun a b h => Fin.ext (by have := Fin.mk.inj h; omega)) s v _ _ (fun j => ?_) hv (fun k hk => ?_)
  · rw [hs]
    unfold masked
    change _ = if w + j.val ≤ 128 * i + r.val ∧ 128 * i + r.val < w + j.val + 512 then _ else _
    have hr := r.isLt
    by_cases h : j.val < 128
    · rw [if_pos h, add_hide]
      by_cases h' : j.val ≤ r.val
      · rw [if_pos h', if_neg (by omega)]
      · rw [if_neg h', if_pos (by omega)]
    · rw [if_neg h]
      by_cases h' : j.val < 512
      · rw [if_pos h', add_zero, if_pos (by omega)]
      · rw [if_neg h', add_hide]
        by_cases h'' : r.val < j.val - 512
        · rw [if_pos h'', if_neg (by omega)]
        · rw [if_neg h'', if_pos (by omega)]
  · have h : ¬ (w ≤ k.val ∧ k.val < w + 640) := fun h => hk ⟨k.val - w, by omega⟩ (Fin.ext (by change w + (k.val - w) = k.val; omega))
    unfold masked
    have hr := r.isLt
    exact if_neg (by omega)

/-- While every key is still inside the window, the causal mask is the window's mask. -/
theorem masked_early (i : ℕ) (hi : i < 4) (r : Fin 128) (q : Fin 128 → EReal) (X : FVec Ideal (Sh 2048 128) .bf16) :
    masked (fun k => k.val ≤ 128 * i + r.val) q X = masked (fun k => k.val ≤ 128 * i + r.val ∧ 128 * i + r.val < k.val + 512) q X := by
  funext k
  unfold masked
  have hr := r.isLt
  exact if_congr (by constructor <;> intro h <;> omega) rfl rfl

/-- A tile of the kernel's output: two heads, both branches. -/
def tile {n m : ℕ} (sS : FVec Ideal (Sh 256 n) .f32) (vS : FVec Ideal (Sh n 128) .bf16) (sW : FVec Ideal (Sh 256 m) .f32)
    (vW : FVec Ideal (Sh m 128) .bf16) (oc : FVec Ideal (Sh 128 128) .bf16) (gS gW : FVec Ideal (Sh 128 128) .f32)
    (h1 : (Sh 256 n).Reduces [1] ⟨1, ![256]⟩ := by decide) (h2 : (Sh 256 1).Broadcasts (Sh 256 n) := by decide)
    (h3 : (Sh n 128).ShapeCasts (Sh n 128) := by decide) (h4 : (Sh 256 m).Reduces [1] ⟨1, ![256]⟩ := by decide)
    (h5 : (Sh 256 1).Broadcasts (Sh 256 m) := by decide) (h6 : (Sh m 128).ShapeCasts (Sh m 128) := by decide) : FVec Ideal (Sh 128 128) .bf16 :=
  truncf .bf16 (merge (by decide) (by decide) (by decide) (by decide) (merge (by decide) (by decide) (by decide) (by decide)
    (extf .f32 (shapeCast (Sh 128 128) oc (by decide)) bits_lt) gS (pv h3 (nume h1 (by decide) h2 sS) vS)) gW (pv h6 (nume h4 (by decide) h5 sW) vW)) bits_lt

/-- The floor under the denominators. -/
abbrev tiny : EReal := Ideal.ofBits .f32 0x0DA24260#32

theorem pv_nume {n : ℕ} (h1 : (Sh 256 n).Reduces [1] ⟨1, ![256]⟩) (hc : (⟨1, ![256]⟩ : Shape).ShapeCasts (Sh 256 1)) (h2 : (Sh 256 1).Broadcasts (Sh 256 n))
    (h3 : (Sh n 128).ShapeCasts (Sh n 128)) (s : FVec Ideal (Sh 256 n) .f32) (v : FVec Ideal (Sh n 128) .bf16) (r : Fin 256) (l : Fin 128) :
    pv h3 (nume h1 hc h2 s) v (ix2 r l) = row (fun j : Fin n => s (ix2 r j)) fun j => v (ix2 j l) := by
  rw [pv_apply]
  exact Finset.sum_congr rfl fun j _ => congrArg (· * v (ix2 j l)) (nume_apply h1 hc h2 s r j)

theorem tile_apply {n m : ℕ} (sS : FVec Ideal (Sh 256 n) .f32) (vS : FVec Ideal (Sh n 128) .bf16) (sW : FVec Ideal (Sh 256 m) .f32)
    (vW : FVec Ideal (Sh m 128) .bf16) (oc : FVec Ideal (Sh 128 128) .bf16) (gS gW : FVec Ideal (Sh 128 128) .f32)
    (h1 : (Sh 256 n).Reduces [1] ⟨1, ![256]⟩) (h2 : (Sh 256 1).Broadcasts (Sh 256 n))
    (h3 : (Sh n 128).ShapeCasts (Sh n 128)) (h4 : (Sh 256 m).Reduces [1] ⟨1, ![256]⟩)
    (h5 : (Sh 256 1).Broadcasts (Sh 256 m)) (h6 : (Sh m 128).ShapeCasts (Sh m 128)) (r c : Fin 128) (R : Fin 256) (d d' : Fin 128)
    (hR : R.val = 128 * (c.val / 64) + r.val) (hd : d.val = c.val % 64) (hd' : d'.val = 64 + c.val % 64) :
    tile sS vS sW vW oc gS gW h1 h2 h3 h4 h5 h6 (ix2 r c) = oc (ix2 r c) +
      row (fun j : Fin n => sS (ix2 R j)) (fun j => vS (ix2 j d)) *
        Ideal.div (gS (ix2 r c)) (max (row (fun j : Fin n => sS (ix2 R j)) fun j => vS (ix2 j d')) tiny) +
      row (fun j : Fin m => sW (ix2 R j)) (fun j => vW (ix2 j d)) *
        Ideal.div (gW (ix2 r c)) (max (row (fun j : Fin m => sW (ix2 R j)) fun j => vW (ix2 j d')) tiny) := by
  obtain ⟨R, hR'⟩ := R
  obtain ⟨d, hdl⟩ := d
  obtain ⟨d', hdl'⟩ := d'
  dsimp only at hR hd hd'
  subst hR hd hd'
  have e : shapeCast (Sh 128 128) oc (by decide) = oc := by funext i; pointwise []
  unfold tile
  rw [e]
  refine (merge_apply _ _ _ _ _ _ _ _ _).trans ?_
  rw [pv_nume, pv_nume]
  refine congrArg (· + _) ?_
  refine (merge_apply _ _ _ _ _ _ _ _ _).trans ?_
  rw [pv_nume, pv_nume]
  rfl

end Cert.Attend

end
-- ==== Proof.Block.lean ====
/- The attention kernel's block as one function of its operands, and a branch of a tile read as one row. -/
module

public import proofs.«01_k».proof.Proof.Row
public import Idealize.ShloMosaic.Lib.Pipeline.ValueKit.Tiles

@[expose] public section

set_option maxRecDepth 16384

noncomputable section

namespace Cert.Attend

open Idealize.ShloMosaic

/-- One entry of the output: the first branch's result as it comes, and each other branch's normalised row times its gate. -/
def headval (i r : ℕ) (q : Fin 128 → EReal) (o gS gW : EReal) (ks vs kw vw : FVec Ideal (Sh 2048 128) .bf16) (d d' : Fin 128) : EReal :=
  o + row (masked (fun k => k.val ≤ 128 * i + r) q ks) (fun k => vs (ix2 k d)) *
      Ideal.div gS (max (row (masked (fun k => k.val ≤ 128 * i + r) q ks) fun k => vs (ix2 k d')) tiny) +
    row (masked (fun k => k.val ≤ 128 * i + r ∧ 128 * i + r < k.val + 512) q kw) (fun k => vw (ix2 k d)) *
      Ideal.div gW (max (row (masked (fun k => k.val ≤ 128 * i + r ∧ 128 * i + r < k.val + 512) q kw) fun k => vw (ix2 k d')) tiny)

/-- The spread gates at a lane. -/
def gateAt (g : FVec Ideal (Sh 128 256) .f32) (x : FVec Ideal (Sh 256 1024) .bf16) (r : Fin 128) (c : Fin 1024) : EReal :=
  (∑ l : Fin 256, g (ix2 r l) * x (ix2 l c)) + ∑ l : Fin 256, (g (ix2 r l) - g (ix2 r l)) * x (ix2 l c)

/-- The block at row `r` and column `c`. -/
def blkAt (i : ℕ) (sc : EReal) (qa : FVec Ideal (Sh 128 1024) .bf16) (g : FVec Ideal (Sh 128 256) .f32) (oc : FVec Ideal (Sh 128 512) .bf16)
    (ks0 vs0 kw0 vw0 ks1 vs1 kw1 vw1 : FVec Ideal (Sh 2048 128) .bf16) (x : FVec Ideal (Sh 256 1024) .bf16) (r : Fin 128) (c : Fin 512) : EReal :=
  headval i r.val (fun l => qa (ix2 r (⟨128 * (c.val / 64) + l.val, by omega⟩ : Fin 1024)) * if l.val < 64 then sc else ⊥)
    (oc (ix2 r c)) (gateAt g x r ⟨c.val, by omega⟩) (gateAt g x r ⟨512 + c.val, by omega⟩)
    (if c.val < 256 then ks0 else ks1) (if c.val < 256 then vs0 else vs1) (if c.val < 256 then kw0 else kw1) (if c.val < 256 then vw0 else vw1)
    ⟨c.val % 64, by omega⟩ ⟨64 + c.val % 64, by omega⟩

/-- A load of a matrix's rectangle, at an index. -/
theorem ld2_of {A B a b : ℕ} {e : EltTy} (X : (Sh A B).Idx → Elt Ideal e) (off : Fin 2 → ℕ) (inb) (r : Fin a) (c : Fin b) (R : Fin A) (C : Fin B)
    (h0 : R.val = off 0 + r.val) (h1 : C.val = off 1 + c.val) :
    View.ld (Val := Elt Ideal) X (Rect.unit (s := Sh A B) off ![a, b] inb) (ix2 r c) = X (ix2 R C) := by
  refine View.ld_unit_apply_of X off ![a, b] inb _ _ fun k => ?_
  fin_cases k
  · exact h0
  · exact h1

theorem drop_one {α : Type} (y : (⟨3, ![1, 128, 256]⟩ : Shape).Idx → α) (hc : (⟨3, ![1, 128, 256]⟩ : Shape).ShapeCasts (Sh 128 256))
    (r : Fin 128) (c : Fin 256) : shapeCast (Sh 128 256) y hc (ix2 r c) = y (ix3 (0 : Fin 1) r c) := by
  pointwise []

theorem ld3_of {N : ℕ} {e : EltTy} (X : (⟨3, ![N, 128, 256]⟩ : Shape).Idx → Elt Ideal e) (off : Fin 3 → ℕ) (inb) (hc) (r : Fin 128) (c : Fin 256) (n : Fin N)
    (h0 : n.val = off 0) (h1 : off 1 = 0) (h2 : off 2 = 0) :
    shapeCast (Sh 128 256) (View.ld (Val := Elt Ideal) X (Rect.unit (s := ⟨3, ![N, 128, 256]⟩) off ![1, 128, 256] inb)) hc (ix2 r c) = X (ix3 n r c) := by
  refine (drop_one _ _ r c).trans ?_
  refine View.ld_unit_apply_of X off ![1, 128, 256] inb _ _ fun k => ?_
  fin_cases k
  · exact h0
  · exact (show r.val = off 1 + r.val by rw [h1, Nat.zero_add])
  · exact (show c.val = off 2 + c.val by rw [h2, Nat.zero_add])

theorem cast2 {A B : ℕ} {α : Type} (X : (Sh A B).Idx → α) (hc) : shapeCast (Sh A B) X hc = X := by
  funext i; pointwise []

/-- The scores of the first `n` keys under the causal table. -/
def scoreC {p n : ℕ} (lam : FVec Ideal (Sh 128 128) .f32) (qe qo : FVec Ideal (Sh 128 128) .bf16) (K : FVec Ideal (Sh n 128) .bf16)
    (T : FVec Ideal (Sh 128 256) .f32) (neg : Ideal .f32)
    (h1 : (Sh 256 n).Slices ![0, 0] (Sh 256 p) := by decide) (h2 : (Sh 256 n).Slices ![0, p] (Sh 256 256) := by decide)
    (hc : Shape.Concatenates [Sh 256 p, Sh 256 256] (Sh 256 n) 1 := by decide) (h3 : (Sh n 128).ShapeCasts (Sh n 128) := by decide) :
    FVec Ideal (Sh 256 n) .f32 :=
  causal h1 h2 hc (qk h3 (qst (by decide) (by decide) lam qe qo) K) (twice (by decide) T neg)

/-- The scores of the first 256 keys under the causal table. -/
def scoreC0 (lam : FVec Ideal (Sh 128 128) .f32) (qe qo : FVec Ideal (Sh 128 128) .bf16) (K : FVec Ideal (Sh 256 128) .bf16)
    (T : FVec Ideal (Sh 128 256) .f32) (neg : Ideal .f32) : FVec Ideal (Sh 256 256) .f32 :=
  addf (qk (by decide) (qst (by decide) (by decide) lam qe qo) K) (twice (by decide) T neg)

/-- The scores of the window's keys under its two tables. -/
def scoreW (lam : FVec Ideal (Sh 128 128) .f32) (qe qo : FVec Ideal (Sh 128 128) .bf16) (K : FVec Ideal (Sh 640 128) .bf16)
    (edge : FVec Ideal (Sh 128 128) .f32) (T : FVec Ideal (Sh 128 256) .f32) (neg : Ideal .f32) : FVec Ideal (Sh 256 640) .f32 :=
  windowed (by decide) (by decide) (by decide) (by decide) (qk (by decide) (qst (by decide) (by decide) lam qe qo) K)
    (twice (by decide) edge neg) (twice (by decide) (extractStridedSlice (Sh 128 128) ![0, 128] T (by decide)) neg)

/-- The stacked queries at a row of the stack. -/
theorem qst_row (h0 hc) (sc : Ideal .f32) (qe qo : FVec Ideal (Sh 128 128) .bf16) (e : Fin 2) (r : Fin 128) (R : Fin 256)
    (hR : R.val = 128 * e.val + r.val) (l : Fin 128) (hi) :
    qst h0 hc (lanes hi sc ⊥) qe qo (ix2 R l) = (if e = 0 then qe (ix2 r l) else qo (ix2 r l)) * if l.val < 64 then sc else ⊥ := by
  rw [qst_apply]
  have hr := r.isLt
  fin_cases e
  · have h : R.val = r.val := by simpa using hR
    rw [dif_pos (by omega)]
    rw [show (⟨R.val, by omega⟩ : Fin 128) = r from Fin.ext h, lanes_apply]
    rfl
  · have h : R.val = 128 + r.val := by simpa using hR
    rw [dif_neg (by omega)]
    rw [show (⟨R.val - 128, by omega⟩ : Fin 128) = r from Fin.ext (by change R.val - 128 = r.val; omega), lanes_apply]
    rfl

theorem twice_row {n : ℕ} (hc) (x : FVec Ideal (Sh 128 n) .f32) (neg : Ideal .f32) (e : Fin 2) (r : Fin 128) (R : Fin 256)
    (hR : R.val = 128 * e.val + r.val) (j : Fin n) : twice hc x neg (ix2 R j) = x (ix2 r j) * neg := by
  rw [twice_apply]
  rw [show (⟨R.val % 128, Nat.mod_lt _ (by decide)⟩ : Fin 128) = r from Fin.ext (by change R.val % 128 = r.val; have := r.isLt; omega)]

/-- A causal branch of a tile, read as one row over all the keys. -/
theorem branch_causal {p n : ℕ} (hn : n = p + 256) (hN : n ≤ 2048) (a i : ℕ) (ha : a < 2) (hi : p + 128 * a = 128 * i) (sc : Ideal .f32)
    (qe qo : FVec Ideal (Sh 128 128) .bf16) (K W : FVec Ideal (Sh n 128) .bf16) (T : FVec Ideal (Sh 128 256) .f32) (h1 h2 hc h3) (hl)
    (X V : FVec Ideal (Sh 2048 128) .bf16) (e : Fin 2) (r : Fin 128) (R : Fin 256) (hR : R.val = 128 * e.val + r.val)
    (hK : ∀ (j : Fin n) l, K (ix2 j l) = X (ix2 (⟨j.val, by omega⟩ : Fin 2048) l))
    (hW : ∀ (j : Fin n) l, W (ix2 j l) = V (ix2 (⟨j.val, by omega⟩ : Fin 2048) l))
    (hT : ∀ (s : Fin 128) (c : Fin 256), T (ix2 s c) = hide (128 * a + s.val < c.val)) (d : Fin 128) :
    row (fun j : Fin n => scoreC (p := p) (lanes hl sc ⊥) qe qo K T ⊥ h1 h2 hc h3 (ix2 R j)) (fun j => W (ix2 j d)) =
      row (masked (fun k => k.val ≤ 128 * i + r.val) (fun l => (if e = 0 then qe (ix2 r l) else qo (ix2 r l)) * if l.val < 64 then sc else ⊥) X)
        fun k => V (ix2 k d) := by
  refine row_causal hn hN a i ha hi _ _ X V d r (fun j => ?_) _ (fun j => hW j d)
  unfold scoreC
  rw [causal_apply hn, qk_apply]
  refine congrArg₂ (· + ·) (Finset.sum_congr rfl fun l _ => ?_) ?_
  · rw [qst_row _ _ sc qe qo e r R hR, hK]
  · by_cases h : j.val < p
    · rw [dif_pos h, if_pos h]
    · rw [dif_neg h, if_neg h, twice_row _ _ _ e r R hR, hT]

theorem branch_causal0 (a i : ℕ) (ha : a < 2) (hi : 128 * a = 128 * i) (sc : Ideal .f32)
    (qe qo : FVec Ideal (Sh 128 128) .bf16) (K W : FVec Ideal (Sh 256 128) .bf16) (T : FVec Ideal (Sh 128 256) .f32) (hl)
    (X V : FVec Ideal (Sh 2048 128) .bf16) (e : Fin 2) (r : Fin 128) (R : Fin 256) (hR : R.val = 128 * e.val + r.val)
    (hK : ∀ (j : Fin 256) l, K (ix2 j l) = X (ix2 (⟨j.val, by omega⟩ : Fin 2048) l))
    (hW : ∀ (j : Fin 256) l, W (ix2 j l) = V (ix2 (⟨j.val, by omega⟩ : Fin 2048) l))
    (hT : ∀ (s : Fin 128) (c : Fin 256), T (ix2 s c) = hide (128 * a + s.val < c.val)) (d : Fin 128) :
    row (fun j : Fin 256 => scoreC0 (lanes hl sc ⊥) qe qo K T ⊥ (ix2 R j)) (fun j => W (ix2 j d)) =
      row (masked (fun k => k.val ≤ 128 * i + r.val) (fun l => (if e = 0 then qe (ix2 r l) else qo (ix2 r l)) * if l.val < 64 then sc else ⊥) X)
        fun k => V (ix2 k d) := by
  refine row_causal (p := 0) (Nat.zero_add _).symm (by decide) a i ha (by omega) _ _ X V d r (fun j => ?_) _ (fun j => hW j d)
  unfold scoreC0
  refine (show addf _ _ (ix2 R j) = _ + _ from rfl).trans ?_
  rw [qk_apply]
  refine congrArg₂ (· + ·) (Finset.sum_congr rfl fun l _ => ?_) ?_
  · rw [qst_row _ _ sc qe qo e r R hR, hK]
  · rw [if_neg (by omega), twice_row _ _ _ e r R hR, hT]
    rfl

/-- The window branch of a tile, read as one row over all the keys. -/
theorem branch_window (i w : ℕ) (hi : i < 16) (hw : 128 * i = w + 512) (sc : Ideal .f32)
    (qe qo : FVec Ideal (Sh 128 128) .bf16) (K W : FVec Ideal (Sh 640 128) .bf16) (edge : FVec Ideal (Sh 128 128) .f32)
    (T : FVec Ideal (Sh 128 256) .f32) (hl) (X V : FVec Ideal (Sh 2048 128) .bf16) (e : Fin 2) (r : Fin 128) (R : Fin 256)
    (hR : R.val = 128 * e.val + r.val)
    (hK : ∀ (j : Fin 640) l, K (ix2 j l) = X (ix2 (⟨w + j.val, by omega⟩ : Fin 2048) l))
    (hW : ∀ (j : Fin 640) l, W (ix2 j l) = V (ix2 (⟨w + j.val, by omega⟩ : Fin 2048) l))
    (hE : ∀ (s : Fin 128) (c : Fin 128), edge (ix2 s c) = hide (c.val ≤ s.val))
    (hT : ∀ (s : Fin 128) (c : Fin 256), T (ix2 s c) = hide (128 + s.val < c.val)) (d : Fin 128) :
    row (fun j : Fin 640 => scoreW (lanes hl sc ⊥) qe qo K edge T ⊥ (ix2 R j)) (fun j => W (ix2 j d)) =
      row (masked (fun k => k.val ≤ 128 * i + r.val ∧ 128 * i + r.val < k.val + 512)
        (fun l => (if e = 0 then qe (ix2 r l) else qo (ix2 r l)) * if l.val < 64 then sc else ⊥) X) fun k => V (ix2 k d) := by
  refine row_windowed i w hi hw _ _ X V d r (fun j => ?_) _ (fun j => hW j d)
  unfold scoreW
  rw [windowed_apply, qk_apply]
  refine congrArg₂ (· + ·) (Finset.sum_congr rfl fun l _ => ?_) ?_
  · rw [qst_row _ _ sc qe qo e r R hR, hK]
  · by_cases h : j.val < 128
    · rw [dif_pos h, if_pos h, twice_row _ _ _ e r R hR, hE]
    · rw [dif_neg h, if_neg h]
      by_cases h' : j.val < 512
      · rw [dif_pos h', if_pos h']
      · rw [dif_neg h', if_neg h', twice_row _ _ _ e r R hR]
        have hj := j.isLt
        have hr := r.isLt
        have e1 : extractStridedSlice (Sh 128 128) ![0, 128] T (by decide) (ix2 r (⟨j.val - 512, by omega⟩ : Fin 128))
            = T (ix2 r (⟨128 + (j.val - 512), by omega⟩ : Fin 256)) := by
          pointwise []
        rw [e1, hT]
        refine congrArg (· * (⊥ : EReal)) ?_
        unfold hide
        exact if_congr (by constructor <;> intro h <;> (try dsimp only at h ⊢) <;> omega) rfl rfl

/-- A tile's entry, once its two branches are known as rows over all the keys. -/
theorem tile_headval {n m : ℕ} (sS : FVec Ideal (Sh 256 n) .f32) (vS : FVec Ideal (Sh n 128) .bf16) (sW : FVec Ideal (Sh 256 m) .f32)
    (vW : FVec Ideal (Sh m 128) .bf16) (oc : FVec Ideal (Sh 128 128) .bf16) (gS gW : FVec Ideal (Sh 128 128) .f32)
    (h1 h2 h3 h4 h5 h6) (i : ℕ) (r c : Fin 128) (R : Fin 256) (d d' : Fin 128) (q : Fin 128 → EReal) (ks vs kw vw : FVec Ideal (Sh 2048 128) .bf16)
    (o gs gw : EReal)
    (hR : R.val = 128 * (c.val / 64) + r.val) (hd : d.val = c.val % 64) (hd' : d'.val = 64 + c.val % 64)
    (hS : ∀ d, row (fun j : Fin n => sS (ix2 R j)) (fun j => vS (ix2 j d)) =
      row (masked (fun k => k.val ≤ 128 * i + r.val) q ks) fun k => vs (ix2 k d))
    (hW : ∀ d, row (fun j : Fin m => sW (ix2 R j)) (fun j => vW (ix2 j d)) =
      row (masked (fun k => k.val ≤ 128 * i + r.val ∧ 128 * i + r.val < k.val + 512) q kw) fun k => vw (ix2 k d))
    (ho : oc (ix2 r c) = o) (hgs : gS (ix2 r c) = gs) (hgw : gW (ix2 r c) = gw) :
    tile sS vS sW vW oc gS gW h1 h2 h3 h4 h5 h6 (ix2 r c) = headval i r.val q o gs gw ks vs kw vw d d' := by
  rw [tile_apply sS vS sW vW oc gS gW h1 h2 h3 h4 h5 h6 r c R d d' hR hd hd', hS, hS, hW, hW, ho, hgs, hgw]
  rfl

/-- A tile's gates: a slice of a half of the spread gates. -/
theorem gates_at {a b : ℕ} (h0 h1) (g G : FVec Ideal (Sh 128 256) .f32) (x X : FVec Ideal (Sh 256 1024) .bf16) (h2 h3) (r c : Fin 128) (C : Fin 1024)
    (hC : C.val = b + (a + c.val)) (hg : ∀ r l, G (ix2 r l) = g (ix2 r l)) (hx : ∀ r l, X (ix2 r l) = x (ix2 r l)) :
    extractStridedSlice (Sh 128 128) ![0, a] (extractStridedSlice (Sh 128 512) ![0, b] (gexp h0 h1 G X) h2) h3 (ix2 r c) = gateAt g x r C := by
  have e : extractStridedSlice (Sh 128 128) ![0, a] (extractStridedSlice (Sh 128 512) ![0, b] (gexp h0 h1 G X) h2) h3 (ix2 r c)
      = gexp h0 h1 G X (ix2 r C) := by
    refine congrArg (gexp h0 h1 G X) (ix2_of _ _ _ ?_ ?_)
    · change 0 + (0 + r.val) = r.val; omega
    · exact hC.symm
  rw [e, gexp_apply]
  unfold gateAt
  exact congrArg₂ (· + ·) (Finset.sum_congr rfl fun l _ => by rw [hg, hx]) (Finset.sum_congr rfl fun l _ => by rw [hg, hx])

end Cert.Attend

end
-- ==== Proof.Offsets.lean ====
/- The kernel's load offsets and cases in closed form. -/
module

public import proofs.«01_k».proof.KernelIdeal
public import proofs.«01_k».proof.Proof.Block

@[expose] public section

set_option maxRecDepth 16384

noncomputable section

namespace Cert.Attend

open Cert.KernelIdeal
open Idealize.ShloMosaic

theorem coord_lt (i : grid0.Coords) : (i 1).val < 16 := (i 1).isLt

theorem off1_0 (i : grid0.Coords) : k0_off1 i 0 = (i 1).val % 2 := by
  have h := coord_lt i
  unfold k0_off1
  generalize (i 1).val = a at h ⊢
  interval_cases a <;> rfl

theorem half_0 (i : grid0.Coords) (hc : k0_cond1 i = 1#1) : (i 1).val / 2 = 0 := by
  have h := coord_lt i
  unfold k0_cond1 at hc
  generalize (i 1).val = a at h hc ⊢
  revert hc
  interval_cases a <;> decide

theorem off2_0 (i : grid0.Coords) : k0_off2 i 0 = (i 1).val % 2 := by
  have h := coord_lt i
  unfold k0_off2
  generalize (i 1).val = a at h ⊢
  interval_cases a <;> rfl

theorem half_1 (i : grid0.Coords) (hc : k0_cond2 i = 1#1) : (i 1).val / 2 = 1 := by
  have h := coord_lt i
  unfold k0_cond2 at hc
  generalize (i 1).val = a at h hc ⊢
  revert hc
  interval_cases a <;> decide

theorem off3_0 (i : grid0.Coords) : k0_off3 i 0 = (i 1).val % 2 := by
  have h := coord_lt i
  unfold k0_off3
  generalize (i 1).val = a at h ⊢
  interval_cases a <;> rfl

theorem off4_0 (i : grid0.Coords) (h4 : 4 ≤ (i 1).val) : k0_off4 i 0 = 128 * (i 1).val - 512 := by
  have h := coord_lt i
  unfold k0_off4
  generalize (i 1).val = a at h h4 ⊢
  interval_cases a <;> rfl

theorem half_2 (i : grid0.Coords) (hc : k0_cond3 i = 1#1) : (i 1).val / 2 = 2 := by
  have h := coord_lt i
  unfold k0_cond3 at hc
  generalize (i 1).val = a at h hc ⊢
  revert hc
  interval_cases a <;> decide

theorem off5_0 (i : grid0.Coords) : k0_off5 i 0 = (i 1).val % 2 := by
  have h := coord_lt i
  unfold k0_off5
  generalize (i 1).val = a at h ⊢
  interval_cases a <;> rfl

theorem off6_0 (i : grid0.Coords) (h4 : 4 ≤ (i 1).val) : k0_off6 i 0 = 128 * (i 1).val - 512 := by
  have h := coord_lt i
  unfold k0_off6
  generalize (i 1).val = a at h h4 ⊢
  interval_cases a <;> rfl

theorem half_3 (i : grid0.Coords) (hc : k0_cond4 i = 1#1) : (i 1).val / 2 = 3 := by
  have h := coord_lt i
  unfold k0_cond4 at hc
  generalize (i 1).val = a at h hc ⊢
  revert hc
  interval_cases a <;> decide

theorem off7_0 (i : grid0.Coords) : k0_off7 i 0 = (i 1).val % 2 := by
  have h := coord_lt i
  unfold k0_off7
  generalize (i 1).val = a at h ⊢
  interval_cases a <;> rfl

theorem off8_0 (i : grid0.Coords) (h4 : 4 ≤ (i 1).val) : k0_off8 i 0 = 128 * (i 1).val - 512 := by
  have h := coord_lt i
  unfold k0_off8
  generalize (i 1).val = a at h h4 ⊢
  interval_cases a <;> rfl

theorem half_4 (i : grid0.Coords) (hc : k0_cond5 i = 1#1) : (i 1).val / 2 = 4 := by
  have h := coord_lt i
  unfold k0_cond5 at hc
  generalize (i 1).val = a at h hc ⊢
  revert hc
  interval_cases a <;> decide

theorem off9_0 (i : grid0.Coords) : k0_off9 i 0 = (i 1).val % 2 := by
  have h := coord_lt i
  unfold k0_off9
  generalize (i 1).val = a at h ⊢
  interval_cases a <;> rfl

theorem off10_0 (i : grid0.Coords) (h4 : 4 ≤ (i 1).val) : k0_off10 i 0 = 128 * (i 1).val - 512 := by
  have h := coord_lt i
  unfold k0_off10
  generalize (i 1).val = a at h h4 ⊢
  interval_cases a <;> rfl

theorem half_5 (i : grid0.Coords) (hc : k0_cond6 i = 1#1) : (i 1).val / 2 = 5 := by
  have h := coord_lt i
  unfold k0_cond6 at hc
  generalize (i 1).val = a at h hc ⊢
  revert hc
  interval_cases a <;> decide

theorem off11_0 (i : grid0.Coords) : k0_off11 i 0 = (i 1).val % 2 := by
  have h := coord_lt i
  unfold k0_off11
  generalize (i 1).val = a at h ⊢
  interval_cases a <;> rfl

theorem off12_0 (i : grid0.Coords) (h4 : 4 ≤ (i 1).val) : k0_off12 i 0 = 128 * (i 1).val - 512 := by
  have h := coord_lt i
  unfold k0_off12
  generalize (i 1).val = a at h h4 ⊢
  interval_cases a <;> rfl

theorem half_6 (i : grid0.Coords) (hc : k0_cond7 i = 1#1) : (i 1).val / 2 = 6 := by
  have h := coord_lt i
  unfold k0_cond7 at hc
  generalize (i 1).val = a at h hc ⊢
  revert hc
  interval_cases a <;> decide

theorem off13_0 (i : grid0.Coords) : k0_off13 i 0 = (i 1).val % 2 := by
  have h := coord_lt i
  unfold k0_off13
  generalize (i 1).val = a at h ⊢
  interval_cases a <;> rfl

theorem off14_0 (i : grid0.Coords) (h4 : 4 ≤ (i 1).val) : k0_off14 i 0 = 128 * (i 1).val - 512 := by
  have h := coord_lt i
  unfold k0_off14
  generalize (i 1).val = a at h h4 ⊢
  interval_cases a <;> rfl

theorem half_7 (i : grid0.Coords) (hc : k0_cond8 i = 1#1) : (i 1).val / 2 = 7 := by
  have h := coord_lt i
  unfold k0_cond8 at hc
  generalize (i 1).val = a at h hc ⊢
  revert hc
  interval_cases a <;> decide

end Cert.Attend

end
-- ==== Proof.Tiles.lean ====
/- The attention call's tiles: the merge of the two branches in one tile of 128 lanes, for any number of keys. -/
module

public import proofs.«01_k».proof.Proof.Gen.KernelIdeal.Frame.Runs
public import proofs.«01_k».proof.Proof.Block

@[expose] public section

set_option maxRecDepth 16384

noncomputable section

namespace Cert.Attend

open Cert.KernelIdeal Cert.KernelIdeal.Gen
open Idealize.ShloMosaic

theorem even_ok : ∀ (t : Fin 4) (a : Fin 2), (![0, 256 * t.val] : Fin 2 → ℕ) a + S128x128.size a ≤ S128x1024.size a := by decide
theorem odd_ok : ∀ (t : Fin 4) (a : Fin 2), (![0, 256 * t.val + 128] : Fin 2 → ℕ) a + S128x128.size a ≤ S128x1024.size a := by decide
theorem out_ok : ∀ (t : Fin 4) (a : Fin 2), (![0, 128 * t.val] : Fin 2 → ℕ) a + S128x128.size a ≤ S128x512.size a := by decide
theorem gate_ok : ∀ t : Fin 4, (Sh 128 512).Slices ![0, 128 * t.val] (Sh 128 128) := by decide

/-- The rows of a tile's two heads. -/
def qEven (t : Fin 4) (x0 : Vec Ideal S128x1024 .bf16) : FVec Ideal (Sh 128 128) .bf16 :=
  View.ld (Val := Elt Ideal) x0 (Rect.unit (s := S128x1024) ![0, 256 * t.val] S128x128.size (even_ok t))
def qOdd (t : Fin 4) (x0 : Vec Ideal S128x1024 .bf16) : FVec Ideal (Sh 128 128) .bf16 :=
  View.ld (Val := Elt Ideal) x0 (Rect.unit (s := S128x1024) ![0, 256 * t.val + 128] S128x128.size (odd_ok t))

/-- The first two tiles read the first group's table, the others the second's. -/
def pick (t : Fin 4) (a b : Vec Ideal S2048x128 .bf16) : Vec Ideal S2048x128 .bf16 := if t.val < 2 then a else b

/-- The first `n` rows of a table. -/
def keys (n : ℕ) (h : ∀ a : Fin 2, (![0, 0] : Fin 2 → ℕ) a + (![n, 128] : Fin 2 → ℕ) a ≤ S2048x128.size a) (x : Vec Ideal S2048x128 .bf16) : FVec Ideal (Sh n 128) .bf16 :=
  View.ld (Val := Elt Ideal) x (Rect.unit (s := S2048x128) ![0, 0] ![n, 128] h)

/-- A plane of the causal table. -/
def causalT (off : Fin 3 → ℕ) (h : ∀ a : Fin 3, off a + S1x128x256.size a ≤ S2x128x256.size a) (x11 : Vec Ideal S2x128x256 .f32) : FVec Ideal (Sh 128 256) .f32 :=
  shapeCast (Sh 128 256) (View.ld (Val := Elt Ideal) x11 (Rect.unit (s := S2x128x256) off S1x128x256.size h)) shapeCasts_S1x128x256_S128x256

/-- A tile, from its two branches' scores and values. -/
def tileOf (t : Fin 4) {n m : ℕ} (sS : FVec Ideal (Sh 256 n) .f32) (vS : FVec Ideal (Sh n 128) .bf16) (sW : FVec Ideal (Sh 256 m) .f32) (vW : FVec Ideal (Sh m 128) .bf16)
    (x1 : Vec Ideal S128x256 .f32) (x2 : Vec Ideal S128x512 .bf16) (x13 : Vec Ideal S256x1024 .bf16)
    (h1 : (Sh 256 n).Reduces [1] ⟨1, ![256]⟩ := by decide) (h2 : (Sh 256 1).Broadcasts (Sh 256 n) := by decide)
    (h3 : (Sh n 128).ShapeCasts (Sh n 128) := by decide) (h4 : (Sh 256 m).Reduces [1] ⟨1, ![256]⟩ := by decide)
    (h5 : (Sh 256 1).Broadcasts (Sh 256 m) := by decide) (h6 : (Sh m 128).ShapeCasts (Sh m 128) := by decide) : FVec Ideal (Sh 128 128) .bf16 :=
  tile sS vS sW vW (View.ld (Val := Elt Ideal) x2 (Rect.unit (s := S128x512) ![0, 128 * t.val] S128x128.size (out_ok t)))
    (extractStridedSlice (Sh 128 128) ![0, 128 * t.val] (extractStridedSlice (Sh 128 512) ![0, 0] (gexp (by decide) (by decide) (View.ld (Val := Elt Ideal) x1 (Rect.unit (s := S128x256) ![0, 0] S128x256.size (by decide))) (View.ld (Val := Elt Ideal) x13 (Rect.unit (s := S256x1024) ![0, 0] S256x1024.size (by decide)))) (by decide)) (gate_ok t))
    (extractStridedSlice (Sh 128 128) ![0, 128 * t.val] (extractStridedSlice (Sh 128 512) ![0, 512] (gexp (by decide) (by decide) (View.ld (Val := Elt Ideal) x1 (Rect.unit (s := S128x256) ![0, 0] S128x256.size (by decide))) (View.ld (Val := Elt Ideal) x13 (Rect.unit (s := S256x1024) ![0, 0] S256x1024.size (by decide)))) (by decide)) (gate_ok t))
    h1 h2 h3 h4 h5 h6

/-- The query a branch's scores are taken with: the row of a head of the tile, its mask lanes made infinite. -/
def qrow (t : Fin 4) (sc : EReal) (x0 : Vec Ideal S128x1024 .bf16) (e : Fin 2) (r l : Fin 128) : EReal :=
  (if e = 0 then qEven t x0 (ix2 r l) else qOdd t x0 (ix2 r l)) * if l.val < 64 then sc else ⊥

theorem qrow_eq (t : Fin 4) (sc : EReal) (x0 : Vec Ideal S128x1024 .bf16) (e : Fin 2) (r l : Fin 128) (C : Fin 512) (hC : C.val / 64 = 2 * t.val + e.val) :
    qrow t sc x0 e r l = x0 (ix2 r (⟨128 * (C.val / 64) + l.val, by omega⟩ : Fin 1024)) * if l.val < 64 then sc else ⊥ := by
  unfold qrow
  refine congrArg (· * (if l.val < 64 then sc else (⊥ : EReal))) ?_
  by_cases h : e = 0
  · subst h
    rw [if_pos rfl]
    exact ld2_of x0 ![0, 256 * t.val] _ r l r _ (Nat.zero_add _).symm (by change 128 * (C.val / 64) + l.val = 256 * t.val + l.val; rw [hC]; show 128 * (2 * t.val + 0) + l.val = _; omega)
  · have h1 : e.val = 1 := by have := e.isLt; have : e.val ≠ 0 := fun h' => h (Fin.ext h'); omega
    rw [if_neg h]
    exact ld2_of x0 ![0, 256 * t.val + 128] _ r l r _ (Nat.zero_add _).symm (by change 128 * (C.val / 64) + l.val = 256 * t.val + 128 + l.val; omega)

/-- A tile is the layer's block at its lanes, once its two branches are rows over all the keys. -/
theorem tileOf_apply (t : Fin 4) {n m : ℕ} (sS : FVec Ideal (Sh 256 n) .f32) (vS : FVec Ideal (Sh n 128) .bf16) (sW : FVec Ideal (Sh 256 m) .f32) (vW : FVec Ideal (Sh m 128) .bf16)
    (h1 h2 h3 h4 h5 h6) (i : ℕ) (sc : EReal)
    (x0 : Vec Ideal S128x1024 .bf16) (x1 : Vec Ideal S128x256 .f32) (x2 : Vec Ideal S128x512 .bf16) (x3 x4 x5 x6 x7 x8 x9 x10 : Vec Ideal S2048x128 .bf16) (x13 : Vec Ideal S256x1024 .bf16)
    (r c : Fin 128) (C : Fin 512) (hC : C.val = 128 * t.val + c.val)
    (hS : ∀ (e : Fin 2) (R : Fin 256), R.val = 128 * e.val + r.val → ∀ d, row (fun j : Fin n => sS (ix2 R j)) (fun j => vS (ix2 j d)) =
      row (masked (fun k => k.val ≤ 128 * i + r.val) (qrow t sc x0 e r) (pick t x3 x7)) fun k => pick t x4 x8 (ix2 k d))
    (hW : ∀ (e : Fin 2) (R : Fin 256), R.val = 128 * e.val + r.val → ∀ d, row (fun j : Fin m => sW (ix2 R j)) (fun j => vW (ix2 j d)) =
      row (masked (fun k => k.val ≤ 128 * i + r.val ∧ 128 * i + r.val < k.val + 512) (qrow t sc x0 e r) (pick t x5 x9)) fun k => pick t x6 x10 (ix2 k d)) :
    tileOf t sS vS sW vW x1 x2 x13 h1 h2 h3 h4 h5 h6 (ix2 r c) = blkAt i sc x0 x1 x2 x3 x4 x5 x6 x7 x8 x9 x10 x13 r C := by
  have hc' := c.isLt
  have ht := t.isLt
  have hC' := C.isLt
  obtain ⟨e, he⟩ : ∃ e : Fin 2, e.val = c.val / 64 := ⟨⟨c.val / 64, by omega⟩, rfl⟩
  have hq : qrow t sc x0 e r = fun l => x0 (ix2 r (⟨128 * (C.val / 64) + l.val, by omega⟩ : Fin 1024)) * if l.val < 64 then sc else ⊥ :=
    funext fun l => qrow_eq t sc x0 e r l C (by omega)
  unfold tileOf
  refine (tile_headval _ _ _ _ _ _ _ h1 h2 h3 h4 h5 h6 i r c ⟨128 * e.val + r.val, by omega⟩ ⟨C.val % 64, by omega⟩ ⟨64 + C.val % 64, by omega⟩
    (qrow t sc x0 e r) (pick t x3 x7) (pick t x4 x8) (pick t x5 x9) (pick t x6 x10)
    (x2 (ix2 r C)) (gateAt x1 x13 r ⟨C.val, by omega⟩) (gateAt x1 x13 r ⟨512 + C.val, by omega⟩)
    (by rw [← he]) (by dsimp only; omega) (by dsimp only; omega) (hS e _ rfl) (hW e _ rfl) ?_ ?_ ?_).trans ?_
  · exact ld2_of x2 ![0, 128 * t.val] _ r c r _ (Nat.zero_add _).symm hC
  · exact gates_at _ _ x1 _ x13 _ _ _ r c _ (by dsimp only; omega) (fun r l => ld2_of x1 ![0, 0] _ r l r l (Nat.zero_add _).symm (Nat.zero_add _).symm)
      (fun r l => ld2_of x13 ![0, 0] _ r l r l (Nat.zero_add _).symm (Nat.zero_add _).symm)
  · exact gates_at _ _ x1 _ x13 _ _ _ r c _ (by dsimp only; omega) (fun r l => ld2_of x1 ![0, 0] _ r l r l (Nat.zero_add _).symm (Nat.zero_add _).symm)
      (fun r l => ld2_of x13 ![0, 0] _ r l r l (Nat.zero_add _).symm (Nat.zero_add _).symm)
  · rw [hq]
    unfold blkAt pick
    by_cases h : t.val < 2
    · have h' : C.val < 256 := by omega
      simp only [if_pos h, if_pos h']
    · have h' : ¬ C.val < 256 := by omega
      simp only [if_neg h, if_neg h']

theorem keys_at {n : ℕ} (h) (hN : n ≤ 2048) (x : Vec Ideal S2048x128 .bf16) (j : Fin n) (l : Fin 128) : keys n h x (ix2 j l) = x (ix2 (⟨j.val, by omega⟩ : Fin 2048) l) :=
  ld2_of x ![0, 0] h j l _ l (Nat.zero_add _).symm (Nat.zero_add _).symm

theorem causalT_at (off : Fin 3 → ℕ) (h) (x11 : Vec Ideal S2x128x256 .f32) (h11 : ∀ (a : Fin 2) (s : Fin 128) (c : Fin 256), x11 (ix3 a s c) = hide (128 * a.val + s.val < c.val))
    (a : ℕ) (ha : a < 2) (e0 : off 0 = a) (e1 : off 1 = 0) (e2 : off 2 = 0) (s : Fin 128) (c : Fin 256) : causalT off h x11 (ix2 s c) = hide (128 * a + s.val < c.val) :=
  (ld3_of x11 off _ _ s c ⟨a, ha⟩ e0.symm e1 e2).trans (h11 ⟨a, ha⟩ s c)

section Tiles

variable (t : Fin 4) (off : Fin 3 → ℕ) (ho : ∀ a : Fin 3, off a + S1x128x256.size a ≤ S2x128x256.size a) (qs neg : Ideal .f32)
    (x0 : Vec Ideal S128x1024 .bf16) (x1 : Vec Ideal S128x256 .f32) (x2 : Vec Ideal S128x512 .bf16) (x3 x4 x5 x6 x7 x8 x9 x10 : Vec Ideal S2048x128 .bf16)
    (x11 : Vec Ideal S2x128x256 .f32) (x12 : Vec Ideal S128x128 .f32) (x13 : Vec Ideal S256x1024 .bf16)

/-- A tile of the first two query blocks: both branches read the first 256 keys. -/
def tile256 : FVec Ideal (Sh 128 128) .bf16 :=
  tileOf t (scoreC0 (lanes (by decide) qs neg) (qEven t x0) (qOdd t x0) (keys 256 (by decide) (pick t x3 x7)) (causalT off ho x11) neg) (keys 256 (by decide) (pick t x4 x8))
    (scoreC0 (lanes (by decide) qs neg) (qEven t x0) (qOdd t x0) (keys 256 (by decide) (pick t x5 x9)) (causalT off ho x11) neg) (keys 256 (by decide) (pick t x6 x10)) x1 x2 x13

/-- A tile of the next two: both branches read the first 512 keys. -/
def tile512 : FVec Ideal (Sh 128 128) .bf16 :=
  tileOf t (scoreC (p := 256) (lanes (by decide) qs neg) (qEven t x0) (qOdd t x0) (keys 512 (by decide) (pick t x3 x7)) (causalT off ho x11) neg) (keys 512 (by decide) (pick t x4 x8))
    (scoreC (p := 256) (lanes (by decide) qs neg) (qEven t x0) (qOdd t x0) (keys 512 (by decide) (pick t x5 x9)) (causalT off ho x11) neg) (keys 512 (by decide) (pick t x6 x10)) x1 x2 x13

/-- A tile of a later query block: the selected branch reads the first `n` keys, the window branch 640. -/
def tileLong (p n : ℕ) (hn : ∀ a : Fin 2, (![0, 0] : Fin 2 → ℕ) a + (![n, 128] : Fin 2 → ℕ) a ≤ S2048x128.size a)
    (win : Fin 2 → ℕ) (hw : ∀ a : Fin 2, win a + S640x128.size a ≤ S2048x128.size a)
    (h1 : (Sh 256 n).Slices ![0, 0] (Sh 256 p) := by decide) (h2 : (Sh 256 n).Slices ![0, p] (Sh 256 256) := by decide)
    (hc : Shape.Concatenates [Sh 256 p, Sh 256 256] (Sh 256 n) 1 := by decide) (h3 : (Sh n 128).ShapeCasts (Sh n 128) := by decide)
    (h4 : (Sh 256 n).Reduces [1] ⟨1, ![256]⟩ := by decide) (h5 : (Sh 256 1).Broadcasts (Sh 256 n) := by decide) : FVec Ideal (Sh 128 128) .bf16 :=
  tileOf t (scoreC (p := p) (lanes (by decide) qs neg) (qEven t x0) (qOdd t x0) (keys n hn (pick t x3 x7)) (causalT off ho x11) neg h1 h2 hc h3) (keys n hn (pick t x4 x8))
    (scoreW (lanes (by decide) qs neg) (qEven t x0) (qOdd t x0) (View.ld (Val := Elt Ideal) (pick t x5 x9) (Rect.unit (s := S2048x128) win S640x128.size hw))
      (shapeCast (Sh 128 128) (View.ld (Val := Elt Ideal) x12 (Rect.unit (s := S128x128) ![0, 0] S128x128.size (by decide))) (by decide)) (causalT ![1, 0, 0] (by decide) x11) neg)
    (View.ld (Val := Elt Ideal) (pick t x6 x10) (Rect.unit (s := S2048x128) win S640x128.size hw)) x1 x2 x13 h4 h5 h3

variable (h11 : ∀ (a : Fin 2) (s : Fin 128) (c : Fin 256), x11 (ix3 a s c) = hide (128 * a.val + s.val < c.val))
    (h12 : ∀ (s c : Fin 128), x12 (ix2 s c) = hide (c.val ≤ s.val)) (i : ℕ) (hi : i < 16) (e0 : off 0 = i % 2) (e1 : off 1 = 0) (e2 : off 2 = 0)
    (r c : Fin 128) (C : Fin 512) (hC : C.val = 128 * t.val + c.val)

include h11 e0 e1 e2 hC in
theorem tile256_apply (hb : i / 2 = 0) : tile256 t off ho qs ⊥ x0 x1 x2 x3 x4 x5 x6 x7 x8 x9 x10 x11 x13 (ix2 r c) = blkAt i qs x0 x1 x2 x3 x4 x5 x6 x7 x8 x9 x10 x13 r C :=
  tileOf_apply t _ _ _ _ _ _ _ _ _ _ i qs x0 x1 x2 x3 x4 x5 x6 x7 x8 x9 x10 x13 r c C hC
    (fun e R hR d => branch_causal0 (i % 2) i (Nat.mod_lt _ (by decide)) (by omega) qs _ _ _ _ _ _ _ _ e r R hR (keys_at _ (by decide) _) (keys_at _ (by decide) _)
      (causalT_at off ho x11 h11 _ (Nat.mod_lt _ (by decide)) e0 e1 e2) d)
    (fun e R hR d => (branch_causal0 (i % 2) i (Nat.mod_lt _ (by decide)) (by omega) qs _ _ _ _ _ _ (pick t x5 x9) (pick t x6 x10) e r R hR (keys_at _ (by decide) _) (keys_at _ (by decide) _)
      (causalT_at off ho x11 h11 _ (Nat.mod_lt _ (by decide)) e0 e1 e2) d).trans (congrArg (fun f => row f fun k => pick t x6 x10 (ix2 k d)) (masked_early i (by omega) r _ (pick t x5 x9))))

include h11 e0 e1 e2 hC in
theorem tile512_apply (hb : i / 2 = 1) : tile512 t off ho qs ⊥ x0 x1 x2 x3 x4 x5 x6 x7 x8 x9 x10 x11 x13 (ix2 r c) = blkAt i qs x0 x1 x2 x3 x4 x5 x6 x7 x8 x9 x10 x13 r C :=
  tileOf_apply t _ _ _ _ _ _ _ _ _ _ i qs x0 x1 x2 x3 x4 x5 x6 x7 x8 x9 x10 x13 r c C hC
    (fun e R hR d => branch_causal (p := 256) rfl (by decide) (i % 2) i (Nat.mod_lt _ (by decide)) (by omega) qs _ _ _ _ _ _ _ _ _ _ _ _ e r R hR (keys_at _ (by decide) _) (keys_at _ (by decide) _)
      (causalT_at off ho x11 h11 _ (Nat.mod_lt _ (by decide)) e0 e1 e2) d)
    (fun e R hR d => (branch_causal (p := 256) rfl (by decide) (i % 2) i (Nat.mod_lt _ (by decide)) (by omega) qs _ _ _ _ _ _ _ _ _ _ (pick t x5 x9) (pick t x6 x10) e r R hR (keys_at _ (by decide) _) (keys_at _ (by decide) _)
      (causalT_at off ho x11 h11 _ (Nat.mod_lt _ (by decide)) e0 e1 e2) d).trans (congrArg (fun f => row f fun k => pick t x6 x10 (ix2 k d)) (masked_early i (by omega) r _ (pick t x5 x9))))

include h11 h12 hi e0 e1 e2 hC in
theorem tileLong_apply (p n hn win hw h1 h2 hc h3 h4 h5) (hpn : n = p + 256) (hN : n ≤ 2048) (hb : p = 256 * (i / 2)) (h4' : 4 ≤ i) (hwin : win 0 = 128 * i - 512) (hwin' : win 1 = 0) :
    tileLong t off ho qs ⊥ x0 x1 x2 x3 x4 x5 x6 x7 x8 x9 x10 x11 x12 x13 p n hn win hw h1 h2 hc h3 h4 h5 (ix2 r c) = blkAt i qs x0 x1 x2 x3 x4 x5 x6 x7 x8 x9 x10 x13 r C :=
  tileOf_apply t _ _ _ _ _ _ _ _ _ _ i qs x0 x1 x2 x3 x4 x5 x6 x7 x8 x9 x10 x13 r c C hC
    (fun e R hR d => branch_causal hpn hN (i % 2) i (Nat.mod_lt _ (by decide)) (by omega) qs _ _ _ _ _ _ _ _ _ _ _ _ e r R hR (keys_at _ hN _) (keys_at _ hN _)
      (causalT_at off ho x11 h11 _ (Nat.mod_lt _ (by decide)) e0 e1 e2) d)
    (fun e R hR d => branch_window i (128 * i - 512) hi (by omega) qs _ _ _ _ _ _ _ _ _ e r R hR
      (fun j l => ld2_of _ win hw j l _ l (congrArg (· + j.val) hwin.symm) (by rw [hwin', Nat.zero_add])) (fun j l => ld2_of _ win hw j l _ l (congrArg (· + j.val) hwin.symm) (by rw [hwin', Nat.zero_add]))
      (fun s c => (congrFun (cast2 _ _) _).trans ((ld2_of x12 ![0, 0] _ s c s c (Nat.zero_add _).symm (Nat.zero_add _).symm).trans (h12 s c)))
      (causalT_at ![1, 0, 0] (by decide) x11 h11 1 (by decide) rfl rfl rfl) d)

end Tiles

/-- A block's four stores, from the last. -/
def stores (T : Fin 4 → FVec Ideal (Sh 128 128) .bf16) : List (View.Piece (Elt Ideal) S128x512 .bf16) :=
  [⟨Rect.unit (s := S128x512) ![0, 384] S128x128.size (by decide), T 3⟩, ⟨Rect.unit (s := S128x512) ![0, 256] S128x128.size (by decide), T 2⟩,
    ⟨Rect.unit (s := S128x512) ![0, 128] S128x128.size (by decide), T 1⟩, ⟨Rect.unit (s := S128x512) ![0, 0] S128x128.size (by decide), T 0⟩]

theorem piece_of (G : Fin 128 → Fin 512 → EReal) (off : ℕ) (inb) (T : FVec Ideal (Sh 128 128) .bf16)
    (hT : ∀ (r c : Fin 128) (C : Fin 512), C.val = off + c.val → T (ix2 r c) = G r C)
    (x : (Rect.unit (s := Sh 128 512) ![0, off] ![128, 128] inb).shape.Idx) :
    T x = G ((Rect.unit (s := Sh 128 512) ![0, off] ![128, 128] inb).emb x 0) ((Rect.unit (s := Sh 128 512) ![0, off] ![128, 128] inb).emb x 1) := by
  have e0 : ((Rect.unit (s := Sh 128 512) ![0, off] ![128, 128] inb).emb x 0).val = 0 + (x 0).val := Rect.idx_unit_val _ _ inb x 0
  have e1 : ((Rect.unit (s := Sh 128 512) ![0, off] ![128, 128] inb).emb x 1).val = off + (x 1).val := Rect.idx_unit_val _ _ inb x 1
  have hx : x = ix2 (x 0) (x 1) := ix2_of x (x 0) (x 1) rfl rfl
  have e0' : (Rect.unit (s := Sh 128 512) ![0, off] ![128, 128] inb).emb x 0 = x 0 := Fin.ext (e0.trans (Nat.zero_add _))
  rw [e0']
  refine (congrArg T hx).trans (hT (x 0) (x 1) _ e1)

/-- Four stores that are a function of the block leave that function. -/
theorem stores_at (T : Fin 4 → FVec Ideal (Sh 128 128) .bf16) (G : Fin 128 → Fin 512 → EReal)
    (hT : ∀ (t : Fin 4) (r c : Fin 128) (C : Fin 512), C.val = 128 * t.val + c.val → T t (ix2 r c) = G r C) :
    ∀ pc ∈ stores T, ∀ x, pc.2 x = G (pc.1.emb x 0) (pc.1.emb x 1) := by
  intro pc hp
  unfold stores at hp
  simp only [List.mem_cons, List.not_mem_nil, or_false] at hp
  rcases hp with rfl | rfl | rfl | rfl
  · exact piece_of G 384 (by decide) _ (hT 3)
  · exact piece_of G 256 (by decide) _ (hT 2)
  · exact piece_of G 128 (by decide) _ (hT 1)
  · exact piece_of G 0 (by decide) _ (hT 0)

/-- The scale the kernel gives the queries: the layer's, in base two. -/
abbrev qscale : EReal := (((1 / 8) * (Real.log 2)⁻¹ : ℝ) : EReal)

theorem named_q : (Named.named κ "q_scale" 0x3E38AA3B#32 : Ideal .f32) = qscale :=
  IdealRules.named_const.ideal_named_scalar _ _ _ _ rfl

theorem named_mask : (Named.named κ "mask" 0xF149F2CA#32 : Ideal .f32) = ⊥ :=
  IdealRules.named_const.ideal_named_scalar _ _ _ _ rfl

end Cert.Attend

end
-- ==== Proof.CaseA.lean ====
/- The attention kernel's block where `i / 2 = 0`: its four stores are tiles of one function of the operands. -/
module

public import proofs.«01_k».proof.Proof.Gen.KernelIdeal.Value
public import proofs.«01_k».proof.Proof.Gen.KernelIdeal.Frame.RunA
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesA (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tile256 t (k0_off1 i) (k0_off1_inb i hc0) (Named.named κ "q_scale" 0x3E38AA3B#32) (Named.named κ "mask" 0xF149F2CA#32) x0 x1 x2 x3 x4 x5 x6 x7 x8 x9 x10 x11 x13) := by
  refine Eq.trans (b := stores fun t => tile256 t (k0_off1 i) (k0_off1_inb i hc0) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg15.view.read (Elt Ideal) (harg15.unread x13))) rfl ?_
  rw [harg2.read_unread, harg3.read_unread, harg4.read_unread, harg5.read_unread, harg6.read_unread, harg7.read_unread, harg8.read_unread, harg9.read_unread, harg10.read_unread, harg11.read_unread, harg12.read_unread, harg13.read_unread, harg15.read_unread]

theorem outA (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesA, named_q, named_mask] at hp
  exact stores_at _ (blkAt (i 1).val qscale x0 x1 x2 x3 x4 x5 x6 x7 x8 x9 x10 x13) (fun t r d C hC => tile256_apply t _ _ qscale x0 x1 x2 x3 x4 x5 x6 x7 x8 x9 x10 x11 x13 h11 (i 1).val (off1_0 i) rfl rfl r d C hC (half_0 i hc0)) pc hp

end Cert.Attend

end
-- ==== Proof.CaseB.lean ====
/- The attention kernel's block where `i / 2 = 1`: its four stores are tiles of one function of the operands. -/
module

public import proofs.«01_k».proof.Proof.Gen.KernelIdeal.Value
public import proofs.«01_k».proof.Proof.Gen.KernelIdeal.Frame.RunB
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesB (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tile512 t (k0_off2 i) (k0_off2_inb i hc1) (Named.named κ "q_scale" 0x3E38AA3B#32) (Named.named κ "mask" 0xF149F2CA#32) x0 x1 x2 x3 x4 x5 x6 x7 x8 x9 x10 x11 x13) := by
  refine Eq.trans (b := stores fun t => tile512 t (k0_off2 i) (k0_off2_inb i hc1) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg15.view.read (Elt Ideal) (harg15.unread x13))) rfl ?_
  rw [harg2.read_unread, harg3.read_unread, harg4.read_unread, harg5.read_unread, harg6.read_unread, harg7.read_unread, harg8.read_unread, harg9.read_unread, harg10.read_unread, harg11.read_unread, harg12.read_unread, harg13.read_unread, harg15.read_unread]

theorem outB (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesB, named_q, named_mask] at hp
  exact stores_at _ (blkAt (i 1).val qscale x0 x1 x2 x3 x4 x5 x6 x7 x8 x9 x10 x13) (fun t r d C hC => tile512_apply t _ _ qscale x0 x1 x2 x3 x4 x5 x6 x7 x8 x9 x10 x11 x13 h11 (i 1).val (off2_0 i) rfl rfl r d C hC (half_1 i hc1)) pc hp

end Cert.Attend

end
-- ==== Proof.CaseC.lean ====
/- The attention kernel's block where `i / 2 = 2`: its four stores are tiles of one function of the operands. -/
module

public import proofs.«01_k».proof.Proof.Gen.KernelIdeal.Value
public import proofs.«01_k».proof.Proof.Gen.KernelIdeal.Frame.RunC
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesC (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off3 i) (k0_off3_inb i hc2) (Named.named κ "q_scale" 0x3E38AA3B#32) (Named.named κ "mask" 0xF149F2CA#32) x0 x1 x2 x3 x4 x5 x6 x7 x8 x9 x10 x11 x12 x13 512 768 (by decide) (k0_off4 i) (k0_off4_inb i hc2)) := by
  refine Eq.trans (b := stores fun t => tileLong t (k0_off3 i) (k0_off3_inb i hc2) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 512 768 (by decide) (k0_off4 i) (k0_off4_inb i hc2)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outC (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_C_14
  rw [View.read_writes_eq_canon _ _ _ (cover0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesC, named_q, named_mask] at hp
  have h4 : 4 ≤ (i 1).val := by have := half_2 i hc2; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off3_0 i) rfl rfl r d C hC 512 768 _ _ _ _ _ _ _ _ _ rfl (by decide) (by rw [half_2 i hc2]) h4 (off4_0 i h4) rfl) pc hp

end Cert.Attend

end
-- ==== Proof.CaseD.lean ====
/- The attention kernel's block where `i / 2 = 3`: its four stores are tiles of one function of the operands. -/
module

public import proofs.«01_k».proof.Proof.Gen.KernelIdeal.Value
public import proofs.«01_k».proof.Proof.Gen.KernelIdeal.Frame.RunD
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesD (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off5 i) (k0_off5_inb i hc3) (Named.named κ "q_scale" 0x3E38AA3B#32) (Named.named κ "mask" 0xF149F2CA#32) x0 x1 x2 x3 x4 x5 x6 x7 x8 x9 x10 x11 x12 x13 768 1024 (by decide) (k0_off6 i) (k0_off6_inb i hc3)) := by
  refine Eq.trans (b := stores fun t => tileLong t (k0_off5 i) (k0_off5_inb i hc3) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 768 1024 (by decide) (k0_off6 i) (k0_off6_inb i hc3)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outD (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_D_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_D_14
  rw [View.read_writes_eq_canon _ _ _ (cover0_D_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_D_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesD, named_q, named_mask] at hp
  have h4 : 4 ≤ (i 1).val := by have := half_3 i hc3; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off5_0 i) rfl rfl r d C hC 768 1024 _ _ _ _ _ _ _ _ _ rfl (by decide) (by rw [half_3 i hc3]) h4 (off6_0 i h4) rfl) pc hp

end Cert.Attend

end
-- ==== Proof.CaseE.lean ====
/- The attention kernel's block where `i / 2 = 4`: its four stores are tiles of one function of the operands. -/
module

public import proofs.«01_k».proof.Proof.Gen.KernelIdeal.Value
public import proofs.«01_k».proof.Proof.Gen.KernelIdeal.Frame.RunE
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesE (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off7 i) (k0_off7_inb i hc4) (Named.named κ "q_scale" 0x3E38AA3B#32) (Named.named κ "mask" 0xF149F2CA#32) x0 x1 x2 x3 x4 x5 x6 x7 x8 x9 x10 x11 x12 x13 1024 1280 (by decide) (k0_off8 i) (k0_off8_inb i hc4)) := by
  refine Eq.trans (b := stores fun t => tileLong t (k0_off7 i) (k0_off7_inb i hc4) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 1024 1280 (by decide) (k0_off8 i) (k0_off8_inb i hc4)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outE (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_E_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_E_14
  rw [View.read_writes_eq_canon _ _ _ (cover0_E_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_E_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesE, named_q, named_mask] at hp
  have h4 : 4 ≤ (i 1).val := by have := half_4 i hc4; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off7_0 i) rfl rfl r d C hC 1024 1280 _ _ _ _ _ _ _ _ _ rfl (by decide) (by rw [half_4 i hc4]) h4 (off8_0 i h4) rfl) pc hp

end Cert.Attend

end
-- ==== Proof.CaseF.lean ====
/- The attention kernel's block where `i / 2 = 5`: its four stores are tiles of one function of the operands. -/
module

public import proofs.«01_k».proof.Proof.Gen.KernelIdeal.Value
public import proofs.«01_k».proof.Proof.Gen.KernelIdeal.Frame.RunF
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesF (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_F (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off9 i) (k0_off9_inb i hc5) (Named.named κ "q_scale" 0x3E38AA3B#32) (Named.named κ "mask" 0xF149F2CA#32) x0 x1 x2 x3 x4 x5 x6 x7 x8 x9 x10 x11 x12 x13 1280 1536 (by decide) (k0_off10 i) (k0_off10_inb i hc5)) := by
  refine Eq.trans (b := stores fun t => tileLong t (k0_off9 i) (k0_off9_inb i hc5) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 1280 1536 (by decide) (k0_off10 i) (k0_off10_inb i hc5)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outF (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_F_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_F_14
  rw [View.read_writes_eq_canon _ _ _ (cover0_F_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_F_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesF, named_q, named_mask] at hp
  have h4 : 4 ≤ (i 1).val := by have := half_5 i hc5; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off9_0 i) rfl rfl r d C hC 1280 1536 _ _ _ _ _ _ _ _ _ rfl (by decide) (by rw [half_5 i hc5]) h4 (off10_0 i h4) rfl) pc hp

end Cert.Attend

end
-- ==== Proof.CaseG.lean ====
/- The attention kernel's block where `i / 2 = 6`: its four stores are tiles of one function of the operands. -/
module

public import proofs.«01_k».proof.Proof.Gen.KernelIdeal.Value
public import proofs.«01_k».proof.Proof.Gen.KernelIdeal.Frame.RunG
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesG (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_G (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off11 i) (k0_off11_inb i hc6) (Named.named κ "q_scale" 0x3E38AA3B#32) (Named.named κ "mask" 0xF149F2CA#32) x0 x1 x2 x3 x4 x5 x6 x7 x8 x9 x10 x11 x12 x13 1536 1792 (by decide) (k0_off12 i) (k0_off12_inb i hc6)) := by
  refine Eq.trans (b := stores fun t => tileLong t (k0_off11 i) (k0_off11_inb i hc6) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 1536 1792 (by decide) (k0_off12 i) (k0_off12_inb i hc6)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outG (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_G_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_G_14
  rw [View.read_writes_eq_canon _ _ _ (cover0_G_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_G_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesG, named_q, named_mask] at hp
  have h4 : 4 ≤ (i 1).val := by have := half_6 i hc6; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off11_0 i) rfl rfl r d C hC 1536 1792 _ _ _ _ _ _ _ _ _ rfl (by decide) (by rw [half_6 i hc6]) h4 (off12_0 i h4) rfl) pc hp

end Cert.Attend

end
-- ==== Proof.CaseH.lean ====
/- The attention kernel's block where `i / 2 = 7`: its four stores are tiles of one function of the operands. -/
module

public import proofs.«01_k».proof.Proof.Gen.KernelIdeal.Value
public import proofs.«01_k».proof.Proof.Gen.KernelIdeal.Frame.RunH
public import proofs.«01_k».proof.Proof.Offsets
public import proofs.«01_k».proof.Proof.Tiles

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

set_option maxHeartbeats 1000000 in
theorem piecesH (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16) :
    (kernelRun0_H (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13).1 =
      (stores fun t => tileLong t (k0_off13 i) (k0_off13_inb i hc7) (Named.named κ "q_scale" 0x3E38AA3B#32) (Named.named κ "mask" 0xF149F2CA#32) x0 x1 x2 x3 x4 x5 x6 x7 x8 x9 x10 x11 x12 x13 1792 2048 (by decide) (k0_off14 i) (k0_off14_inb i hc7)) := by
  refine Eq.trans (b := stores fun t => tileLong t (k0_off13 i) (k0_off13_inb i hc7) (Named.named κ "q_scale" 0x3E38AA3B#32) (Named.named κ "mask" 0xF149F2CA#32) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9)) (arg12.view.read (Elt Ideal) (harg12.unread x10)) (arg13.view.read (Elt Ideal) (harg13.unread x11)) (arg14.view.read (Elt Ideal) (harg14.unread x12)) (arg15.view.read (Elt Ideal) (harg15.unread x13)) 1792 2048 (by decide) (k0_off14 i) (k0_off14_inb i hc7)) rfl ?_
  rw [harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]

theorem outH (c : Dev nD) (i : grid0.Coords) (arg2 : Memref sig .tc .vmem S128x1024 .bf16) (harg2 : arg2.IsWhole) (arg3 : Memref sig .tc .vmem S128x256 .f32) (harg3 : arg3.IsWhole) (arg4 : Memref sig .tc .vmem S128x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2x128x256 .f32) (harg13 : arg13.IsWhole) (arg14 : Memref sig .tc .vmem S128x128 .f32) (harg14 : arg14.IsWhole) (arg15 : Memref sig .tc .vmem S256x1024 .bf16) (harg15 : arg15.IsWhole) (arg16 : Memref sig .tc .vmem S128x512 .bf16) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (x0 : Vec Ideal S128x1024 .bf16) (x1 : Vec Ideal S128x256 .f32) (x2 : Vec Ideal S128x512 .bf16) (x3 : Vec Ideal S2048x128 .bf16) (x4 : Vec Ideal S2048x128 .bf16) (x5 : Vec Ideal S2048x128 .bf16) (x6 : Vec Ideal S2048x128 .bf16) (x7 : Vec Ideal S2048x128 .bf16) (x8 : Vec Ideal S2048x128 .bf16) (x9 : Vec Ideal S2048x128 .bf16) (x10 : Vec Ideal S2048x128 .bf16) (x11 : Vec Ideal S2x128x256 .f32) (x12 : Vec Ideal S128x128 .f32) (x13 : Vec Ideal S256x1024 .bf16)
    (h11 : ∀ (a : Fin 2) (s : Fin 128) (c : Fin 256), x11 (ix3 a s c) = hide (128 * a.val + s.val < c.val))
    (h12 : ∀ (s c : Fin 128), x12 (ix2 s c) = hide (c.val ≤ s.val)) :
    out0_H_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 = fun y => blkAt (i 1).val qscale x0 x1 x2 x3 x4 x5 x6 x7 x8 x9 x10 x13 (y 0) (y 1) := by
  unfold out0_H_14
  rw [View.read_writes_eq_canon _ _ _ (cover0_H_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13)]
  funext y
  refine View.canon_apply_of_pieces (fun y : S128x512.Idx => blkAt (i 1).val qscale x0 x1 x2 x3 x4 x5 x6 x7 x8 x9 x10 x13 (y 0) (y 1)) _ (fun pc hp => ?_) y
    (cover0_H_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8 x9 x10 x11 x12 x13 y)
  rw [piecesH, named_q, named_mask] at hp
  have h4 : 4 ≤ (i 1).val := by have := half_7 i hc7; omega
  exact stores_at _ (blkAt (i 1).val qscale x0 x1 x2 x3 x4 x5 x6 x7 x8 x9 x10 x13) (fun t r d C hC => tileLong_apply t _ _ qscale x0 x1 x2 x3 x4 x5 x6 x7 x8 x9 x10 x11 x12 x13 h11 h12 (i 1).val (coord_lt i) (off13_0 i) rfl rfl r d C hC 1792 2048 _ _ _ _ _ _ _ _ _ rfl (by decide) (by rw [half_7 i hc7]) h4 (off14_0 i h4) rfl) pc hp

end Cert.Attend

end
-- ==== Proof.Outs.lean ====
/- The attention kernel's block as one function of its operands, whatever the case. -/
module

public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF
public import proofs.«01_k».proof.Proof.CaseG
public import proofs.«01_k».proof.Proof.CaseH
-- ==== Proof.Array.lean ====
/- The array the attention call leaves, as one function of the arrays it is given. -/
module

public import proofs.«01_k».proof.Proof.Outs
public import Idealize.ShloMosaic.Lib.Pipeline.ValueKit.Geometry

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The rows of block `t` of an array cut into blocks of 128 rows. -/
def rowsAt {n : ℕ} (X : FVec Ideal (Sh 32768 n) .bf16) (t : Fin 256) : FVec Ideal (Sh 128 n) .bf16 :=
  fun x => X (ix2 (⟨128 * t.val + (x 0).val, by have := (x 0).isLt; have : ![128, n] 0 = 128 := rfl; simp only [this] at *; omega⟩ : Fin 32768) (x 1))

/-- Slab `s` of the sequence that block `t` belongs to. -/
def slabAt (X : FVec Ideal (Sh 32768 1024) .bf16) (s : Fin 8) (t : Fin 256) : FVec Ideal (Sh 2048 128) .bf16 :=
  fun x => X (ix2 (⟨2048 * (t.val / 16) + (x 0).val, by have := (x 0).isLt; have : ![2048, 128] 0 = 2048 := rfl; simp only [this] at *; omega⟩ : Fin 32768)
    (⟨128 * s.val + (x 1).val, by have := (x 1).isLt; have : ![2048, 128] 1 = 128 := rfl; simp only [this] at *; omega⟩ : Fin 1024))

/-- The array at row `R` and column `C`. -/
def fin (Q : FVec Ideal (Sh 32768 1024) .bf16) (G : FVec Ideal (Sh 32768 256) .f32) (O : FVec Ideal (Sh 32768 512) .bf16)
    (KV : FVec Ideal (Sh 32768 1024) .bf16) (GX : FVec Ideal (Sh 256 1024) .bf16) (t : Fin 256) (r : Fin 128) (C : Fin 512) : EReal :=
  blkAt (t.val % 16) qscale (rowsAt Q t) (rowsAt (n := 256) G t) (rowsAt O t) (slabAt KV 0 t) (slabAt KV 1 t) (slabAt KV 4 t) (slabAt KV 5 t)
    (slabAt KV 2 t) (slabAt KV 3 t) (slabAt KV 6 t) (slabAt KV 7 t) GX r C

theorem coord1 : ∀ t : Fin cfg0.N, (grid0.coords t 1).val = t.val % 16 :=
  (by decide +kernel : ∀ t : Fin grid0.N, (grid0.coords t 1).val = t.val % 16)

theorem pt0 : ∀ t : Fin cfg0.N, win0_0.index t 0 = t.val ∧ win0_0.index t 1 = 0 :=
  (by decide +kernel : ∀ t : Fin grid0.N, win0_0.index t 0 = t.val ∧ win0_0.index t 1 = 0)

theorem block0 (c : Dev nD) (t : Fin cfg0.N) : iblk m c 0 t = rowsAt (n := 1024) (V m c main_v62) t := by
  funext x
  show V m c main_v62 ((win0_0.blk t).view.emb x) = V m c main_v62 (ix2 _ _)
  refine congrArg (V m c main_v62) (ix2_of _ _ _ ?_ ?_)
  · show ((win0_0.blk t).view.emb x 0).val = 128 * t.val + (x 0).val
    blk_simp [(pt0 t).1]
    omega
  · show ((win0_0.blk t).view.emb x 1).val = (x 1).val
    blk_simp [(pt0 t).2]

theorem pt1 : ∀ t : Fin cfg0.N, win0_1.index t 0 = t.val ∧ win0_1.index t 1 = 0 :=
  (by decide +kernel : ∀ t : Fin grid0.N, win0_1.index t 0 = t.val ∧ win0_1.index t 1 = 0)

theorem block1 (c : Dev nD) (t : Fin cfg0.N) : iblk m c 1 t = rowsAt (n := 256) (V m c main_v72) t := by
  funext x
  show V m c main_v72 ((win0_1.blk t).view.emb x) = V m c main_v72 (ix2 _ _)
  refine congrArg (V m c main_v72) (ix2_of _ _ _ ?_ ?_)
  · show ((win0_1.blk t).view.emb x 0).val = 128 * t.val + (x 0).val
    blk_simp [(pt1 t).1]
    omega
  · show ((win0_1.blk t).view.emb x 1).val = (x 1).val
    blk_simp [(pt1 t).2]

theorem pt2 : ∀ t : Fin cfg0.N, win0_2.index t 0 = t.val ∧ win0_2.index t 1 = 0 :=
  (by decide +kernel : ∀ t : Fin grid0.N, win0_2.index t 0 = t.val ∧ win0_2.index t 1 = 0)

theorem block2 (c : Dev nD) (t : Fin cfg0.N) : iblk m c 2 t = rowsAt (n := 512) (V m c main_v102) t := by
  funext x
  show V m c main_v102 ((win0_2.blk t).view.emb x) = V m c main_v102 (ix2 _ _)
  refine congrArg (V m c main_v102) (ix2_of _ _ _ ?_ ?_)
  · show ((win0_2.blk t).view.emb x 0).val = 128 * t.val + (x 0).val
    blk_simp [(pt2 t).1]
    omega
  · show ((win0_2.blk t).view.emb x 1).val = (x 1).val
    blk_simp [(pt2 t).2]

theorem pt3 : ∀ t : Fin cfg0.N, win0_3.index t 0 = t.val / 16 ∧ win0_3.index t 1 = 0 :=
  (by decide +kernel : ∀ t : Fin grid0.N, win0_3.index t 0 = t.val / 16 ∧ win0_3.index t 1 = 0)

theorem block3 (c : Dev nD) (t : Fin cfg0.N) : iblk m c 3 t = slabAt (V m c main_v100) 0 t := by
  funext x
  show V m c main_v100 ((win0_3.blk t).view.emb x) = V m c main_v100 (ix2 _ _)
  refine congrArg (V m c main_v100) (ix2_of _ _ _ ?_ ?_)
  · show ((win0_3.blk t).view.emb x 0).val = 2048 * (t.val / 16) + (x 0).val
    blk_simp [(pt3 t).1]
    omega
  · show ((win0_3.blk t).view.emb x 1).val = 128 * 0 + (x 1).val
    blk_simp [(pt3 t).2]
    try omega

theorem pt4 : ∀ t : Fin cfg0.N, win0_4.index t 0 = t.val / 16 ∧ win0_4.index t 1 = 1 :=
  (by decide +kernel : ∀ t : Fin grid0.N, win0_4.index t 0 = t.val / 16 ∧ win0_4.index t 1 = 1)

theorem block4 (c : Dev nD) (t : Fin cfg0.N) : iblk m c 4 t = slabAt (V m c main_v100) 1 t := by
  funext x
  show V m c main_v100 ((win0_4.blk t).view.emb x) = V m c main_v100 (ix2 _ _)
  refine congrArg (V m c main_v100) (ix2_of _ _ _ ?_ ?_)
  · show ((win0_4.blk t).view.emb x 0).val = 2048 * (t.val / 16) + (x 0).val
    blk_simp [(pt4 t).1]
    omega
  · show ((win0_4.blk t).view.emb x 1).val = 128 * 1 + (x 1).val
    blk_simp [(pt4 t).2]
    try omega

theorem pt5 : ∀ t : Fin cfg0.N, win0_5.index t 0 = t.val / 16 ∧ win0_5.index t 1 = 4 :=
  (by decide +kernel : ∀ t : Fin grid0.N, win0_5.index t 0 = t.val / 16 ∧ win0_5.index t 1 = 4)

theorem block5 (c : Dev nD) (t : Fin cfg0.N) : iblk m c 5 t = slabAt (V m c main_v100) 4 t := by
  funext x
  show V m c main_v100 ((win0_5.blk t).view.emb x) = V m c main_v100 (ix2 _ _)
  refine congrArg (V m c main_v100) (ix2_of _ _ _ ?_ ?_)
  · show ((win0_5.blk t).view.emb x 0).val = 2048 * (t.val / 16) + (x 0).val
    blk_simp [(pt5 t).1]
    omega
  · show ((win0_5.blk t).view.emb x 1).val = 128 * 4 + (x 1).val
    blk_simp [(pt5 t).2]
    try omega

theorem pt6 : ∀ t : Fin cfg0.N, win0_6.index t 0 = t.val / 16 ∧ win0_6.index t 1 = 5 :=
  (by decide +kernel : ∀ t : Fin grid0.N, win0_6.index t 0 = t.val / 16 ∧ win0_6.index t 1 = 5)

theorem block6 (c : Dev nD) (t : Fin cfg0.N) : iblk m c 6 t = slabAt (V m c main_v100) 5 t := by
  funext x
  show V m c main_v100 ((win0_6.blk t).view.emb x) = V m c main_v100 (ix2 _ _)
  refine congrArg (V m c main_v100) (ix2_of _ _ _ ?_ ?_)
  · show ((win0_6.blk t).view.emb x 0).val = 2048 * (t.val / 16) + (x 0).val
    blk_simp [(pt6 t).1]
    omega
  · show ((win0_6.blk t).view.emb x 1).val = 128 * 5 + (x 1).val
    blk_simp [(pt6 t).2]
    try omega

theorem pt7 : ∀ t : Fin cfg0.N, win0_7.index t 0 = t.val / 16 ∧ win0_7.index t 1 = 2 :=
  (by decide +kernel : ∀ t : Fin grid0.N, win0_7.index t 0 = t.val / 16 ∧ win0_7.index t 1 = 2)

theorem block7 (c : Dev nD) (t : Fin cfg0.N) : iblk m c 7 t = slabAt (V m c main_v100) 2 t := by
  funext x
  show V m c main_v100 ((win0_7.blk t).view.emb x) = V m c main_v100 (ix2 _ _)
  refine congrArg (V m c main_v100) (ix2_of _ _ _ ?_ ?_)
  · show ((win0_7.blk t).view.emb x 0).val = 2048 * (t.val / 16) + (x 0).val
    blk_simp [(pt7 t).1]
    omega
  · show ((win0_7.blk t).view.emb x 1).val = 128 * 2 + (x 1).val
    blk_simp [(pt7 t).2]
    try omega

theorem pt8 : ∀ t : Fin cfg0.N, win0_8.index t 0 = t.val / 16 ∧ win0_8.index t 1 = 3 :=
  (by decide +kernel : ∀ t : Fin grid0.N, win0_8.index t 0 = t.val / 16 ∧ win0_8.index t 1 = 3)

theorem block8 (c : Dev nD) (t : Fin cfg0.N) : iblk m c 8 t = slabAt (V m c main_v100) 3 t := by
  funext x
  show V m c main_v100 ((win0_8.blk t).view.emb x) = V m c main_v100 (ix2 _ _)
  refine congrArg (V m c main_v100) (ix2_of _ _ _ ?_ ?_)
  · show ((win0_8.blk t).view.emb x 0).val = 2048 * (t.val / 16) + (x 0).val
    blk_simp [(pt8 t).1]
    omega
  · show ((win0_8.blk t).view.emb x 1).val = 128 * 3 + (x 1).val
    blk_simp [(pt8 t).2]
    try omega

theorem pt9 : ∀ t : Fin cfg0.N, win0_9.index t 0 = t.val / 16 ∧ win0_9.index t 1 = 6 :=
  (by decide +kernel : ∀ t : Fin grid0.N, win0_9.index t 0 = t.val / 16 ∧ win0_9.index t 1 = 6)

theorem block9 (c : Dev nD) (t : Fin cfg0.N) : iblk m c 9 t = slabAt (V m c main_v100) 6 t := by
  funext x
  show V m c main_v100 ((win0_9.blk t).view.emb x) = V m c main_v100 (ix2 _ _)
  refine congrArg (V m c main_v100) (ix2_of _ _ _ ?_ ?_)
  · show ((win0_9.blk t).view.emb x 0).val = 2048 * (t.val / 16) + (x 0).val
    blk_simp [(pt9 t).1]
    omega
  · show ((win0_9.blk t).view.emb x 1).val = 128 * 6 + (x 1).val
    blk_simp [(pt9 t).2]
    try omega

theorem pt10 : ∀ t : Fin cfg0.N, win0_10.index t 0 = t.val / 16 ∧ win0_10.index t 1 = 7 :=
  (by decide +kernel : ∀ t : Fin grid0.N, win0_10.index t 0 = t.val / 16 ∧ win0_10.index t 1 = 7)

theorem block10 (c : Dev nD) (t : Fin cfg0.N) : iblk m c 10 t = slabAt (V m c main_v100) 7 t := by
  funext x
  show V m c main_v100 ((win0_10.blk t).view.emb x) = V m c main_v100 (ix2 _ _)
  refine congrArg (V m c main_v100) (ix2_of _ _ _ ?_ ?_)
  · show ((win0_10.blk t).view.emb x 0).val = 2048 * (t.val / 16) + (x 0).val
    blk_simp [(pt10 t).1]
    omega
  · show ((win0_10.blk t).view.emb x 1).val = 128 * 7 + (x 1).val
    blk_simp [(pt10 t).2]
    try omega

theorem pt11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)

theorem block11 (c : Dev nD) (t : Fin cfg0.N) : iblk m c 11 t = V m c main_v15 := by
  funext x
  show V m c main_v15 ((win0_11.blk t).view.emb x) = V m c main_v15 x
  have hp := pt11 t
  have hx : ∀ a : Fin 3, ((win0_11.blk t).view.emb x a).val = (x a).val := by
    intro a
    match a with
    | 0 =>
      show ((win0_11.blk t).view.emb x 0).val = (x 0).val
      blk_simp [hp.1]
    | 1 =>
      show ((win0_11.blk t).view.emb x 1).val = (x 1).val
      blk_simp [hp.2.1]
    | 2 =>
      show ((win0_11.blk t).view.emb x 2).val = (x 2).val
      blk_simp [hp.2.2]
  exact congrArg (V m c main_v15) (funext fun a => Fin.ext (hx a))

theorem pt12 : ∀ t : Fin cfg0.N, win0_12.index t 0 = 0 ∧ win0_12.index t 1 = 0 :=
  (by decide +kernel : ∀ t : Fin grid0.N, win0_12.index t 0 = 0 ∧ win0_12.index t 1 = 0)

theorem block12 (c : Dev nD) (t : Fin cfg0.N) : iblk m c 12 t = V m c main_v24 := by
  funext x
  show V m c main_v24 ((win0_12.blk t).view.emb x) = V m c main_v24 x
  have hp := pt12 t
  have hx : ∀ a : Fin 2, ((win0_12.blk t).view.emb x a).val = (x a).val := by
    intro a
    match a with
    | 0 =>
      show ((win0_12.blk t).view.emb x 0).val = (x 0).val
      blk_simp [hp.1]
    | 1 =>
      show ((win0_12.blk t).view.emb x 1).val = (x 1).val
      blk_simp [hp.2]
  exact congrArg (V m c main_v24) (funext fun a => Fin.ext (hx a))

theorem pt13 : ∀ t : Fin cfg0.N, win0_13.index t 0 = 0 ∧ win0_13.index t 1 = 0 :=
  (by decide +kernel : ∀ t : Fin grid0.N, win0_13.index t 0 = 0 ∧ win0_13.index t 1 = 0)

theorem block13 (c : Dev nD) (t : Fin cfg0.N) : iblk m c 13 t = V m c main_v49 := by
  funext x
  show V m c main_v49 ((win0_13.blk t).view.emb x) = V m c main_v49 x
  have hp := pt13 t
  have hx : ∀ a : Fin 2, ((win0_13.blk t).view.emb x a).val = (x a).val := by
    intro a
    match a with
    | 0 =>
      show ((win0_13.blk t).view.emb x 0).val = (x 0).val
      blk_simp [hp.1]
    | 1 =>
      show ((win0_13.blk t).view.emb x 1).val = (x 1).val
      blk_simp [hp.2]
  exact congrArg (V m c main_v49) (funext fun a => Fin.ext (hx a))

theorem flushed_eq (c : Dev nD) (t : Fin cfg0.N)
    (h11 : ∀ (a : Fin 2) (s : Fin 128) (k : Fin 256), V m c main_v15 (ix3 a s k) = hide (128 * a.val + s.val < k.val))
    (h12 : ∀ (s k : Fin 128), V m c main_v24 (ix2 s k) = hide (k.val ≤ s.val)) :
    (dats m 0 c).flushed 14 t = (cfg0.win 14).cut (grid0.coords t) (fun y : S128x512.Idx =>
      fin (V m c main_v62) (V m c main_v72) (V m c main_v102) (V m c main_v100) (V m c main_v49) t (y 0) (y 1)) := by
  have e11 : ∀ (a : Fin 2) (s : Fin 128) (k : Fin 256), iblk m c 11 t (ix3 a s k) = hide (128 * a.val + s.val < k.val) :=
    fun a s k => (congrFun (block11 m c t) (ix3 a s k)).trans (h11 a s k)
  have e12 : ∀ (s k : Fin 128), iblk m c 12 t (ix2 s k) = hide (k.val ≤ s.val) :=
    fun s k => (congrFun (block12 m c t) (ix2 s k)).trans (h12 s k)
  have key : (fun y : S128x512.Idx => blkAt (grid0.coords t 1).val qscale (iblk m c 0 t) (iblk m c 1 t) (iblk m c 2 t) (iblk m c 3 t) (iblk m c 4 t)
        (iblk m c 5 t) (iblk m c 6 t) (iblk m c 7 t) (iblk m c 8 t) (iblk m c 9 t) (iblk m c 10 t) (iblk m c 13 t) (y 0) (y 1))
      = fun y : S128x512.Idx => fin (V m c main_v62) (V m c main_v72) (V m c main_v102) (V m c main_v100) (V m c main_v49) t (y 0) (y 1) := by
    funext y
    rw [block0, block1, block2, block3, block4, block5, block6, block7, block8, block9, block10, block13, coord1]
    rfl
  have ht := t.isLt

  by_cases h0 : t.val % 16 ≤ 1
  · rw [Value.flushed14_A m c t (by omega) (by omega) (by omega) (by omega) (by omega) (by omega) (by omega) (by omega), outA _ _ _ _ _ _ _ _ _ _ _ _ _ _ _ _ _ _ _ _ _ _ _ _ _ _ _ _ _ _ _ _ _ _ _ _ _ _ _ _ _ _ _ _ _ _ _ _ _ _ _ _ _ _ e11 e12, key]
  by_cases h1 : (2 ≤ t.val % 16 ∧ t.val % 16 ≤ 3)
  · rw [Value.flushed14_B m c t (by omega) (by omega) (by omega) (by omega) (by omega) (by omega) (by omega) (by omega), outB _ _ _ _ _ _ _ _ _ _ _ _ _ _ _ _ _ _ _ _ _ _ _ _ _ _ _ _ _ _ _ _ _ _ _ _ _ _ _ _ _ _ _ _ _ _ _ _ _ _ _ _ _ _ e11 e12, key]
  by_cases h2 : (4 ≤ t.val % 16 ∧ t.val % 16 ≤ 5)
  · rw [Value.flushed14_C m c t (by omega) (by omega) (by omega) (by omega) (by omega) (by omega) (by omega) (by omega), outC _ _ _ _ _ _ _ _ _ _ _ _ _ _ _ _ _ _ _ _ _ _ _ _ _ _ _ _ _ _ _ _ _ _ _ _ _ _ _ _ _ _ _ _ _ _ _ _ _ _ _ _ _ _ e11 e12, key]
  by_cases h3 : (6 ≤ t.val % 16 ∧ t.val % 16 ≤ 7)
  · rw [Value.flushed14_D m c t (by omega) (by omega) (by omega) (by omega) (by omega) (by omega) (by omega) (by omega), outD _ _ _ _ _ _ _ _ _ _ _ _ _ _ _ _ _ _ _ _ _ _ _ _ _ _ _ _ _ _ _ _ _ _ _ _ _ _ _ _ _ _ _ _ _ _ _ _ _ _ _ _ _ _ e11 e12, key]
  by_cases h4 : (8 ≤ t.val % 16 ∧ t.val % 16 ≤ 9)
  · rw [Value.flushed14_E m c t (by omega) (by omega) (by omega) (by omega) (by omega) (by omega) (by omega) (by omega), outE _ _ _ _ _ _ _ _ _ _ _ _ _ _ _ _ _ _ _ _ _ _ _ _ _ _ _ _ _ _ _ _ _ _ _ _ _ _ _ _ _ _ _ _ _ _ _ _ _ _ _ _ _ _ e11 e12, key]
  by_cases h5 : (10 ≤ t.val % 16 ∧ t.val % 16 ≤ 11)
  · rw [Value.flushed14_F m c t (by omega) (by omega) (by omega) (by omega) (by omega) (by omega) (by omega) (by omega), outF _ _ _ _ _ _ _ _ _ _ _ _ _ _ _ _ _ _ _ _ _ _ _ _ _ _ _ _ _ _ _ _ _ _ _ _ _ _ _ _ _ _ _ _ _ _ _ _ _ _ _ _ _ _ e11 e12, key]
  by_cases h6 : (12 ≤ t.val % 16 ∧ t.val % 16 ≤ 13)
  · rw [Value.flushed14_G m c t (by omega) (by omega) (by omega) (by omega) (by omega) (by omega) (by omega) (by omega), outG _ _ _ _ _ _ _ _ _ _ _ _ _ _ _ _ _ _ _ _ _ _ _ _ _ _ _ _ _ _ _ _ _ _ _ _ _ _ _ _ _ _ _ _ _ _ _ _ _ _ _ _ _ _ e11 e12, key]
  · rw [Value.flushed14_H m c t (by omega) (by omega) (by omega) (by omega) (by omega) (by omega) (by omega) (by omega), outH _ _ _ _ _ _ _ _ _ _ _ _ _ _ _ _ _ _ _ _ _ _ _ _ _ _ _ _ _ _ _ _ _ _ _ _ _ _ _ _ _ _ _ _ _ _ _ _ _ _ _ _ _ _ e11 e12, key]

/-- The array the call leaves. -/
theorem final (c : Dev nD)
    (h11 : ∀ (a : Fin 2) (s : Fin 128) (k : Fin 256), V m c main_v15 (ix3 a s k) = hide (128 * a.val + s.val < k.val))
    (h12 : ∀ (s k : Fin 128), V m c main_v24 (ix2 s k) = hide (k.val ≤ s.val)) (t : Fin 256) (r : Fin 128) (R : Fin 32768) (C : Fin 512)
    (hR : R.val = 128 * t.val + r.val) :
    ((dats m 0 c).arrAt 14 cfg0.N : S32768x512.Idx → EReal) (ix2 R C)
      = fin (V m c main_v62) (V m c main_v72) (V m c main_v102) (V m c main_v100) (V m c main_v49) t r C := by
  have hf : (cfg0.win 14).flush t = true := (by decide +kernel : ∀ t : Fin grid0.N, win0_14.flush t = true) t
  have hb := congrFun (Value.blocks14 m c t hf) (ix2 r C)
  rw [flushed_eq m c t h11 h12] at hb
  have he : (win0_14.blk t).view.emb (ix2 r C) = ix2 R C := by
    refine ix2_of _ _ _ ?_ ?_
    · show ((win0_14.blk t).view.emb (ix2 r C) 0).val = R.val
      have h0 : win0_14.index t 0 = t.val := Value.idx_pt14 t
      blk_simp [h0]
      rw [hR]
      show t.val * 128 + r.val = _
      omega
    · show ((win0_14.blk t).view.emb (ix2 r C) 1).val = C.val
      have h1 : win0_14.index t 1 = 0 := (by decide +kernel : ∀ t : Fin grid0.N, win0_14.index t 1 = 0) t
      blk_simp [h1]
  rw [← he]
  exact hb

end Cert.Attend

end
-- ==== Proof.Host.lean ====
/- What the attention call is given: each of its operands as its host code leaves it, in the arguments. -/
module

public import proofs.«01_k».proof.Proof.Array

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The queries' operand: a head's query, its row of blocks not selected, zeros. -/
def qaOf (q : FVec Ideal S16x2048x8x64 .f32) (s : IVec S16x2x2048x32 32) : FVec Ideal S32768x1024 .bf16 :=
  truncf .bf16 (shapeCast S32768x1024 (concatenate S32768x8x128 2
    [⟨S32768x8x64, shapeCast S32768x8x64 q shapeCasts_S16x2048x8x64_S32768x8x64⟩,
     ⟨S32768x8x32, shapeCast S32768x8x32 (broadcastInDim S16x2048x2x4x32 ![0, 1, 2, 3, 4] bcast_S16x2048x2x1x32_S16x2048x2x4x32_0_1_2_3_4
        (broadcastInDim S16x2048x2x1x32 ![0, 1, 2, 4] bcast_S16x2048x2x32_S16x2048x2x1x32_0_1_2_4
          (transpose S16x2048x2x32 [0, 2, 1, 3]
            (select (cmpi .sgt s (broadcastInDim S16x2x2048x32 ![] bcast_S_S16x2x2048x32 (constantI S_ 32 0#32)))
              (broadcastInDim S16x2x2048x32 ![] bcast_S_S16x2x2048x32 (constant S_ .f32 0x00000000#32))
              (broadcastInDim S16x2x2048x32 ![] bcast_S_S16x2x2048x32 (constant S_ .f32 0x3F800000#32)))
            transposes_S16x2x2048x32_S16x2048x2x32_0_2_1_3))) shapeCasts_S16x2048x2x4x32_S32768x8x32⟩,
     ⟨S32768x8x32, broadcastInDim S32768x8x32 ![] bcast_S_S32768x8x32 (constant S_ .f32 0x00000000#32)⟩]
    concatenates_S32768x8x64_S32768x8x32_S32768x8x32_S32768x8x128_d2) shapeCasts_S32768x8x128_S32768x1024) bitsLt_bf16_f32

theorem V_qa (c : Dev nD) : V m c main_v62 = qaOf (m ((c : Thread nD τ).loc main_arg0)) (m ((c : Thread nD τ).loc main_arg1)) := by
  simp only [V, List.flatten_cons, List.flatten_nil, List.append_nil, List.cons_append, List.nil_append]
  after_results
  rfl

/-- The sigmoid of the gates' logits. -/
def sigOf (g : FVec Ideal S16x2048x8x3 .f32) : FVec Ideal S16x2048x8x3 .f32 :=
  Host.divf (broadcastInDim S16x2048x8x3 ![] bcast_S_S16x2048x8x3 (constant S_ .f32 0x3F800000#32))
    (addf (broadcastInDim S16x2048x8x3 ![] bcast_S_S16x2048x8x3 (constant S_ .f32 0x3F800000#32)) (Host.exp (Host.negf g)))

/-- The gates' operand: the twelve gates of a group, zeros beside them. -/
def gatesOf (g : FVec Ideal S16x2048x8x3 .f32) : FVec Ideal S32768x256 .f32 :=
  shapeCast S32768x256 (concatenate S32768x2x128 2 [⟨S32768x2x12, shapeCast S32768x2x12 (sigOf g) shapeCasts_S16x2048x8x3_S32768x2x12⟩,
    ⟨S32768x2x116, broadcastInDim S32768x2x116 ![] bcast_S_S32768x2x116 (constant S_ .f32 0x00000000#32)⟩]
    concatenates_S32768x2x12_S32768x2x116_S32768x2x128_d2) shapeCasts_S32768x2x128_S32768x256

theorem V_gates (c : Dev nD) : V m c main_v72 = gatesOf (m ((c : Thread nD τ).loc main_arg2)) := by
  simp only [V, List.flatten_cons, List.flatten_nil, List.append_nil, List.cons_append, List.nil_append]
  after_results
  rfl

/-- The first branch's operand. -/
def ocOf (o : FVec Ideal S16x2048x8x64 .f32) : FVec Ideal S32768x512 .bf16 :=
  truncf .bf16 (shapeCast S32768x512 o shapeCasts_S16x2048x8x64_S32768x512) bitsLt_bf16_f32

theorem V_oc (c : Dev nD) : V m c main_v102 = ocOf (m ((c : Thread nD τ).loc main_arg3)) := by
  simp only [V, List.flatten_cons, List.flatten_nil, List.append_nil, List.cons_append, List.nil_append]
  after_results
  rfl

/-- The causal mask's table at the block's two positions. -/
def triOf : FVec Ideal S2x128x256 .f32 :=
  select (cmpi .sle (broadcastInDim S2x128x256 ![0, 1, 2] bcast_S1x1x256_S2x128x256_0_1_2 (broadcastInDim S1x1x256 ![2] bcast_S256_S1x1x256_2 (iotaInDim S256 32 0)))
      (broadcastInDim S2x128x256 ![0, 1, 2] bcast_S2x128x1_S2x128x256_0_1_2
        (addi (broadcastInDim S2x128x1 ![0, 1, 2] bcast_S2x1x1_S2x128x1_0_1_2
            (muli (broadcastInDim S2x1x1 ![0] bcast_S2_S2x1x1_0 (iotaInDim S2 32 0)) (broadcastInDim S2x1x1 ![] bcast_S_S2x1x1 (constantI S_ 32 128#32))))
          (broadcastInDim S2x128x1 ![0, 1, 2] bcast_S1x128x1_S2x128x1_0_1_2 (broadcastInDim S1x128x1 ![1] bcast_S128_S1x128x1_1 (iotaInDim S128 32 0))))))
    (broadcastInDim S2x128x256 ![] bcast_S_S2x128x256 (constant S_ .f32 0x00000000#32))
    (broadcastInDim S2x128x256 ![] bcast_S_S2x128x256 (constant S_ .f32 0x3F800000#32))

theorem V_tri (c : Dev nD) : V m c main_v15 = triOf := by
  simp only [V, List.flatten_cons, List.flatten_nil, List.append_nil, List.cons_append, List.nil_append]
  after_results
  rfl

/-- The window's edge. -/
def edgeOf : FVec Ideal S128x128 .f32 :=
  select (cmpi .sgt (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0))))
    (broadcastInDim S128x128 ![] bcast_S_S128x128 (constant S_ .f32 0x00000000#32))
    (broadcastInDim S128x128 ![] bcast_S_S128x128 (constant S_ .f32 0x3F800000#32))

theorem V_edge (c : Dev nD) : V m c main_v24 = edgeOf := by
  simp only [V, List.flatten_cons, List.flatten_nil, List.append_nil, List.cons_append, List.nil_append]
  after_results
  rfl

/-- Floor division of integers, as the host code spells it. -/
def fdiv {s : Shape} (h : Shape.BroadcastsInDim S_ s ![]) (x : IVec s 32) (k : IVec S_ 32) : IVec s 32 :=
  select (andi (cmpi .ne (signi x) (broadcastInDim s ![] h (signi k)))
      (cmpi .ne (Host.remsi x (broadcastInDim s ![] h k)) (broadcastInDim s ![] h (constantI S_ 32 0#32))))
    (subi (Host.divsi x (broadcastInDim s ![] h k)) (broadcastInDim s ![] h (constantI S_ 32 1#32)))
    (Host.divsi x (broadcastInDim s ![] h k))

/-- Integer remainder, as the host code spells it. -/
def fmod {s : Shape} (h : Shape.BroadcastsInDim S_ s ![]) (x : IVec s 32) (k : IVec S_ 32) : IVec s 32 :=
  let d : IVec S_ 32 := select (cmpi .eq k (constantI S_ 32 0#32)) (constantI S_ 32 1#32) k
  let y := Host.remsi x (broadcastInDim s ![] h d)
  select (andi (cmpi .ne (cmpi .slt y (broadcastInDim s ![] h (constantI S_ 32 0#32))) (broadcastInDim s ![] h (cmpi .slt d (constantI S_ 32 0#32))))
      (cmpi .ne y (broadcastInDim s ![] h (constantI S_ 32 0#32))))
    (addi y (broadcastInDim s ![] h d)) y

/-- The lane a column's gate of the first kind sits in, but for the branch. -/
def laneOf : IVec S1x512 32 :=
  let h := fdiv bcast_S_S1x512 (broadcastInDim S1x512 ![1] bcast_S512_S1x512_1 (iotaInDim S512 32 0)) (constantI S_ 32 64#32)
  addi (muli (fdiv bcast_S_S1x512 h (constantI S_ 32 4#32)) (broadcastInDim S1x512 ![] bcast_S_S1x512 (constantI S_ 32 128#32)))
    (muli (fmod bcast_S_S1x512 h (constantI S_ 32 4#32)) (broadcastInDim S1x512 ![] bcast_S_S1x512 (constantI S_ 32 3#32)))

/-- One half of the gates' spreading table. -/
def hotOf (r : BitVec 32) : FVec Ideal S256x512 .bf16 :=
  uitofp .bf16 (cmpi .eq (broadcastInDim S256x512 ![0, 1] bcast_S256x1_S256x512_0_1 (broadcastInDim S256x1 ![0] bcast_S256_S256x1_0 (iotaInDim S256 32 0)))
    (broadcastInDim S256x512 ![0, 1] bcast_S1x512_S256x512_0_1 (addi laneOf (broadcastInDim S1x512 ![] bcast_S_S1x512 (constantI S_ 32 r)))))

/-- The gates' spreading table. -/
def gxOf : FVec Ideal S256x1024 .bf16 :=
  concatenate S256x1024 1 [⟨S256x512, hotOf 1#32⟩, ⟨S256x512, hotOf 2#32⟩] concatenates_S256x512_S256x512_S256x1024_d1

theorem V_gx (c : Dev nD) : V m c main_v49 = gxOf := by
  simp only [V, List.flatten_cons, List.flatten_nil, List.append_nil, List.cons_append, List.nil_append]
  after_results
  refine congrArg₂ (fun a b => concatenate S256x1024 1 [⟨S256x512, a⟩, ⟨S256x512, b⟩] concatenates_S256x512_S256x512_S256x1024_d1) ?_ ?_
  · simp only [StableHlo.TRef.toBuf, StableHlo.TRef.ofBuf, cast_eq, id_eq, hotOf, laneOf, fmod, fdiv]
  · simp only [StableHlo.TRef.toBuf, StableHlo.TRef.ofBuf, cast_eq, id_eq, hotOf, laneOf, fmod, fdiv]

/-- A key or value array, its rows in order. -/
def rowsOf (x : FVec Ideal S16x2x2048x64 .f32) : FVec Ideal S32768x2x64 .f32 :=
  shapeCast S32768x2x64 (transpose S16x2048x2x64 [0, 2, 1, 3] x transposes_S16x2x2048x64_S16x2048x2x64_0_2_1_3) shapeCasts_S16x2048x2x64_S32768x2x64

/-- The one-hot lane of a position's block. -/
def blkOf : FVec Ideal S2048x64 .f32 :=
  uitofp .f32 (cmpi .eq (broadcastInDim S2048x64 ![0, 1] bcast_S1x64_S2048x64_0_1 (broadcastInDim S1x64 ![1] bcast_S64_S1x64_1 (iotaInDim S64 32 0)))
    (broadcastInDim S2048x64 ![0, 1] bcast_S2048x1_S2048x64_0_1
      (fdiv bcast_S_S2048x1 (broadcastInDim S2048x1 ![0] bcast_S2048_S2048x1_0 (iotaInDim S2048 32 0)) (constantI S_ 32 64#32))))

/-- The same, at every row and head. -/
def blksOf : FVec Ideal S32768x2x64 .f32 :=
  shapeCast S32768x2x64 (broadcastInDim S16x2048x2x64 ![0, 1, 2, 3] bcast_S1x2048x1x64_S16x2048x2x64_0_1_2_3
    (broadcastInDim S1x2048x1x64 ![1, 3] bcast_S2048x64_S1x2048x1x64_1_3 blkOf)) shapeCasts_S16x2048x2x64_S32768x2x64

/-- A branch's slabs: a key and what is beside it, a value and the ones beside it. -/
def slabsOf (k v : FVec Ideal S16x2x2048x64 .f32) (b : FVec Ideal S32768x2x64 .f32) : FVec Ideal S32768x512 .f32 :=
  shapeCast S32768x512 (concatenate S32768x2x256 2 [⟨S32768x2x64, rowsOf k⟩, ⟨S32768x2x64, b⟩, ⟨S32768x2x64, rowsOf v⟩,
    ⟨S32768x2x64, broadcastInDim S32768x2x64 ![] bcast_S_S32768x2x64 (constant S_ .f32 0x3F800000#32)⟩]
    concatenates_S32768x2x64_S32768x2x64_S32768x2x64_S32768x2x64_S32768x2x256_d2) shapeCasts_S32768x2x256_S32768x512

/-- The keys and values of both branches, in slabs. -/
def kvOf (ks vs kw vw : FVec Ideal S16x2x2048x64 .f32) : FVec Ideal S32768x1024 .bf16 :=
  truncf .bf16 (concatenate S32768x1024 1 [⟨S32768x512, slabsOf ks vs blksOf⟩,
    ⟨S32768x512, slabsOf kw vw (broadcastInDim S32768x2x64 ![] bcast_S_S32768x2x64 (constant S_ .f32 0x00000000#32))⟩]
    concatenates_S32768x512_S32768x512_S32768x1024_d1) bitsLt_bf16_f32

theorem V_kv (c : Dev nD) : V m c main_v100 = kvOf (m ((c : Thread nD τ).loc main_arg4)) (m ((c : Thread nD τ).loc main_arg5))
    (m ((c : Thread nD τ).loc main_arg6)) (m ((c : Thread nD τ).loc main_arg7)) := by
  simp only [V, List.flatten_cons, List.flatten_nil, List.append_nil, List.cons_append, List.nil_append]
  after_results
  rfl

end Cert.Attend

end
-- ==== Proof.Soft.lean ====
/- A row of attention in base two, normalised after the weighting, against the masked softmax of the layer. -/
module

public import proofs.«01_k».proof.Proof.Row
public import Idealize.ShloMosaic.PureOps.Ideal.Laws

@[expose] public section

noncomputable section

namespace Cert.Attend

open Idealize.ShloMosaic

/-- A masked row's scores. -/
def veil (keep : Fin 2048 → Prop) [DecidablePred keep] (s : Fin 2048 → EReal) : Fin 2048 → EReal :=
  fun k => if keep k then s k else ⊥

/-- The unnormalised weights of a masked softmax. -/
def wt (keep : Fin 2048 → Prop) [DecidablePred keep] (s : Fin 2048 → EReal) : Fin 2048 → EReal :=
  fun k => if keep k then Ideal.exp (veil keep s k - Finset.univ.fold max ⊥ (veil keep s)) else 0

/-- The masked softmax of a row, applied to one column of the values. -/
def soft (keep : Fin 2048 → Prop) [DecidablePred keep] (s v : Fin 2048 → EReal) : EReal :=
  ∑ k, Ideal.div (wt keep s k) (max (∑ j, wt keep s j) tiny) * v k

theorem coe_mul_sum {ι : Type} (S : Finset ι) (f : ι → EReal) (a : ℝ) (ha : 0 ≤ a) :
    (a : EReal) * ∑ i ∈ S, f i = ∑ i ∈ S, (a : EReal) * f i := by
  classical
  induction S using Finset.induction_on with
  | empty => simp
  | insert i S h ih =>
    rw [Finset.sum_insert h, Finset.sum_insert h,
      EReal.left_distrib_of_nonneg_of_ne_top (by exact_mod_cast ha) (EReal.coe_ne_top a), ih]

/-- The base-two logarithm of `e`. -/
abbrev lg : ℝ := (Real.log 2)⁻¹

theorem lg_pos : 0 < lg := inv_pos.mpr (Real.log_pos (by norm_num))

theorem exp2_lg (x : EReal) : Ideal.exp2 ((lg : EReal) * x) = Ideal.exp x := by
  induction x using EReal.rec with
  | bot => rw [EReal.coe_mul_bot_of_pos lg_pos]; rfl
  | top => rw [EReal.coe_mul_top_of_pos lg_pos]; rfl
  | coe r =>
    rw [← EReal.coe_mul, Ideal.exp2_coe, Ideal.exp_coe]
    congr 1
    show (2 : ℝ) ^ (lg * r) = _
    rw [Real.rpow_def_of_pos (by norm_num), ← mul_assoc, mul_inv_cancel₀ (Real.log_pos (by norm_num)).ne', one_mul]

theorem lg_sub (x y : EReal) : (lg : EReal) * x - (lg : EReal) * y = (lg : EReal) * (x - y) := by
  rw [sub_eq_add_neg, sub_eq_add_neg, EReal.left_distrib_of_nonneg_of_ne_top (by exact_mod_cast lg_pos.le) (EReal.coe_ne_top _),
    mul_neg]

theorem lg_max {ι : Type} (S : Finset ι) (f : ι → EReal) :
    S.fold max ⊥ (fun i => (lg : EReal) * f i) = (lg : EReal) * S.fold max ⊥ f := by
  have hm : Monotone fun x : EReal => (lg : EReal) * x := fun x y h => mul_le_mul_of_nonneg_left h (by exact_mod_cast lg_pos.le)
  have h := Finset.fold_hom (op := max) (op' := max) (s := S) (b := ⊥) (f := f) (m := fun x : EReal => (lg : EReal) * x)
    (fun x y => hm.map_max)
  rw [EReal.coe_mul_bot_of_pos lg_pos] at h
  exact h

theorem exp_nonneg' (x : EReal) : 0 ≤ Ideal.exp x := by
  induction x using EReal.rec with
  | bot => exact le_rfl
  | top => exact le_top
  | coe r => rw [Ideal.exp_coe]; exact_mod_cast (Real.exp_pos r).le

theorem exp_le_one (x : EReal) (h : x ≤ 0) : Ideal.exp x ≤ 1 := by
  induction x using EReal.rec with
  | bot => exact zero_le_one
  | top => exact absurd h (by simp)
  | coe r =>
    rw [Ideal.exp_coe]
    have : r ≤ 0 := by exact_mod_cast h
    exact_mod_cast Real.exp_le_one_iff.mpr this

theorem sub_max_le (s : Fin 2048 → EReal) (k : Fin 2048) : s k - Finset.univ.fold max ⊥ s ≤ 0 := by
  rw [EReal.sub_nonpos]
  rw [Finset.le_fold_max]
  exact Or.inr ⟨k, Finset.mem_univ _, le_rfl⟩

theorem wt_real (keep : Fin 2048 → Prop) [DecidablePred keep] (s : Fin 2048 → EReal) (k : Fin 2048) :
    0 ≤ wt keep s k ∧ wt keep s k ≤ 1 := by
  unfold wt
  split_ifs
  · exact ⟨exp_nonneg' _, exp_le_one _ (sub_max_le _ k)⟩
  · exact ⟨le_rfl, zero_le_one⟩

theorem sum_wt (keep : Fin 2048 → Prop) [DecidablePred keep] (s : Fin 2048 → EReal) :
    ∃ r : ℝ, 0 ≤ r ∧ ∑ k, wt keep s k = (r : EReal) := by
  have h : ∀ k, ∃ r : ℝ, 0 ≤ r ∧ wt keep s k = (r : EReal) := fun k => by
    obtain ⟨h0, h1⟩ := wt_real keep s k
    have ht : wt keep s k ≠ ⊤ := ne_top_of_le_ne_top (EReal.coe_ne_top 1) h1
    have hb : wt keep s k ≠ ⊥ := ne_bot_of_le_ne_bot (EReal.coe_ne_bot 0) h0
    refine ⟨(wt keep s k).toReal, EReal.toReal_nonneg h0, (EReal.coe_toReal ht hb).symm⟩
  choose r hr using h
  refine ⟨∑ k, r k, Finset.sum_nonneg fun k _ => (hr k).1, ?_⟩
  rw [Finset.sum_congr rfl fun k _ => (hr k).2]
  exact (map_sum (⟨⟨((↑) : ℝ → EReal), EReal.coe_zero⟩, EReal.coe_add⟩ : ℝ →+ EReal) r Finset.univ).symm

theorem tiny_pos : ∃ r : ℝ, 0 < r ∧ tiny = (r : EReal) := by
  unfold tiny
  refine ⟨_, ?_, by simp [Ideal.ofBits, Ideal.ieee, -EReal.coe_mul]; rfl⟩
  norm_num

/-- A branch of the kernel — the scores in base two, the row normalised and gated at the end — is the gate times the
    layer's masked softmax applied to the values. -/
theorem branch_soft (keep : Fin 2048 → Prop) [DecidablePred keep] (S s v w : Fin 2048 → EReal) (g : EReal)
    (hS : ∀ k, S k = (lg : EReal) * veil keep s k) (hw : ∀ k, w k = 1) :
    row S v * Ideal.div g (max (row S w) tiny) = g * soft keep s v := by
  have he : ∀ k, Ideal.exp2 (S k - Finset.univ.fold max ⊥ S) = wt keep s k := fun k => by
    rw [show S = fun k => (lg : EReal) * veil keep s k from funext hS, lg_max, lg_sub, exp2_lg]
    unfold wt
    split_ifs with h
    · rfl
    · rw [show veil keep s k = ⊥ from if_neg h, EReal.bot_sub]; rfl
  have hr : ∀ u, row S u = ∑ k, wt keep s k * u k := fun u => by
    unfold row
    exact Finset.sum_congr rfl fun k _ => by rw [he]
  have h1 : row S w = ∑ k, wt keep s k := by
    rw [hr]; exact Finset.sum_congr rfl fun k _ => by rw [hw, mul_one]
  obtain ⟨a, ha, hsum⟩ := sum_wt keep s
  obtain ⟨b, hb, ht⟩ := tiny_pos
  have hD : max (∑ k, wt keep s k) tiny = ((max a b : ℝ) : EReal) := by
    rw [hsum, ht]; exact (EReal.coe_strictMono.monotone.map_max).symm
  have hpos : 0 < max a b := lt_max_of_lt_right hb
  unfold soft
  rw [h1, hr, hD, Ideal.div_coe hpos.ne']
  have : ∀ k, Ideal.div (wt keep s k) ((max a b : ℝ) : EReal) * v k = ((1 / max a b : ℝ) : EReal) * (wt keep s k * v k) := fun k => by
    rw [Ideal.div_coe hpos.ne', mul_comm (wt keep s k), mul_assoc]
  rw [Finset.sum_congr rfl fun k _ => this k, ← coe_mul_sum _ _ _ (by positivity), mul_comm, mul_assoc]

end Cert.Attend

end
-- ==== Proof.Head.lean ====
/- One head's output from the laid-out operands, against the layer's two masked softmaxes and its gates. -/
module

public import proofs.«01_k».proof.Proof.Outs
public import proofs.«01_k».proof.Proof.Soft

@[expose] public section

set_option maxRecDepth 16384

noncomputable section

namespace Cert.Attend

open Idealize.ShloMosaic

/-- The scale of the layer's scores. -/
abbrev eighth : EReal := Ideal.ofBits .f32 0x3E000000#32

theorem eighth_eq : eighth = ((1 / 8 : ℝ) : EReal) := by
  unfold eighth
  simp [Ideal.ofBits, Ideal.ieee, -EReal.coe_mul]
  norm_num

/-- The layer's scores of a query against every key. -/
def score (q : Fin 64 → EReal) (K : Fin 2048 → Fin 64 → EReal) : Fin 2048 → EReal :=
  fun k => (∑ l, q l * K k l) * eighth

/-- A query's lanes, scaled: the head's query, then the blocks it does not select, then zeros. -/
def qlane (q : Fin 64 → EReal) (sel : Fin 32 → Prop) [DecidablePred sel] (l : Fin 128) : EReal :=
  if h : l.val < 64 then q ⟨l.val, h⟩ else if h' : l.val < 96 then hide (¬ sel ⟨l.val - 64, by omega⟩) else 0

theorem low_lanes (q : Fin 64 → EReal) (k : Fin 64 → EReal) :
    ∑ l, q l * qscale * k l = (lg : EReal) * ((∑ l, q l * k l) * eighth) := by
  have hq : qscale = (((1 / 8) * lg : ℝ) : EReal) := rfl
  rw [eighth_eq, mul_comm (∑ l, q l * k l), ← mul_assoc, ← EReal.coe_mul, mul_comm lg, coe_mul_sum _ _ _ (mul_nonneg (by norm_num) lg_pos.le)]
  refine Finset.sum_congr rfl fun l _ => ?_
  rw [hq, mul_comm (q l), mul_assoc]

theorem lanes_split (f : Fin 128 → EReal) :
    ∑ l, f l = ∑ l : Fin 64, f ⟨l.val, by omega⟩ + ∑ l : Fin 64, f ⟨64 + l.val, by omega⟩ :=
  Fin.sum_univ_add (a := 64) (b := 64) f

/-- The scores of the selected branch: a key of a block that is not selected is masked by its one-hot lane. -/
theorem masked_sel (keep : Fin 2048 → Prop) [DecidablePred keep] (q : Fin 64 → EReal) (sel : Fin 32 → Prop) [DecidablePred sel]
    (K : Fin 2048 → Fin 64 → EReal) (X : FVec Ideal (Sh 2048 128) .bf16)
    (h0 : ∀ k (l : Fin 64), X (ix2 k (⟨l.val, by omega⟩ : Fin 128)) = K k l)
    (h1 : ∀ k (l : Fin 64), X (ix2 k (⟨64 + l.val, by omega⟩ : Fin 128)) = if l.val = k.val / 64 then 1 else 0) (k : Fin 2048) :
    masked keep (fun l => qlane q sel l * if l.val < 64 then qscale else ⊥) X k
      = (lg : EReal) * veil (fun k => sel ⟨k.val / 64, by omega⟩ ∧ keep k) (score q K) k := by
  have hb : (lg : EReal) * ⊥ = ⊥ := EReal.coe_mul_bot_of_pos lg_pos
  have hk : k.val / 64 < 32 := by omega
  unfold masked veil
  by_cases hkeep : keep k
  · rw [if_pos hkeep, lanes_split]
    have e0 : ∑ l : Fin 64, (qlane q sel ⟨l.val, by omega⟩ * if l.val < 64 then qscale else ⊥) * X (ix2 k (⟨l.val, by omega⟩ : Fin 128))
        = (lg : EReal) * score q K k := by
      refine Eq.trans (Finset.sum_congr rfl fun l _ => ?_) (low_lanes q (K k))
      rw [h0, if_pos l.isLt, qlane, dif_pos l.isLt]
    have e1 : ∑ l : Fin 64, (qlane q sel ⟨64 + l.val, by omega⟩ * if 64 + l.val < 64 then qscale else ⊥) * X (ix2 k (⟨64 + l.val, by omega⟩ : Fin 128))
        = hide (¬ sel ⟨k.val / 64, hk⟩) * ⊥ := by
      rw [Finset.sum_eq_single (⟨k.val / 64, by omega⟩ : Fin 64)]
      · rw [h1, if_pos rfl, mul_one, if_neg (by omega), qlane, dif_neg (by simp), dif_pos (by show 64 + k.val / 64 < 96; omega)]
        simp only [Nat.add_sub_cancel_left]
      · intro l _ hl
        rw [h1, if_neg (fun e => hl (Fin.ext e)), mul_zero]
      · intro h; exact absurd (Finset.mem_univ _) h
    refine (congrArg₂ (· + ·) e0 e1).trans ?_
    show _ + _ = _
    rw [add_hide]
    by_cases hs : sel ⟨k.val / 64, hk⟩
    · rw [if_neg (not_not.mpr hs), if_pos ⟨hs, hkeep⟩]
    · rw [if_pos hs, if_neg (fun h => hs h.1), hb]
  · rw [if_neg hkeep, if_neg (fun h => hkeep h.2), hb]

/-- The scores of the window branch: its keys carry zeros beside them. -/
theorem masked_win (keep : Fin 2048 → Prop) [DecidablePred keep] (q : Fin 64 → EReal) (sel : Fin 32 → Prop) [DecidablePred sel]
    (K : Fin 2048 → Fin 64 → EReal) (X : FVec Ideal (Sh 2048 128) .bf16)
    (h0 : ∀ k (l : Fin 64), X (ix2 k (⟨l.val, by omega⟩ : Fin 128)) = K k l)
    (h1 : ∀ k (l : Fin 64), X (ix2 k (⟨64 + l.val, by omega⟩ : Fin 128)) = 0) (k : Fin 2048) :
    masked keep (fun l => qlane q sel l * if l.val < 64 then qscale else ⊥) X k = (lg : EReal) * veil keep (score q K) k := by
  unfold masked veil
  by_cases hkeep : keep k
  · rw [if_pos hkeep, if_pos hkeep, lanes_split]
    have e0 : ∑ l : Fin 64, (qlane q sel ⟨l.val, by omega⟩ * if l.val < 64 then qscale else ⊥) * X (ix2 k (⟨l.val, by omega⟩ : Fin 128))
        = (lg : EReal) * score q K k := by
      refine Eq.trans (Finset.sum_congr rfl fun l _ => ?_) (low_lanes q (K k))
      rw [h0, if_pos l.isLt, qlane, dif_pos l.isLt]
    have e1 : ∑ l : Fin 64, (qlane q sel ⟨64 + l.val, by omega⟩ * if 64 + l.val < 64 then qscale else ⊥) * X (ix2 k (⟨64 + l.val, by omega⟩ : Fin 128)) = 0 :=
      Finset.sum_eq_zero fun l _ => by rw [h1, mul_zero]
    refine (congrArg₂ (· + ·) e0 e1).trans (add_zero _)
  · rw [if_neg hkeep, if_neg hkeep, EReal.coe_mul_bot_of_pos lg_pos]

/-- One entry of the layer's merged attention, at position `t` of a sequence. -/
def merged (t : ℕ) (q : Fin 64 → EReal) (sel : Fin 32 → Prop) [DecidablePred sel] (o gS gW : EReal) (ks kw : Fin 2048 → Fin 64 → EReal)
    (vs vw : Fin 2048 → EReal) : EReal :=
  o + gS * soft (fun k => sel ⟨k.val / 64, by omega⟩ ∧ k.val ≤ t) (score q ks) vs
    + gW * soft (fun k => k.val ≤ t ∧ t < k.val + 512) (score q kw) vw

theorem headval_merged (i r : ℕ) (q : Fin 64 → EReal) (sel : Fin 32 → Prop) [DecidablePred sel] (o gS gW : EReal)
    (ks kw : Fin 2048 → Fin 64 → EReal) (vs vw : Fin 2048 → EReal) (KS VS KW VW : FVec Ideal (Sh 2048 128) .bf16) (d d' : Fin 128)
    (hks0 : ∀ k (l : Fin 64), KS (ix2 k (⟨l.val, by omega⟩ : Fin 128)) = ks k l)
    (hks1 : ∀ k (l : Fin 64), KS (ix2 k (⟨64 + l.val, by omega⟩ : Fin 128)) = if l.val = k.val / 64 then 1 else 0)
    (hkw0 : ∀ k (l : Fin 64), KW (ix2 k (⟨l.val, by omega⟩ : Fin 128)) = kw k l)
    (hkw1 : ∀ k (l : Fin 64), KW (ix2 k (⟨64 + l.val, by omega⟩ : Fin 128)) = 0)
    (hvs0 : ∀ k, VS (ix2 k d) = vs k) (hvs1 : ∀ k, VS (ix2 k d') = 1) (hvw0 : ∀ k, VW (ix2 k d) = vw k) (hvw1 : ∀ k, VW (ix2 k d') = 1) :
    headval i r (fun l => qlane q sel l * if l.val < 64 then qscale else ⊥) o gS gW KS VS KW VW d d'
      = merged (128 * i + r) q sel o gS gW ks kw vs vw := by
  unfold headval merged
  rw [show (fun k => VS (ix2 k d)) = vs from funext hvs0, show (fun k => VW (ix2 k d)) = vw from funext hvw0,
    branch_soft (fun k => sel ⟨k.val / 64, by omega⟩ ∧ k.val ≤ 128 * i + r) _ (score q ks) vs _ gS
      (fun k => masked_sel _ q sel ks KS hks0 hks1 k) hvs1,
    branch_soft (fun k => k.val ≤ 128 * i + r ∧ 128 * i + r < k.val + 512) _ (score q kw) vw _ gW
      (fun k => masked_win _ q sel kw KW hkw0 hkw1 k) hvw1]

/-- The spread gates: with finite gates and a one-hot column, the gate that the column names. -/
theorem gateAt_hot (g : FVec Ideal (Sh 128 256) .f32) (x : FVec Ideal (Sh 256 1024) .bf16) (r : Fin 128) (c : Fin 1024) (a : Fin 256)
    (hg : ∀ l, ∃ y : ℝ, g (ix2 r l) = (y : EReal)) (hx : ∀ l, x (ix2 l c) = if l = a then 1 else 0) :
    gateAt g x r c = g (ix2 r a) := by
  unfold gateAt
  have h1 : ∀ l : Fin 256, (g (ix2 r l) - g (ix2 r l)) * x (ix2 l c) = 0 := fun l => by
    obtain ⟨y, hy⟩ := hg l
    rw [hy, ← EReal.coe_sub, sub_self, EReal.coe_zero, zero_mul]
  rw [Finset.sum_eq_zero fun l _ => h1 l, add_zero, Finset.sum_eq_single a]
  · rw [hx, if_pos rfl, mul_one]
  · intro l _ hl; rw [hx, if_neg hl, mul_zero]
  · intro h; exact absurd (Finset.mem_univ _) h

/-- The sigmoid, as the layer's host code spells it. -/
def sgm (x : EReal) : EReal := Ideal.div (Ideal.ofBits .f32 0x3F800000#32) (Ideal.ofBits .f32 0x3F800000#32 + Ideal.exp (-x))

theorem one_bits : Ideal.ofBits .f32 0x3F800000#32 = ((1 : ℝ) : EReal) := by
  simp [Ideal.ofBits, Ideal.ieee, -EReal.coe_mul]
  norm_num

theorem sgm_real (x : EReal) : ∃ y : ℝ, sgm x = (y : EReal) := by
  unfold sgm
  rw [one_bits]
  have h : ∀ y : EReal, 0 ≤ y → ∃ z : ℝ, Ideal.div ((1 : ℝ) : EReal) (((1 : ℝ) : EReal) + y) = (z : EReal) := by
    intro y hy
    induction y using EReal.rec with
    | bot => exact absurd hy (by simp)
    | top =>
      refine ⟨0, ?_⟩
      rw [EReal.coe_add_top]
      unfold Ideal.div
      rw [if_neg (by simp), EReal.inv_top, mul_zero]; rfl
    | coe r =>
      have hr : 0 ≤ r := by exact_mod_cast hy
      refine ⟨1 * (1 / (1 + r)), ?_⟩
      rw [← EReal.coe_add, Ideal.div_coe (by positivity), ← EReal.coe_mul]
  exact h _ (exp_nonneg' _)

end Cert.Attend

end
-- ==== Proof.Tables.lean ====
/- The integer tables the host code lays out, read at an index. -/
module

public import proofs.«01_k».proof.Proof.Host
public import proofs.«01_k».proof.Proof.Head

@[expose] public section

set_option maxRecDepth 16384

noncomputable section

namespace Cert.Attend

open Cert.KernelIdeal Cert.KernelIdeal.Gen
open Idealize.ShloMosaic Idealize.ShloMosaic.TcCoe

theorem pick_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem bit_real (f : FTy) (p : Prop) [Decidable p] : FloatOps.uitofp (F := Ideal) f (BitVec.ofBool (decide p)) = if p then (1 : EReal) else 0 := by
  show (((BitVec.ofBool (decide p)).toNat : ℝ) : EReal) = _
  by_cases h : p
  · rw [if_pos h, decide_eq_true h]; simp
  · rw [if_neg h, decide_eq_false h]; simp

theorem hide_pick (p q : Prop) [Decidable p] [Decidable q] (h : p ↔ ¬ q) : (if p then (0 : EReal) else 1) = hide q := by
  unfold hide
  by_cases hq : q
  · rw [if_pos hq, if_neg (fun hp => h.1 hp hq)]
  · rw [if_neg hq, if_pos (h.2 hq)]

theorem block_lane : ∀ k : Fin 2048, fdiv bcast_S_S2048x1 (broadcastInDim S2048x1 ![0] bcast_S2048_S2048x1_0 (iotaInDim S2048 32 0)) (constantI S_ 32 64#32)
    (ix2 k (0 : Fin 1)) = BitVec.ofNat 32 (k.val / 64) := by
  decide +kernel

theorem gate_lane : ∀ c : Fin 512, laneOf (ix2 (0 : Fin 1) c) = BitVec.ofNat 32 (128 * (c.val / 256) + 3 * (c.val / 64 % 4)) := by
  decide +kernel

theorem blkOf_at (k : Fin 2048) (l : Fin 64) : blkOf (ix2 k l) = if l.val = k.val / 64 then 1 else 0 := by
  unfold blkOf
  have h := block_lane k
  generalize fdiv bcast_S_S2048x1 (broadcastInDim S2048x1 ![0] bcast_S2048_S2048x1_0 (iotaInDim S2048 32 0)) (constantI S_ 32 64#32) = f at *
  pointwise [h]
  rw [WordCmp.cmpi_eq_ofNat (by omega) (by omega), bit_real]

theorem hotOf_at (r : Fin 3) (l : Fin 256) (c : Fin 512) : hotOf (BitVec.ofNat 32 r.val) (ix2 l c)
    = if l.val = 128 * (c.val / 256) + 3 * (c.val / 64 % 4) + r.val then 1 else 0 := by
  unfold hotOf
  have h := gate_lane c
  generalize laneOf = f at *
  pointwise [h]
  rw [show IntOp.addi (BitVec.ofNat 32 (128 * (c.val / 256) + 3 * (c.val / 64 % 4))) (BitVec.ofNat 32 r.val)
      = BitVec.ofNat 32 (128 * (c.val / 256) + 3 * (c.val / 64 % 4) + r.val) from (BitVec.ofNat_add _ _).symm,
    WordCmp.cmpi_eq_ofNat (by omega) (by omega), bit_real]

theorem triOf_at (a : Fin 2) (s : Fin 128) (k : Fin 256) : triOf (ix3 a s k) = hide (128 * a.val + s.val < k.val) := by
  unfold triOf
  pointwise []
  rw [show IntOp.addi (IntOp.muli (BitVec.ofNat 32 a.val) 128#32) (BitVec.ofNat 32 s.val) = BitVec.ofNat 32 (a.val * 128 + s.val) from by
      rw [BitVec.ofNat_add, BitVec.ofNat_mul]; rfl,
    WordCmp.cmpi_sle_ofNat (by omega) (by omega), pick_ofBool]
  exact hide_pick _ _ (by omega)

theorem edgeOf_at (s k : Fin 128) : edgeOf (ix2 s k) = hide (k.val ≤ s.val) := by
  unfold edgeOf
  pointwise []
  rw [WordCmp.cmpi_sgt_ofNat (by omega) (by omega), pick_ofBool]
  exact hide_pick _ _ (by omega)

end Cert.Attend

end
-- ==== Proof.Reads.lean ====
/- The attention call's operands, read at an index: which entry of which argument each lane holds. -/
module

public import proofs.«01_k».proof.Proof.Tables

@[expose] public section

set_option maxRecDepth 16384

noncomputable section

namespace Cert.Attend

open Cert.KernelIdeal Cert.KernelIdeal.Gen
open Idealize.ShloMosaic Idealize.ShloMosaic.TcCoe

/-- A block is selected where its entry is positive. -/
def chosen (x : BitVec 32) : Prop := (0#32).slt x = true

instance : DecidablePred chosen := fun x => inferInstanceAs (Decidable ((0#32).slt x = true))

theorem sgt_chosen (x : BitVec 32) : IntOp.cmpi .sgt x 0#32 = BitVec.ofBool (decide (chosen x)) := by
  show BitVec.ofBool ((0#32).slt x) = _
  exact congrArg BitVec.ofBool Bool.decide_eq_true.symm

theorem truncf_at {s : Shape} {f f' : FTy} (x : FVec Ideal s f) (h : f'.bits < f.bits) (i : s.Idx) : (truncf f' x h i : EReal) = x i := rfl

/-- Pieces laid side by side along the last of three axes, read in one of them. -/
theorem cat3_at {α : Type} {A B N n : ℕ} (xs : List ((s : Shape) × (s.Idx → α)))
    (h : Shape.Concatenates (xs.map (·.1)) (⟨3, ![A, B, N]⟩ : Shape) 2) (a : Fin A) (b : Fin B) (l : Fin N)
    (k : ℕ) (hk : k < xs.length) (x₁ : (⟨3, ![A, B, n]⟩ : Shape).Idx → α) (hxk : xs[k] = ⟨⟨3, ![A, B, n]⟩, x₁⟩) (pre : ℕ)
    (hpre : (((xs.take k).map (·.1)).map fun s => if h : s.rank = 3 then s.size (Fin.cast h.symm (2 : Fin 3)) else 0).sum = pre)
    (l' : Fin n) (hl : pre + l'.val = l.val) :
    concatenate (⟨3, ![A, B, N]⟩ : Shape) 2 xs h (ix3 a b l) = x₁ (ix3 a b l') :=
  concatenate_apply_piece (t := ⟨3, ![A, B, N]⟩) 2 xs h (ix3 a b l) k hk ⟨3, ![A, B, n]⟩ x₁ hxk rfl pre hpre (ix3 a b l')
    (fun c => match c with
      | ⟨0, _⟩ => fun _ => rfl
      | ⟨1, _⟩ => fun _ => rfl
      | ⟨2, _⟩ => fun hc => absurd rfl hc) hl

section

variable (b : Fin 16) (n : Fin 2048) (R : Fin 32768) (hR : R.val = 2048 * b.val + n.val)

include hR

theorem qaOf_at (q : FVec Ideal S16x2048x8x64 .f32) (s : IVec S16x2x2048x32 32) (h : Fin 8) (l : Fin 128) (L : Fin 1024) (hL : L.val = 128 * h.val + l.val) :
    qaOf q s (ix2 R L) = qlane (fun l => q (ix4 b n h l)) (fun j => chosen (s (ix4 b (⟨h.val / 4, by omega⟩ : Fin 2) n j))) l := by
  unfold qaOf
  rw [truncf_at, shapeCast_apply _ _ (ix2 R L) (ix3 R h l) (by
    rewrite [Shape.rowMajor_val_three, Shape.rowMajor_val_two]; show (R.val * 8 + h.val) * 128 + l.val = R.val * 1024 + L.val; omega)]
  unfold qlane
  by_cases h0 : l.val < 64
  · rw [dif_pos h0, cat3_at _ _ R h l 0 (by simp) _ rfl 0 rfl (⟨l.val, h0⟩ : Fin 64) (by simp)]
    exact shapeCast_apply _ _ _ (ix4 b n h ⟨l.val, h0⟩) (by
      rewrite [Shape.rowMajor_val_four, Shape.rowMajor_val_three]
      show ((b.val * 2048 + n.val) * 8 + h.val) * 64 + l.val = (R.val * 8 + h.val) * 64 + l.val; omega)
  rw [dif_neg h0]
  by_cases h1 : l.val < 96
  · rw [dif_pos h1, cat3_at _ _ R h l 1 (by simp) _ rfl 64 rfl (⟨l.val - 64, by omega⟩ : Fin 32) (by show 64 + (l.val - 64) = _; omega),
      shapeCast_apply _ _ _ (ix5 b n (⟨h.val / 4, by omega⟩ : Fin 2) (⟨h.val % 4, by omega⟩ : Fin 4) (⟨l.val - 64, by omega⟩ : Fin 32)) (by
        rewrite [Shape.rowMajor_val_five, Shape.rowMajor_val_three]
        show (((b.val * 2048 + n.val) * 2 + h.val / 4) * 4 + h.val % 4) * 32 + (l.val - 64) = (R.val * 8 + h.val) * 32 + (l.val - 64); omega)]
    generalize hs : select _ _ _ = y
    rw [show ∀ z : FVec Ideal S16x2048x2x32 .f32, broadcastInDim S16x2048x2x4x32 ![0, 1, 2, 3, 4] bcast_S16x2048x2x1x32_S16x2048x2x4x32_0_1_2_3_4
        (broadcastInDim S16x2048x2x1x32 ![0, 1, 2, 4] bcast_S16x2048x2x32_S16x2048x2x1x32_0_1_2_4 z)
          (ix5 b n (⟨h.val / 4, by omega⟩ : Fin 2) (⟨h.val % 4, by omega⟩ : Fin 4) (⟨l.val - 64, by omega⟩ : Fin 32))
        = z (ix4 b n (⟨h.val / 4, by omega⟩ : Fin 2) (⟨l.val - 64, by omega⟩ : Fin 32)) from fun z => by pointwise [],
      transpose_apply [0, 2, 1, 3] y transposes_S16x2x2048x32_S16x2048x2x32_0_2_1_3
        (ix4 b n (⟨h.val / 4, by omega⟩ : Fin 2) (⟨l.val - 64, by omega⟩ : Fin 32)) (ix4 b (⟨h.val / 4, by omega⟩ : Fin 2) n (⟨l.val - 64, by omega⟩ : Fin 32)) (fun c => match c with
        | ⟨0, _⟩ => rfl
        | ⟨1, _⟩ => rfl
        | ⟨2, _⟩ => rfl
        | ⟨3, _⟩ => rfl), ← hs]
    pointwise []
    rw [sgt_chosen, pick_ofBool]
    exact hide_pick _ _ not_not.symm
  · rw [dif_neg h1, cat3_at _ _ R h l 2 (by simp) _ rfl 96 rfl (⟨l.val - 96, by omega⟩ : Fin 32) (by show 96 + (l.val - 96) = _; omega)]
    pointwise []

theorem gatesOf_at (g : FVec Ideal S16x2048x8x3 .f32) (v : Fin 2) (l : Fin 128) (L : Fin 256) (hL : L.val = 128 * v.val + l.val) :
    gatesOf g (ix2 R L) = if hl : l.val < 12 then sgm (g (ix4 b n (⟨4 * v.val + l.val / 3, by omega⟩ : Fin 8) (⟨l.val % 3, by omega⟩ : Fin 3))) else 0 := by
  unfold gatesOf
  rw [shapeCast_apply _ _ (ix2 R L) (ix3 R v l) (by
    rewrite [Shape.rowMajor_val_three, Shape.rowMajor_val_two]; show (R.val * 2 + v.val) * 128 + l.val = R.val * 256 + L.val; omega)]
  by_cases h0 : l.val < 12
  · rw [dif_pos h0, cat3_at _ _ R v l 0 (by simp) _ rfl 0 rfl (⟨l.val, h0⟩ : Fin 12) (by simp),
      shapeCast_apply _ _ _ (ix4 b n (⟨4 * v.val + l.val / 3, by omega⟩ : Fin 8) (⟨l.val % 3, by omega⟩ : Fin 3)) (by
        rewrite [Shape.rowMajor_val_four, Shape.rowMajor_val_three]
        show ((b.val * 2048 + n.val) * 8 + (4 * v.val + l.val / 3)) * 3 + l.val % 3 = (R.val * 2 + v.val) * 12 + l.val; omega)]
    rfl
  · rw [dif_neg h0, cat3_at _ _ R v l 1 (by simp) _ rfl 12 rfl (⟨l.val - 12, by omega⟩ : Fin 116) (by show 12 + (l.val - 12) = _; omega)]
    pointwise []

theorem ocOf_at (o : FVec Ideal S16x2048x8x64 .f32) (h : Fin 8) (l : Fin 64) (C : Fin 512) (hC : C.val = 64 * h.val + l.val) :
    ocOf o (ix2 R C) = o (ix4 b n h l) := by
  unfold ocOf
  exact shapeCast_apply o _ (ix2 R C) (ix4 b n h l) (by
    rewrite [Shape.rowMajor_val_four, Shape.rowMajor_val_two]
    show ((b.val * 2048 + n.val) * 8 + h.val) * 64 + l.val = R.val * 512 + C.val; omega)

theorem rowsOf_at (x : FVec Ideal S16x2x2048x64 .f32) (v : Fin 2) (l : Fin 64) : rowsOf x (ix3 R v l) = x (ix4 b v n l) := by
  unfold rowsOf
  rw [shapeCast_apply _ _ (ix3 R v l) (ix4 b n v l) (by
    rewrite [Shape.rowMajor_val_four, Shape.rowMajor_val_three]
    show ((b.val * 2048 + n.val) * 2 + v.val) * 64 + l.val = (R.val * 2 + v.val) * 64 + l.val; omega)]
  exact transpose_apply [0, 2, 1, 3] x _ _ (ix4 b v n l) (fun c => match c with
    | ⟨0, _⟩ => rfl
    | ⟨1, _⟩ => rfl
    | ⟨2, _⟩ => rfl
    | ⟨3, _⟩ => rfl)

theorem blksOf_at (v : Fin 2) (l : Fin 64) : blksOf (ix3 R v l) = if l.val = n.val / 64 then 1 else 0 := by
  unfold blksOf
  rw [shapeCast_apply _ _ (ix3 R v l) (ix4 b n v l) (by
    rewrite [Shape.rowMajor_val_four, Shape.rowMajor_val_three]
    show ((b.val * 2048 + n.val) * 2 + v.val) * 64 + l.val = (R.val * 2 + v.val) * 64 + l.val; omega), ← blkOf_at]
  generalize blkOf = y
  pointwise []

/-- One slab's lane: the key, what is beside it, the value, a one. -/
theorem slabsOf_at (k w : FVec Ideal S16x2x2048x64 .f32) (y : FVec Ideal S32768x2x64 .f32) (v : Fin 2) (l : Fin 64) (C : Fin 512) :
    (C.val = 256 * v.val + l.val → slabsOf k w y (ix2 R C) = k (ix4 b v n l)) ∧
    (C.val = 256 * v.val + 64 + l.val → slabsOf k w y (ix2 R C) = y (ix3 R v l)) ∧
    (C.val = 256 * v.val + 128 + l.val → slabsOf k w y (ix2 R C) = w (ix4 b v n l)) ∧
    (C.val = 256 * v.val + 192 + l.val → slabsOf k w y (ix2 R C) = 1) := by
  unfold slabsOf
  refine ⟨fun hC => ?_, fun hC => ?_, fun hC => ?_, fun hC => ?_⟩
  · rw [shapeCast_apply _ _ (ix2 R C) (ix3 R v (⟨l.val, by omega⟩ : Fin 256)) (by
      rewrite [Shape.rowMajor_val_three, Shape.rowMajor_val_two]; show (R.val * 2 + v.val) * 256 + l.val = R.val * 512 + C.val; omega),
      cat3_at _ _ R v _ 0 (by simp) _ rfl 0 rfl l (by simp)]
    exact rowsOf_at b n R hR k v l
  · rw [shapeCast_apply _ _ (ix2 R C) (ix3 R v (⟨64 + l.val, by omega⟩ : Fin 256)) (by
      rewrite [Shape.rowMajor_val_three, Shape.rowMajor_val_two]; show (R.val * 2 + v.val) * 256 + (64 + l.val) = R.val * 512 + C.val; omega),
      cat3_at _ _ R v _ 1 (by simp) _ rfl 64 rfl l rfl]
  · rw [shapeCast_apply _ _ (ix2 R C) (ix3 R v (⟨128 + l.val, by omega⟩ : Fin 256)) (by
      rewrite [Shape.rowMajor_val_three, Shape.rowMajor_val_two]; show (R.val * 2 + v.val) * 256 + (128 + l.val) = R.val * 512 + C.val; omega),
      cat3_at _ _ R v _ 2 (by simp) _ rfl 128 rfl l rfl]
    exact rowsOf_at b n R hR w v l
  · rw [shapeCast_apply _ _ (ix2 R C) (ix3 R v (⟨192 + l.val, by omega⟩ : Fin 256)) (by
      rewrite [Shape.rowMajor_val_three, Shape.rowMajor_val_two]; show (R.val * 2 + v.val) * 256 + (192 + l.val) = R.val * 512 + C.val; omega),
      cat3_at _ _ R v _ 3 (by simp) _ rfl 192 rfl l rfl]
    pointwise []

end

/-- A row of the keys and values: the selected branch's half, then the window's. -/
theorem kvOf_at (ks vs kw vw : FVec Ideal S16x2x2048x64 .f32) (R : Fin 32768) (C : Fin 512) :
    kvOf ks vs kw vw (ix2 R (⟨C.val, by omega⟩ : Fin 1024)) = slabsOf ks vs blksOf (ix2 R C) ∧
    kvOf ks vs kw vw (ix2 R (⟨512 + C.val, by omega⟩ : Fin 1024))
      = slabsOf kw vw (broadcastInDim S32768x2x64 ![] bcast_S_S32768x2x64 (constant S_ .f32 0x00000000#32)) (ix2 R C) := by
  unfold kvOf
  constructor
  · rw [truncf_at]
    exact concatenate_pair_apply_left (t := S32768x1024) (s₁ := S32768x512) (s₂ := S32768x512) 1 _ _ _ _ rfl (ix2 R C) (fun c => match c with
      | ⟨0, _⟩ => rfl
      | ⟨1, _⟩ => rfl)
  · rw [truncf_at]
    exact concatenate_pair_apply_right (t := S32768x1024) (s₁ := S32768x512) (s₂ := S32768x512) 1 _ _ _ _ rfl rfl (ix2 R C) (fun c => match c with
      | ⟨0, _⟩ => fun _ => rfl
      | ⟨1, _⟩ => fun hc => absurd rfl hc) (Nat.add_comm _ _)

theorem gxOf_at (l : Fin 256) (C : Fin 512) :
    gxOf (ix2 l (⟨C.val, by omega⟩ : Fin 1024)) = (if l.val = 128 * (C.val / 256) + 3 * (C.val / 64 % 4) + 1 then 1 else 0) ∧
    gxOf (ix2 l (⟨512 + C.val, by omega⟩ : Fin 1024)) = (if l.val = 128 * (C.val / 256) + 3 * (C.val / 64 % 4) + 2 then 1 else 0) := by
  unfold gxOf
  constructor
  · refine Eq.trans ?_ (hotOf_at 1 l C)
    exact concatenate_pair_apply_left (t := S256x1024) (s₁ := S256x512) (s₂ := S256x512) 1 _ _ _ _ rfl (ix2 l C) (fun c => match c with
      | ⟨0, _⟩ => rfl
      | ⟨1, _⟩ => rfl)
  · refine Eq.trans ?_ (hotOf_at 2 l C)
    exact concatenate_pair_apply_right (t := S256x1024) (s₁ := S256x512) (s₂ := S256x512) 1 _ _ _ _ rfl rfl (ix2 l C) (fun c => match c with
      | ⟨0, _⟩ => fun _ => rfl
      | ⟨1, _⟩ => fun hc => absurd rfl hc) (Nat.add_comm _ _)

end Cert.Attend

end
-- ==== Proof.KernelAt.lean ====
/- The attention call's array at an index: the layer's merged branches at that position, head and lane. -/
module

public import proofs.«01_k».proof.Proof.Reads

@[expose] public section

set_option maxRecDepth 16384

noncomputable section

namespace Cert.Attend

open Cert.KernelIdeal Cert.KernelIdeal.Gen
open Idealize.ShloMosaic Idealize.ShloMosaic.TcCoe
open Idealize.ShloMosaic.Pipeline (Dat Cfg Window)

/-- The eight slabs of a sequence, read at a key and a lane. -/
theorem slabs_at (ks vs kw vw : FVec Ideal S16x2x2048x64 .f32) (t : Fin 256) (b : Fin 16) (hb : b.val = t.val / 16) (v : Fin 2) (k : Fin 2048)
    (l : Fin 64) (s : Fin 8) (d : Fin 128) :
    (s.val = 2 * v.val → d.val = l.val → slabAt (kvOf ks vs kw vw) s t (ix2 k d) = ks (ix4 b v k l)) ∧
    (s.val = 2 * v.val → d.val = 64 + l.val → slabAt (kvOf ks vs kw vw) s t (ix2 k d) = if l.val = k.val / 64 then 1 else 0) ∧
    (s.val = 2 * v.val + 1 → d.val = l.val → slabAt (kvOf ks vs kw vw) s t (ix2 k d) = vs (ix4 b v k l)) ∧
    (s.val = 2 * v.val + 1 → d.val = 64 + l.val → slabAt (kvOf ks vs kw vw) s t (ix2 k d) = 1) ∧
    (s.val = 4 + 2 * v.val → d.val = l.val → slabAt (kvOf ks vs kw vw) s t (ix2 k d) = kw (ix4 b v k l)) ∧
    (s.val = 4 + 2 * v.val → d.val = 64 + l.val → slabAt (kvOf ks vs kw vw) s t (ix2 k d) = 0) ∧
    (s.val = 4 + 2 * v.val + 1 → d.val = l.val → slabAt (kvOf ks vs kw vw) s t (ix2 k d) = vw (ix4 b v k l)) ∧
    (s.val = 4 + 2 * v.val + 1 → d.val = 64 + l.val → slabAt (kvOf ks vs kw vw) s t (ix2 k d) = 1) := by
  have hlo : ∀ C : Fin 512, 128 * s.val + d.val = C.val → slabAt (kvOf ks vs kw vw) s t (ix2 k d)
      = slabsOf ks vs blksOf (ix2 (⟨2048 * (t.val / 16) + k.val, by omega⟩ : Fin 32768) C) := fun C hC => by
    rw [← (kvOf_at ks vs kw vw _ C).1]
    exact congrArg (kvOf ks vs kw vw) (congrArg (ix2 _) (Fin.ext hC))
  have hhi : ∀ C : Fin 512, 128 * s.val + d.val = 512 + C.val → slabAt (kvOf ks vs kw vw) s t (ix2 k d)
      = slabsOf kw vw (broadcastInDim S32768x2x64 ![] bcast_S_S32768x2x64 (constant S_ .f32 0x00000000#32))
        (ix2 (⟨2048 * (t.val / 16) + k.val, by omega⟩ : Fin 32768) C) := fun C hC => by
    rw [← (kvOf_at ks vs kw vw _ C).2]
    exact congrArg (kvOf ks vs kw vw) (congrArg (ix2 _) (Fin.ext hC))
  have hR : (⟨2048 * (t.val / 16) + k.val, by omega⟩ : Fin 32768).val = 2048 * b.val + k.val := by rw [hb]
  refine ⟨fun hs hd => ?_, fun hs hd => ?_, fun hs hd => ?_, fun hs hd => ?_, fun hs hd => ?_, fun hs hd => ?_, fun hs hd => ?_, fun hs hd => ?_⟩
  · rw [hlo ⟨256 * v.val + l.val, by omega⟩ (by show _ = 256 * v.val + l.val; omega)]
    exact (slabsOf_at b k _ hR ks vs blksOf v l _).1 rfl
  · rw [hlo ⟨256 * v.val + 64 + l.val, by omega⟩ (by show _ = 256 * v.val + 64 + l.val; omega)]
    exact ((slabsOf_at b k _ hR ks vs blksOf v l _).2.1 rfl).trans (blksOf_at b k _ hR v l)
  · rw [hlo ⟨256 * v.val + 128 + l.val, by omega⟩ (by show _ = 256 * v.val + 128 + l.val; omega)]
    exact (slabsOf_at b k _ hR ks vs blksOf v l _).2.2.1 rfl
  · rw [hlo ⟨256 * v.val + 192 + l.val, by omega⟩ (by show _ = 256 * v.val + 192 + l.val; omega)]
    exact (slabsOf_at b k _ hR ks vs blksOf v l _).2.2.2 rfl
  · rw [hhi ⟨256 * v.val + l.val, by omega⟩ (by show _ = 512 + (256 * v.val + l.val); omega)]
    exact (slabsOf_at b k _ hR kw vw _ v l _).1 rfl
  · rw [hhi ⟨256 * v.val + 64 + l.val, by omega⟩ (by show _ = 512 + (256 * v.val + 64 + l.val); omega)]
    refine ((slabsOf_at b k _ hR kw vw _ v l _).2.1 rfl).trans ?_
    pointwise []
  · rw [hhi ⟨256 * v.val + 128 + l.val, by omega⟩ (by show _ = 512 + (256 * v.val + 128 + l.val); omega)]
    exact (slabsOf_at b k _ hR kw vw _ v l _).2.2.1 rfl
  · rw [hhi ⟨256 * v.val + 192 + l.val, by omega⟩ (by show _ = 512 + (256 * v.val + 192 + l.val); omega)]
    exact (slabsOf_at b k _ hR kw vw _ v l _).2.2.2 rfl

/-- A head's gate of a branch, spread over its lanes. -/
theorem gate_at (g : FVec Ideal S16x2048x8x3 .f32) (t : Fin 256) (r : Fin 128) (b : Fin 16) (n : Fin 2048)
    (hR : 128 * t.val + r.val = 2048 * b.val + n.val) (h : Fin 8) (C : Fin 512) (hC : C.val / 64 = h.val) :
    gateAt (rowsAt (n := 256) (gatesOf g) t) gxOf r ⟨C.val, by omega⟩ = sgm (g (ix4 b n h (1 : Fin 3))) ∧
    gateAt (rowsAt (n := 256) (gatesOf g) t) gxOf r ⟨512 + C.val, by omega⟩ = sgm (g (ix4 b n h (2 : Fin 3))) := by
  have hrow : ∀ (v : Fin 2) (l : Fin 128) (L : Fin 256), L.val = 128 * v.val + l.val → rowsAt (n := 256) (gatesOf g) t (ix2 r L)
      = if hl : l.val < 12 then sgm (g (ix4 b n (⟨4 * v.val + l.val / 3, by omega⟩ : Fin 8) (⟨l.val % 3, by omega⟩ : Fin 3))) else 0 :=
    fun v l L hL => gatesOf_at b n ⟨128 * t.val + r.val, by omega⟩ hR g v l L hL
  have hreal : ∀ l : Fin 256, ∃ y : ℝ, rowsAt (n := 256) (gatesOf g) t (ix2 r l) = (y : EReal) := fun l => by
    rw [hrow ⟨l.val / 128, by omega⟩ ⟨l.val % 128, by omega⟩ l (by show _ = 128 * (l.val / 128) + l.val % 128; omega)]
    split
    · exact sgm_real _
    · exact ⟨0, rfl⟩
  constructor
  · rw [gateAt_hot _ _ r _ (⟨128 * (C.val / 256) + 3 * (C.val / 64 % 4) + 1, by omega⟩ : Fin 256) hreal (fun l => by
      rw [(gxOf_at l C).1]; exact if_congr (by rw [Fin.ext_iff]) rfl rfl),
      hrow ⟨C.val / 256, by omega⟩ ⟨3 * (C.val / 64 % 4) + 1, by omega⟩ _ (Nat.add_assoc _ _ _), dif_pos (by show 3 * (C.val / 64 % 4) + 1 < 12; omega)]
    refine congrArg (fun i => sgm (g i)) (congrArg₂ (ix4 b n) (Fin.ext ?_) (Fin.ext ?_))
    · show 4 * (C.val / 256) + (3 * (C.val / 64 % 4) + 1) / 3 = h.val; omega
    · show (3 * (C.val / 64 % 4) + 1) % 3 = 1; omega
  · rw [gateAt_hot _ _ r _ (⟨128 * (C.val / 256) + 3 * (C.val / 64 % 4) + 2, by omega⟩ : Fin 256) hreal (fun l => by
      rw [(gxOf_at l C).2]; exact if_congr (by rw [Fin.ext_iff]) rfl rfl),
      hrow ⟨C.val / 256, by omega⟩ ⟨3 * (C.val / 64 % 4) + 2, by omega⟩ _ (Nat.add_assoc _ _ _), dif_pos (by show 3 * (C.val / 64 % 4) + 2 < 12; omega)]
    refine congrArg (fun i => sgm (g i)) (congrArg₂ (ix4 b n) (Fin.ext ?_) (Fin.ext ?_))
    · show 4 * (C.val / 256) + (3 * (C.val / 64 % 4) + 2) / 3 = h.val; omega
    · show (3 * (C.val / 64 % 4) + 2) % 3 = 2; omega

/-- The layer's attention at position `n` of sequence `b`, head `h`, lane `l`. -/
def attendAt (q : FVec Ideal S16x2048x8x64 .f32) (s : IVec S16x2x2048x32 32) (g : FVec Ideal S16x2048x8x3 .f32) (o : FVec Ideal S16x2048x8x64 .f32)
    (ks vs kw vw : FVec Ideal S16x2x2048x64 .f32) (b : Fin 16) (n : Fin 2048) (h : Fin 8) (l : Fin 64) : EReal :=
  merged n.val (fun l => q (ix4 b n h l)) (fun j => chosen (s (ix4 b (⟨h.val / 4, by omega⟩ : Fin 2) n j))) (o (ix4 b n h l))
    (sgm (g (ix4 b n h (1 : Fin 3)))) (sgm (g (ix4 b n h (2 : Fin 3)))) (fun k l => ks (ix4 b (⟨h.val / 4, by omega⟩ : Fin 2) k l))
    (fun k l => kw (ix4 b (⟨h.val / 4, by omega⟩ : Fin 2) k l)) (fun k => vs (ix4 b (⟨h.val / 4, by omega⟩ : Fin 2) k l))
    (fun k => vw (ix4 b (⟨h.val / 4, by omega⟩ : Fin 2) k l))

theorem fin_at (q : FVec Ideal S16x2048x8x64 .f32) (s : IVec S16x2x2048x32 32) (g : FVec Ideal S16x2048x8x3 .f32) (o : FVec Ideal S16x2048x8x64 .f32)
    (ks vs kw vw : FVec Ideal S16x2x2048x64 .f32) (b : Fin 16) (n : Fin 2048) (h : Fin 8) (l : Fin 64) (t : Fin 256) (r : Fin 128)
    (hR : 128 * t.val + r.val = 2048 * b.val + n.val) (C : Fin 512) (hC : C.val = 64 * h.val + l.val) :
    fin (qaOf q s) (gatesOf g) (ocOf o) (kvOf ks vs kw vw) gxOf t r C = attendAt q s g o ks vs kw vw b n h l := by
  have hq : (fun x : Fin 128 => rowsAt (n := 1024) (qaOf q s) t (ix2 r (⟨128 * (C.val / 64) + x.val, by omega⟩ : Fin 1024)) * if x.val < 64 then qscale else ⊥)
      = fun x => qlane (fun l => q (ix4 b n h l)) (fun j => chosen (s (ix4 b (⟨h.val / 4, by omega⟩ : Fin 2) n j))) x * if x.val < 64 then qscale else ⊥ :=
    funext fun x => congrArg (· * _) (qaOf_at b n ⟨128 * t.val + r.val, by omega⟩ hR q s h x _ (by show 128 * (C.val / 64) + x.val = _; omega))
  have ho : rowsAt (n := 512) (ocOf o) t (ix2 r C) = o (ix4 b n h l) := ocOf_at b n ⟨128 * t.val + r.val, by omega⟩ hR o h l C hC
  have hb : b.val = t.val / 16 := by omega
  have hn : n.val = 128 * (t.val % 16) + r.val := by omega
  have hg := gate_at g t r b n hR h C (by omega)
  unfold fin blkAt attendAt
  rw [hq, ho, hg.1, hg.2, hn]
  have pick : ∀ s₀ s₁ : Fin 8, (if C.val < 256 then slabAt (kvOf ks vs kw vw) s₀ t else slabAt (kvOf ks vs kw vw) s₁ t)
      = slabAt (kvOf ks vs kw vw) (if C.val < 256 then s₀ else s₁) t := fun s₀ s₁ =>
    (apply_ite (fun s => slabAt (kvOf ks vs kw vw) s t) _ _ _).symm
  rw [pick, pick, pick, pick]
  have key := fun (k : Fin 2048) (l : Fin 64) (s : Fin 8) (d : Fin 128) => slabs_at ks vs kw vw t b hb (⟨h.val / 4, by omega⟩ : Fin 2) k l s d
  refine headval_merged (t.val % 16) r.val _ _ _ _ _ _ _ _ _ _ _ _ _ _ _ (fun k x => (key k x _ _).1 ?_ rfl) (fun k x => (key k x _ _).2.1 ?_ rfl)
    (fun k x => (key k x _ _).2.2.2.2.1 ?_ rfl) (fun k x => (key k x _ _).2.2.2.2.2.1 ?_ rfl) (fun k => (key k l _ _).2.2.1 ?_ ?_)
    (fun k => (key k l _ _).2.2.2.1 ?_ ?_) (fun k => (key k l _ _).2.2.2.2.2.2.1 ?_ ?_) (fun k => (key k l _ _).2.2.2.2.2.2.2 ?_ ?_)
  all_goals first
    | (show C.val % 64 = l.val; omega)
    | (show 64 + C.val % 64 = 64 + l.val; omega)
    | (split <;> simp <;> omega)

variable (m : (ℓ : Loc nD τ sig) → Buf (Elt Ideal) ℓ)

/-- What the call leaves, at every row and column. -/
theorem kernel_at (c : Dev nD) (b : Fin 16) (n : Fin 2048) (h : Fin 8) (l : Fin 64) (R : Fin 32768) (C : Fin 512)
    (hR : R.val = 2048 * b.val + n.val) (hC : C.val = 64 * h.val + l.val) :
    ((dats m 0 c).arrAt 14 cfg0.N : S32768x512.Idx → EReal) (ix2 R C)
      = attendAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b n h l := by
  rw [final m c (fun a s k => by rw [V_tri]; exact triOf_at a s k) (fun s k => by rw [V_edge]; exact edgeOf_at s k)
    (⟨R.val / 128, by omega⟩ : Fin 256) (⟨R.val % 128, by omega⟩ : Fin 128) R C (by show _ = 128 * (R.val / 128) + R.val % 128; omega),
    V_qa, V_gates, V_oc, V_kv, V_gx]
  exact fin_at _ _ _ _ _ _ _ _ b n h l _ _ (by show 128 * (R.val / 128) + R.val % 128 = _; omega) C hC

end Cert.Attend

end
-- ==== Proof.RefAt.lean ====
/- The reference's array at an index: the layer's merged branches at that position, head and lane. -/
module

public import proofs.«01_k».proof.Proof.KernelAt
public import proofs.«01_k».proof.Proof.Gen.ReferenceIdeal.Read

@[expose] public section

set_option maxRecDepth 16384

noncomputable section

namespace Cert.Attend.Ref

open Cert.ReferenceIdeal Cert.ReferenceIdeal.Gen Cert.ReferenceIdeal.Read
open Idealize.ShloMosaic Idealize.ShloMosaic.TcCoe

theorem at5 {a b c d e : ℕ} (f : (⟨5, ![a, b, c, d, e]⟩ : Shape).Idx) (i : Fin a) (j : Fin b) (k : Fin c) (l : Fin d) (n : Fin e)
    (h0 : (f 0).val = i.val) (h1 : (f 1).val = j.val) (h2 : (f 2).val = k.val) (h3 : (f 3).val = l.val) (h4 : (f 4).val = n.val) :
    f = ix5 i j k l n :=
  (eq_ix5 f).trans ((ix5_inj _ _ _ _ _ _ _ _ _ _).2 ⟨Fin.ext h0, Fin.ext h1, Fin.ext h2, Fin.ext h3, Fin.ext h4⟩)

theorem at4 {a b c d : ℕ} (f : (⟨4, ![a, b, c, d]⟩ : Shape).Idx) (i : Fin a) (j : Fin b) (k : Fin c) (l : Fin d)
    (h0 : (f 0).val = i.val) (h1 : (f 1).val = j.val) (h2 : (f 2).val = k.val) (h3 : (f 3).val = l.val) : f = ix4 i j k l :=
  (eq_ix4 f).trans ((ix4_inj _ _ _ _ _ _ _ _).2 ⟨Fin.ext h0, Fin.ext h1, Fin.ext h2, Fin.ext h3⟩)

theorem at2 {a b : ℕ} (f : (⟨2, ![a, b]⟩ : Shape).Idx) (i : Fin a) (j : Fin b) (h0 : (f 0).val = i.val) (h1 : (f 1).val = j.val) : f = ix2 i j :=
  (eq_ix2 f).trans ((ix2_inj _ _ _ _).2 ⟨Fin.ext h0, Fin.ext h1⟩)

/-- The largest entry along the last axis. -/
theorem max_row (x : FVec Ideal S16x2x4x2048x2048 .f32) (z : FVec Ideal S_ .f32) (hz : ∀ i, z i = (⊥ : EReal)) (b : Fin 16) (v : Fin 2) (u : Fin 4) (n : Fin 2048) :
    Host.reduce FloatOps.maximumf x z reducesTo_S16x2x4x2048x2048_S16x2x4x2048_d4 h_S_ (ix4 b v u n)
      = Finset.univ.fold max (⊥ : EReal) (fun k : Fin 2048 => x (ix5 b v u n k)) := by
  rw [Host.reduce_eq_fold_single (f := (FloatOps.maximumf : Ideal .f32 → Ideal .f32 → Ideal .f32)) x z reducesTo_S16x2x4x2048x2048_S16x2x4x2048_d4 (by decide) h_S_, hz]
  exact congrArg (Finset.univ.fold max (⊥ : EReal)) (funext fun k => congrArg x (at5 _ b v u n k rfl rfl rfl rfl rfl))

theorem neg_inf : Ideal.ofBits .f32 0xFF800000#32 = ⊥ := by simp [Ideal.ofBits, Ideal.ieee]

theorem and_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The selected branch's mask. -/
def keepS (x1 : IVec S16x2x2048x32 32) (b : Fin 16) (n : Fin 2048) (v : Fin 2) (k : Fin 2048) : Prop := chosen (x1 (ix4 b v n (⟨k.val / 64, by omega⟩ : Fin 32))) ∧ k.val ≤ n.val

instance (x1 : IVec S16x2x2048x32 32) (b : Fin 16) (n : Fin 2048) (v : Fin 2) : DecidablePred (keepS x1 b n v) := fun k => inferInstanceAs (Decidable (chosen (x1 (ix4 b v n (⟨k.val / 64, by omega⟩ : Fin 32))) ∧ k.val ≤ n.val))

/-- The window's mask. -/
def keepW (n k : Fin 2048) : Prop := k.val ≤ n.val ∧ n.val < k.val + 512

instance (n : Fin 2048) : DecidablePred (keepW n) := fun k => inferInstanceAs (Decidable (k.val ≤ n.val ∧ n.val < k.val + 512))

variable (x0 : FVec Ideal S16x2048x8x64 .f32) (x1 : IVec S16x2x2048x32 32) (x2 : FVec Ideal S16x2048x8x3 .f32) (x3 : FVec Ideal S16x2048x8x64 .f32)
  (x4 x5 x6 x7 : FVec Ideal S16x2x2048x64 .f32) (b : Fin 16) (n : Fin 2048) (h : Fin 8) (v : Fin 2) (u : Fin 4) (hh : h.val = 4 * v.val + u.val)

theorem causal (k : Fin 2048) : val_main_v26 (F := Ideal) (ix2 n k) = BitVec.ofBool (decide (k.val ≤ n.val)) := by
  rw [val_main_v26_apply, val_main_v24_apply, val_main_v25_apply, val_main_v15_apply, val_main_v13_apply, val_main_v14_apply, val_main_v12_apply]
  exact WordCmp.cmpi_sle_ofNat (w := 32) (a := k.val) (b := n.val) (by omega) (by omega)

theorem causal' (k : Fin 2048) : val_main_v50 (F := Ideal) (ix2 n k) = BitVec.ofBool (decide (k.val ≤ n.val)) := by
  rw [val_main_v50_apply, val_main_v48_apply, val_main_v49_apply, val_main_v15_apply, val_main_v13_apply, val_main_v14_apply, val_main_v12_apply]
  exact WordCmp.cmpi_sle_ofNat (w := 32) (a := k.val) (b := n.val) (by omega) (by omega)

theorem recent (k : Fin 2048) : val_main_v55 (F := Ideal) (ix2 n k) = BitVec.ofBool (decide (n.val < k.val + 512)) := by
  rw [val_main_v55_apply, val_main_v53_apply, val_main_v54_apply, val_main_v52_apply, val_main_v51_apply, val_main_c_8_apply, val_main_v15_apply, val_main_v13_apply,
    val_main_v14_apply, val_main_v12_apply]
  show IntOp.cmpi .sgt (BitVec.ofNat 32 k.val) (BitVec.ofNat 32 n.val - 512#32) = _
  rw [WordCmp.cmpi_sgt_eq]
  refine congrArg BitVec.ofBool (decide_eq_decide.2 ?_)
  have h1 : (BitVec.ofNat 32 k.val).toInt = k.val := WordCmp.toInt_ofNat_of_lt (w := 32) (by omega)
  have h2 : (BitVec.ofNat 32 n.val).toInt = n.val := WordCmp.toInt_ofNat_of_lt (w := 32) (by omega)
  have h3 : (512#32).toInt = 512 := by decide
  rw [BitVec.toInt_sub, h1, h2, h3, Int.bmod_def]
  omega

theorem mask_sel (k : Fin 2048) : val_main_v29 (F := Ideal) x1 (ix4 b v n k) = BitVec.ofBool (decide (keepS x1 b n v k)) := by
  rw [val_main_v29_apply, val_main_v28_apply, val_main_v27_apply, val_main_v20_apply, val_main_v19_apply, val_main_v18_apply, val_main_v17_apply, val_main_c_apply,
    val_main_v16_apply, sgt_chosen,
    show idx_main_v27 (idx_main_v28 (ix4 b v n k)) = ix2 n k from at2 _ _ _ rfl rfl, causal,
    show idx_main_v16 (idx_main_v19 (idx_main_v20 (ix4 b v n k))) = ix4 b v n (⟨k.val / 64, by omega⟩ : Fin 32) from at4 _ _ _ _ _
      (by show (((b.val * 2 + v.val) * 2048 + n.val) * 2048 + k.val) / 8388608 = b.val; omega)
      (by show (((b.val * 2 + v.val) * 2048 + n.val) * 2048 + k.val) / 4194304 % 2 = v.val; omega)
      (by show (((b.val * 2 + v.val) * 2048 + n.val) * 2048 + k.val) / 2048 % 2048 = n.val; omega)
      (by show (((b.val * 2 + v.val) * 2048 + n.val) * 2048 + k.val) / 64 % 32 = k.val / 64; omega)]
  exact and_ofBool _ _

theorem mask_win (k : Fin 2048) : val_main_v56 (F := Ideal) (ix2 n k) = BitVec.ofBool (decide (keepW n k)) := by
  rw [val_main_v56_apply, causal', recent]
  exact and_ofBool _ _

include hh

theorem query (l : Fin 64) : val_main_v1 (F := Ideal) x0 (ix5 b v u n l) = x0 (ix4 b n h l) := by
  rw [val_main_v1_apply, val_main_v0_apply]
  exact congrArg x0 (at4 _ _ _ _ _
    (by show ((((b.val * 2048 + n.val) * 2 + v.val) * 4 + u.val) * 64 + l.val) / 1048576 = b.val; omega)
    (by show ((((b.val * 2048 + n.val) * 2 + v.val) * 4 + u.val) * 64 + l.val) / 512 % 2048 = n.val; omega)
    (by show ((((b.val * 2048 + n.val) * 2 + v.val) * 4 + u.val) * 64 + l.val) / 64 % 8 = h.val; omega)
    (by show ((((b.val * 2048 + n.val) * 2 + v.val) * 4 + u.val) * 64 + l.val) % 64 = l.val; omega))

theorem first (l : Fin 64) : val_main_v11 (F := Ideal) x3 (ix5 b v u n l) = x3 (ix4 b n h l) := by
  rw [val_main_v11_apply, val_main_v10_apply]
  exact congrArg x3 (at4 _ _ _ _ _
    (by show ((((b.val * 2048 + n.val) * 2 + v.val) * 4 + u.val) * 64 + l.val) / 1048576 = b.val; omega)
    (by show ((((b.val * 2048 + n.val) * 2 + v.val) * 4 + u.val) * 64 + l.val) / 512 % 2048 = n.val; omega)
    (by show ((((b.val * 2048 + n.val) * 2 + v.val) * 4 + u.val) * 64 + l.val) / 64 % 8 = h.val; omega)
    (by show ((((b.val * 2048 + n.val) * 2 + v.val) * 4 + u.val) * 64 + l.val) % 64 = l.val; omega))

theorem gate (s : Fin 3) : val_main_v9 (F := Ideal) x2 (ix5 b v u n s) = sgm (x2 (ix4 b n h s)) := by
  rw [val_main_v9_apply, val_main_v8_apply,
    show idx_main_v8 (idx_main_v9 (ix5 b v u n s)) = ix4 b n h s from at4 _ _ _ _ _
      (by show ((((b.val * 2048 + n.val) * 2 + v.val) * 4 + u.val) * 3 + s.val) / 49152 = b.val; omega)
      (by show ((((b.val * 2048 + n.val) * 2 + v.val) * 4 + u.val) * 3 + s.val) / 24 % 2048 = n.val; omega)
      (by show ((((b.val * 2048 + n.val) * 2 + v.val) * 4 + u.val) * 3 + s.val) / 3 % 8 = h.val; omega)
      (by show ((((b.val * 2048 + n.val) * 2 + v.val) * 4 + u.val) * 3 + s.val) % 3 = s.val; omega),
    val_main_v7_apply, val_main_v6_apply, val_main_v5_apply, val_main_v4_apply, val_main_v3_apply, val_main_v2_apply, val_main_cst_0_apply, val_main_cst_apply]
  rfl

theorem score_sel (k : Fin 2048) : val_main_v23 (F := Ideal) x0 x4 (ix5 b v u n k) = score (fun l => x0 (ix4 b n h l)) (fun k l => x4 (ix4 b v k l)) k := by
  rw [val_main_v23_apply, val_main_v22_apply, val_main_cst_1_apply, val_main_v21_apply]
  refine congrArg (fun z : EReal => z * eighth) (Finset.sum_congr rfl fun l _ => ?_)
  rw [show lidx_main_v21 (ix5 b v u n k) l = ix5 b v u n l from at5 _ _ _ _ _ _ rfl rfl rfl rfl rfl,
    show ridx_main_v21 (ix5 b v u n k) l = ix4 b v k l from at4 _ _ _ _ _ rfl rfl rfl rfl, query x0 b n h v u hh]

theorem veil_sel (k : Fin 2048) : val_main_v31 (F := Ideal) x0 x1 x4 (ix5 b v u n k)
    = veil (keepS x1 b n v) (score (fun l => x0 (ix4 b n h l)) (fun k l => x4 (ix4 b v k l))) k := by
  rw [val_main_v31_apply, val_main_call0_v1_apply, val_main_call0_v2_apply, val_main_call0_v0_apply, val_main_cst_2_apply, score_sel x0 x4 b n h v u hh,
    val_main_v30_apply,
    show idx_main_v30 (idx_main_call0_v1 (ix5 b v u n k)) = ix4 b v n k from at4 _ _ _ _ _ rfl rfl rfl rfl, mask_sel, pick_ofBool, Ideal.ofBits_def, neg_inf]
  rfl

theorem top_sel : val_main_v32 (F := Ideal) x0 x1 x4 (ix4 b v u n)
    = Finset.univ.fold max ⊥ (veil (keepS x1 b n v) (score (fun l => x0 (ix4 b n h l)) (fun k l => x4 (ix4 b v k l)))) := by
  unfold val_main_v32
  rw [max_row _ _ (fun i => by rw [val_main_cst_3_apply, Ideal.ofBits_def, neg_inf])]
  exact congrArg (Finset.univ.fold max ⊥) (funext fun k => veil_sel x0 x1 x4 b n h v u hh k)

theorem wt_sel (k : Fin 2048) : val_main_v37 (F := Ideal) x0 x1 x4 (ix5 b v u n k)
    = wt (keepS x1 b n v) (score (fun l => x0 (ix4 b n h l)) (fun k l => x4 (ix4 b v k l))) k := by
  rw [val_main_v37_apply, val_main_call1_v1_apply, val_main_call1_v2_apply, val_main_call1_v0_apply, val_main_cst_4_apply, val_main_v36_apply, val_main_v35_apply,
    val_main_v34_apply, val_main_v33_apply, veil_sel x0 x1 x4 b n h v u hh,
    show idx_main_v33 (idx_main_v34 (ix5 b v u n k)) = ix4 b v u n from at4 _ _ _ _ _ rfl rfl rfl rfl, top_sel x0 x1 x4 b n h v u hh,
    val_main_v30_apply,
    show idx_main_v30 (idx_main_call1_v1 (ix5 b v u n k)) = ix4 b v n k from at4 _ _ _ _ _ rfl rfl rfl rfl, mask_sel, pick_ofBool, Ideal.ofBits_def, Ideal.ofBits_zero]
  rfl

theorem sum_sel : val_main_v38 (F := Ideal) x0 x1 x4 (ix4 b v u n)
    = ∑ k, wt (keepS x1 b n v) (score (fun l => x0 (ix4 b n h l)) (fun k l => x4 (ix4 b v k l))) k := by
  rw [val_main_v38_apply, val_main_cst_5_apply, Ideal.ofBits_def, Ideal.ofBits_zero, zero_add]
  refine Finset.sum_congr rfl fun k _ => ?_
  rw [show idx_main_v38 (ix4 b v u n) k = ix5 b v u n k from at5 _ _ _ _ _ _ rfl rfl rfl rfl rfl, wt_sel x0 x1 x4 b n h v u hh]

theorem branch_sel (l : Fin 64) : val_main_v44 (F := Ideal) x0 x1 x4 x5 (ix5 b v u n l)
    = soft (keepS x1 b n v) (score (fun l => x0 (ix4 b n h l)) (fun k l => x4 (ix4 b v k l))) (fun k => x5 (ix4 b v k l)) := by
  rw [val_main_v44_apply]
  refine Finset.sum_congr rfl fun k _ => ?_
  rw [show lidx_main_v44 (ix5 b v u n l) k = ix5 b v u n k from at5 _ _ _ _ _ _ rfl rfl rfl rfl rfl,
    show ridx_main_v44 (ix5 b v u n l) k = ix4 b v k l from at4 _ _ _ _ _ rfl rfl rfl rfl,
    val_main_v43_apply, wt_sel x0 x1 x4 b n h v u hh, val_main_v42_apply, val_main_v41_apply, val_main_v40_apply, val_main_cst_6_apply, val_main_v39_apply,
    show idx_main_v39 (idx_main_v42 (ix5 b v u n k)) = ix4 b v u n from at4 _ _ _ _ _ rfl rfl rfl rfl, sum_sel x0 x1 x4 b n h v u hh]
  rfl

theorem score_win (k : Fin 2048) : val_main_v47 (F := Ideal) x0 x6 (ix5 b v u n k) = score (fun l => x0 (ix4 b n h l)) (fun k l => x6 (ix4 b v k l)) k := by
  rw [val_main_v47_apply, val_main_v46_apply, val_main_cst_7_apply, val_main_v45_apply]
  refine congrArg (fun z : EReal => z * eighth) (Finset.sum_congr rfl fun l _ => ?_)
  rw [show lidx_main_v45 (ix5 b v u n k) l = ix5 b v u n l from at5 _ _ _ _ _ _ rfl rfl rfl rfl rfl,
    show ridx_main_v45 (ix5 b v u n k) l = ix4 b v k l from at4 _ _ _ _ _ rfl rfl rfl rfl, query x0 b n h v u hh]

theorem veil_win (k : Fin 2048) : val_main_v57 (F := Ideal) x0 x6 (ix5 b v u n k)
    = veil (keepW n) (score (fun l => x0 (ix4 b n h l)) (fun k l => x6 (ix4 b v k l))) k := by
  rw [val_main_v57_apply, val_main_call2_v1_apply, val_main_call2_v2_apply, val_main_call2_v0_apply, val_main_cst_9_apply, score_win x0 x6 b n h v u hh,
    show idx_main_call2_v1 (ix5 b v u n k) = ix2 n k from at2 _ _ _ rfl rfl, mask_win, pick_ofBool, Ideal.ofBits_def, neg_inf]
  rfl

theorem top_win : val_main_v58 (F := Ideal) x0 x6 (ix4 b v u n)
    = Finset.univ.fold max ⊥ (veil (keepW n) (score (fun l => x0 (ix4 b n h l)) (fun k l => x6 (ix4 b v k l)))) := by
  unfold val_main_v58
  rw [max_row _ _ (fun i => by rw [val_main_cst_10_apply, Ideal.ofBits_def, neg_inf])]
  exact congrArg (Finset.univ.fold max ⊥) (funext fun k => veil_win x0 x6 b n h v u hh k)

theorem wt_win (k : Fin 2048) : val_main_v63 (F := Ideal) x0 x6 (ix5 b v u n k)
    = wt (keepW n) (score (fun l => x0 (ix4 b n h l)) (fun k l => x6 (ix4 b v k l))) k := by
  rw [val_main_v63_apply, val_main_call3_v1_apply, val_main_call3_v2_apply, val_main_call3_v0_apply, val_main_cst_11_apply, val_main_v62_apply, val_main_v61_apply,
    val_main_v60_apply, val_main_v59_apply, veil_win x0 x6 b n h v u hh,
    show idx_main_v59 (idx_main_v60 (ix5 b v u n k)) = ix4 b v u n from at4 _ _ _ _ _ rfl rfl rfl rfl, top_win x0 x6 b n h v u hh,
    show idx_main_call3_v1 (ix5 b v u n k) = ix2 n k from at2 _ _ _ rfl rfl, mask_win, pick_ofBool, Ideal.ofBits_def, Ideal.ofBits_zero]
  rfl

theorem sum_win : val_main_v64 (F := Ideal) x0 x6 (ix4 b v u n)
    = ∑ k, wt (keepW n) (score (fun l => x0 (ix4 b n h l)) (fun k l => x6 (ix4 b v k l))) k := by
  rw [val_main_v64_apply, val_main_cst_12_apply, Ideal.ofBits_def, Ideal.ofBits_zero, zero_add]
  refine Finset.sum_congr rfl fun k _ => ?_
  rw [show idx_main_v64 (ix4 b v u n) k = ix5 b v u n k from at5 _ _ _ _ _ _ rfl rfl rfl rfl rfl, wt_win x0 x6 b n h v u hh]

theorem branch_win (l : Fin 64) : val_main_v70 (F := Ideal) x0 x6 x7 (ix5 b v u n l)
    = soft (keepW n) (score (fun l => x0 (ix4 b n h l)) (fun k l => x6 (ix4 b v k l))) (fun k => x7 (ix4 b v k l)) := by
  rw [val_main_v70_apply]
  refine Finset.sum_congr rfl fun k _ => ?_
  rw [show lidx_main_v70 (ix5 b v u n l) k = ix5 b v u n k from at5 _ _ _ _ _ _ rfl rfl rfl rfl rfl,
    show ridx_main_v70 (ix5 b v u n l) k = ix4 b v k l from at4 _ _ _ _ _ rfl rfl rfl rfl,
    val_main_v69_apply, wt_win x0 x6 b n h v u hh, val_main_v68_apply, val_main_v67_apply, val_main_v66_apply, val_main_cst_13_apply, val_main_v65_apply,
    show idx_main_v65 (idx_main_v68 (ix5 b v u n k)) = ix4 b v u n from at4 _ _ _ _ _ rfl rfl rfl rfl, sum_win x0 x6 b n h v u hh]
  rfl

theorem merged_at (l : Fin 64) (hv : v.val = h.val / 4) : val_main_v78 (F := Ideal) x0 x1 x2 x3 x4 x5 x6 x7 (ix5 b v u n l) = attendAt x0 x1 x2 x3 x4 x5 x6 x7 b n h l := by
  obtain rfl : v = (⟨h.val / 4, Nat.div_lt_of_lt_mul (m := h.val) (k := 2) (n := 4) h.isLt⟩ : Fin 2) := Fin.ext hv
  rw [val_main_v78_apply, val_main_v77_apply, val_main_v76_apply, val_main_v75_apply, val_main_v74_apply, val_main_v73_apply, val_main_v72_apply, val_main_v71_apply,
    first x3 b n h _ u hh, branch_sel x0 x1 x4 x5 b n h _ u hh, branch_win x0 x6 x7 b n h _ u hh,
    show idx_main_v71 (idx_main_v72 (ix5 b (⟨h.val / 4, by omega⟩ : Fin 2) u n l)) = ix5 b (⟨h.val / 4, by omega⟩ : Fin 2) u n (1 : Fin 3) from at5 _ _ _ _ _ _ rfl rfl rfl rfl rfl,
    show idx_main_v75 (idx_main_v76 (ix5 b (⟨h.val / 4, by omega⟩ : Fin 2) u n l)) = ix5 b (⟨h.val / 4, by omega⟩ : Fin 2) u n (2 : Fin 3) from at5 _ _ _ _ _ _ rfl rfl rfl rfl rfl,
    gate x2 b n h _ u hh, gate x2 b n h _ u hh]
  rfl

omit hh in
theorem reference_at (l : Fin 64) (R : Fin 32768) (C : Fin 512) (hR : R.val = 2048 * b.val + n.val) (hC : C.val = 64 * h.val + l.val) :
    val_main_v81 (F := Ideal) x0 x1 x2 x3 x4 x5 x6 x7 (ix2 R C) = attendAt x0 x1 x2 x3 x4 x5 x6 x7 b n h l := by
  rw [val_main_v81_apply, val_main_v80_apply, val_main_v79_apply,
    show idx_main_v79 (idx_main_v80 (ix2 R C)) = ix5 b (⟨h.val / 4, by omega⟩ : Fin 2) (⟨h.val % 4, by omega⟩ : Fin 4) n l from at5 _ _ _ _ _ _
      (by show (R.val * 512 + C.val) / 1048576 = b.val; omega)
      (by show (R.val * 512 + C.val) / 256 % 2 = h.val / 4; omega)
      (by show (R.val * 512 + C.val) / 64 % 4 = h.val % 4; omega)
      (by show (R.val * 512 + C.val) / 512 % 2048 = n.val; omega)
      (by show (R.val * 512 + C.val) % 64 = l.val; omega),
    merged_at x0 x1 x2 x3 x4 x5 x6 x7 b n h _ _ (by show _ = 4 * (h.val / 4) + h.val % 4; omega) l rfl]
  rfl

end Cert.Attend.Ref

end
-- ==== Proof.Mix.lean ====
/- The last call's vector operations read at an index. -/
module

public import proofs.«01_k».proof.Proof.Head
public import proofs.«01_k».proof.Proof.Block

@[expose] public section

set_option maxRecDepth 16384

noncomputable section

namespace Cert.Mix

open Idealize.ShloMosaic
open Cert.Attend (Sh ix2_of zero_at bits_lt ld2_of cast2 sgm)

/-- One row's root-mean-square norm: `n` the row's length, `g` the weights. -/
def rmsAt {N : ℕ} (n : BitVec 32) (x g : Fin N → EReal) (c : Fin N) : EReal :=
  x c * Ideal.rsqrt (Ideal.div (∑ k, x k * x k) (Ideal.ofBits .f32 n) + Ideal.ofBits .f32 0x358637BD#32) * g c

theorem bcast_row {N : ℕ} (hb : (Sh 1 N).Broadcasts (Sh 512 N)) (y : FVec Ideal (Sh 1 N) .f32) (r : Fin 512) (c : Fin N) :
    broadcastTo (Sh 512 N) y hb (ix2 r c) = y (ix2 (0 : Fin 1) c) := by
  pointwise []
  refine congrArg y (ix2_of _ _ _ ?_ ?_)
  · rfl
  · by_cases hN : N = 1
    · subst hN
      have hc : c = 0 := Subsingleton.elim _ _
      subst hc
      rfl
    · simp [Shape.Idx.norm, hN]

theorem row_of {M N : ℕ} (o : ℕ) (ho : o < M) (w : FVec Ideal (Sh M N) .f32) (h : (Sh M N).Slices ![o, 0] (Sh 1 N)) (c : Fin N) :
    extractStridedSlice (Sh 1 N) ![o, 0] w h (ix2 (0 : Fin 1) c) = w (ix2 (⟨o, ho⟩ : Fin M) c) := by
  refine congrArg w (ix2_of _ _ _ ?_ ?_)
  · rfl
  · exact Nat.zero_add _

theorem tap {N : ℕ} (o : ℕ) (ho : o < 8) (w : FVec Ideal (Sh 8 N) .f32) (hw : (Sh 8 N).ShapeCasts (Sh 8 N)) (h : (Sh 8 N).Slices ![o, 0] (Sh 1 N)) (c : Fin N) :
    extractStridedSlice (Sh 1 N) ![o, 0] (shapeCast (Sh 8 N) w hw) h (ix2 (0 : Fin 1) c) = w (ix2 (⟨o, ho⟩ : Fin 8) c) := by
  rw [cast2]
  refine congrArg w (ix2_of _ _ _ ?_ ?_)
  · rfl
  · exact Nat.zero_add _

/-- Every row's root-mean-square norm. -/
def rmsv {N : ℕ} (hr : (Sh 512 N).Reduces [1] ⟨1, ![512]⟩) (hc : (⟨1, ![512]⟩ : Shape).ShapeCasts (Sh 512 1))
    (hb : (Sh 512 1).Broadcasts (Sh 512 N)) (hg : (Sh 1 N).ShapeCasts (Sh 1 N)) (hgb : (Sh 1 N).Broadcasts (Sh 512 N))
    (n : BitVec 32) (x : FVec Ideal (Sh 512 N) .f32) (g : FVec Ideal (Sh 1 N) .f32) : FVec Ideal (Sh 512 N) .f32 :=
  mulf (mulf x (broadcastTo (Sh 512 N) (rsqrt (addf (divf (shapeCast (Sh 512 1)
      (multiReduction .add [1] ⟨1, ![512]⟩ (mulf x x) 0x00000000#32 hr (.inl rfl) rfl) hc)
    (broadcast (Sh 512 1) (Scalar.ofBits .f32 n))) (broadcast (Sh 512 1) (Scalar.ofBits .f32 0x358637BD#32)))) hb))
    (broadcastTo (Sh 512 N) (shapeCast (Sh 1 N) g hg) hgb)

theorem rmsv_apply {N : ℕ} (hr : (Sh 512 N).Reduces [1] ⟨1, ![512]⟩) (hc : (⟨1, ![512]⟩ : Shape).ShapeCasts (Sh 512 1))
    (hb : (Sh 512 1).Broadcasts (Sh 512 N)) (hg : (Sh 1 N).ShapeCasts (Sh 1 N)) (hgb : (Sh 1 N).Broadcasts (Sh 512 N))
    (n : BitVec 32) (x : FVec Ideal (Sh 512 N) .f32) (g : FVec Ideal (Sh 1 N) .f32) (r : Fin 512) (c : Fin N) :
    rmsv hr hc hb hg hgb n x g (ix2 r c) = rmsAt n (fun k => x (ix2 r k)) (fun k => g (ix2 (0 : Fin 1) k)) c := by
  have e : broadcastTo (Sh 512 N) (rsqrt (addf (divf (shapeCast (Sh 512 1)
      (multiReduction .add [1] ⟨1, ![512]⟩ (mulf x x) 0x00000000#32 hr (.inl rfl) rfl) hc)
    (broadcast (Sh 512 1) (Scalar.ofBits .f32 n))) (broadcast (Sh 512 1) (Scalar.ofBits .f32 0x358637BD#32)))) hb (ix2 r c)
      = Ideal.rsqrt (Ideal.div (∑ k, x (ix2 r k) * x (ix2 r k)) (Ideal.ofBits .f32 n) + Ideal.ofBits .f32 0x358637BD#32) := by
    pointwise []
  unfold rmsv
  rw [cast2]
  exact congrArg₂ (· * ·) (congrArg (x (ix2 r c) * ·) e) (bcast_row hgb g r c)

/-- A matrix product. -/
def mm {a k b : ℕ} (x : FVec Ideal (Sh a k) .bf16) (y : FVec Ideal (Sh k b) .bf16) : FVec Ideal (Sh a b) .f32 :=
  matmul (DotDims.plain a k b) none x y (constant (Sh a b) .f32 0x00000000#32)

theorem mm_apply {a k b : ℕ} (x : FVec Ideal (Sh a k) .bf16) (y : FVec Ideal (Sh k b) .bf16) (r : Fin a) (c : Fin b) :
    mm x y (ix2 r c) = ∑ j : Fin k, x (ix2 r j) * y (ix2 j c) := by
  have h := Ideal.matmul_plain_apply none x y (constant (F := Ideal) (Sh a b) .f32 0x00000000#32) r c
  rw [zero_at, zero_add] at h
  exact h

theorem row_is_0 : ∀ r : Fin 512, IntOp.cmpi CmpIPredicate.eq (BitVec.ofNat 32 r.val) 0#32 = if r.val = 0 then 1#1 else 0#1 := by
  decide

theorem row_is_1 : ∀ r : Fin 512, IntOp.cmpi CmpIPredicate.eq (BitVec.ofNat 32 r.val) 1#32 = if r.val = 1 then 1#1 else 0#1 := by
  decide

theorem sel_if {α : Type} (p : Prop) [Decidable p] (x y : α) : Scalar.select (if p then 1#1 else 0#1) x y = if p then x else y := by
  split_ifs <;> rfl

theorem rot_apply {N : ℕ} (sb : BitVec 32) (s : ℕ) (hsb : sb.toNat = s) (hs : s < 512) (x : (Sh 512 N).Idx → EReal)
    (h : (Sh 512 N).Rotates 0 none) (r : Fin 512) (c : Fin N) (hr : s ≤ r.val) :
    dynamicRotate 0 sb none x h (ix2 r c) = x (ix2 (⟨r.val - s, by omega⟩ : Fin 512) c) := by
  refine dynamicRotate_apply (s := Sh 512 N) (0 : Fin 2) sb x h _ _ fun b => ?_
  have := r.isLt
  match b with
  | ⟨0, _⟩ =>
    change r.val - s = (r.val + 512 - sb.toNat % 512) % 512
    rw [hsb]; omega
  | ⟨1, _⟩ => rfl

theorem iota_at {N : ℕ} (hi : (Sh 512 N).Iotas .tc 32 [0]) (r : Fin 512) (c : Fin N) :
    iota .tc (Sh 512 N) 32 [0] hi (ix2 r c) = BitVec.ofNat 32 r.val := by
  pointwise []

/-- The rows one back, the first one the halo's last. -/
def back1 {N : ℕ} (hs : (Sh 16 N).Slices ![15, 0] (Sh 1 N)) (hi : (Sh 512 N).Iotas .tc 32 [0]) (ht : (Sh 512 N).Rotates 0 none)
    (hc : (Sh 1 N).ShapeCasts (Sh 1 N)) (hb : (Sh 1 N).Broadcasts (Sh 512 N))
    (a : FVec Ideal (Sh 512 N) .f32) (h : FVec Ideal (Sh 16 N) .f32) : FVec Ideal (Sh 512 N) .f32 :=
  select (cmpi .eq (iota .tc (Sh 512 N) 32 [0] hi) (broadcast (Sh 512 N) 0#32))
    (broadcastTo (Sh 512 N) (shapeCast (Sh 1 N) (extractStridedSlice (Sh 1 N) ![15, 0] h hs) hc) hb)
    (dynamicRotate 0 1#32 none a ht)

/-- The rows two back, the first two the halo's last two. -/
def back2 {N : ℕ} (hs : (Sh 16 N).Slices ![15, 0] (Sh 1 N)) (hs' : (Sh 16 N).Slices ![14, 0] (Sh 1 N))
    (hi : (Sh 512 N).Iotas .tc 32 [0]) (ht : (Sh 512 N).Rotates 0 none)
    (hc : (Sh 1 N).ShapeCasts (Sh 1 N)) (hb : (Sh 1 N).Broadcasts (Sh 512 N))
    (a : FVec Ideal (Sh 512 N) .f32) (h : FVec Ideal (Sh 16 N) .f32) : FVec Ideal (Sh 512 N) .f32 :=
  select (cmpi .eq (iota .tc (Sh 512 N) 32 [0] hi) (broadcast (Sh 512 N) 0#32))
    (broadcastTo (Sh 512 N) (shapeCast (Sh 1 N) (extractStridedSlice (Sh 1 N) ![14, 0] h hs') hc) hb)
    (select (cmpi .eq (iota .tc (Sh 512 N) 32 [0] hi) (broadcast (Sh 512 N) 1#32))
      (broadcastTo (Sh 512 N) (shapeCast (Sh 1 N) (extractStridedSlice (Sh 1 N) ![15, 0] h hs) hc) hb)
      (dynamicRotate 0 2#32 none a ht))

/-- Row `r - k` of `a` with the 16 rows `h` above it. -/
def backAt {N : ℕ} (a : (Sh 512 N).Idx → EReal) (h : (Sh 16 N).Idx → EReal) (k : ℕ) (hk : k ≤ 16) (r : Fin 512) (c : Fin N) : EReal :=
  if hr : r.val < k then h (ix2 (⟨16 + r.val - k, by omega⟩ : Fin 16) c)
  else a (ix2 (⟨r.val - k, by omega⟩ : Fin 512) c)

theorem back1_apply {N : ℕ} (hs : (Sh 16 N).Slices ![15, 0] (Sh 1 N)) (hi : (Sh 512 N).Iotas .tc 32 [0]) (ht : (Sh 512 N).Rotates 0 none)
    (hc : (Sh 1 N).ShapeCasts (Sh 1 N)) (hb : (Sh 1 N).Broadcasts (Sh 512 N))
    (a : FVec Ideal (Sh 512 N) .f32) (h : FVec Ideal (Sh 16 N) .f32) (r : Fin 512) (c : Fin N) :
    back1 hs hi ht hc hb a h (ix2 r c) = backAt a h 1 (by omega) r c := by
  unfold backAt back1
  rw [cast2]
  change Scalar.select (IntOp.cmpi CmpIPredicate.eq (iota .tc (Sh 512 N) 32 [0] hi (ix2 r c)) 0#32) _ _ = _
  rw [iota_at, row_is_0, sel_if]
  by_cases h0 : r.val = 0
  · rw [if_pos h0, dif_pos (by omega), bcast_row, row_of 15 (by omega)]
    exact congrArg (fun q : Fin 16 => h (ix2 q c)) (Fin.ext (by simp only; omega))
  · rw [if_neg h0, dif_neg (by omega)]
    exact rot_apply 1#32 1 rfl (by omega) a ht r c (by omega)

theorem back2_apply {N : ℕ} (hs : (Sh 16 N).Slices ![15, 0] (Sh 1 N)) (hs' : (Sh 16 N).Slices ![14, 0] (Sh 1 N))
    (hi : (Sh 512 N).Iotas .tc 32 [0]) (ht : (Sh 512 N).Rotates 0 none)
    (hc : (Sh 1 N).ShapeCasts (Sh 1 N)) (hb : (Sh 1 N).Broadcasts (Sh 512 N))
    (a : FVec Ideal (Sh 512 N) .f32) (h : FVec Ideal (Sh 16 N) .f32) (r : Fin 512) (c : Fin N) :
    back2 hs hs' hi ht hc hb a h (ix2 r c) = backAt a h 2 (by omega) r c := by
  unfold backAt back2
  rw [cast2, cast2]
  change Scalar.select (IntOp.cmpi CmpIPredicate.eq (iota .tc (Sh 512 N) 32 [0] hi (ix2 r c)) 0#32) _
    (Scalar.select (IntOp.cmpi CmpIPredicate.eq (iota .tc (Sh 512 N) 32 [0] hi (ix2 r c)) 1#32) _ _) = _
  rw [iota_at, row_is_0, sel_if, row_is_1, sel_if]
  by_cases h0 : r.val = 0
  · rw [if_pos h0, dif_pos (by omega), bcast_row, row_of 14 (by omega)]
    exact congrArg (fun q : Fin 16 => h (ix2 q c)) (Fin.ext (by simp only; omega))
  · rw [if_neg h0]
    by_cases h1 : r.val = 1
    · rw [if_pos h1, dif_pos (by omega), bcast_row, row_of 15 (by omega)]
      exact congrArg (fun q : Fin 16 => h (ix2 q c)) (Fin.ext (by simp only; omega))
    · rw [if_neg h1, dif_neg (by omega)]
      exact rot_apply 2#32 2 rfl (by omega) a ht r c (by omega)

/-- The causal convolution of three taps down the rows. -/
def conv {N : ℕ} (st : BitVec 1) (hs : (Sh 16 N).Slices ![15, 0] (Sh 1 N)) (hs' : (Sh 16 N).Slices ![14, 0] (Sh 1 N))
    (hi : (Sh 512 N).Iotas .tc 32 [0]) (ht : (Sh 512 N).Rotates 0 none)
    (hc : (Sh 1 N).ShapeCasts (Sh 1 N)) (hb : (Sh 1 N).Broadcasts (Sh 512 N)) (hw : (Sh 8 N).ShapeCasts (Sh 8 N))
    (w0 : (Sh 8 N).Slices ![0, 0] (Sh 1 N)) (w1 : (Sh 8 N).Slices ![1, 0] (Sh 1 N)) (w2 : (Sh 8 N).Slices ![2, 0] (Sh 1 N))
    (a : FVec Ideal (Sh 512 N) .f32) (h : FVec Ideal (Sh 16 N) .f32) (w : FVec Ideal (Sh 8 N) .f32) : FVec Ideal (Sh 512 N) .f32 :=
  addf (addf
    (mulf (broadcastTo (Sh 512 N) (extractStridedSlice (Sh 1 N) ![0, 0] (shapeCast (Sh 8 N) w hw) w0) hb)
      (back2 hs hs' hi ht hc hb a (Scalar.select st (broadcast (Sh 16 N) (Scalar.ofBits .f32 0x00000000#32)) h)))
    (mulf (broadcastTo (Sh 512 N) (extractStridedSlice (Sh 1 N) ![1, 0] (shapeCast (Sh 8 N) w hw) w1) hb)
      (back1 hs hi ht hc hb a (Scalar.select st (broadcast (Sh 16 N) (Scalar.ofBits .f32 0x00000000#32)) h))))
    (mulf (broadcastTo (Sh 512 N) (extractStridedSlice (Sh 1 N) ![2, 0] (shapeCast (Sh 8 N) w hw) w2) hb) a)

/-- The same at a row and a lane. -/
def convAt {N : ℕ} (st : Prop) [Decidable st] (a : (Sh 512 N).Idx → EReal) (h : (Sh 16 N).Idx → EReal) (w : (Sh 8 N).Idx → EReal)
    (r : Fin 512) (c : Fin N) : EReal :=
  w (ix2 (0 : Fin 8) c) * backAt a (fun y => if st then 0 else h y) 2 (by omega) r c
    + w (ix2 (1 : Fin 8) c) * backAt a (fun y => if st then 0 else h y) 1 (by omega) r c + w (ix2 (2 : Fin 8) c) * a (ix2 r c)

theorem zero_bits : Ideal.ofBits FTy.f32 0x00000000#32 = 0 := by
  simp [Ideal.ofBits, Ideal.ieee]

theorem conv_apply {N : ℕ} (st : Prop) [Decidable st] (hs : (Sh 16 N).Slices ![15, 0] (Sh 1 N)) (hs' : (Sh 16 N).Slices ![14, 0] (Sh 1 N))
    (hi : (Sh 512 N).Iotas .tc 32 [0]) (ht : (Sh 512 N).Rotates 0 none)
    (hc : (Sh 1 N).ShapeCasts (Sh 1 N)) (hb : (Sh 1 N).Broadcasts (Sh 512 N)) (hw : (Sh 8 N).ShapeCasts (Sh 8 N))
    (w0 : (Sh 8 N).Slices ![0, 0] (Sh 1 N)) (w1 : (Sh 8 N).Slices ![1, 0] (Sh 1 N)) (w2 : (Sh 8 N).Slices ![2, 0] (Sh 1 N))
    (a : FVec Ideal (Sh 512 N) .f32) (h : FVec Ideal (Sh 16 N) .f32) (w : FVec Ideal (Sh 8 N) .f32) (r : Fin 512) (c : Fin N) :
    conv (if st then 1#1 else 0#1) hs hs' hi ht hc hb hw w0 w1 w2 a h w (ix2 r c) = convAt st a h w r c := by
  have e : Scalar.select (if st then 1#1 else 0#1) (broadcast (Sh 16 N) (Scalar.ofBits (F := Ideal) .f32 0x00000000#32)) h
      = fun y => if st then 0 else h y := by
    rw [sel_if]
    funext y
    split_ifs
    · exact zero_bits
    · rfl
  unfold conv convAt
  rw [e]
  have t0 : broadcastTo (Sh 512 N) (extractStridedSlice (Sh 1 N) ![0, 0] (shapeCast (Sh 8 N) w hw) w0) hb (ix2 r c) = w (ix2 (0 : Fin 8) c) :=
    (bcast_row hb _ r c).trans (tap 0 (by omega) w hw w0 c)
  have t1 : broadcastTo (Sh 512 N) (extractStridedSlice (Sh 1 N) ![1, 0] (shapeCast (Sh 8 N) w hw) w1) hb (ix2 r c) = w (ix2 (1 : Fin 8) c) :=
    (bcast_row hb _ r c).trans (tap 1 (by omega) w hw w1 c)
  have t2 : broadcastTo (Sh 512 N) (extractStridedSlice (Sh 1 N) ![2, 0] (shapeCast (Sh 8 N) w hw) w2) hb (ix2 r c) = w (ix2 (2 : Fin 8) c) :=
    (bcast_row hb _ r c).trans (tap 2 (by omega) w hw w2 c)
  exact congrArg₂ (· + ·) (congrArg₂ (· + ·) (congrArg₂ (· * ·) t0 (back2_apply hs hs' hi ht hc hb a _ r c))
    (congrArg₂ (· * ·) t1 (back1_apply hs hi ht hc hb a _ r c))) (congrArg (· * a (ix2 r c)) t2)

/-- `1 / (1 + e^(0 - x))`. -/
def sgv {a b : ℕ} (x : FVec Ideal (Sh a b) .f32) : FVec Ideal (Sh a b) .f32 :=
  divf (broadcast (Sh a b) (Scalar.ofBits .f32 0x3F800000#32)) (addf (broadcast (Sh a b) (Scalar.ofBits .f32 0x3F800000#32))
    (exp (subf (broadcast (Sh a b) (Scalar.ofBits .f32 0x00000000#32)) x)))

theorem sgv_apply {a b : ℕ} (x : FVec Ideal (Sh a b) .f32) (y : (Sh a b).Idx) : sgv x y = sgm (x y) := by
  unfold sgm
  rw [show -(x y) = Ideal.ofBits .f32 0x00000000#32 - x y by rw [zero_bits, zero_sub]]
  rfl

end Cert.Mix

end
-- ==== Proof.Body.lean ====
/- The last call's body as one function of its operands. -/
module

public import proofs.«01_k».proof.Proof.Mix
public import proofs.«01_k».proof.Proof.Gen.Kernel2Ideal.Skeleton

@[expose] public section

set_option maxRecDepth 16384

noncomputable section

namespace Cert.Mix

open Cert.Kernel2Ideal Cert.Kernel2Ideal.Gen
open Idealize.ShloMosaic
open Cert.Attend (Sh ix2_of zero_at bits_lt ld2_of cast2 sgm)

/-- Whether the step begins a sequence, as the kernel's word. -/
def startW (i : grid0.Coords) : BitVec 1 :=
  let arg0 : BitVec 32 := BitVec.ofNat 32 (i 0).val
  let v0 : BitVec 1 := Scalar.cmpi .eq 4#32 0#32
  let v1 : BitVec 32 := Scalar.select v0 1#32 4#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32

theorem startW_eq (i : grid0.Coords) : startW i = if (i 0).val % 4 = 0 then 1#1 else 0#1 := by
  have h : ∀ t : Fin 64, (let arg0 : BitVec 32 := BitVec.ofNat 32 t.val
      let v0 : BitVec 1 := Scalar.cmpi .eq 4#32 0#32
      let v1 : BitVec 32 := Scalar.select v0 1#32 4#32
      let v2 : BitVec 32 := Scalar.remsi arg0 v1
      let v3 : BitVec 1 := Scalar.cmpi .ne v2 0#32
      let v4 : BitVec 1 := Scalar.cmpi .slt v2 0#32
      let v5 : BitVec 1 := Scalar.cmpi .slt v1 0#32
      let v6 : BitVec 1 := Scalar.xori v4 v5
      let v7 : BitVec 1 := Scalar.andi v6 v3
      let v8 : BitVec 32 := Scalar.addi v2 v1
      let v9 : BitVec 32 := Scalar.select v7 v8 v2
      Scalar.cmpi .eq v9 0#32) = if t.val % 4 = 0 then 1#1 else 0#1 := by decide
  exact h (i 0)

/-- The convolution's part of the mixed operand: gated, normed. -/
def ycB (st : BitVec 1) (x0 : FVec Ideal (Sh 512 512) .bf16) (x1 : FVec Ideal (Sh 16 512) .bf16) (x2 : FVec Ideal (Sh 512 512) .bf16)
    (x6 : FVec Ideal (Sh 8 512) .f32) (x7 : FVec Ideal (Sh 1 512) .f32) : FVec Ideal (Sh 512 512) .f32 :=
  rmsv (by decide) (by decide) (by decide) (by decide) (by decide) 0x44000000#32
    (mulf (extf .f32 (shapeCast (Sh 512 512) x2 (by decide)) bits_lt)
      (conv st (by decide) (by decide) iota_S512x512_d0_w32 rotates_S512x512_d0 (by decide) (by decide) (by decide) (by decide) (by decide) (by decide)
        (extf .f32 (shapeCast (Sh 512 512) x0 (by decide)) bits_lt) (extf .f32 (shapeCast (Sh 16 512) x1 (by decide)) bits_lt) x6)) x7

/-- The residual after the mixing. -/
def hB (yc : FVec Ideal (Sh 512 512) .f32) (x3 : FVec Ideal (Sh 512 512) .bf16) (x8 : FVec Ideal (Sh 1 512) .f32)
    (x4 : FVec Ideal (Sh 512 1024) .f32) (x9 : FVec Ideal (Sh 1024 1024) .bf16) : FVec Ideal (Sh 512 1024) .f32 :=
  addf (shapeCast (Sh 512 1024) x4 (by decide)) (mm (concatenate (Sh 512 1024) 1
    [⟨Sh 512 512, (truncf .bf16 yc bits_lt : FVec Ideal (Sh 512 512) .bf16)⟩,
     ⟨Sh 512 512, (truncf .bf16 (rmsv (by decide) (by decide) (by decide) (by decide) (by decide) 0x44000000#32
        (extf .f32 (shapeCast (Sh 512 512) x3 (by decide)) bits_lt) x8) bits_lt : FVec Ideal (Sh 512 512) .bf16)⟩]
    concatenates_S512x512_S512x512_S512x1024_d1) (shapeCast (Sh 1024 1024) x9 (by decide)))

/-- The rows' norms before the up-projection. -/
def nB (h : FVec Ideal (Sh 512 1024) .f32) (g : FVec Ideal (Sh 1 1024) .f32) : FVec Ideal (Sh 512 1024) .bf16 :=
  truncf .bf16 (rmsv (by decide) (by decide) (by decide) (by decide) (by decide) 0x44800000#32 h g) bits_lt

/-- The last 16 rows. -/
def lastB (n : FVec Ideal (Sh 512 1024) .bf16) : FVec Ideal (Sh 16 1024) .bf16 :=
  shapeCast (Sh 16 1024) (extractStridedSlice (Sh 16 1024) ![496, 0] n (by decide)) (by decide)

/-- 16 rows above the 512. -/
def extB (q : FVec Ideal (Sh 16 1024) .bf16) (n : FVec Ideal (Sh 512 1024) .bf16) : FVec Ideal (Sh 528 1024) .bf16 :=
  concatenate (Sh 528 1024) 0 [⟨Sh 16 1024, q⟩, ⟨Sh 512 1024, n⟩] concatenates_S16x1024_S512x1024_S528x1024_d0

/-- 256 lanes of the up-projection, convolved. -/
def cuB (st : BitVec 1) (ne : FVec Ideal (Sh 528 1024) .bf16) (w : FVec Ideal (Sh 1024 256) .bf16) (cw : FVec Ideal (Sh 8 256) .f32) :
    FVec Ideal (Sh 512 256) .f32 :=
  conv st (by decide) (by decide) iota_S512x256_d0_w32 rotates_S512x256_d0 (by decide) (by decide) (by decide) (by decide) (by decide) (by decide)
    (extractStridedSlice (Sh 512 256) ![16, 0] (mm ne (shapeCast (Sh 1024 256) w (by decide))) (by decide))
    (extractStridedSlice (Sh 16 256) ![0, 0] (mm ne (shapeCast (Sh 1024 256) w (by decide))) (by decide)) cw

/-- 256 lanes of the gated feed-forward operand. -/
def actB (ug uv : FVec Ideal (Sh 512 256) .f32) : FVec Ideal (Sh 512 256) .bf16 :=
  shapeCast (Sh 512 256) (truncf .bf16 (mulf (mulf ug (sgv ug)) uv) bits_lt) (by decide)

/-- The whole block, read through a whole-array load. -/
abbrev full {a b : ℕ} {e : EltTy} (x : (Sh a b).Idx → Elt Ideal e) (h : ∀ k, (![0, 0] : Fin 2 → ℕ) k + (![a, b] : Fin 2 → ℕ) k ≤ (Sh a b).size k) :
    (Sh a b).Idx → Elt Ideal e :=
  View.ld (Val := Elt Ideal) x (Rect.unit (s := Sh a b) ![0, 0] ![a, b] h)

/-- The feed-forward operand's lanes from `o` (gate) and `o'` (value) of the up-projection. -/
def actT (st : BitVec 1) (ne : FVec Ideal (Sh 528 1024) .bf16) (wu : (Sh 1024 5632).Idx → Elt Ideal .bf16) (cu : (Sh 8 5632).Idx → Elt Ideal .f32)
    (o o' : ℕ) (h1 : ∀ k, (![0, o] : Fin 2 → ℕ) k + (![1024, 256] : Fin 2 → ℕ) k ≤ (Sh 1024 5632).size k)
    (h2 : ∀ k, (![0, o] : Fin 2 → ℕ) k + (![8, 256] : Fin 2 → ℕ) k ≤ (Sh 8 5632).size k)
    (h3 : ∀ k, (![0, o'] : Fin 2 → ℕ) k + (![1024, 256] : Fin 2 → ℕ) k ≤ (Sh 1024 5632).size k)
    (h4 : ∀ k, (![0, o'] : Fin 2 → ℕ) k + (![8, 256] : Fin 2 → ℕ) k ≤ (Sh 8 5632).size k) : FVec Ideal (Sh 512 256) .bf16 :=
  actB
    (cuB st ne (View.ld (Val := Elt Ideal) wu (Rect.unit (s := Sh 1024 5632) ![0, o] ![1024, 256] h1))
      (View.ld (Val := Elt Ideal) cu (Rect.unit (s := Sh 8 5632) ![0, o] ![8, 256] h2)))
    (cuB st ne (View.ld (Val := Elt Ideal) wu (Rect.unit (s := Sh 1024 5632) ![0, o'] ![1024, 256] h3))
      (View.ld (Val := Elt Ideal) cu (Rect.unit (s := Sh 8 5632) ![0, o'] ![8, 256] h4)))

/-- The stores into the feed-forward operand, the last first. -/
def actL (st : BitVec 1) (ne : FVec Ideal (Sh 528 1024) .bf16) (wu : (Sh 1024 5632).Idx → Elt Ideal .bf16) (cu : (Sh 8 5632).Idx → Elt Ideal .f32) :
    List (View.Piece (Elt Ideal) (Sh 512 2816) .bf16) :=
  [⟨Rect.unit (s := Sh 512 2816) ![0, 2560] ![512, 256] (by decide), actT st ne wu cu 2560 5376 (by decide) (by decide) (by decide) (by decide)⟩,
   ⟨Rect.unit (s := Sh 512 2816) ![0, 2304] ![512, 256] (by decide), actT st ne wu cu 2304 5120 (by decide) (by decide) (by decide) (by decide)⟩,
   ⟨Rect.unit (s := Sh 512 2816) ![0, 2048] ![512, 256] (by decide), actT st ne wu cu 2048 4864 (by decide) (by decide) (by decide) (by decide)⟩,
   ⟨Rect.unit (s := Sh 512 2816) ![0, 1792] ![512, 256] (by decide), actT st ne wu cu 1792 4608 (by decide) (by decide) (by decide) (by decide)⟩,
   ⟨Rect.unit (s := Sh 512 2816) ![0, 1536] ![512, 256] (by decide), actT st ne wu cu 1536 4352 (by decide) (by decide) (by decide) (by decide)⟩,
   ⟨Rect.unit (s := Sh 512 2816) ![0, 1280] ![512, 256] (by decide), actT st ne wu cu 1280 4096 (by decide) (by decide) (by decide) (by decide)⟩,
   ⟨Rect.unit (s := Sh 512 2816) ![0, 1024] ![512, 256] (by decide), actT st ne wu cu 1024 3840 (by decide) (by decide) (by decide) (by decide)⟩,
   ⟨Rect.unit (s := Sh 512 2816) ![0, 768] ![512, 256] (by decide), actT st ne wu cu 768 3584 (by decide) (by decide) (by decide) (by decide)⟩,
   ⟨Rect.unit (s := Sh 512 2816) ![0, 512] ![512, 256] (by decide), actT st ne wu cu 512 3328 (by decide) (by decide) (by decide) (by decide)⟩,
   ⟨Rect.unit (s := Sh 512 2816) ![0, 256] ![512, 256] (by decide), actT st ne wu cu 256 3072 (by decide) (by decide) (by decide) (by decide)⟩,
   ⟨Rect.unit (s := Sh 512 2816) ![0, 0] ![512, 256] (by decide), actT st ne wu cu 0 2816 (by decide) (by decide) (by decide) (by decide)⟩]

/-- The residual after the feed-forward. -/
def hfB (h : FVec Ideal (Sh 512 1024) .f32) (act : FVec Ideal (Sh 512 2816) .bf16) (wd : FVec Ideal (Sh 2816 1024) .bf16) :
    FVec Ideal (Sh 512 1024) .f32 :=
  addf h (mm act (shapeCast (Sh 2816 1024) wd (by decide)))

/-- The block's result. -/
def endB (h : FVec Ideal (Sh 512 1024) .f32) (p : FVec Ideal (Sh 512 256) .f32) (gp : FVec Ideal (Sh 1 1024) .f32)
    (wg : FVec Ideal (Sh 1024 1024) .bf16) (wp : FVec Ideal (Sh 256 1024) .bf16) (gf : FVec Ideal (Sh 1 1024) .f32) :
    FVec Ideal (Sh 512 1024) .f32 :=
  rmsv (by decide) (by decide) (by decide) (by decide) (by decide) 0x44800000#32
    (addf h (mulf (sgv (mm (nB h gp) (shapeCast (Sh 1024 1024) wg (by decide))))
      (mm (truncf .bf16 (shapeCast (Sh 512 256) p (by decide)) bits_lt) (shapeCast (Sh 256 1024) wp (by decide))))) gf

/-- The residual after the mixing, of the operands' blocks. -/
def hX (st : BitVec 1) (x0 : Vec Ideal S512x512 .bf16) (x1 : Vec Ideal S16x512 .bf16) (x2 x3 : Vec Ideal S512x512 .bf16) (x4 : Vec Ideal S512x1024 .f32)
    (x6 : Vec Ideal S8x512 .f32) (x7 x8 : Vec Ideal S1x512 .f32) (x9 : Vec Ideal S1024x1024 .bf16) : FVec Ideal (Sh 512 1024) .f32 :=
  hB (ycB st (full x0 (by decide)) (full x1 (by decide)) (full x2 (by decide)) (full x6 (by decide)) (full x7 (by decide)))
    (full x3 (by decide)) (full x8 (by decide)) (full x4 (by decide)) (full x9 (by decide))

/-- The rows' norms, of the operands' blocks. -/
def nX (st : BitVec 1) (x0 : Vec Ideal S512x512 .bf16) (x1 : Vec Ideal S16x512 .bf16) (x2 x3 : Vec Ideal S512x512 .bf16) (x4 : Vec Ideal S512x1024 .f32)
    (x6 : Vec Ideal S8x512 .f32) (x7 x8 : Vec Ideal S1x512 .f32) (x9 : Vec Ideal S1024x1024 .bf16) (x10 : Vec Ideal S1x1024 .f32) :
    FVec Ideal (Sh 512 1024) .bf16 :=
  nB (hX st x0 x1 x2 x3 x4 x6 x7 x8 x9) (full x10 (by decide))

end Cert.Mix

end
-- ==== Proof.Rowwise.lean ====
/- The last call row by row: what its body leaves at a row, of the row's operands and the two rows before it. -/
module

public import proofs.«01_k».proof.Proof.Body

@[expose] public section

set_option maxRecDepth 16384

noncomputable section

namespace Cert.Mix

open Cert.Kernel2Ideal Cert.Kernel2Ideal.Gen
open Idealize.ShloMosaic
open Cert.Attend (Sh ix2_of zero_at bits_lt ld2_of cast2 sgm)

/-- The residual after the mixing at one row: `c2 c1 c0` the convolution's rows two back, one back and here. -/
def hRow (w0 w1 w2 gc ga : Fin 512 → EReal) (wo : Fin 1024 → Fin 1024 → EReal) (c2 c1 c0 bg y : Fin 512 → EReal) (x : Fin 1024 → EReal)
    (d : Fin 1024) : EReal :=
  x d + ∑ k : Fin 1024, (if h : k.val < 512 then
      rmsAt 0x44000000#32 (fun c => bg c * (w0 c * c2 c + w1 c * c1 c + w2 c * c0 c)) gc (⟨k.val, h⟩ : Fin 512)
    else rmsAt 0x44000000#32 y ga (⟨k.val - 512, by omega⟩ : Fin 512)) * wo k d

/-- The up-projection of the row's norm. -/
def upRow (gf : Fin 1024 → EReal) (wu : Fin 1024 → Fin 5632 → EReal) (h : Fin 1024 → EReal) (f : Fin 5632) : EReal :=
  ∑ k : Fin 1024, rmsAt 0x44800000#32 h gf k * wu k f

/-- The up-projection of a normed row. -/
def projRow (wu : Fin 1024 → Fin 5632 → EReal) (n : Fin 1024 → EReal) (f : Fin 5632) : EReal :=
  ∑ k : Fin 1024, n k * wu k f

/-- The feed-forward operand at one row. -/
def actRow (w0 w1 w2 u2 u1 u0 : Fin 5632 → EReal) (f : Fin 2816) : EReal :=
  (w0 ⟨f.val, by omega⟩ * u2 ⟨f.val, by omega⟩ + w1 ⟨f.val, by omega⟩ * u1 ⟨f.val, by omega⟩ + w2 ⟨f.val, by omega⟩ * u0 ⟨f.val, by omega⟩)
    * sgm (w0 ⟨f.val, by omega⟩ * u2 ⟨f.val, by omega⟩ + w1 ⟨f.val, by omega⟩ * u1 ⟨f.val, by omega⟩ + w2 ⟨f.val, by omega⟩ * u0 ⟨f.val, by omega⟩)
    * (w0 ⟨2816 + f.val, by omega⟩ * u2 ⟨2816 + f.val, by omega⟩ + w1 ⟨2816 + f.val, by omega⟩ * u1 ⟨2816 + f.val, by omega⟩
      + w2 ⟨2816 + f.val, by omega⟩ * u0 ⟨2816 + f.val, by omega⟩)

/-- The result at one row, `h` the residual after the feed-forward. -/
def endRow (gp gf : Fin 1024 → EReal) (wg : Fin 1024 → Fin 1024 → EReal) (wp : Fin 256 → Fin 1024 → EReal) (h : Fin 1024 → EReal)
    (p : Fin 256 → EReal) (d : Fin 1024) : EReal :=
  rmsAt 0x44800000#32 (fun d => h d + sgm (∑ k : Fin 1024, rmsAt 0x44800000#32 h gp k * wg k d) * ∑ q : Fin 256, p q * wp q d) gf d

/-- The result at one row, of the residual after the mixing and the up-projection's three rows. -/
def outRow (w0 w1 w2 : Fin 5632 → EReal) (wd : Fin 2816 → Fin 1024 → EReal) (gp gf : Fin 1024 → EReal) (wg : Fin 1024 → Fin 1024 → EReal)
    (wp : Fin 256 → Fin 1024 → EReal) (u2 u1 u0 : Fin 5632 → EReal) (h : Fin 1024 → EReal) (p : Fin 256 → EReal) : Fin 1024 → EReal :=
  endRow gp gf wg wp (fun d => h d + ∑ f : Fin 2816, actRow w0 w1 w2 u2 u1 u0 f * wd f d) p

/-- The row `k` back, of a block's rows and the 16 rows above them. -/
def backRow {α : Type} (a : Fin 512 → α) (h : Fin 16 → α) (k : ℕ) (hk : k ≤ 16) (r : Fin 512) : α :=
  if hr : r.val < k then h ⟨16 + r.val - k, by omega⟩ else a ⟨r.val - k, by omega⟩

theorem backAt_eq {N : ℕ} (a : (Sh 512 N).Idx → EReal) (h : (Sh 16 N).Idx → EReal) (k : ℕ) (hk : k ≤ 16) (r : Fin 512) (c : Fin N) :
    backAt a h k hk r c = backRow (fun r c => a (ix2 r c)) (fun j c => h (ix2 j c)) k hk r c := by
  unfold backAt backRow
  split_ifs <;> rfl

theorem full_eq {a b : ℕ} {e : EltTy} (x : (Sh a b).Idx → Elt Ideal e) (h) : full x h = x := by
  funext i
  have hi : i = ix2 (i 0) (i 1) := ix2_of i (i 0) (i 1) rfl rfl
  rw [hi]
  exact ld2_of x ![0, 0] h _ _ _ _ (Nat.zero_add _).symm (Nat.zero_add _).symm

/-- The rows above the block's, nothing at a sequence's start. -/
def halo {N : ℕ} (st : Prop) [Decidable st] (h : Fin 16 → Fin N → EReal) (j : Fin 16) (c : Fin N) : EReal := if st then 0 else h j c

theorem ycB_apply (st : Prop) [Decidable st] (x0 : FVec Ideal (Sh 512 512) .bf16) (x1 : FVec Ideal (Sh 16 512) .bf16) (x2 : FVec Ideal (Sh 512 512) .bf16)
    (x6 : FVec Ideal (Sh 8 512) .f32) (x7 : FVec Ideal (Sh 1 512) .f32) (r : Fin 512) (c : Fin 512) :
    ycB (if st then 1#1 else 0#1) x0 x1 x2 x6 x7 (ix2 r c) = rmsAt 0x44000000#32 (fun c => x2 (ix2 r c) *
      (x6 (ix2 (0 : Fin 8) c) * backRow (fun r c => x0 (ix2 r c)) (halo st fun j c => x1 (ix2 j c)) 2 (by omega) r c
        + x6 (ix2 (1 : Fin 8) c) * backRow (fun r c => x0 (ix2 r c)) (halo st fun j c => x1 (ix2 j c)) 1 (by omega) r c
        + x6 (ix2 (2 : Fin 8) c) * x0 (ix2 r c))) (fun c => x7 (ix2 (0 : Fin 1) c)) c := by
  unfold ycB
  rw [rmsv_apply]
  refine congrArg (fun f => rmsAt 0x44000000#32 f _ c) (funext fun k => ?_)
  rw [cast2, cast2, cast2]
  refine congrArg (x2 (ix2 r k) * ·) ((conv_apply st _ _ _ _ _ _ _ _ _ _ _ _ _ r k).trans ?_)
  unfold convAt
  rw [backAt_eq, backAt_eq]
  rfl

theorem hB_apply (yc : FVec Ideal (Sh 512 512) .f32) (x3 : FVec Ideal (Sh 512 512) .bf16) (x8 : FVec Ideal (Sh 1 512) .f32)
    (x4 : FVec Ideal (Sh 512 1024) .f32) (x9 : FVec Ideal (Sh 1024 1024) .bf16) (r : Fin 512) (d : Fin 1024) :
    hB yc x3 x8 x4 x9 (ix2 r d) = x4 (ix2 r d) + ∑ k : Fin 1024, (if h : k.val < 512 then yc (ix2 r (⟨k.val, h⟩ : Fin 512))
      else rmsAt 0x44000000#32 (fun c => x3 (ix2 r c)) (fun c => x8 (ix2 (0 : Fin 1) c)) (⟨k.val - 512, by omega⟩ : Fin 512)) * x9 (ix2 k d) := by
  unfold hB
  rw [cast2, cast2, cast2]
  refine congrArg (x4 (ix2 r d) + ·) ((mm_apply _ _ r d).trans (Finset.sum_congr rfl fun k _ => congrArg (· * x9 (ix2 k d)) ?_))
  by_cases h : k.val < 512
  · rw [dif_pos h]
    exact concatenate_pair_apply_left (t := Sh 512 1024) (s₁ := Sh 512 512) (s₂ := Sh 512 512) 1 _ _ _ _ rfl (ix2 r (⟨k.val, h⟩ : Fin 512)) (fun c => match c with
      | ⟨0, _⟩ => rfl
      | ⟨1, _⟩ => rfl)
  · rw [dif_neg h]
    refine (concatenate_pair_apply_right (t := Sh 512 1024) (s₁ := Sh 512 512) (s₂ := Sh 512 512) 1 _ _ _ (ix2 r k) rfl rfl (ix2 r (⟨k.val - 512, by omega⟩ : Fin 512)) (fun c => match c with
      | ⟨0, _⟩ => fun _ => rfl
      | ⟨1, _⟩ => fun hc => absurd rfl hc) (Nat.sub_add_cancel (Nat.le_of_not_lt h))).trans ?_
    exact rmsv_apply _ _ _ _ _ _ _ _ r (⟨k.val - 512, by omega⟩ : Fin 512)

theorem hX_apply (st : Prop) [Decidable st] (x0 : Vec Ideal S512x512 .bf16) (x1 : Vec Ideal S16x512 .bf16) (x2 x3 : Vec Ideal S512x512 .bf16) (x4 : Vec Ideal S512x1024 .f32)
    (x6 : Vec Ideal S8x512 .f32) (x7 x8 : Vec Ideal S1x512 .f32) (x9 : Vec Ideal S1024x1024 .bf16) (r : Fin 512) (d : Fin 1024) :
    hX (if st then 1#1 else 0#1) x0 x1 x2 x3 x4 x6 x7 x8 x9 (ix2 r d) =
      hRow (fun c => x6 (ix2 (0 : Fin 8) c)) (fun c => x6 (ix2 (1 : Fin 8) c)) (fun c => x6 (ix2 (2 : Fin 8) c)) (fun c => x7 (ix2 (0 : Fin 1) c))
        (fun c => x8 (ix2 (0 : Fin 1) c)) (fun k d => x9 (ix2 k d))
        (backRow (fun r c => x0 (ix2 r c)) (halo st fun j c => x1 (ix2 j c)) 2 (by omega) r)
        (backRow (fun r c => x0 (ix2 r c)) (halo st fun j c => x1 (ix2 j c)) 1 (by omega) r)
        (fun c => x0 (ix2 r c)) (fun c => x2 (ix2 r c)) (fun c => x3 (ix2 r c)) (fun d => x4 (ix2 r d)) d := by
  unfold hX
  rw [full_eq (a := 512) (b := 512) x0, full_eq (a := 16) (b := 512) x1, full_eq (a := 512) (b := 512) x2, full_eq (a := 8) (b := 512) x6,
    full_eq (a := 1) (b := 512) x7, full_eq (a := 512) (b := 512) x3, full_eq (a := 1) (b := 512) x8, full_eq (a := 512) (b := 1024) x4,
    full_eq (a := 1024) (b := 1024) x9]
  refine (hB_apply _ _ _ _ _ r d).trans ?_
  unfold hRow
  refine congrArg (x4 (ix2 r d) + ·) (Finset.sum_congr rfl fun k _ => congrArg (· * x9 (ix2 k d)) ?_)
  by_cases h : k.val < 512
  · rw [dif_pos h, dif_pos h]
    exact ycB_apply st x0 x1 x2 x6 x7 r ⟨k.val, h⟩
  · rw [dif_neg h, dif_neg h]

theorem nB_apply (h : FVec Ideal (Sh 512 1024) .f32) (g : FVec Ideal (Sh 1 1024) .f32) (r : Fin 512) (d : Fin 1024) :
    nB h g (ix2 r d) = rmsAt 0x44800000#32 (fun d => h (ix2 r d)) (fun d => g (ix2 (0 : Fin 1) d)) d :=
  rmsv_apply _ _ _ _ _ _ h g r d

theorem lastB_apply (n : FVec Ideal (Sh 512 1024) .bf16) (j : Fin 16) (d : Fin 1024) :
    lastB n (ix2 j d) = n (ix2 (⟨496 + j.val, by omega⟩ : Fin 512) d) := by
  unfold lastB
  rw [cast2]
  refine congrArg n (ix2_of _ _ _ rfl ?_)
  exact Nat.zero_add _

theorem extB_hi (q : FVec Ideal (Sh 16 1024) .bf16) (n : FVec Ideal (Sh 512 1024) .bf16) (r : Fin 512) (d : Fin 1024) :
    extB q n (ix2 (⟨16 + r.val, by omega⟩ : Fin 528) d) = n (ix2 r d) := by
  pointwise [extB]

theorem extB_lo (q : FVec Ideal (Sh 16 1024) .bf16) (n : FVec Ideal (Sh 512 1024) .bf16) (j : Fin 16) (d : Fin 1024) :
    extB q n (ix2 (⟨j.val, by omega⟩ : Fin 528) d) = q (ix2 j d) := by
  pointwise [extB]

theorem cuB_apply (st : Prop) [Decidable st] (q : FVec Ideal (Sh 16 1024) .bf16) (n : FVec Ideal (Sh 512 1024) .bf16) (w : FVec Ideal (Sh 1024 256) .bf16)
    (cw : FVec Ideal (Sh 8 256) .f32) (r : Fin 512) (c : Fin 256) (wu : Fin 1024 → Fin 5632 → EReal) (F : Fin 5632) (hw : ∀ k, w (ix2 k c) = wu k F) :
    cuB (if st then 1#1 else 0#1) (extB q n) w cw (ix2 r c) =
      cw (ix2 (0 : Fin 8) c) * backRow (fun r => projRow wu fun k => n (ix2 r k)) (halo st fun j => projRow wu fun k => q (ix2 j k)) 2 (by omega) r F
      + cw (ix2 (1 : Fin 8) c) * backRow (fun r => projRow wu fun k => n (ix2 r k)) (halo st fun j => projRow wu fun k => q (ix2 j k)) 1 (by omega) r F
      + cw (ix2 (2 : Fin 8) c) * projRow wu (fun k => n (ix2 r k)) F := by
  have ha : ∀ r : Fin 512, extractStridedSlice (Sh 512 256) ![16, 0] (mm (extB q n) (shapeCast (Sh 1024 256) w (by decide))) (by decide) (ix2 r c)
      = projRow wu (fun k => n (ix2 r k)) F := by
    intro r
    rw [cast2]
    refine Eq.trans (b := mm (extB q n) w (ix2 (⟨16 + r.val, by omega⟩ : Fin 528) c)) (congrArg (mm (extB q n) w) (ix2_of _ _ _ rfl (Nat.zero_add _))) ?_
    rw [mm_apply]
    unfold projRow
    refine Finset.sum_congr rfl fun k _ => ?_
    rw [extB_hi, hw]
  have hh : ∀ j : Fin 16, extractStridedSlice (Sh 16 256) ![0, 0] (mm (extB q n) (shapeCast (Sh 1024 256) w (by decide))) (by decide) (ix2 j c)
      = projRow wu (fun k => q (ix2 j k)) F := by
    intro j
    rw [cast2]
    refine Eq.trans (b := mm (extB q n) w (ix2 (⟨j.val, by omega⟩ : Fin 528) c)) (congrArg (mm (extB q n) w) (ix2_of _ _ _ (Nat.zero_add _) (Nat.zero_add _))) ?_
    rw [mm_apply]
    unfold projRow
    refine Finset.sum_congr rfl fun k _ => ?_
    rw [extB_lo, hw]
  refine (conv_apply st _ _ _ _ _ _ _ _ _ _ _ _ _ r c).trans ?_
  have hb : ∀ (k : ℕ) (hk : k ≤ 16), backAt (extractStridedSlice (Sh 512 256) ![16, 0] (mm (extB q n) (shapeCast (Sh 1024 256) w (by decide))) (by decide))
      (fun y => if st then 0 else extractStridedSlice (Sh 16 256) ![0, 0] (mm (extB q n) (shapeCast (Sh 1024 256) w (by decide))) (by decide) y) k hk r c
      = backRow (fun r => projRow wu fun k => n (ix2 r k)) (halo st fun j => projRow wu fun k => q (ix2 j k)) k hk r F := by
    intro k hk
    unfold backAt backRow halo
    split_ifs
    · rfl
    · exact hh _
    · exact ha _
  unfold convAt
  rw [hb, hb, ha]

end Cert.Mix

end
-- ==== Proof.Rows.lean ====
/- The last call, row by row over the whole array: `k` rows back stays inside the sequence. -/
module

public import proofs.«01_k».proof.Proof.Rowwise

@[expose] public section

set_option maxRecDepth 16384

noncomputable section

namespace Cert.Mix

open Idealize.ShloMosaic

/-- The row `k` back in the sequence, zeros above its first. -/
def prevRow {n : ℕ} (F : Fin 32768 → Fin n → EReal) (k : ℕ) (R : Fin 32768) (c : Fin n) : EReal :=
  if R.val % 2048 < k then 0 else F ⟨R.val - k, by omega⟩ c

/-- Row `r` of block `t`. -/
def rowOf (t : Fin 64) (r : Fin 512) : Fin 32768 := ⟨512 * t.val + r.val, by omega⟩

/-- Row `j` of the 16 above block `t`. -/
def topOf (t : Fin 64) (j : Fin 16) : Fin 32768 := ⟨512 * t.val - 16 + j.val, by omega⟩

theorem back_glob {n : ℕ} (F : Fin 32768 → Fin n → EReal) (a : Fin 512 → Fin n → EReal) (t : Fin 64) (h : Fin 16 → Fin n → EReal) (ha : ∀ r, a r = F (rowOf t r))
    (hh : ¬ t.val % 4 = 0 → ∀ j d, h j d = F (topOf t j) d) (k : ℕ) (hk : k ≤ 16) (r : Fin 512) :
    backRow a (halo (t.val % 4 = 0) h) k hk r = prevRow F k (rowOf t r) := by
  funext d
  unfold backRow prevRow
  by_cases hr : r.val < k
  · rw [dif_pos hr]
    unfold halo
    by_cases ht : t.val % 4 = 0
    · rw [if_pos ht, if_pos (by unfold rowOf; dsimp only; omega)]
    · rw [if_neg ht, if_neg (by unfold rowOf; dsimp only; omega), hh ht]
      refine congrArg (F · d) (Fin.ext ?_)
      show 512 * t.val - 16 + (16 + r.val - k) = 512 * t.val + r.val - k
      omega
  · rw [dif_neg hr, if_neg (by unfold rowOf; dsimp only; omega), ha]
    refine congrArg (F · d) (Fin.ext ?_)
    show 512 * t.val + (r.val - k) = 512 * t.val + r.val - k
    omega

/-- The residual after the mixing, at every row. -/
def hAll (w0 w1 w2 gc ga : Fin 512 → EReal) (wo : Fin 1024 → Fin 1024 → EReal) (CX B Y : Fin 32768 → Fin 512 → EReal) (X : Fin 32768 → Fin 1024 → EReal)
    (R : Fin 32768) : Fin 1024 → EReal :=
  hRow w0 w1 w2 gc ga wo (prevRow CX 2 R) (prevRow CX 1 R) (CX R) (B R) (Y R) (X R)

/-- The result, at every row. -/
def outAll (w0 w1 w2 : Fin 5632 → EReal) (wd : Fin 2816 → Fin 1024 → EReal) (gp gl : Fin 1024 → EReal) (wg : Fin 1024 → Fin 1024 → EReal)
    (wp : Fin 256 → Fin 1024 → EReal) (gf : Fin 1024 → EReal) (wu : Fin 1024 → Fin 5632 → EReal) (H : Fin 32768 → Fin 1024 → EReal)
    (P : Fin 32768 → Fin 256 → EReal) (R : Fin 32768) : Fin 1024 → EReal :=
  outRow w0 w1 w2 wd gp gl wg wp (prevRow (fun R => upRow gf wu (H R)) 2 R) (prevRow (fun R => upRow gf wu (H R)) 1 R) (upRow gf wu (H R)) (H R) (P R)

end Cert.Mix

end
-- ==== Proof.RowsOut.lean ====
/- The last call row by row: the feed-forward operand and the result. -/
module

public import proofs.«01_k».proof.Proof.Rowwise
public import Idealize.ShloMosaic.Lib.Pipeline.Value

@[expose] public section

set_option maxRecDepth 16384

noncomputable section

namespace Cert.Mix

open Cert.Kernel2Ideal Cert.Kernel2Ideal.Gen
open Idealize.ShloMosaic
open Cert.Attend (Sh ix2_of zero_at bits_lt ld2_of cast2 sgm)

section Act

variable (st : Prop) [Decidable st] (q : FVec Ideal (Sh 16 1024) .bf16) (n : FVec Ideal (Sh 512 1024) .bf16)
  (wu : (Sh 1024 5632).Idx → Elt Ideal .bf16) (cu : (Sh 8 5632).Idx → Elt Ideal .f32)

/-- The feed-forward operand of the block's normed rows `n` and the rows `q` before them. -/
def actOf (r : Fin 512) : Fin 2816 → EReal :=
  actRow (fun f => cu (ix2 (0 : Fin 8) f)) (fun f => cu (ix2 (1 : Fin 8) f)) (fun f => cu (ix2 (2 : Fin 8) f))
    (backRow (fun r => projRow (fun k f => wu (ix2 k f)) fun k => n (ix2 r k)) (halo st fun j => projRow (fun k f => wu (ix2 k f)) fun k => q (ix2 j k)) 2 (by omega) r)
    (backRow (fun r => projRow (fun k f => wu (ix2 k f)) fun k => n (ix2 r k)) (halo st fun j => projRow (fun k f => wu (ix2 k f)) fun k => q (ix2 j k)) 1 (by omega) r)
    (projRow (fun k f => wu (ix2 k f)) fun k => n (ix2 r k))

theorem cu_ld (o : ℕ) (h1) (h2) (r : Fin 512) (c : Fin 256) (F : Fin 5632) (hF : F.val = o + c.val) :
    cuB (if st then 1#1 else 0#1) (extB q n) (View.ld (Val := Elt Ideal) wu (Rect.unit (s := Sh 1024 5632) ![0, o] ![1024, 256] h1))
      (View.ld (Val := Elt Ideal) cu (Rect.unit (s := Sh 8 5632) ![0, o] ![8, 256] h2)) (ix2 r c) =
      cu (ix2 (0 : Fin 8) F) * (backRow (fun r => projRow (fun k f => wu (ix2 k f)) fun k => n (ix2 r k)) (halo st fun j => projRow (fun k f => wu (ix2 k f)) fun k => q (ix2 j k)) 2 (by omega) r F)
      + cu (ix2 (1 : Fin 8) F) * (backRow (fun r => projRow (fun k f => wu (ix2 k f)) fun k => n (ix2 r k)) (halo st fun j => projRow (fun k f => wu (ix2 k f)) fun k => q (ix2 j k)) 1 (by omega) r F)
      + cu (ix2 (2 : Fin 8) F) * projRow (fun k f => wu (ix2 k f)) (fun k => n (ix2 r k)) F := by
  refine (cuB_apply st q n _ _ r c (fun k f => wu (ix2 k f)) F fun k => ?_).trans ?_
  · exact ld2_of wu ![0, o] h1 k c k F (Nat.zero_add _).symm hF
  · have e : ∀ j : Fin 8, View.ld (Val := Elt Ideal) cu (Rect.unit (s := Sh 8 5632) ![0, o] ![8, 256] h2) (ix2 j c) = cu (ix2 j F) :=
      fun j => ld2_of cu ![0, o] h2 j c j F (Nat.zero_add _).symm hF
    rw [e, e, e]

theorem actT_apply (o o' : ℕ) (h1) (h2) (h3) (h4) (ho : o' = 2816 + o) (r : Fin 512) (c : Fin 256) (f : Fin 2816) (hf : f.val = o + c.val) :
    actT (if st then 1#1 else 0#1) (extB q n) wu cu o o' h1 h2 h3 h4 (ix2 r c) = actOf st q n wu cu r f := by
  unfold actT actB
  rw [cast2]
  refine Eq.trans (b := (_ * sgm _) * _) (congrArg₂ (· * ·) (congrArg₂ (· * ·) (cu_ld st q n wu cu o h1 h2 r c ⟨f.val, by omega⟩ hf)
    ((sgv_apply _ _).trans (congrArg sgm (cu_ld st q n wu cu o h1 h2 r c ⟨f.val, by omega⟩ hf))))
    (cu_ld st q n wu cu o' h3 h4 r c ⟨2816 + f.val, by omega⟩ (by simp only; omega))) ?_
  rfl

theorem act_piece (o o' : ℕ) (inb) (h1) (h2) (h3) (h4) (ho : o' = 2816 + o)
    (x : (Rect.unit (s := Sh 512 2816) ![0, o] ![512, 256] inb).shape.Idx) :
    actT (if st then 1#1 else 0#1) (extB q n) wu cu o o' h1 h2 h3 h4 x =
      actOf st q n wu cu ((Rect.unit (s := Sh 512 2816) ![0, o] ![512, 256] inb).emb x 0) ((Rect.unit (s := Sh 512 2816) ![0, o] ![512, 256] inb).emb x 1) := by
  have e0 : ((Rect.unit (s := Sh 512 2816) ![0, o] ![512, 256] inb).emb x 0).val = 0 + (x 0).val := Rect.idx_unit_val _ _ inb x 0
  have e1 : ((Rect.unit (s := Sh 512 2816) ![0, o] ![512, 256] inb).emb x 1).val = o + (x 1).val := Rect.idx_unit_val _ _ inb x 1
  have hx : x = ix2 (x 0) (x 1) := ix2_of x (x 0) (x 1) rfl rfl
  have e0' : (Rect.unit (s := Sh 512 2816) ![0, o] ![512, 256] inb).emb x 0 = x 0 := Fin.ext (e0.trans (Nat.zero_add _))
  rw [e0']
  exact (congrArg (actT (if st then 1#1 else 0#1) (extB q n) wu cu o o' h1 h2 h3 h4) hx).trans
    (actT_apply st q n wu cu o o' h1 h2 h3 h4 ho (x 0) (x 1) _ e1)

theorem act_read {sig' : RefSig} {κ' : Kind} {sp : Space} (v : View sig' κ' sp (Sh 512 2816) .bf16) (h) (r : Fin 512) (f : Fin 2816) :
    View.readCov (Val := Elt Ideal) v (actL (if st then 1#1 else 0#1) (extB q n) wu cu) (Rect.unit (s := Sh 512 2816) ![0, 0] ![512, 2816] h).toLoadRect (ix2 r f)
      = actOf st q n wu cu r f := by
  rw [View.readCov_eq_canon']
  have hy : (Rect.unit (s := Sh 512 2816) ![0, 0] ![512, 2816] h).toLoadRect.idx (ix2 r f) = (ix2 r f : (Sh 512 2816).Idx) :=
    ix2_of _ _ _ ((Rect.idx_unit_val _ _ h (ix2 r f) 0).trans (Nat.zero_add _))
      ((Rect.idx_unit_val _ _ h (ix2 r f) 1).trans (Nat.zero_add _))
  show View.canon _ _ = _
  rw [hy]
  refine View.canon_apply_of_pieces (fun y : (Sh 512 2816).Idx => actOf st q n wu cu (y 0) (y 1)) _ (fun pc hp => ?_) (ix2 r f)
    (View.cover_of_tiledL (actL (if st then 1#1 else 0#1) (extB q n) wu cu) ![512, 256] (by rfl) (ix2 r f))
  unfold actL at hp
  simp only [List.mem_cons, List.not_mem_nil, or_false] at hp
  rcases hp with rfl | rfl | rfl | rfl | rfl | rfl | rfl | rfl | rfl | rfl | rfl <;> exact act_piece st q n wu cu _ _ (by decide) (by decide) (by decide) (by decide) (by decide) rfl

end Act

theorem endB_apply (h : FVec Ideal (Sh 512 1024) .f32) (p : FVec Ideal (Sh 512 256) .f32) (gp : FVec Ideal (Sh 1 1024) .f32)
    (wg : FVec Ideal (Sh 1024 1024) .bf16) (wp : FVec Ideal (Sh 256 1024) .bf16) (gf : FVec Ideal (Sh 1 1024) .f32) (r : Fin 512) (d : Fin 1024) :
    endB h p gp wg wp gf (ix2 r d) = endRow (fun d => gp (ix2 (0 : Fin 1) d)) (fun d => gf (ix2 (0 : Fin 1) d)) (fun k d => wg (ix2 k d))
      (fun k d => wp (ix2 k d)) (fun d => h (ix2 r d)) (fun k => p (ix2 r k)) d := by
  unfold endB endRow
  rw [rmsv_apply]
  refine congrArg (fun f => rmsAt 0x44800000#32 f _ d) (funext fun d => ?_)
  rw [cast2, cast2, cast2]
  refine congrArg (h (ix2 r d) + ·) (congrArg₂ (· * ·) ((sgv_apply _ _).trans (congrArg sgm ((mm_apply _ _ r d).trans
    (Finset.sum_congr rfl fun k _ => congrArg (· * wg (ix2 k d)) (nB_apply h gp r k))))) (mm_apply _ _ r d))

theorem hfB_apply (h : FVec Ideal (Sh 512 1024) .f32) (act : FVec Ideal (Sh 512 2816) .bf16) (wd : FVec Ideal (Sh 2816 1024) .bf16) (r : Fin 512) (d : Fin 1024) :
    hfB h act wd (ix2 r d) = h (ix2 r d) + ∑ f : Fin 2816, act (ix2 r f) * wd (ix2 f d) := by
  unfold hfB
  rw [cast2]
  exact congrArg (h (ix2 r d) + ·) (mm_apply act wd r d)

end Cert.Mix

end
-- ==== Proof.StepA.lean ====
/- The last call's body, the first step: its stores are the block's functions of the operands. -/
module

public import proofs.«01_k».proof.Proof.Body
public import proofs.«01_k».proof.Proof.Gen.Kernel2Ideal.Frame.RunA

@[expose] public section

set_option maxRecDepth 16384

noncomputable section

namespace Cert.Mix

open Cert.Kernel2Ideal Cert.Kernel2Ideal.Gen
open Idealize.ShloMosaic
open Cert.Attend (Sh)

theorem storeA (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17).2.1 =
      [⟨Rect.unit (s := S16x1024) ![0, 0] ![16, 1024] (by decide), lastB (nX (startW i) x0 x1 x2 x3 x4 x6 x7 x8 x9 x10)⟩, ⟨Rect.unit (s := S16x1024) ![0, 0] ![16, 1024] (by decide), k0_pay2 (F := Ideal)⟩] := by
  refine Eq.trans (b := [⟨Rect.unit (s := S16x1024) ![0, 0] ![16, 1024] (by decide), lastB (nX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)) (arg11.view.read (Elt Ideal) (harg11.unread x10)))⟩, ⟨Rect.unit (s := S16x1024) ![0, 0] ![16, 1024] (by decide), k0_pay2 (F := Ideal)⟩]) ?_ ?_
  · rfl
  · rw [harg1.read_unread, harg2.read_unread, harg3.read_unread, harg4.read_unread, harg5.read_unread, harg7.read_unread, harg8.read_unread, harg9.read_unread, harg10.read_unread, harg11.read_unread]

theorem piecesA (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17).1 =
      [⟨Rect.unit (s := S512x1024) ![0, 0] ![512, 1024] (by decide), endB (hfB (hX (startW i) x0 x1 x2 x3 x4 x6 x7 x8 x9)
      (View.readCov arg20.view (actL (startW i) (extB (View.readCov (Val := Elt Ideal) arg21.view [⟨Rect.unit (s := S16x1024) ![0, 0] ![16, 1024] (by decide), k0_pay2 (F := Ideal)⟩] (Rect.unit (s := S16x1024) ![0, 0] ![16, 1024] (by decide)).toLoadRect) (nX (startW i) x0 x1 x2 x3 x4 x6 x7 x8 x9 x10)) x11 x12) (Rect.unit (s := S512x2816) ![0, 0] ![512, 2816] (by decide)).toLoadRect)
      (full x13 (by decide))) (full x5 (by decide)) (full x14 (by decide)) (full x15 (by decide)) (full x16 (by decide)) (full x17 (by decide))⟩] := by
  refine Eq.trans (b := [⟨Rect.unit (s := S512x1024) ![0, 0] ![512, 1024] (by decide), endB (hfB (hX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)))
      (View.readCov arg20.view (actL (startW i) (extB (View.readCov (Val := Elt Ideal) arg21.view [⟨Rect.unit (s := S16x1024) ![0, 0] ![16, 1024] (by decide), k0_pay2 (F := Ideal)⟩] (Rect.unit (s := S16x1024) ![0, 0] ![16, 1024] (by decide)).toLoadRect) (nX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)) (arg11.view.read (Elt Ideal) (harg11.unread x10)))) (arg12.view.read (Elt Ideal) (harg12.unread x11)) (arg13.view.read (Elt Ideal) (harg13.unread x12))) (Rect.unit (s := S512x2816) ![0, 0] ![512, 2816] (by decide)).toLoadRect)
      (full (arg14.view.read (Elt Ideal) (harg14.unread x13)) (by decide))) (full (arg6.view.read (Elt Ideal) (harg6.unread x5)) (by decide)) (full (arg15.view.read (Elt Ideal) (harg15.unread x14)) (by decide)) (full (arg16.view.read (Elt Ideal) (harg16.unread x15)) (by decide)) (full (arg17.view.read (Elt Ideal) (harg17.unread x16)) (by decide)) (full (arg18.view.read (Elt Ideal) (harg18.unread x17)) (by decide))⟩]) ?_ ?_
  · rfl
  · rw [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]

end Cert.Mix

end
-- ==== Proof.StepB.lean ====
/- The last call's body, a step after the first: its stores are the block's functions of the operands. -/
module

public import proofs.«01_k».proof.Proof.Body
public import proofs.«01_k».proof.Proof.Gen.Kernel2Ideal.Frame.RunB

@[expose] public section

set_option maxRecDepth 16384

noncomputable section

namespace Cert.Mix

open Cert.Kernel2Ideal Cert.Kernel2Ideal.Gen
open Idealize.ShloMosaic
open Cert.Attend (Sh)

theorem storeB (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : ¬cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) (xs1 : Vec Ideal S16x1024 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1).2.1 =
      [⟨Rect.unit (s := S16x1024) ![0, 0] ![16, 1024] (by decide), lastB (nX (startW i) x0 x1 x2 x3 x4 x6 x7 x8 x9 x10)⟩] := by
  refine Eq.trans (b := [⟨Rect.unit (s := S16x1024) ![0, 0] ![16, 1024] (by decide), lastB (nX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)) (arg11.view.read (Elt Ideal) (harg11.unread x10)))⟩]) ?_ ?_
  · rfl
  · rw [harg1.read_unread, harg2.read_unread, harg3.read_unread, harg4.read_unread, harg5.read_unread, harg7.read_unread, harg8.read_unread, harg9.read_unread, harg10.read_unread, harg11.read_unread]

theorem piecesB (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : ¬cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) (xs1 : Vec Ideal S16x1024 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1).1 =
      [⟨Rect.unit (s := S512x1024) ![0, 0] ![512, 1024] (by decide), endB (hfB (hX (startW i) x0 x1 x2 x3 x4 x6 x7 x8 x9)
      (View.readCov arg20.view (actL (startW i) (extB (full xs1 (by decide)) (nX (startW i) x0 x1 x2 x3 x4 x6 x7 x8 x9 x10)) x11 x12) (Rect.unit (s := S512x2816) ![0, 0] ![512, 2816] (by decide)).toLoadRect)
      (full x13 (by decide))) (full x5 (by decide)) (full x14 (by decide)) (full x15 (by decide)) (full x16 (by decide)) (full x17 (by decide))⟩] := by
  refine Eq.trans (b := [⟨Rect.unit (s := S512x1024) ![0, 0] ![512, 1024] (by decide), endB (hfB (hX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)))
      (View.readCov arg20.view (actL (startW i) (extB (full (arg21.view.read (Elt Ideal) (harg21.unread xs1)) (by decide)) (nX (startW i) (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg7.view.read (Elt Ideal) (harg7.unread x6)) (arg8.view.read (Elt Ideal) (harg8.unread x7)) (arg9.view.read (Elt Ideal) (harg9.unread x8)) (arg10.view.read (Elt Ideal) (harg10.unread x9)) (arg11.view.read (Elt Ideal) (harg11.unread x10)))) (arg12.view.read (Elt Ideal) (harg12.unread x11)) (arg13.view.read (Elt Ideal) (harg13.unread x12))) (Rect.unit (s := S512x2816) ![0, 0] ![512, 2816] (by decide)).toLoadRect)
      (full (arg14.view.read (Elt Ideal) (harg14.unread x13)) (by decide))) (full (arg6.view.read (Elt Ideal) (harg6.unread x5)) (by decide)) (full (arg15.view.read (Elt Ideal) (harg15.unread x14)) (by decide)) (full (arg16.view.read (Elt Ideal) (harg16.unread x15)) (by decide)) (full (arg17.view.read (Elt Ideal) (harg17.unread x16)) (by decide)) (full (arg18.view.read (Elt Ideal) (harg18.unread x17)) (by decide))⟩]) ?_ ?_
  · rfl
  · rw [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg21.read_unread]

end Cert.Mix

end
-- ==== Proof.Step.lean ====
/- The last call's block: what a step writes back and what it leaves for the next, read row by row. -/
module

public import proofs.«01_k».proof.Proof.RowsOut
public import proofs.«01_k».proof.Proof.StepA
public import proofs.«01_k».proof.Proof.StepB
public import proofs.«01_k».proof.Proof.Gen.Kernel2Ideal.Frame

@[expose] public section

set_option maxRecDepth 16384

noncomputable section

namespace Cert.Mix

open Cert.Kernel2Ideal Cert.Kernel2Ideal.Gen
open Idealize.ShloMosaic
open Cert.Attend (Sh ix2_of zero_at bits_lt ld2_of cast2 sgm)

/-- The block a step writes back, `q` what the step before left. -/
def outX {sig' : RefSig} {κ' : Kind} {sp : Space} (st : BitVec 1) (v : View sig' κ' sp S512x2816 .bf16) (q : FVec Ideal (Sh 16 1024) .bf16)
    (x0 : Vec Ideal S512x512 .bf16) (x1 : Vec Ideal S16x512 .bf16) (x2 x3 : Vec Ideal S512x512 .bf16) (x4 : Vec Ideal S512x1024 .f32) (x5 : Vec Ideal S512x256 .f32) (x6 : Vec Ideal S8x512 .f32) (x7 x8 : Vec Ideal S1x512 .f32)
    (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32)
    (x15 : Vec Ideal S1024x1024 .bf16) (x16 : Vec Ideal S256x1024 .bf16) (x17 : Vec Ideal S1x1024 .f32) : FVec Ideal (Sh 512 1024) .f32 :=
  endB (hfB (hX st x0 x1 x2 x3 x4 x6 x7 x8 x9)
      (View.readCov (Val := Elt Ideal) v (actL st (extB q (nX st x0 x1 x2 x3 x4 x6 x7 x8 x9 x10)) x11 x12) (Rect.unit (s := S512x2816) ![0, 0] ![512, 2816] (by decide)).toLoadRect)
      (full x13 (by decide))) (full x5 (by decide)) (full x14 (by decide)) (full x15 (by decide)) (full x16 (by decide)) (full x17 (by decide))

theorem nX_apply (st : BitVec 1) (x0 : Vec Ideal S512x512 .bf16) (x1 : Vec Ideal S16x512 .bf16) (x2 x3 : Vec Ideal S512x512 .bf16) (x4 : Vec Ideal S512x1024 .f32)
    (x6 : Vec Ideal S8x512 .f32) (x7 x8 : Vec Ideal S1x512 .f32) (x9 : Vec Ideal S1024x1024 .bf16) (x10 : Vec Ideal S1x1024 .f32) (r : Fin 512) (d : Fin 1024) :
    nX st x0 x1 x2 x3 x4 x6 x7 x8 x9 x10 (ix2 r d) =
      rmsAt 0x44800000#32 (fun d => hX st x0 x1 x2 x3 x4 x6 x7 x8 x9 (ix2 r d)) (fun d => x10 (ix2 (0 : Fin 1) d)) d := by
  unfold nX
  rw [full_eq (a := 1) (b := 1024) x10]
  exact nB_apply _ x10 r d

theorem outX_apply {sig' : RefSig} {κ' : Kind} {sp : Space} (st : Prop) [Decidable st] (v : View sig' κ' sp S512x2816 .bf16) (q : FVec Ideal (Sh 16 1024) .bf16)
    (x0 : Vec Ideal S512x512 .bf16) (x1 : Vec Ideal S16x512 .bf16) (x2 x3 : Vec Ideal S512x512 .bf16) (x4 : Vec Ideal S512x1024 .f32) (x5 : Vec Ideal S512x256 .f32) (x6 : Vec Ideal S8x512 .f32) (x7 x8 : Vec Ideal S1x512 .f32)
    (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32)
    (x15 : Vec Ideal S1024x1024 .bf16) (x16 : Vec Ideal S256x1024 .bf16) (x17 : Vec Ideal S1x1024 .f32) (r : Fin 512) (d : Fin 1024) (H : Fin 512 → Fin 1024 → EReal)
    (hH : ∀ r d, hX (if st then 1#1 else 0#1) x0 x1 x2 x3 x4 x6 x7 x8 x9 (ix2 r d) = H r d) :
    outX (if st then 1#1 else 0#1) v q x0 x1 x2 x3 x4 x5 x6 x7 x8 x9 x10 x11 x12 x13 x14 x15 x16 x17 (ix2 r d) =
      outRow (fun f => x12 (ix2 (0 : Fin 8) f)) (fun f => x12 (ix2 (1 : Fin 8) f)) (fun f => x12 (ix2 (2 : Fin 8) f)) (fun f d => x13 (ix2 f d))
        (fun d => x14 (ix2 (0 : Fin 1) d)) (fun d => x17 (ix2 (0 : Fin 1) d)) (fun k d => x15 (ix2 k d)) (fun k d => x16 (ix2 k d))
        (backRow (fun r => upRow (fun d => x10 (ix2 (0 : Fin 1) d)) (fun k f => x11 (ix2 k f)) (H r))
          (halo st fun j => projRow (fun k f => x11 (ix2 k f)) fun k => q (ix2 j k)) 2 (by omega) r)
        (backRow (fun r => upRow (fun d => x10 (ix2 (0 : Fin 1) d)) (fun k f => x11 (ix2 k f)) (H r))
          (halo st fun j => projRow (fun k f => x11 (ix2 k f)) fun k => q (ix2 j k)) 1 (by omega) r)
        (upRow (fun d => x10 (ix2 (0 : Fin 1) d)) (fun k f => x11 (ix2 k f)) (H r)) (H r) (fun k => x5 (ix2 r k)) d := by
  have hn : (fun r => projRow (fun k f => x11 (ix2 k f)) fun k => nX (if st then 1#1 else 0#1) x0 x1 x2 x3 x4 x6 x7 x8 x9 x10 (ix2 r k))
      = fun r => upRow (fun d => x10 (ix2 (0 : Fin 1) d)) (fun k f => x11 (ix2 k f)) (H r) := by
    funext r f
    unfold projRow upRow
    refine Finset.sum_congr rfl fun k _ => ?_
    refine congrArg (· * x11 (ix2 k f)) ((nX_apply _ x0 x1 x2 x3 x4 x6 x7 x8 x9 x10 r k).trans ?_)
    exact congrArg (fun g => rmsAt _ g _ k) (funext fun d => hH r d)
  have hr : (projRow (fun k f => x11 (ix2 k f)) fun k => nX (if st then 1#1 else 0#1) x0 x1 x2 x3 x4 x6 x7 x8 x9 x10 (ix2 r k))
      = upRow (fun d => x10 (ix2 (0 : Fin 1) d)) (fun k f => x11 (ix2 k f)) (H r) := congrFun hn r
  unfold outX
  rw [full_eq (a := 2816) (b := 1024) x13, full_eq (a := 512) (b := 256) x5, full_eq (a := 1) (b := 1024) x14, full_eq (a := 1024) (b := 1024) x15,
    full_eq (a := 256) (b := 1024) x16, full_eq (a := 1) (b := 1024) x17]
  refine (endB_apply _ x5 x14 x15 x16 x17 r d).trans ?_
  unfold outRow
  refine congrArg (fun g => endRow _ _ _ _ g _ d) (funext fun d => ?_)
  refine (hfB_apply _ _ x13 r d).trans ?_
  refine congrArg₂ (· + ·) (hH r d) (Finset.sum_congr rfl fun f _ => congrArg (· * x13 (ix2 f d)) ?_)
  refine (act_read st q _ x11 x12 v (by decide) r f).trans ?_
  unfold actOf
  rw [← hn, hr]

theorem outA_eq (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 =
      outX (startW i) arg20.view (k0_pay2 (F := Ideal)) x0 x1 x2 x3 x4 x5 x6 x7 x8 x9 x10 x11 x12 x13 x14 x15 x16 x17 := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17), piecesA]
  unfold outX
  rw [View.readCov_unit_zero arg21.view (by funext a; fin_cases a <;> rfl)]
  exact View.canon_unit_zero (by funext a; fin_cases a <;> rfl) _ _

theorem lastA_eq (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 =
      lastB (nX (startW i) x0 x1 x2 x3 x4 x6 x7 x8 x9 x10) := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17), storeA]
  exact View.canon_cons_unit_zero (by funext a; fin_cases a <;> rfl) _ _ _

theorem outB_eq (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : ¬cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) (xs1 : Vec Ideal S16x1024 .bf16) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1 =
      outX (startW i) arg20.view xs1 x0 x1 x2 x3 x4 x5 x6 x7 x8 x9 x10 x11 x12 x13 x14 x15 x16 x17 := by
  unfold out0_B_18
  rw [View.read_writes_eq_canon _ _ _ (cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1), piecesB]
  unfold outX
  rw [full_eq (a := 16) (b := 1024) xs1]
  exact View.canon_unit_zero (by funext a; fin_cases a <;> rfl) _ _

theorem lastB_eq (c : Dev nD) (i : grid0.Coords) (arg1 : Memref sig .tc .vmem S512x512 .bf16) (harg1 : arg1.IsWhole) (arg2 : Memref sig .tc .vmem S16x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x256 .f32) (harg6 : arg6.IsWhole) (arg7 : Memref sig .tc .vmem S8x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x5632 .bf16) (harg12 : arg12.IsWhole) (arg13 : Memref sig .tc .vmem S8x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S512x2816 .bf16) (harg20 : arg20.IsWhole) (arg21 : Memref sig .tc .vmem S16x1024 .bf16) (harg21 : arg21.IsWhole) (hc0 : ¬cond0_0 i)
    (x0 : Vec Ideal S512x512 .bf16) (x1 : Vec Ideal S16x512 .bf16) (x2 : Vec Ideal S512x512 .bf16) (x3 : Vec Ideal S512x512 .bf16) (x4 : Vec Ideal S512x1024 .f32) (x5 : Vec Ideal S512x256 .f32) (x6 : Vec Ideal S8x512 .f32) (x7 : Vec Ideal S1x512 .f32) (x8 : Vec Ideal S1x512 .f32) (x9 : Vec Ideal S1024x1024 .bf16) (x10 : Vec Ideal S1x1024 .f32) (x11 : Vec Ideal S1024x5632 .bf16) (x12 : Vec Ideal S8x5632 .f32) (x13 : Vec Ideal S2816x1024 .bf16) (x14 : Vec Ideal S1x1024 .f32) (x15 : Vec Ideal S1024x1024 .bf16) (x16 : Vec Ideal S256x1024 .bf16) (x17 : Vec Ideal S1x1024 .f32) (xs1 : Vec Ideal S16x1024 .bf16) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1 =
      lastB (nX (startW i) x0 x1 x2 x3 x4 x6 x7 x8 x9 x10) := by
  unfold sout0_B_1
  rw [View.read_writes_eq_canon _ _ _ (scover0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 x17 xs1), storeB]
  exact View.canon_cons_unit_zero (by funext a; fin_cases a <;> rfl) _ _ _

end Cert.Mix

end
-- ==== Proof.MixArray.lean ====
/- The array the last call leaves, as one function of the arrays it is given. -/
module

public import proofs.«01_k».proof.Proof.Rows
public import proofs.«01_k».proof.Proof.Step
public import proofs.«01_k».proof.Proof.Gen.Kernel2Ideal.Value
public import Idealize.ShloMosaic.Lib.Pipeline.ValueKit.Geometry

@[expose] public section

set_option maxRecDepth 16384

noncomputable section

namespace Cert.Mix

open Cert.Kernel2Ideal Cert.Kernel2Ideal.Gen
open Idealize.ShloMosaic Idealize.ShloMosaic.TcCoe
open Idealize.ShloMosaic.Pipeline (Dat Cfg Window)
open Cert.Attend (Sh ix2_of zero_at bits_lt ld2_of cast2 sgm)

variable (m : (ℓ : Loc nD τ sig) → Buf (Elt Ideal) ℓ)

theorem coord0 : ∀ t : Fin cfg0.N, (grid0.coords t 0).val = t.val :=
  (by decide +kernel : ∀ t : Fin grid0.N, (grid0.coords t 0).val = t.val)

theorem pt0 : ∀ t : Fin cfg0.N, win0_0.index t 0 = t.val ∧ win0_0.index t 1 = 0 :=
  (by decide +kernel : ∀ t : Fin grid0.N, win0_0.index t 0 = t.val ∧ win0_0.index t 1 = 0)

theorem block0 (c : Dev nD) (t : Fin cfg0.N) (r : Fin 512) (d : Fin 512) : iblk m c 0 t (ix2 r d) = V m c main_v2 (ix2 (rowOf t r) d) := by
  show V m c main_v2 ((win0_0.blk t).view.emb (ix2 r d)) = _
  refine congrArg (V m c main_v2) (ix2_of _ _ _ ?_ ?_)
  · show ((win0_0.blk t).view.emb (ix2 r d) 0).val = 512 * t.val + r.val
    blk_simp [(pt0 t).1]
    show t.val * 512 + r.val = _
    omega
  · show ((win0_0.blk t).view.emb (ix2 r d) 1).val = d.val
    blk_simp [(pt0 t).2]

theorem pt2 : ∀ t : Fin cfg0.N, win0_2.index t 0 = t.val ∧ win0_2.index t 1 = 0 :=
  (by decide +kernel : ∀ t : Fin grid0.N, win0_2.index t 0 = t.val ∧ win0_2.index t 1 = 0)

theorem block2 (c : Dev nD) (t : Fin cfg0.N) (r : Fin 512) (d : Fin 512) : iblk m c 2 t (ix2 r d) = V m c main_v4 (ix2 (rowOf t r) d) := by
  show V m c main_v4 ((win0_2.blk t).view.emb (ix2 r d)) = _
  refine congrArg (V m c main_v4) (ix2_of _ _ _ ?_ ?_)
  · show ((win0_2.blk t).view.emb (ix2 r d) 0).val = 512 * t.val + r.val
    blk_simp [(pt2 t).1]
    show t.val * 512 + r.val = _
    omega
  · show ((win0_2.blk t).view.emb (ix2 r d) 1).val = d.val
    blk_simp [(pt2 t).2]

theorem pt3 : ∀ t : Fin cfg0.N, win0_3.index t 0 = t.val ∧ win0_3.index t 1 = 0 :=
  (by decide +kernel : ∀ t : Fin grid0.N, win0_3.index t 0 = t.val ∧ win0_3.index t 1 = 0)

theorem block3 (c : Dev nD) (t : Fin cfg0.N) (r : Fin 512) (d : Fin 512) : iblk m c 3 t (ix2 r d) = V m c main_v6 (ix2 (rowOf t r) d) := by
  show V m c main_v6 ((win0_3.blk t).view.emb (ix2 r d)) = _
  refine congrArg (V m c main_v6) (ix2_of _ _ _ ?_ ?_)
  · show ((win0_3.blk t).view.emb (ix2 r d) 0).val = 512 * t.val + r.val
    blk_simp [(pt3 t).1]
    show t.val * 512 + r.val = _
    omega
  · show ((win0_3.blk t).view.emb (ix2 r d) 1).val = d.val
    blk_simp [(pt3 t).2]

theorem pt4 : ∀ t : Fin cfg0.N, win0_4.index t 0 = t.val ∧ win0_4.index t 1 = 0 :=
  (by decide +kernel : ∀ t : Fin grid0.N, win0_4.index t 0 = t.val ∧ win0_4.index t 1 = 0)

theorem block4 (c : Dev nD) (t : Fin cfg0.N) (r : Fin 512) (d : Fin 1024) : iblk m c 4 t (ix2 r d) = V m c main_v7 (ix2 (rowOf t r) d) := by
  show V m c main_v7 ((win0_4.blk t).view.emb (ix2 r d)) = _
  refine congrArg (V m c main_v7) (ix2_of _ _ _ ?_ ?_)
  · show ((win0_4.blk t).view.emb (ix2 r d) 0).val = 512 * t.val + r.val
    blk_simp [(pt4 t).1]
    show t.val * 512 + r.val = _
    omega
  · show ((win0_4.blk t).view.emb (ix2 r d) 1).val = d.val
    blk_simp [(pt4 t).2]

theorem pt5 : ∀ t : Fin cfg0.N, win0_5.index t 0 = t.val ∧ win0_5.index t 1 = 0 :=
  (by decide +kernel : ∀ t : Fin grid0.N, win0_5.index t 0 = t.val ∧ win0_5.index t 1 = 0)

theorem block5 (c : Dev nD) (t : Fin cfg0.N) (r : Fin 512) (d : Fin 256) : iblk m c 5 t (ix2 r d) = V m c main_v8 (ix2 (rowOf t r) d) := by
  show V m c main_v8 ((win0_5.blk t).view.emb (ix2 r d)) = _
  refine congrArg (V m c main_v8) (ix2_of _ _ _ ?_ ?_)
  · show ((win0_5.blk t).view.emb (ix2 r d) 0).val = 512 * t.val + r.val
    blk_simp [(pt5 t).1]
    show t.val * 512 + r.val = _
    omega
  · show ((win0_5.blk t).view.emb (ix2 r d) 1).val = d.val
    blk_simp [(pt5 t).2]

theorem pt1 : ∀ t : Fin cfg0.N, win0_1.index t 0 = 32 * t.val - 1 ∧ win0_1.index t 1 = 0 :=
  (by decide +kernel : ∀ t : Fin grid0.N, win0_1.index t 0 = 32 * t.val - 1 ∧ win0_1.index t 1 = 0)

theorem block1 (c : Dev nD) (t : Fin cfg0.N) (j : Fin 16) (d : Fin 512) : iblk m c 1 t (ix2 j d) = V m c main_v2 (ix2 (topOf t j) d) := by
  show V m c main_v2 ((win0_1.blk t).view.emb (ix2 j d)) = _
  refine congrArg (V m c main_v2) (ix2_of _ _ _ ?_ ?_)
  · show ((win0_1.blk t).view.emb (ix2 j d) 0).val = 512 * t.val - 16 + j.val
    blk_simp [(pt1 t).1]
    show (32 * t.val - 1) * 16 + j.val = _
    omega
  · show ((win0_1.blk t).view.emb (ix2 j d) 1).val = d.val
    blk_simp [(pt1 t).2]

theorem pt6 : ∀ t : Fin cfg0.N, win0_6.index t 0 = 0 ∧ win0_6.index t 1 = 0 :=
  (by decide +kernel : ∀ t : Fin grid0.N, win0_6.index t 0 = 0 ∧ win0_6.index t 1 = 0)

theorem block6 (c : Dev nD) (t : Fin cfg0.N) (r : Fin 8) (d : Fin 512) : iblk m c 6 t (ix2 r d) = V m c main_v10 (ix2 r d) := by
  show V m c main_v10 ((win0_6.blk t).view.emb (ix2 r d)) = _
  refine congrArg (V m c main_v10) (ix2_of _ _ _ ?_ ?_)
  · show ((win0_6.blk t).view.emb (ix2 r d) 0).val = r.val
    blk_simp [(pt6 t).1]
  · show ((win0_6.blk t).view.emb (ix2 r d) 1).val = d.val
    blk_simp [(pt6 t).2]

theorem pt7 : ∀ t : Fin cfg0.N, win0_7.index t 0 = 0 ∧ win0_7.index t 1 = 0 :=
  (by decide +kernel : ∀ t : Fin grid0.N, win0_7.index t 0 = 0 ∧ win0_7.index t 1 = 0)

theorem block7 (c : Dev nD) (t : Fin cfg0.N) (r : Fin 1) (d : Fin 512) : iblk m c 7 t (ix2 r d) = V m c main_v11 (ix2 r d) := by
  show V m c main_v11 ((win0_7.blk t).view.emb (ix2 r d)) = _
  refine congrArg (V m c main_v11) (ix2_of _ _ _ ?_ ?_)
  · show ((win0_7.blk t).view.emb (ix2 r d) 0).val = r.val
    blk_simp [(pt7 t).1]
  · show ((win0_7.blk t).view.emb (ix2 r d) 1).val = d.val
    blk_simp [(pt7 t).2]

theorem pt8 : ∀ t : Fin cfg0.N, win0_8.index t 0 = 0 ∧ win0_8.index t 1 = 0 :=
  (by decide +kernel : ∀ t : Fin grid0.N, win0_8.index t 0 = 0 ∧ win0_8.index t 1 = 0)

theorem block8 (c : Dev nD) (t : Fin cfg0.N) (r : Fin 1) (d : Fin 512) : iblk m c 8 t (ix2 r d) = V m c main_v12 (ix2 r d) := by
  show V m c main_v12 ((win0_8.blk t).view.emb (ix2 r d)) = _
  refine congrArg (V m c main_v12) (ix2_of _ _ _ ?_ ?_)
  · show ((win0_8.blk t).view.emb (ix2 r d) 0).val = r.val
    blk_simp [(pt8 t).1]
  · show ((win0_8.blk t).view.emb (ix2 r d) 1).val = d.val
    blk_simp [(pt8 t).2]

theorem pt9 : ∀ t : Fin cfg0.N, win0_9.index t 0 = 0 ∧ win0_9.index t 1 = 0 :=
  (by decide +kernel : ∀ t : Fin grid0.N, win0_9.index t 0 = 0 ∧ win0_9.index t 1 = 0)

theorem block9 (c : Dev nD) (t : Fin cfg0.N) (r : Fin 1024) (d : Fin 1024) : iblk m c 9 t (ix2 r d) = V m c main_v13 (ix2 r d) := by
  show V m c main_v13 ((win0_9.blk t).view.emb (ix2 r d)) = _
  refine congrArg (V m c main_v13) (ix2_of _ _ _ ?_ ?_)
  · show ((win0_9.blk t).view.emb (ix2 r d) 0).val = r.val
    blk_simp [(pt9 t).1]
  · show ((win0_9.blk t).view.emb (ix2 r d) 1).val = d.val
    blk_simp [(pt9 t).2]

theorem pt10 : ∀ t : Fin cfg0.N, win0_10.index t 0 = 0 ∧ win0_10.index t 1 = 0 :=
  (by decide +kernel : ∀ t : Fin grid0.N, win0_10.index t 0 = 0 ∧ win0_10.index t 1 = 0)

theorem block10 (c : Dev nD) (t : Fin cfg0.N) (r : Fin 1) (d : Fin 1024) : iblk m c 10 t (ix2 r d) = V m c main_v14 (ix2 r d) := by
  show V m c main_v14 ((win0_10.blk t).view.emb (ix2 r d)) = _
  refine congrArg (V m c main_v14) (ix2_of _ _ _ ?_ ?_)
  · show ((win0_10.blk t).view.emb (ix2 r d) 0).val = r.val
    blk_simp [(pt10 t).1]
  · show ((win0_10.blk t).view.emb (ix2 r d) 1).val = d.val
    blk_simp [(pt10 t).2]

theorem pt11 : ∀ t : Fin cfg0.N, win0_11.index t 0 = 0 ∧ win0_11.index t 1 = 0 :=
  (by decide +kernel : ∀ t : Fin grid0.N, win0_11.index t 0 = 0 ∧ win0_11.index t 1 = 0)

theorem block11 (c : Dev nD) (t : Fin cfg0.N) (r : Fin 1024) (d : Fin 5632) : iblk m c 11 t (ix2 r d) = V m c main_v15 (ix2 r d) := by
  show V m c main_v15 ((win0_11.blk t).view.emb (ix2 r d)) = _
  refine congrArg (V m c main_v15) (ix2_of _ _ _ ?_ ?_)
  · show ((win0_11.blk t).view.emb (ix2 r d) 0).val = r.val
    blk_simp [(pt11 t).1]
  · show ((win0_11.blk t).view.emb (ix2 r d) 1).val = d.val
    blk_simp [(pt11 t).2]

theorem pt12 : ∀ t : Fin cfg0.N, win0_12.index t 0 = 0 ∧ win0_12.index t 1 = 0 :=
  (by decide +kernel : ∀ t : Fin grid0.N, win0_12.index t 0 = 0 ∧ win0_12.index t 1 = 0)

theorem block12 (c : Dev nD) (t : Fin cfg0.N) (r : Fin 8) (d : Fin 5632) : iblk m c 12 t (ix2 r d) = V m c main_v17 (ix2 r d) := by
  show V m c main_v17 ((win0_12.blk t).view.emb (ix2 r d)) = _
  refine congrArg (V m c main_v17) (ix2_of _ _ _ ?_ ?_)
  · show ((win0_12.blk t).view.emb (ix2 r d) 0).val = r.val
    blk_simp [(pt12 t).1]
  · show ((win0_12.blk t).view.emb (ix2 r d) 1).val = d.val
    blk_simp [(pt12 t).2]

theorem pt13 : ∀ t : Fin cfg0.N, win0_13.index t 0 = 0 ∧ win0_13.index t 1 = 0 :=
  (by decide +kernel : ∀ t : Fin grid0.N, win0_13.index t 0 = 0 ∧ win0_13.index t 1 = 0)

theorem block13 (c : Dev nD) (t : Fin cfg0.N) (r : Fin 2816) (d : Fin 1024) : iblk m c 13 t (ix2 r d) = V m c main_v18 (ix2 r d) := by
  show V m c main_v18 ((win0_13.blk t).view.emb (ix2 r d)) = _
  refine congrArg (V m c main_v18) (ix2_of _ _ _ ?_ ?_)
  · show ((win0_13.blk t).view.emb (ix2 r d) 0).val = r.val
    blk_simp [(pt13 t).1]
  · show ((win0_13.blk t).view.emb (ix2 r d) 1).val = d.val
    blk_simp [(pt13 t).2]

theorem pt14 : ∀ t : Fin cfg0.N, win0_14.index t 0 = 0 ∧ win0_14.index t 1 = 0 :=
  (by decide +kernel : ∀ t : Fin grid0.N, win0_14.index t 0 = 0 ∧ win0_14.index t 1 = 0)

theorem block14 (c : Dev nD) (t : Fin cfg0.N) (r : Fin 1) (d : Fin 1024) : iblk m c 14 t (ix2 r d) = V m c main_v19 (ix2 r d) := by
  show V m c main_v19 ((win0_14.blk t).view.emb (ix2 r d)) = _
  refine congrArg (V m c main_v19) (ix2_of _ _ _ ?_ ?_)
  · show ((win0_14.blk t).view.emb (ix2 r d) 0).val = r.val
    blk_simp [(pt14 t).1]
  · show ((win0_14.blk t).view.emb (ix2 r d) 1).val = d.val
    blk_simp [(pt14 t).2]

theorem pt15 : ∀ t : Fin cfg0.N, win0_15.index t 0 = 0 ∧ win0_15.index t 1 = 0 :=
  (by decide +kernel : ∀ t : Fin grid0.N, win0_15.index t 0 = 0 ∧ win0_15.index t 1 = 0)

theorem block15 (c : Dev nD) (t : Fin cfg0.N) (r : Fin 1024) (d : Fin 1024) : iblk m c 15 t (ix2 r d) = V m c main_v20 (ix2 r d) := by
  show V m c main_v20 ((win0_15.blk t).view.emb (ix2 r d)) = _
  refine congrArg (V m c main_v20) (ix2_of _ _ _ ?_ ?_)
  · show ((win0_15.blk t).view.emb (ix2 r d) 0).val = r.val
    blk_simp [(pt15 t).1]
  · show ((win0_15.blk t).view.emb (ix2 r d) 1).val = d.val
    blk_simp [(pt15 t).2]

theorem pt16 : ∀ t : Fin cfg0.N, win0_16.index t 0 = 0 ∧ win0_16.index t 1 = 0 :=
  (by decide +kernel : ∀ t : Fin grid0.N, win0_16.index t 0 = 0 ∧ win0_16.index t 1 = 0)

theorem block16 (c : Dev nD) (t : Fin cfg0.N) (r : Fin 256) (d : Fin 1024) : iblk m c 16 t (ix2 r d) = V m c main_v21 (ix2 r d) := by
  show V m c main_v21 ((win0_16.blk t).view.emb (ix2 r d)) = _
  refine congrArg (V m c main_v21) (ix2_of _ _ _ ?_ ?_)
  · show ((win0_16.blk t).view.emb (ix2 r d) 0).val = r.val
    blk_simp [(pt16 t).1]
  · show ((win0_16.blk t).view.emb (ix2 r d) 1).val = d.val
    blk_simp [(pt16 t).2]

theorem pt17 : ∀ t : Fin cfg0.N, win0_17.index t 0 = 0 ∧ win0_17.index t 1 = 0 :=
  (by decide +kernel : ∀ t : Fin grid0.N, win0_17.index t 0 = 0 ∧ win0_17.index t 1 = 0)

theorem block17 (c : Dev nD) (t : Fin cfg0.N) (r : Fin 1) (d : Fin 1024) : iblk m c 17 t (ix2 r d) = V m c main_v22 (ix2 r d) := by
  show V m c main_v22 ((win0_17.blk t).view.emb (ix2 r d)) = _
  refine congrArg (V m c main_v22) (ix2_of _ _ _ ?_ ?_)
  · show ((win0_17.blk t).view.emb (ix2 r d) 0).val = r.val
    blk_simp [(pt17 t).1]
  · show ((win0_17.blk t).view.emb (ix2 r d) 1).val = d.val
    blk_simp [(pt17 t).2]

/-- The residual after the mixing, in the arrays the call is given. -/
def hK (c : Dev nD) : Fin 32768 → Fin 1024 → EReal :=
  hAll (fun d => V m c main_v10 (ix2 (0 : Fin 8) d)) (fun d => V m c main_v10 (ix2 (1 : Fin 8) d)) (fun d => V m c main_v10 (ix2 (2 : Fin 8) d)) (fun d => V m c main_v11 (ix2 (0 : Fin 1) d)) (fun d => V m c main_v12 (ix2 (0 : Fin 1) d))
    (fun k d => V m c main_v13 (ix2 k d)) (fun R d => V m c main_v2 (ix2 R d)) (fun R d => V m c main_v4 (ix2 R d)) (fun R d => V m c main_v6 (ix2 R d)) (fun R d => V m c main_v7 (ix2 R d))

/-- The result, in the arrays the call is given. -/
def oK (c : Dev nD) : Fin 32768 → Fin 1024 → EReal :=
  outAll (fun d => V m c main_v17 (ix2 (0 : Fin 8) d)) (fun d => V m c main_v17 (ix2 (1 : Fin 8) d)) (fun d => V m c main_v17 (ix2 (2 : Fin 8) d))
    (fun k d => V m c main_v18 (ix2 k d)) (fun d => V m c main_v19 (ix2 (0 : Fin 1) d)) (fun d => V m c main_v22 (ix2 (0 : Fin 1) d)) (fun k d => V m c main_v20 (ix2 k d)) (fun k d => V m c main_v21 (ix2 k d)) (fun d => V m c main_v14 (ix2 (0 : Fin 1) d)) (fun k d => V m c main_v15 (ix2 k d)) (hK m c) (fun R d => V m c main_v8 (ix2 R d))

theorem start_at (t : Fin cfg0.N) : startW (grid0.coords t) = if t.val % 4 = 0 then 1#1 else 0#1 := by
  rw [startW_eq, coord0]

theorem hX_blk (c : Dev nD) (t : Fin cfg0.N) (r : Fin 512) (d : Fin 1024) :
    hX (if t.val % 4 = 0 then 1#1 else 0#1) (iblk m c 0 t) (iblk m c 1 t) (iblk m c 2 t) (iblk m c 3 t) (iblk m c 4 t) (iblk m c 6 t) (iblk m c 7 t) (iblk m c 8 t) (iblk m c 9 t) (ix2 r d) = hK m c (rowOf t r) d := by
  refine (hX_apply _ _ _ _ _ _ _ _ _ _ r d).trans ?_
  simp only [block6, block7, block8, block9, block2, block3, block4]
  rw [back_glob (fun R d => V m c main_v2 (ix2 R d)) _ t _ (fun r => funext fun d => block0 m c t r d) (fun _ j d => block1 m c t j d),
    back_glob (fun R d => V m c main_v2 (ix2 R d)) _ t _ (fun r => funext fun d => block0 m c t r d) (fun _ j d => block1 m c t j d)]
  simp only [block0]
  rfl

/-- What a step leaves for the next: the normed rows of its block's last 16. -/
theorem left_eq (c : Dev nD) (t : Fin cfg0.N) (j : Fin 16) (d : Fin 1024) :
    (outsAt0 m c t.val t.isLt).2 (ix2 j d) = rmsAt 0x44800000#32 (hK m c (rowOf t ⟨496 + j.val, by omega⟩)) (fun d => V m c main_v14 (ix2 (0 : Fin 1) d)) d := by
  have key : (outsAt0 m c t.val t.isLt).2 = lastB (nX (startW (grid0.coords t)) (iblk m c 0 t) (iblk m c 1 t) (iblk m c 2 t) (iblk m c 3 t) (iblk m c 4 t) (iblk m c 6 t) (iblk m c 7 t) (iblk m c 8 t) (iblk m c 9 t) (iblk m c 10 t)) := by
    by_cases h0 : t.val % 64 = 0
    · rw [outsAt0_A m c t h0]
      dsimp only
      rw [lastA_eq]
    · rw [outsAt0_B m c t h0]
      dsimp only
      rw [lastB_eq]
  rw [key, start_at]
  refine (lastB_apply _ j d).trans ?_
  refine (nX_apply _ _ _ _ _ _ _ _ _ _ _ _ d).trans ?_
  simp only [hX_blk, block10]

/-- The block a step writes back, at one row. -/
theorem row_blk (c : Dev nD) (t : Fin cfg0.N) {sig' : RefSig} {κ' : Kind} {sp : Space} (v : View sig' κ' sp S512x2816 .bf16) (q : FVec Ideal (Sh 16 1024) .bf16)
    (hq : ¬ t.val % 4 = 0 → ∀ j d, q (ix2 j d) = rmsAt 0x44800000#32 (hK m c (topOf t j)) (fun d => V m c main_v14 (ix2 (0 : Fin 1) d)) d)
    (r : Fin 512) (d : Fin 1024) :
    outX (startW (grid0.coords t)) v q (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r d) = oK m c (rowOf t r) d := by
  rw [start_at]
  refine (outX_apply _ v q _ _ _ _ _ _ _ _ _ _ _ _ _ _ _ _ _ _ r d (fun r => hK m c (rowOf t r)) (hX_blk m c t)).trans ?_
  simp only [block5, block10, block11, block12, block13, block14, block15, block16, block17]
  have hu : ¬ t.val % 4 = 0 → ∀ (j : Fin 16) (f : Fin 5632), projRow (fun k f => V m c main_v15 (ix2 k f)) (fun k => q (ix2 j k)) f
      = upRow (fun d => V m c main_v14 (ix2 (0 : Fin 1) d)) (fun k f => V m c main_v15 (ix2 k f)) (hK m c (topOf t j)) f := by
    intro ht j f
    unfold projRow upRow
    exact Finset.sum_congr rfl fun k _ => congrArg (fun y : EReal => y * V m c main_v15 (ix2 k f)) (hq ht j k)
  rw [back_glob (fun R => upRow (fun d => V m c main_v14 (ix2 (0 : Fin 1) d)) (fun k f => V m c main_v15 (ix2 k f)) (hK m c R)) _ t _ (fun r => rfl) hu,
    back_glob (fun R => upRow (fun d => V m c main_v14 (ix2 (0 : Fin 1) d)) (fun k f => V m c main_v15 (ix2 k f)) (hK m c R)) _ t _ (fun r => rfl) hu]
  rfl

theorem flushed_eq (c : Dev nD) (t : Fin cfg0.N) :
    (dats m 0 c).flushed 18 t = (cfg0.win 18).cut (grid0.coords t) (fun y : S512x1024.Idx => oK m c (rowOf t (y 0)) (y 1)) := by
  by_cases h0 : t.val % 64 = 0
  · rw [Value.flushed18_A m c t h0, outA_eq]
    refine congrArg _ (funext fun y => ?_)
    rw [ix2_of y (y 0) (y 1) rfl rfl]
    exact row_blk m c t _ _ (fun h => absurd (by omega) h) (y 0) (y 1)
  · rw [Value.flushed18_B m c t h0, outB_eq]
    refine congrArg _ (funext fun y => ?_)
    rw [ix2_of y (y 0) (y 1) rfl rfl]
    refine row_blk m c t _ _ (fun h j d => ?_) (y 0) (y 1)
    refine (left_eq m c ⟨t.val - 1, by have := t.isLt; omega⟩ j d).trans ?_
    refine congrArg (fun R => rmsAt 0x44800000#32 (hK m c R) _ d) (Fin.ext ?_)
    show 512 * (t.val - 1) + (496 + j.val) = 512 * t.val - 16 + j.val
    omega

/-- The array the call leaves. -/
theorem final (c : Dev nD) (R : Fin 32768) (C : Fin 1024) :
    ((dats m 0 c).arrAt 18 cfg0.N : S32768x1024.Idx → EReal) (ix2 R C) = oK m c R C := by
  have key : ∀ (t : Fin cfg0.N) (r : Fin 512), ((dats m 0 c).arrAt 18 cfg0.N : S32768x1024.Idx → EReal) (ix2 (rowOf t r) C) = oK m c (rowOf t r) C := by
    intro t r
    have hb := congrFun (Value.blocks18 m c t (flush0_18 t)) (ix2 r C)
    rw [flushed_eq m c t] at hb
    have he : (win0_18.blk t).view.emb (ix2 r C) = ix2 (rowOf t r) C := by
      have hp := (by decide +kernel : ∀ t : Fin grid0.N, win0_18.index t 0 = t.val ∧ win0_18.index t 1 = 0) t
      refine ix2_of _ _ _ ?_ ?_
      · show ((win0_18.blk t).view.emb (ix2 r C) 0).val = 512 * t.val + r.val
        blk_simp [hp.1]
        show t.val * 512 + r.val = _
        omega
      · show ((win0_18.blk t).view.emb (ix2 r C) 1).val = C.val
        blk_simp [hp.2]
    rw [← he]
    exact hb
  have hR : rowOf (⟨R.val / 512, by omega⟩ : Fin 64) ⟨R.val % 512, Nat.mod_lt _ (by decide)⟩ = R := Fin.ext (Nat.div_add_mod _ _)
  rw [← hR]
  exact key _ _

end Cert.Mix

end
-- ==== Proof.MixRef.lean ====
/- The last call's reference at an index: the same rows, over the whole sequence. -/
module

public import proofs.«01_k».proof.Proof.Rows
public import proofs.«01_k».proof.Proof.Gen.Reference2Ideal.Read
public import Idealize.ShloMosaic.Lib.KernelVsHost

@[expose] public section

set_option maxRecDepth 16384

noncomputable section

namespace Cert.Mix.Ref

open Cert.Reference2Ideal Cert.Reference2Ideal.Gen Cert.Reference2Ideal.Read
open Idealize.ShloMosaic Idealize.ShloMosaic.TcCoe
open Cert.Attend (sgm)

theorem at3 {a b c : ℕ} (f : (⟨3, ![a, b, c]⟩ : Shape).Idx) (i : Fin a) (j : Fin b) (k : Fin c)
    (h0 : (f 0).val = i.val) (h1 : (f 1).val = j.val) (h2 : (f 2).val = k.val) : f = ix3 i j k :=
  (eq_ix3 f).trans ((ix3_inj _ _ _ _ _ _).2 ⟨Fin.ext h0, Fin.ext h1, Fin.ext h2⟩)

theorem at2 {a b : ℕ} (f : (⟨2, ![a, b]⟩ : Shape).Idx) (i : Fin a) (j : Fin b) (h0 : (f 0).val = i.val) (h1 : (f 1).val = j.val) : f = ix2 i j :=
  (eq_ix2 f).trans ((ix2_inj _ _ _ _).2 ⟨Fin.ext h0, Fin.ext h1⟩)

theorem at1 {a : ℕ} (f : (⟨1, ![a]⟩ : Shape).Idx) (i : Fin a) (h0 : (f 0).val = i.val) : f = ix1 i := by
  funext k
  refine Fin.ext ?_
  fin_cases k
  exact h0

/-- A row of the flattened array: its sequence, and its position there. -/
def seqOf (R : Fin 32768) : Fin 16 := ⟨R.val / 2048, by omega⟩
def posOf (R : Fin 32768) : Fin 2048 := ⟨R.val % 2048, Nat.mod_lt _ (by decide)⟩

/-- An array of sequences, row by row. -/
def rowsOf {n : ℕ} (X : (⟨3, ![16, 2048, n]⟩ : Shape).Idx → EReal) (R : Fin 32768) (c : Fin n) : EReal := X (ix3 (seqOf R) (posOf R) c)

theorem pad_prev {N : ℕ} (X : (⟨3, ![16, 2048, N]⟩ : Shape).Idx → EReal) (z : S_.Idx → EReal) (hz : ∀ i, z i = 0)
    (hp : (⟨3, ![16, 2048, N]⟩ : Shape).Pads ![0, 2, 0] ![0, 0, 0] ![0, 0, 0] ⟨3, ![16, 2050, N]⟩) (hu) (k : ℕ) (hk : k ≤ 2)
    (R : Fin 32768) (c : Fin N) (i : (⟨3, ![16, 2050, N]⟩ : Shape).Idx) (h0 : (i 0).val = (seqOf R).val) (h1 : (i 1).val + k = (posOf R).val + 2) (h2 : (i 2).val = c.val) :
    pad ⟨3, ![16, 2050, N]⟩ ![0, 2, 0] ![0, 0, 0] ![0, 0, 0] X z hp hu i = prevRow (rowsOf X) k R c := by
  have hpos : (posOf R).val = R.val % 2048 := rfl
  have hseq : (seqOf R).val = R.val / 2048 := rfl
  unfold prevRow
  by_cases hlt : R.val % 2048 < k
  · rw [if_pos hlt]
    refine (pad_apply_of_not_inside _ _ _ X z hp hu i (1 : Fin 3) ?_).trans (hz _)
    rintro ⟨h, -⟩
    have : 2 ≤ (i 1).val := h
    omega
  · rw [if_neg hlt]
    refine pad_apply_of_inside _ _ _ X z hp hu i (ix3 (seqOf ⟨R.val - k, by omega⟩) (posOf ⟨R.val - k, by omega⟩) c) (fun a => ?_)
    match a with
    | ⟨0, _⟩ =>
      show (i 0).val = 0 + (R.val - k) / 2048 * 1
      omega
    | ⟨1, _⟩ =>
      show (i 1).val = 2 + (R.val - k) % 2048 * 1
      omega
    | ⟨2, _⟩ =>
      show (i 2).val = 0 + c.val * 1
      omega

theorem zero_word : FloatOps.sitofp (F := Ideal) .f32 0#32 = 0 := by
  show (((0#32).toInt : ℝ) : EReal) = 0
  simp

variable (x0 : FVec Ideal S16x2048x1024 .f32) (x1 : FVec Ideal S16x2048x256 .f32) (x2 x3 x4 x5 : FVec Ideal S16x2048x512 .f32) (x6 : FVec Ideal S3x512 .f32)
  (x7 x8 : FVec Ideal S512 .f32) (x9 : FVec Ideal S1024x1024 .f32) (x10 : FVec Ideal S1024 .f32) (x11 : FVec Ideal S1024x5632 .f32) (x12 : FVec Ideal S3x5632 .f32)
  (x13 : FVec Ideal S2816x1024 .f32) (x14 : FVec Ideal S1024 .f32) (x15 : FVec Ideal S1024x1024 .f32) (x16 : FVec Ideal S256x1024 .f32) (x17 : FVec Ideal S1024 .f32)

theorem z0 (i : S_.Idx) : val_main_call0_v0 (F := Ideal) i = 0 := zero_word

theorem z1 (i : S_.Idx) : val_main_call1_v0 (F := Ideal) i = 0 := zero_word

theorem conv21_at (R : Fin 32768) (c : Fin 512) : rowsOf (val_main_v21 (F := Ideal) x2 x4 x6) R c =
    x6 (ix2 (0 : Fin 3) c) * prevRow (rowsOf (val_main_v0 (F := Ideal) x2 x4)) 2 R c + x6 (ix2 (1 : Fin 3) c) * prevRow (rowsOf (val_main_v0 (F := Ideal) x2 x4)) 1 R c
      + x6 (ix2 (2 : Fin 3) c) * rowsOf (val_main_v0 (F := Ideal) x2 x4) R c := by
  have e : prevRow (rowsOf (val_main_v0 (F := Ideal) x2 x4)) 0 R c = rowsOf (val_main_v0 (F := Ideal) x2 x4) R c := if_neg (Nat.not_lt_zero _)
  rw [← e]
  unfold rowsOf
  rw [val_main_v21_apply, val_main_v14_apply, val_main_v7_apply, val_main_v13_apply, val_main_v20_apply,
    val_main_v6_apply, val_main_v5_apply, val_main_v3_apply, val_main_v2_apply, val_main_v4_apply,
    val_main_v12_apply, val_main_v11_apply, val_main_v9_apply, val_main_v8_apply, val_main_v10_apply,
    val_main_v19_apply, val_main_v18_apply, val_main_v16_apply, val_main_v15_apply, val_main_v17_apply]
  have hc := c.isLt
  refine congrArg₂ (· + ·) (congrArg₂ (· + ·) (congrArg₂ (· * ·) (congrArg x6 ?_) ?_) (congrArg₂ (· * ·) (congrArg x6 ?_) ?_))
    (congrArg₂ (· * ·) (congrArg x6 ?_) ?_)
  · exact at2 _ _ _ (by rfl) (Nat.mod_eq_of_lt hc)
  · exact pad_prev (N := 512) _ _ z0 _ _ 2 (by omega) R c _ rfl rfl rfl
  · exact at2 _ _ _ (by rfl) (Nat.mod_eq_of_lt hc)
  · exact pad_prev (N := 512) _ _ z0 _ _ 1 (by omega) R c _ rfl (by show _ + (posOf R).val + _ = _; omega) rfl
  · exact at2 _ _ _ (by rfl) (Nat.mod_eq_of_lt hc)
  · exact pad_prev (N := 512) _ _ z0 _ _ 0 (by omega) R c _ rfl (by show _ + (posOf R).val + _ = _; omega) rfl

theorem gate22_at (R : Fin 32768) (c : Fin 512) : rowsOf (val_main_v22 (F := Ideal) x2 x3 x4 x6) R c = rowsOf x3 R c * rowsOf (val_main_v21 (F := Ideal) x2 x4 x6) R c := rfl

theorem rms35_at (R : Fin 32768) (c : Fin 512) : rowsOf (val_main_v35 (F := Ideal) x2 x3 x4 x6 x7) R c =
    rmsAt 0x44000000#32 (rowsOf (val_main_v22 (F := Ideal) x2 x3 x4 x6) R) (fun c => x7 (ix1 c)) c := by
  unfold rmsAt rowsOf
  rw [val_main_v35_apply, val_main_v32_apply, val_main_v34_apply, val_main_v33_apply, val_main_v31_apply, val_main_v30_apply, val_main_v29_apply, val_main_v28_apply, val_main_cst_1_apply, val_main_v27_apply, val_main_v26_apply, val_main_cst_0_apply, val_main_v25_apply, val_main_v24_apply, val_main_cst_apply]
  refine congrArg₂ (· * ·) (congrArg₂ (· * ·) rfl (congrArg Ideal.rsqrt (congrArg (· + _) (congrArg (Ideal.div · _) ?_)))) (congrArg x7 (at1 _ _ rfl))
  refine (congrArg (· + _) zero_bits).trans ((zero_add _).trans (Finset.sum_congr rfl fun k _ => ?_))
  exact congrArg (fun i => (val_main_v22 (F := Ideal) x2 x3 x4 x6) i * (val_main_v22 (F := Ideal) x2 x3 x4 x6) i) (at3 _ _ _ k rfl rfl rfl)

theorem rms48_at (R : Fin 32768) (c : Fin 512) : rowsOf (val_main_v48 (F := Ideal) x5 x8) R c =
    rmsAt 0x44000000#32 (rowsOf (x5) R) (fun c => x8 (ix1 c)) c := by
  unfold rmsAt rowsOf
  rw [val_main_v48_apply, val_main_v45_apply, val_main_v47_apply, val_main_v46_apply, val_main_v44_apply, val_main_v43_apply, val_main_v42_apply, val_main_v41_apply, val_main_cst_4_apply, val_main_v40_apply, val_main_v39_apply, val_main_cst_3_apply, val_main_v38_apply, val_main_v37_apply, val_main_cst_2_apply]
  refine congrArg₂ (· * ·) (congrArg₂ (· * ·) rfl (congrArg Ideal.rsqrt (congrArg (· + _) (congrArg (Ideal.div · _) ?_)))) (congrArg x8 (at1 _ _ rfl))
  refine (congrArg (· + _) zero_bits).trans ((zero_add _).trans (Finset.sum_congr rfl fun k _ => ?_))
  exact congrArg (fun i => (x5) i * (x5) i) (at3 _ _ _ k rfl rfl rfl)

theorem join_at (R : Fin 32768) (k : Fin 1024) : rowsOf (val_main_v49 (F := Ideal) x2 x3 x4 x5 x6 x7 x8) R k =
    if h : k.val < 512 then rowsOf (val_main_v35 (F := Ideal) x2 x3 x4 x6 x7) R (⟨k.val, h⟩ : Fin 512) else rowsOf (val_main_v48 (F := Ideal) x5 x8) R (⟨k.val - 512, by omega⟩ : Fin 512) := by
  unfold rowsOf val_main_v49
  by_cases h : k.val < 512
  · rw [dif_pos h]
    exact concatenate_pair_apply_left (t := S16x2048x1024) (s₁ := S16x2048x512) (s₂ := S16x2048x512) 2 _ _ _ (ix3 (seqOf R) (posOf R) k) rfl
      (ix3 (seqOf R) (posOf R) (⟨k.val, h⟩ : Fin 512)) (fun c => match c with | ⟨0, _⟩ => rfl | ⟨1, _⟩ => rfl | ⟨2, _⟩ => rfl)
  · rw [dif_neg h]
    exact concatenate_pair_apply_right (t := S16x2048x1024) (s₁ := S16x2048x512) (s₂ := S16x2048x512) 2 _ _ _ (ix3 (seqOf R) (posOf R) k) rfl rfl
      (ix3 (seqOf R) (posOf R) (⟨k.val - 512, by omega⟩ : Fin 512)) (fun c => match c with | ⟨0, _⟩ => fun _ => rfl | ⟨1, _⟩ => fun _ => rfl | ⟨2, _⟩ => fun h => absurd rfl h)
      (by show k.val - 512 + 512 = k.val; omega)

theorem dot50_at (R : Fin 32768) (d : Fin 1024) : rowsOf (val_main_v50 (F := Ideal) x2 x3 x4 x5 x6 x7 x8 x9) R d = ∑ k : Fin 1024, rowsOf (val_main_v49 (F := Ideal) x2 x3 x4 x5 x6 x7 x8) R k * x9 (ix2 k d) := by
  unfold rowsOf
  rw [val_main_v50_apply]
  exact Finset.sum_congr rfl fun k _ => congrArg₂ (· * ·) (congrArg _ (at3 _ _ _ k rfl rfl rfl)) (congrArg x9 (at2 _ k d rfl rfl))

theorem rms64_at (R : Fin 32768) (c : Fin 1024) : rowsOf (val_main_v64 (F := Ideal) x0 x2 x3 x4 x5 x6 x7 x8 x9 x10) R c =
    rmsAt 0x44800000#32 (rowsOf (val_main_v51 (F := Ideal) x0 x2 x3 x4 x5 x6 x7 x8 x9) R) (fun c => x10 (ix1 c)) c := by
  unfold rmsAt rowsOf
  rw [val_main_v64_apply, val_main_v61_apply, val_main_v63_apply, val_main_v62_apply, val_main_v60_apply, val_main_v59_apply, val_main_v58_apply, val_main_v57_apply, val_main_cst_7_apply, val_main_v56_apply, val_main_v55_apply, val_main_cst_6_apply, val_main_v54_apply, val_main_v53_apply, val_main_cst_5_apply]
  refine congrArg₂ (· * ·) (congrArg₂ (· * ·) rfl (congrArg Ideal.rsqrt (congrArg (· + _) (congrArg (Ideal.div · _) ?_)))) (congrArg x10 (at1 _ _ rfl))
  refine (congrArg (· + _) zero_bits).trans ((zero_add _).trans (Finset.sum_congr rfl fun k _ => ?_))
  exact congrArg (fun i => (val_main_v51 (F := Ideal) x0 x2 x3 x4 x5 x6 x7 x8 x9) i * (val_main_v51 (F := Ideal) x0 x2 x3 x4 x5 x6 x7 x8 x9) i) (at3 _ _ _ k rfl rfl rfl)

theorem dot65_at (R : Fin 32768) (d : Fin 5632) : rowsOf (val_main_v65 (F := Ideal) x0 x2 x3 x4 x5 x6 x7 x8 x9 x10 x11) R d = ∑ k : Fin 1024, rowsOf (val_main_v64 (F := Ideal) x0 x2 x3 x4 x5 x6 x7 x8 x9 x10) R k * x11 (ix2 k d) := by
  unfold rowsOf
  rw [val_main_v65_apply]
  exact Finset.sum_congr rfl fun k _ => congrArg₂ (· * ·) (congrArg _ (at3 _ _ _ k rfl rfl rfl)) (congrArg x11 (at2 _ k d rfl rfl))

theorem conv86_at (R : Fin 32768) (c : Fin 5632) : rowsOf (val_main_v86 (F := Ideal) x0 x2 x3 x4 x5 x6 x7 x8 x9 x10 x11 x12) R c =
    x12 (ix2 (0 : Fin 3) c) * prevRow (rowsOf (val_main_v65 (F := Ideal) x0 x2 x3 x4 x5 x6 x7 x8 x9 x10 x11)) 2 R c + x12 (ix2 (1 : Fin 3) c) * prevRow (rowsOf (val_main_v65 (F := Ideal) x0 x2 x3 x4 x5 x6 x7 x8 x9 x10 x11)) 1 R c
      + x12 (ix2 (2 : Fin 3) c) * rowsOf (val_main_v65 (F := Ideal) x0 x2 x3 x4 x5 x6 x7 x8 x9 x10 x11) R c := by
  have e : prevRow (rowsOf (val_main_v65 (F := Ideal) x0 x2 x3 x4 x5 x6 x7 x8 x9 x10 x11)) 0 R c = rowsOf (val_main_v65 (F := Ideal) x0 x2 x3 x4 x5 x6 x7 x8 x9 x10 x11) R c := if_neg (Nat.not_lt_zero _)
  rw [← e]
  unfold rowsOf
  rw [val_main_v86_apply, val_main_v79_apply, val_main_v72_apply, val_main_v78_apply, val_main_v85_apply,
    val_main_v71_apply, val_main_v70_apply, val_main_v68_apply, val_main_v67_apply, val_main_v69_apply,
    val_main_v77_apply, val_main_v76_apply, val_main_v74_apply, val_main_v73_apply, val_main_v75_apply,
    val_main_v84_apply, val_main_v83_apply, val_main_v81_apply, val_main_v80_apply, val_main_v82_apply]
  have hc := c.isLt
  refine congrArg₂ (· + ·) (congrArg₂ (· + ·) (congrArg₂ (· * ·) (congrArg x12 ?_) ?_) (congrArg₂ (· * ·) (congrArg x12 ?_) ?_))
    (congrArg₂ (· * ·) (congrArg x12 ?_) ?_)
  · exact at2 _ _ _ (by rfl) (Nat.mod_eq_of_lt hc)
  · exact pad_prev (N := 5632) _ _ z1 _ _ 2 (by omega) R c _ rfl rfl rfl
  · exact at2 _ _ _ (by rfl) (Nat.mod_eq_of_lt hc)
  · exact pad_prev (N := 5632) _ _ z1 _ _ 1 (by omega) R c _ rfl (by show _ + (posOf R).val + _ = _; omega) rfl
  · exact at2 _ _ _ (by rfl) (Nat.mod_eq_of_lt hc)
  · exact pad_prev (N := 5632) _ _ z1 _ _ 0 (by omega) R c _ rfl (by show _ + (posOf R).val + _ = _; omega) rfl

theorem act_at (R : Fin 32768) (f : Fin 2816) : rowsOf (val_main_v90 (F := Ideal) x0 x2 x3 x4 x5 x6 x7 x8 x9 x10 x11 x12) R f =
    rowsOf (val_main_v86 (F := Ideal) x0 x2 x3 x4 x5 x6 x7 x8 x9 x10 x11 x12) R ⟨f.val, by omega⟩ * sgm (rowsOf (val_main_v86 (F := Ideal) x0 x2 x3 x4 x5 x6 x7 x8 x9 x10 x11 x12) R ⟨f.val, by omega⟩) * rowsOf (val_main_v86 (F := Ideal) x0 x2 x3 x4 x5 x6 x7 x8 x9 x10 x11 x12) R ⟨2816 + f.val, by omega⟩ := by
  unfold rowsOf
  rw [val_main_v90_apply, val_main_v89_apply, val_main_call2_v5_apply, val_main_call2_v4_apply, val_main_call2_cst_0_apply, val_main_call2_v3_apply,
    val_main_call2_v2_apply, val_main_call2_cst_apply, val_main_call2_v1_apply, val_main_call2_v0_apply, val_main_v87_apply, val_main_v88_apply,
    show idx_main_v87 (ix3 (seqOf R) (posOf R) f) = ix3 (seqOf R) (posOf R) (⟨f.val, by omega⟩ : Fin 5632) from at3 _ _ _ _ rfl rfl rfl,
    show idx_main_v88 (ix3 (seqOf R) (posOf R) f) = ix3 (seqOf R) (posOf R) (⟨2816 + f.val, by omega⟩ : Fin 5632) from at3 _ _ _ _ rfl rfl rfl]
  rfl

theorem dot91_at (R : Fin 32768) (d : Fin 1024) : rowsOf (val_main_v91 (F := Ideal) x0 x2 x3 x4 x5 x6 x7 x8 x9 x10 x11 x12 x13) R d = ∑ k : Fin 2816, rowsOf (val_main_v90 (F := Ideal) x0 x2 x3 x4 x5 x6 x7 x8 x9 x10 x11 x12) R k * x13 (ix2 k d) := by
  unfold rowsOf
  rw [val_main_v91_apply]
  exact Finset.sum_congr rfl fun k _ => congrArg₂ (· * ·) (congrArg _ (at3 _ _ _ k rfl rfl rfl)) (congrArg x13 (at2 _ k d rfl rfl))

theorem rms105_at (R : Fin 32768) (c : Fin 1024) : rowsOf (val_main_v105 (F := Ideal) x0 x2 x3 x4 x5 x6 x7 x8 x9 x10 x11 x12 x13 x14) R c =
    rmsAt 0x44800000#32 (rowsOf (val_main_v92 (F := Ideal) x0 x2 x3 x4 x5 x6 x7 x8 x9 x10 x11 x12 x13) R) (fun c => x14 (ix1 c)) c := by
  unfold rmsAt rowsOf
  rw [val_main_v105_apply, val_main_v102_apply, val_main_v104_apply, val_main_v103_apply, val_main_v101_apply, val_main_v100_apply, val_main_v99_apply, val_main_v98_apply, val_main_cst_11_apply, val_main_v97_apply, val_main_v96_apply, val_main_cst_10_apply, val_main_v95_apply, val_main_v94_apply, val_main_cst_9_apply]
  refine congrArg₂ (· * ·) (congrArg₂ (· * ·) rfl (congrArg Ideal.rsqrt (congrArg (· + _) (congrArg (Ideal.div · _) ?_)))) (congrArg x14 (at1 _ _ rfl))
  refine (congrArg (· + _) zero_bits).trans ((zero_add _).trans (Finset.sum_congr rfl fun k _ => ?_))
  exact congrArg (fun i => (val_main_v92 (F := Ideal) x0 x2 x3 x4 x5 x6 x7 x8 x9 x10 x11 x12 x13) i * (val_main_v92 (F := Ideal) x0 x2 x3 x4 x5 x6 x7 x8 x9 x10 x11 x12 x13) i) (at3 _ _ _ k rfl rfl rfl)

theorem dot106_at (R : Fin 32768) (d : Fin 1024) : rowsOf (val_main_v106 (F := Ideal) x0 x2 x3 x4 x5 x6 x7 x8 x9 x10 x11 x12 x13 x14 x15) R d = ∑ k : Fin 1024, rowsOf (val_main_v105 (F := Ideal) x0 x2 x3 x4 x5 x6 x7 x8 x9 x10 x11 x12 x13 x14) R k * x15 (ix2 k d) := by
  unfold rowsOf
  rw [val_main_v106_apply]
  exact Finset.sum_congr rfl fun k _ => congrArg₂ (· * ·) (congrArg _ (at3 _ _ _ k rfl rfl rfl)) (congrArg x15 (at2 _ k d rfl rfl))

theorem dot113_at (R : Fin 32768) (d : Fin 1024) : rowsOf (val_main_v113 (F := Ideal) x1 x16) R d = ∑ k : Fin 256, rowsOf (x1) R k * x16 (ix2 k d) := by
  unfold rowsOf
  rw [val_main_v113_apply]
  exact Finset.sum_congr rfl fun k _ => congrArg₂ (· * ·) (congrArg _ (at3 _ _ _ k rfl rfl rfl)) (congrArg x16 (at2 _ k d rfl rfl))

theorem last_at (R : Fin 32768) (d : Fin 1024) : rowsOf (val_main_v115 (F := Ideal) x0 x1 x2 x3 x4 x5 x6 x7 x8 x9 x10 x11 x12 x13 x14 x15 x16) R d =
    rowsOf (val_main_v92 (F := Ideal) x0 x2 x3 x4 x5 x6 x7 x8 x9 x10 x11 x12 x13) R d + sgm (rowsOf (val_main_v106 (F := Ideal) x0 x2 x3 x4 x5 x6 x7 x8 x9 x10 x11 x12 x13 x14 x15) R d) * rowsOf (val_main_v113 (F := Ideal) x1 x16) R d := by
  unfold rowsOf
  rw [val_main_v115_apply, val_main_v114_apply, val_main_v112_apply, val_main_v111_apply, val_main_cst_13_apply, val_main_v110_apply, val_main_v109_apply,
    val_main_cst_12_apply, val_main_v108_apply, val_main_v107_apply]
  rfl

theorem rms128_at (R : Fin 32768) (c : Fin 1024) : rowsOf (val_main_v128 (F := Ideal) x0 x1 x2 x3 x4 x5 x6 x7 x8 x9 x10 x11 x12 x13 x14 x15 x16 x17) R c =
    rmsAt 0x44800000#32 (rowsOf (val_main_v115 (F := Ideal) x0 x1 x2 x3 x4 x5 x6 x7 x8 x9 x10 x11 x12 x13 x14 x15 x16) R) (fun c => x17 (ix1 c)) c := by
  unfold rmsAt rowsOf
  rw [val_main_v128_apply, val_main_v125_apply, val_main_v127_apply, val_main_v126_apply, val_main_v124_apply, val_main_v123_apply, val_main_v122_apply, val_main_v121_apply, val_main_cst_16_apply, val_main_v120_apply, val_main_v119_apply, val_main_cst_15_apply, val_main_v118_apply, val_main_v117_apply, val_main_cst_14_apply]
  refine congrArg₂ (· * ·) (congrArg₂ (· * ·) rfl (congrArg Ideal.rsqrt (congrArg (· + _) (congrArg (Ideal.div · _) ?_)))) (congrArg x17 (at1 _ _ rfl))
  refine (congrArg (· + _) zero_bits).trans ((zero_add _).trans (Finset.sum_congr rfl fun k _ => ?_))
  exact congrArg (fun i => (val_main_v115 (F := Ideal) x0 x1 x2 x3 x4 x5 x6 x7 x8 x9 x10 x11 x12 x13 x14 x15 x16) i * (val_main_v115 (F := Ideal) x0 x1 x2 x3 x4 x5 x6 x7 x8 x9 x10 x11 x12 x13 x14 x15 x16) i) (at3 _ _ _ k rfl rfl rfl)

theorem h_at (R : Fin 32768) : rowsOf (val_main_v51 (F := Ideal) x0 x2 x3 x4 x5 x6 x7 x8 x9) R =
    hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) R := by
  funext d
  show rowsOf x0 R d + rowsOf (val_main_v50 (F := Ideal) x2 x3 x4 x5 x6 x7 x8 x9) R d = _
  unfold hAll hRow
  rw [dot50_at]
  refine congrArg (_ + ·) (Finset.sum_congr rfl fun k _ => congrArg (· * x9 (ix2 k d)) ((join_at _ _ _ _ _ _ _ R k).trans ?_))
  by_cases h : k.val < 512
  · rw [dif_pos h, dif_pos h, rms35_at]
    exact congrArg (fun g => rmsAt _ g _ _) (funext fun c => (gate22_at _ _ _ _ R c).trans (congrArg (_ * ·) (conv21_at _ _ _ R c)))
  · rw [dif_neg h, dif_neg h]
    exact rms48_at _ _ R _

theorem up_at : rowsOf (val_main_v65 (F := Ideal) x0 x2 x3 x4 x5 x6 x7 x8 x9 x10 x11) = fun R => upRow (fun d => x10 (ix1 d)) (fun k f => x11 (ix2 k f)) (rowsOf (val_main_v51 (F := Ideal) x0 x2 x3 x4 x5 x6 x7 x8 x9) R) := by
  funext R f
  rw [dot65_at]
  unfold upRow
  exact Finset.sum_congr rfl fun k _ => congrArg (· * x11 (ix2 k f)) (rms64_at _ _ _ _ _ _ _ _ _ _ R k)

/-- The reference's array at row `R`. -/
theorem reference_at (R : Fin 32768) (d : Fin 1024) : val_main_v129 (F := Ideal) x0 x1 x2 x3 x4 x5 x6 x7 x8 x9 x10 x11 x12 x13 x14 x15 x16 x17 (ix2 R d) =
    outAll (fun f => x12 (ix2 (0 : Fin 3) f)) (fun f => x12 (ix2 (1 : Fin 3) f)) (fun f => x12 (ix2 (2 : Fin 3) f)) (fun f d => x13 (ix2 f d)) (fun d => x14 (ix1 d)) (fun d => x17 (ix1 d))
      (fun k d => x15 (ix2 k d)) (fun k d => x16 (ix2 k d)) (fun d => x10 (ix1 d)) (fun k f => x11 (ix2 k f))
      (hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0)) (rowsOf x1) R d := by
  have hd := d.isLt
  rw [val_main_v129_apply, show idx_main_v129 (ix2 R d) = ix3 (seqOf R) (posOf R) d from at3 _ _ _ _
    (by show (R.val * 1024 + d.val) / 2097152 = R.val / 2048; omega) (by show (R.val * 1024 + d.val) / 1024 % 2048 = R.val % 2048; omega)
    (by show (R.val * 1024 + d.val) % 1024 = d.val; omega)]
  refine (rms128_at _ _ _ _ _ _ _ _ _ _ _ _ _ _ _ _ _ _ R d).trans ?_
  unfold outAll outRow endRow
  have hH : rowsOf (val_main_v51 (F := Ideal) x0 x2 x3 x4 x5 x6 x7 x8 x9) = hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) := funext fun R => h_at _ _ _ _ _ _ _ _ _ R
  have h92 : rowsOf (val_main_v92 (F := Ideal) x0 x2 x3 x4 x5 x6 x7 x8 x9 x10 x11 x12 x13) R = fun d => hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) R d + ∑ f : Fin 2816, actRow (fun f => x12 (ix2 (0 : Fin 3) f)) (fun f => x12 (ix2 (1 : Fin 3) f)) (fun f => x12 (ix2 (2 : Fin 3) f))
      (prevRow (fun R => upRow (fun d => x10 (ix1 d)) (fun k f => x11 (ix2 k f)) (hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) R)) 2 R)
      (prevRow (fun R => upRow (fun d => x10 (ix1 d)) (fun k f => x11 (ix2 k f)) (hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) R)) 1 R)
      (upRow (fun d => x10 (ix1 d)) (fun k f => x11 (ix2 k f)) (hAll (fun c => x6 (ix2 (0 : Fin 3) c)) (fun c => x6 (ix2 (1 : Fin 3) c)) (fun c => x6 (ix2 (2 : Fin 3) c)) (fun c => x7 (ix1 c)) (fun c => x8 (ix1 c)) (fun k d => x9 (ix2 k d))
      (rowsOf (val_main_v0 (F := Ideal) x2 x4)) (rowsOf x3) (rowsOf x5) (rowsOf x0) R)) f * x13 (ix2 f d) := by
    rw [← hH]
    funext d
    show rowsOf (val_main_v51 (F := Ideal) x0 x2 x3 x4 x5 x6 x7 x8 x9) R d + rowsOf (val_main_v91 (F := Ideal) x0 x2 x3 x4 x5 x6 x7 x8 x9 x10 x11 x12 x13) R d = _
    rw [dot91_at]
    refine congrArg (_ + ·) (Finset.sum_congr rfl fun f _ => congrArg (· * x13 (ix2 f d)) ?_)
    rw [act_at, conv86_at, conv86_at, up_at]
    rfl
  rw [← h92]
  refine congrArg (fun g => rmsAt _ g _ d) (funext fun d => ?_)
  rw [last_at, dot106_at, dot113_at]
  refine congrArg (fun z => _ + sgm z * _) (Finset.sum_congr rfl fun k _ => congrArg (· * x15 (ix2 k d)) ?_)
  exact rms105_at _ _ _ _ _ _ _ _ _ _ _ _ _ _ R k

end Cert.Mix.Ref

end
-- ==== Proof.MixHost.lean ====
/- What the last call is given, and its array in the arguments. -/
module

public import proofs.«01_k».proof.Proof.MixArray
public import proofs.«01_k».proof.Proof.MixRef

@[expose] public section

set_option maxRecDepth 16384

noncomputable section

namespace Cert.Mix

open Cert.Kernel2Ideal Cert.Kernel2Ideal.Gen
open Idealize.ShloMosaic Idealize.ShloMosaic.TcCoe
open Idealize.ShloMosaic.Pipeline (Dat Cfg Window)
open Cert.Attend (Sh ix2_of)
open Cert.Mix.Ref (rowsOf seqOf posOf)

variable (m : (ℓ : Loc nD τ sig) → Buf (Elt Ideal) ℓ)

theorem flat_at {N : ℕ} (X : (⟨3, ![16, 2048, N]⟩ : Shape).Idx → EReal) (hc : (⟨3, ![16, 2048, N]⟩ : Shape).ShapeCasts (Sh 32768 N)) (R : Fin 32768) (c : Fin N) :
    shapeCast (Sh 32768 N) X hc (ix2 R c) = rowsOf X R c := by
  refine shapeCast_apply X hc (ix2 R c) (ix3 (seqOf R) (posOf R) c) ?_
  rw [Shape.rowMajor_val_three, Shape.rowMajor_val_two]
  show (R.val / 2048 * 2048 + R.val % 2048) * N + c.val = R.val * N + c.val
  rw [Nat.div_add_mod']

theorem top_row {N : ℕ} (X : (Sh 3 N).Idx → EReal) (Z : (Sh 5 N).Idx → EReal) (h : Shape.Concatenates [Sh 3 N, Sh 5 N] (Sh 8 N) 0) (i : Fin 8) (j : Fin 3) (hij : i.val = j.val)
    (c : Fin N) : concatenate (Sh 8 N) 0 [⟨Sh 3 N, X⟩, ⟨Sh 5 N, Z⟩] h (ix2 i c) = X (ix2 j c) :=
  concatenate_pair_apply_left (t := Sh 8 N) (s₁ := Sh 3 N) (s₂ := Sh 5 N) 0 X Z h (ix2 i c) rfl (ix2 j c)
    (fun a => match a with | ⟨0, _⟩ => hij.symm | ⟨1, _⟩ => rfl)

theorem lift_row {N : ℕ} (X : (⟨1, ![N]⟩ : Shape).Idx → EReal) (h) (c : Fin N) : broadcastInDim (Sh 1 N) ![1] h X (ix2 (0 : Fin 1) c) = X (ix1 c) := by
  refine broadcastInDim_apply ![1] h X (ix2 (0 : Fin 1) c) (ix1 c) (fun a => ?_)
  match a with
  | ⟨0, _⟩ =>
    show c.val = if N = 1 then 0 else c.val
    by_cases hN : N = 1
    · rw [if_pos hN]; omega
    · rw [if_neg hN]

theorem V_2 (c : Dev nD) : V m c main_v2 = truncf (F := Ideal) (φ := .f32) .bf16 (shapeCast S32768x512 (mulf (F := Ideal) (s := S16x2048x512) (φ := .f32) (m ((c : Thread nD τ).loc main_arg4)) (m ((c : Thread nD τ).loc main_arg2))) shapeCasts_S16x2048x512_S32768x512) bitsLt_bf16_f32 := by
  simp only [V, List.flatten_cons, List.flatten_nil, List.append_nil, List.cons_append, List.nil_append]
  after_results
  all_goals rfl

theorem at_2 (c : Dev nD) : (fun (R : Fin 32768) (d : Fin 512) => V m c main_v2 (ix2 R d)) = rowsOf (mulf (F := Ideal) (s := S16x2048x512) (φ := .f32) (m ((c : Thread nD τ).loc main_arg4)) (m ((c : Thread nD τ).loc main_arg2))) := by
  rw [V_2]
  funext R d
  exact flat_at (N := 512) (mulf (F := Ideal) (s := S16x2048x512) (φ := .f32) (m ((c : Thread nD τ).loc main_arg4)) (m ((c : Thread nD τ).loc main_arg2))) shapeCasts_S16x2048x512_S32768x512 R d

theorem V_4 (c : Dev nD) : V m c main_v4 = truncf (F := Ideal) (φ := .f32) .bf16 (shapeCast S32768x512 (m ((c : Thread nD τ).loc main_arg3)) shapeCasts_S16x2048x512_S32768x512) bitsLt_bf16_f32 := by
  simp only [V, List.flatten_cons, List.flatten_nil, List.append_nil, List.cons_append, List.nil_append]
  after_results
  all_goals rfl

theorem at_4 (c : Dev nD) : (fun (R : Fin 32768) (d : Fin 512) => V m c main_v4 (ix2 R d)) = rowsOf (m ((c : Thread nD τ).loc main_arg3)) := by
  rw [V_4]
  funext R d
  exact flat_at (N := 512) (m ((c : Thread nD τ).loc main_arg3)) shapeCasts_S16x2048x512_S32768x512 R d

theorem V_6 (c : Dev nD) : V m c main_v6 = truncf (F := Ideal) (φ := .f32) .bf16 (shapeCast S32768x512 (m ((c : Thread nD τ).loc main_arg5)) shapeCasts_S16x2048x512_S32768x512) bitsLt_bf16_f32 := by
  simp only [V, List.flatten_cons, List.flatten_nil, List.append_nil, List.cons_append, List.nil_append]
  after_results
  all_goals rfl

theorem at_6 (c : Dev nD) : (fun (R : Fin 32768) (d : Fin 512) => V m c main_v6 (ix2 R d)) = rowsOf (m ((c : Thread nD τ).loc main_arg5)) := by
  rw [V_6]
  funext R d
  exact flat_at (N := 512) (m ((c : Thread nD τ).loc main_arg5)) shapeCasts_S16x2048x512_S32768x512 R d

theorem V_7 (c : Dev nD) : V m c main_v7 = shapeCast S32768x1024 (m ((c : Thread nD τ).loc main_arg0)) shapeCasts_S16x2048x1024_S32768x1024 := by
  simp only [V, List.flatten_cons, List.flatten_nil, List.append_nil, List.cons_append, List.nil_append]
  after_results
  all_goals rfl

theorem at_7 (c : Dev nD) : (fun (R : Fin 32768) (d : Fin 1024) => V m c main_v7 (ix2 R d)) = rowsOf (m ((c : Thread nD τ).loc main_arg0)) := by
  rw [V_7]
  funext R d
  exact flat_at (N := 1024) (m ((c : Thread nD τ).loc main_arg0)) shapeCasts_S16x2048x1024_S32768x1024 R d

theorem V_8 (c : Dev nD) : V m c main_v8 = shapeCast S32768x256 (m ((c : Thread nD τ).loc main_arg1)) shapeCasts_S16x2048x256_S32768x256 := by
  simp only [V, List.flatten_cons, List.flatten_nil, List.append_nil, List.cons_append, List.nil_append]
  after_results
  all_goals rfl

theorem at_8 (c : Dev nD) : (fun (R : Fin 32768) (d : Fin 256) => V m c main_v8 (ix2 R d)) = rowsOf (m ((c : Thread nD τ).loc main_arg1)) := by
  rw [V_8]
  funext R d
  exact flat_at (N := 256) (m ((c : Thread nD τ).loc main_arg1)) shapeCasts_S16x2048x256_S32768x256 R d

theorem V_10 (c : Dev nD) : V m c main_v10 = concatenate S8x512 0 [⟨S3x512, (m ((c : Thread nD τ).loc main_arg6))⟩, ⟨S5x512, broadcastInDim S5x512 ![] bcast_S_S5x512 (constant (F := Ideal) S_ .f32 0x00000000#32)⟩] concatenates_S3x512_S5x512_S8x512_d0 := by
  simp only [V, List.flatten_cons, List.flatten_nil, List.append_nil, List.cons_append, List.nil_append]
  after_results
  all_goals rfl

theorem at_10_0 (c : Dev nD) : (fun d : Fin 512 => V m c main_v10 (ix2 (0 : Fin 8) d)) = fun d => (m ((c : Thread nD τ).loc main_arg6)) (ix2 (0 : Fin 3) d) := by
  rw [V_10]
  funext d
  exact top_row _ _ _ 0 0 rfl d

theorem at_10_1 (c : Dev nD) : (fun d : Fin 512 => V m c main_v10 (ix2 (1 : Fin 8) d)) = fun d => (m ((c : Thread nD τ).loc main_arg6)) (ix2 (1 : Fin 3) d) := by
  rw [V_10]
  funext d
  exact top_row _ _ _ 1 1 rfl d

theorem at_10_2 (c : Dev nD) : (fun d : Fin 512 => V m c main_v10 (ix2 (2 : Fin 8) d)) = fun d => (m ((c : Thread nD τ).loc main_arg6)) (ix2 (2 : Fin 3) d) := by
  rw [V_10]
  funext d
  exact top_row _ _ _ 2 2 rfl d

theorem V_17 (c : Dev nD) : V m c main_v17 = concatenate S8x5632 0 [⟨S3x5632, (m ((c : Thread nD τ).loc main_arg12))⟩, ⟨S5x5632, broadcastInDim S5x5632 ![] bcast_S_S5x5632 (constant (F := Ideal) S_ .f32 0x00000000#32)⟩] concatenates_S3x5632_S5x5632_S8x5632_d0 := by
  simp only [V, List.flatten_cons, List.flatten_nil, List.append_nil, List.cons_append, List.nil_append]
  after_results
  all_goals rfl

theorem at_17_0 (c : Dev nD) : (fun d : Fin 5632 => V m c main_v17 (ix2 (0 : Fin 8) d)) = fun d => (m ((c : Thread nD τ).loc main_arg12)) (ix2 (0 : Fin 3) d) := by
  rw [V_17]
  funext d
  exact top_row _ _ _ 0 0 rfl d

theorem at_17_1 (c : Dev nD) : (fun d : Fin 5632 => V m c main_v17 (ix2 (1 : Fin 8) d)) = fun d => (m ((c : Thread nD τ).loc main_arg12)) (ix2 (1 : Fin 3) d) := by
  rw [V_17]
  funext d
  exact top_row _ _ _ 1 1 rfl d

theorem at_17_2 (c : Dev nD) : (fun d : Fin 5632 => V m c main_v17 (ix2 (2 : Fin 8) d)) = fun d => (m ((c : Thread nD τ).loc main_arg12)) (ix2 (2 : Fin 3) d) := by
  rw [V_17]
  funext d
  exact top_row _ _ _ 2 2 rfl d

theorem V_11 (c : Dev nD) : V m c main_v11 = broadcastInDim S1x512 ![1] bcast_S512_S1x512_1 (m ((c : Thread nD τ).loc main_arg7)) := by
  simp only [V, List.flatten_cons, List.flatten_nil, List.append_nil, List.cons_append, List.nil_append]
  after_results
  all_goals rfl

theorem at_11 (c : Dev nD) : (fun d : Fin 512 => V m c main_v11 (ix2 (0 : Fin 1) d)) = fun d => (m ((c : Thread nD τ).loc main_arg7)) (ix1 d) := by
  rw [V_11]
  funext d
  exact lift_row _ _ d

theorem V_12 (c : Dev nD) : V m c main_v12 = broadcastInDim S1x512 ![1] bcast_S512_S1x512_1 (m ((c : Thread nD τ).loc main_arg8)) := by
  simp only [V, List.flatten_cons, List.flatten_nil, List.append_nil, List.cons_append, List.nil_append]
  after_results
  all_goals rfl

theorem at_12 (c : Dev nD) : (fun d : Fin 512 => V m c main_v12 (ix2 (0 : Fin 1) d)) = fun d => (m ((c : Thread nD τ).loc main_arg8)) (ix1 d) := by
  rw [V_12]
  funext d
  exact lift_row _ _ d

theorem V_14 (c : Dev nD) : V m c main_v14 = broadcastInDim S1x1024 ![1] bcast_S1024_S1x1024_1 (m ((c : Thread nD τ).loc main_arg10)) := by
  simp only [V, List.flatten_cons, List.flatten_nil, List.append_nil, List.cons_append, List.nil_append]
  after_results
  all_goals rfl

theorem at_14 (c : Dev nD) : (fun d : Fin 1024 => V m c main_v14 (ix2 (0 : Fin 1) d)) = fun d => (m ((c : Thread nD τ).loc main_arg10)) (ix1 d) := by
  rw [V_14]
  funext d
  exact lift_row _ _ d

theorem V_19 (c : Dev nD) : V m c main_v19 = broadcastInDim S1x1024 ![1] bcast_S1024_S1x1024_1 (m ((c : Thread nD τ).loc main_arg14)) := by
  simp only [V, List.flatten_cons, List.flatten_nil, List.append_nil, List.cons_append, List.nil_append]
  after_results
  all_goals rfl

theorem at_19 (c : Dev nD) : (fun d : Fin 1024 => V m c main_v19 (ix2 (0 : Fin 1) d)) = fun d => (m ((c : Thread nD τ).loc main_arg14)) (ix1 d) := by
  rw [V_19]
  funext d
  exact lift_row _ _ d

theorem V_22 (c : Dev nD) : V m c main_v22 = broadcastInDim S1x1024 ![1] bcast_S1024_S1x1024_1 (m ((c : Thread nD τ).loc main_arg17)) := by
  simp only [V, List.flatten_cons, List.flatten_nil, List.append_nil, List.cons_append, List.nil_append]
  after_results
  all_goals rfl

theorem at_22 (c : Dev nD) : (fun d : Fin 1024 => V m c main_v22 (ix2 (0 : Fin 1) d)) = fun d => (m ((c : Thread nD τ).loc main_arg17)) (ix1 d) := by
  rw [V_22]
  funext d
  exact lift_row _ _ d

theorem V_13 (c : Dev nD) : V m c main_v13 = truncf (F := Ideal) (s := S1024x1024) (φ := .f32) .bf16 (m ((c : Thread nD τ).loc main_arg9)) bitsLt_bf16_f32 := by
  simp only [V, List.flatten_cons, List.flatten_nil, List.append_nil, List.cons_append, List.nil_append]
  after_results
  all_goals rfl

theorem at_13 (c : Dev nD) : (fun (k : Fin 1024) (d : Fin 1024) => V m c main_v13 (ix2 k d)) = fun k d => (m ((c : Thread nD τ).loc main_arg9)) (ix2 k d) := by
  rw [V_13]
  rfl

theorem V_15 (c : Dev nD) : V m c main_v15 = truncf (F := Ideal) (s := S1024x5632) (φ := .f32) .bf16 (m ((c : Thread nD τ).loc main_arg11)) bitsLt_bf16_f32 := by
  simp only [V, List.flatten_cons, List.flatten_nil, List.append_nil, List.cons_append, List.nil_append]
  after_results
  all_goals rfl

theorem at_15 (c : Dev nD) : (fun (k : Fin 1024) (d : Fin 5632) => V m c main_v15 (ix2 k d)) = fun k d => (m ((c : Thread nD τ).loc main_arg11)) (ix2 k d) := by
  rw [V_15]
  rfl

theorem V_18 (c : Dev nD) : V m c main_v18 = truncf (F := Ideal) (s := S2816x1024) (φ := .f32) .bf16 (m ((c : Thread nD τ).loc main_arg13)) bitsLt_bf16_f32 := by
  simp only [V, List.flatten_cons, List.flatten_nil, List.append_nil, List.cons_append, List.nil_append]
  after_results
  all_goals rfl

theorem at_18 (c : Dev nD) : (fun (k : Fin 2816) (d : Fin 1024) => V m c main_v18 (ix2 k d)) = fun k d => (m ((c : Thread nD τ).loc main_arg13)) (ix2 k d) := by
  rw [V_18]
  rfl

theorem V_20 (c : Dev nD) : V m c main_v20 = truncf (F := Ideal) (s := S1024x1024) (φ := .f32) .bf16 (m ((c : Thread nD τ).loc main_arg15)) bitsLt_bf16_f32 := by
  simp only [V, List.flatten_cons, List.flatten_nil, List.append_nil, List.cons_append, List.nil_append]
  after_results
  all_goals rfl

theorem at_20 (c : Dev nD) : (fun (k : Fin 1024) (d : Fin 1024) => V m c main_v20 (ix2 k d)) = fun k d => (m ((c : Thread nD τ).loc main_arg15)) (ix2 k d) := by
  rw [V_20]
  rfl

theorem V_21 (c : Dev nD) : V m c main_v21 = truncf (F := Ideal) (s := S256x1024) (φ := .f32) .bf16 (m ((c : Thread nD τ).loc main_arg16)) bitsLt_bf16_f32 := by
  simp only [V, List.flatten_cons, List.flatten_nil, List.append_nil, List.cons_append, List.nil_append]
  after_results
  all_goals rfl

theorem at_21 (c : Dev nD) : (fun (k : Fin 256) (d : Fin 1024) => V m c main_v21 (ix2 k d)) = fun k d => (m ((c : Thread nD τ).loc main_arg16)) (ix2 k d) := by
  rw [V_21]
  rfl

/-- The call's array is the reference's. -/
theorem arrays_at (c : Dev nD) (R : Fin 32768) (d : Fin 1024) :
    (Cert.Reference2Ideal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) : S32768x1024.Idx → EReal) (ix2 R d)
      = ((dats m 0 c).arrAt 18 cfg0.N : S32768x1024.Idx → EReal) (ix2 R d) := by
  have e2 := final m c R d
  unfold oK hK at e2
  rw [at_2, at_4, at_6, at_7, at_8, at_10_0, at_10_1, at_10_2, at_17_0, at_17_1, at_17_2, at_11, at_12, at_14, at_19, at_22, at_13, at_15, at_18, at_20, at_21] at e2
  refine Eq.trans ?_ e2.symm
  exact Ref.reference_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) R d

end Cert.Mix

end
-- ==== Proof.Proj.lean ====
/- The projection call's vector operations read at an index. -/
module

public import proofs.«01_k».proof.Proof.Rowwise

@[expose] public section

set_option maxRecDepth 16384

noncomputable section

namespace Cert.Proj

open Idealize.ShloMosaic
open Cert.Attend (Sh ix2_of zero_at bits_lt ld2_of cast2)
open Cert.Mix (rmsAt mm mm_apply full full_eq)

/-- The lanes of the first halves of the heads. -/
def half : IVec (Sh 1024 128) 1 :=
  let k : BitVec 32 := Scalar.select (Scalar.cmpi .eq 64#32 0#32) 1#32 64#32
  have y : IVec (Sh 1024 128) 32 := remsi (iota .tc (Sh 1024 128) 32 [1] (by decide)) (broadcast (Sh 1024 128) k)
  cmpi .slt (select (andi (xori (cmpi .slt y (broadcast (Sh 1024 128) 0#32)) (broadcastTo (Sh 1024 128) (broadcast (Sh 1024 128) (Scalar.cmpi .slt k 0#32)) (by decide)))
    (cmpi .ne y (broadcast (Sh 1024 128) 0#32))) (addi y (broadcast (Sh 1024 128) k)) y) (broadcast (Sh 1024 128) 32#32)

theorem half_lane : ∀ c : Fin 128, (let k : BitVec 32 := Scalar.select (Scalar.cmpi .eq 64#32 0#32) 1#32 64#32
    let y := IntOp.remsi .vector (BitVec.ofNat 32 c.val) k
    IntOp.cmpi .slt (Scalar.select (IntOp.andi (IntOp.xori (IntOp.cmpi .slt y 0#32) (Scalar.cmpi .slt k 0#32)) (IntOp.cmpi .ne y 0#32)) (IntOp.addi y k) y) 32#32)
      = if c.val % 64 < 32 then 1#1 else 0#1 := by
  decide

theorem half_apply (r : Fin 1024) (c : Fin 128) : half (ix2 r c) = if c.val % 64 < 32 then 1#1 else 0#1 := by
  refine Eq.trans ?_ (half_lane c)
  unfold half
  pointwise []

/-- The rows' norms, narrowed. -/
def nP (x : FVec Ideal (Sh 1024 1024) .f32) (g : FVec Ideal (Sh 1 1024) .f32) : FVec Ideal (Sh 1024 1024) .bf16 :=
  have v1 : FVec Ideal (Sh 1024 1024) .f32 := shapeCast (Sh 1024 1024) x (by decide)
  truncf .bf16 (mulf (mulf v1 (broadcastTo (Sh 1024 1024) (rsqrt (addf (divf (shapeCast (Sh 1024 1)
      (multiReduction .add [1] ⟨1, ![1024]⟩ (mulf v1 v1) 0x00000000#32 (by decide) (.inl rfl) rfl) (by decide))
    (broadcast (Sh 1024 1) (Scalar.ofBits .f32 0x44800000#32))) (broadcast (Sh 1024 1) (Scalar.ofBits .f32 0x358637BD#32)))) (by decide)))
    (broadcastTo (Sh 1024 1024) (shapeCast (Sh 1 1024) g (by decide)) (by decide))) bits_lt

theorem nP_apply (x : FVec Ideal (Sh 1024 1024) .f32) (g : FVec Ideal (Sh 1 1024) .f32) (r c : Fin 1024) :
    nP x g (ix2 r c) = rmsAt 0x44800000#32 (fun k => x (ix2 r k)) (fun k => g (ix2 (0 : Fin 1) k)) c := by
  unfold nP
  rw [cast2, cast2]
  have e : broadcastTo (Sh 1024 1024) (rsqrt (addf (divf (shapeCast (Sh 1024 1)
      (multiReduction .add [1] ⟨1, ![1024]⟩ (mulf x x) 0x00000000#32 (by decide) (.inl rfl) rfl) (by decide))
    (broadcast (Sh 1024 1) (Scalar.ofBits .f32 0x44800000#32))) (broadcast (Sh 1024 1) (Scalar.ofBits .f32 0x358637BD#32)))) (by decide) (ix2 r c)
      = Ideal.rsqrt (Ideal.div (∑ k, x (ix2 r k) * x (ix2 r k)) (Ideal.ofBits .f32 0x44800000#32) + Ideal.ofBits .f32 0x358637BD#32) := by
    pointwise []
  have f : broadcastTo (Sh 1024 1024) g (by decide) (ix2 r c) = g (ix2 (0 : Fin 1) c) := by
    pointwise []
  exact congrArg₂ (· * ·) (congrArg (x (ix2 r c) * ·) e) f

/-- A row's product with column `C` of the weights. -/
def pj (x0 : Vec Ideal (Sh 1024 1024) .f32) (x1 : Vec Ideal (Sh 1 1024) .f32) (x2 : Vec Ideal (Sh 1024 2840) .bf16) (r : Fin 1024) (C : Fin 2840) : EReal :=
  ∑ k : Fin 1024, rmsAt 0x44800000#32 (fun k => x0 (ix2 r k)) (fun k => x1 (ix2 (0 : Fin 1) k)) k * x2 (ix2 k C)

/-- The rows' products with the `n` columns from `o`. -/
def prod (o n : ℕ) (h : ∀ k, (![0, o] : Fin 2 → ℕ) k + (![1024, n] : Fin 2 → ℕ) k ≤ (Sh 1024 2840).size k) (hc : (Sh 1024 n).ShapeCasts (Sh 1024 n))
    (x0 : Vec Ideal (Sh 1024 1024) .f32) (x1 : Vec Ideal (Sh 1 1024) .f32) (x2 : Vec Ideal (Sh 1024 2840) .bf16) : FVec Ideal (Sh 1024 n) .f32 :=
  mm (nP (full x0 (by decide)) (full x1 (by decide)))
    (shapeCast (Sh 1024 n) (View.ld (Val := Elt Ideal) x2 (Rect.unit (s := Sh 1024 2840) ![0, o] ![1024, n] h)) hc)

theorem prod_apply (o n : ℕ) (h) (hc) (x0 : Vec Ideal (Sh 1024 1024) .f32) (x1 : Vec Ideal (Sh 1 1024) .f32) (x2 : Vec Ideal (Sh 1024 2840) .bf16)
    (r : Fin 1024) (c : Fin n) (C : Fin 2840) (hC : C.val = o + c.val) : prod o n h hc x0 x1 x2 (ix2 r c) = pj x0 x1 x2 r C := by
  unfold prod
  rw [mm_apply, cast2, full_eq (a := 1024) (b := 1024) x0, full_eq (a := 1) (b := 1024) x1]
  refine Finset.sum_congr rfl fun k _ => ?_
  exact congrArg₂ (· * ·) (nP_apply x0 x1 r k) (ld2_of x2 ![0, o] h k c k C (Nat.zero_add _).symm hC)

/-- A tile of 128 lanes turned by the tables `a` and `b`. -/
def turned (y a b : FVec Ideal (Sh 1024 128) .f32) : FVec Ideal (Sh 1024 128) .f32 :=
  addf (mulf y (shapeCast (Sh 1024 128) a (by decide)))
    (mulf (select half (dynamicRotate 1 96#32 none y (by decide)) (dynamicRotate 1 32#32 none y (by decide))) (shapeCast (Sh 1024 128) b (by decide)))

/-- The turned tile, scaled. -/
def turn (qs : Ideal .f32) (y a b : FVec Ideal (Sh 1024 128) .f32) : FVec Ideal (Sh 1024 128) .bf16 :=
  truncf .bf16 (mulf (turned y a b) (broadcast (Sh 1024 128) qs)) bits_lt

/-- The other half of lane `C`'s head. -/
def pair {n : ℕ} (hn : 64 ∣ n) (C : Fin n) : Fin n :=
  if h : C.val % 64 < 32 then ⟨C.val + 32, by have := C.isLt; omega⟩ else ⟨C.val - 32, by have := C.isLt; omega⟩

theorem turned_apply (y a b : FVec Ideal (Sh 1024 128) .f32) (r : Fin 1024) (c : Fin 128) :
    turned y a b (ix2 r c) = y (ix2 r c) * a (ix2 r c) + y (ix2 r (pair (by decide) c)) * b (ix2 r c) := by
  have hl := c.isLt
  have e : select half (dynamicRotate 1 96#32 none y (by decide)) (dynamicRotate 1 32#32 none y (by decide)) (ix2 r c) = y (ix2 r (pair (by decide) c)) := by
    show Scalar.select (half (ix2 r c)) _ _ = _
    rw [half_apply, Cert.Mix.sel_if]
    unfold pair
    split_ifs with h
    · refine dynamicRotate_apply (s := Sh 1024 128) (1 : Fin 2) 96#32 y (by decide) _ _ fun b => ?_
      match b with
      | ⟨0, _⟩ => rfl
      | ⟨1, _⟩ =>
        change c.val + 32 = (c.val + 128 - 96 % 128) % 128
        omega
    · refine dynamicRotate_apply (s := Sh 1024 128) (1 : Fin 2) 32#32 y (by decide) _ _ fun b => ?_
      match b with
      | ⟨0, _⟩ => rfl
      | ⟨1, _⟩ =>
        change c.val - 32 = (c.val + 128 - 32 % 128) % 128
        omega
  unfold turned
  rw [cast2, cast2]
  exact congrArg (y (ix2 r c) * a (ix2 r c) + ·) (congrArg (· * b (ix2 r c)) e)

theorem turn_apply (qs : Ideal .f32) (y a b : FVec Ideal (Sh 1024 128) .f32) (r : Fin 1024) (c : Fin 128) :
    turn qs y a b (ix2 r c) = (y (ix2 r c) * a (ix2 r c) + y (ix2 r (pair (by decide) c)) * b (ix2 r c)) * qs :=
  congrArg (· * qs) (turned_apply y a b r c)

end Cert.Proj

end
-- ==== Proof.ProjStep.lean ====
/- The projection call's body: its stores are the block's functions of the operands. -/
module

public import proofs.«01_k».proof.Proof.Proj
public import proofs.«01_k».proof.Proof.Gen.Kernel3Ideal.Frame

@[expose] public section

set_option maxRecDepth 16384

noncomputable section

namespace Cert.Proj

open Cert.Kernel3Ideal Cert.Kernel3Ideal.Gen
open Idealize.ShloMosaic
open Cert.Attend (Sh ix2_of zero_at bits_lt ld2_of cast2)
open Cert.Mix (rmsAt mm mm_apply full full_eq)

/-- The scale the kernel puts on the queries. -/
abbrev qs3 : Ideal .f32 := Named.named κ "q_scale" 0x3E38AA3B#32

theorem slice_ok : ∀ k : Fin 4, (Sh 1024 256).Slices ![0, 128 * (k.val % 2)] (Sh 1024 128) := by decide

theorem cols_ok : ∀ (k : Fin 4) (a : Fin 2), (![0, 1536 + 256 * (k.val / 2)] : Fin 2 → ℕ) a + (![1024, 256] : Fin 2 → ℕ) a ≤ (Sh 1024 2840).size a := by decide

theorem lanes_ok : ∀ (k : Fin 4) (a : Fin 2), (![0, 128 * k.val] : Fin 2 → ℕ) a + (![1024, 128] : Fin 2 → ℕ) a ≤ (Sh 1024 512).size a := by decide

theorem chunk_ok : ∀ (k : Fin 32) (a : Fin 2), (![0, 128 * k.val] : Fin 2 → ℕ) a + (![64, 128] : Fin 2 → ℕ) a ≤ (Sh 64 4096).size a := by decide

theorem every_ok : ∀ (k : Fin 32) (a : Fin 3), (![1, 64, 128] : Fin 3 → ℕ) a = 0 ∨ (![k.val % 2, k.val / 2, 0] : Fin 3 → ℕ) a + (![1, 16, 1] : Fin 3 → ℕ) a * ((![1, 64, 128] : Fin 3 → ℕ) a - 1) < S2x1024x128.size a := by decide

/-- The queries' tile of 128 lanes from lane `128 k`. -/
def qPiece (x0 : Vec Ideal (Sh 1024 1024) .f32) (x1 : Vec Ideal (Sh 1 1024) .f32) (x2 : Vec Ideal (Sh 1024 2840) .bf16) (x4 x5 : Vec Ideal (Sh 1024 128) .f32)
    (k : Fin 4) : View.Piece (Elt Ideal) (Sh 1024 512) .bf16 :=
  ⟨Rect.unit (s := Sh 1024 512) ![0, 128 * k.val] ![1024, 128] (lanes_ok k),
    turn qs3 (extractStridedSlice (Sh 1024 128) ![0, 128 * (k.val % 2)] (prod (1536 + 256 * (k.val / 2)) 256 (cols_ok k) (by decide) x0 x1 x2) (slice_ok k))
      (full x4 (by decide)) (full x5 (by decide))⟩

/-- The key-and-value columns as the scratch holds them, 128 lanes a plane. -/
def planes (x0 : Vec Ideal (Sh 1024 1024) .f32) (x1 : Vec Ideal (Sh 1 1024) .f32) (x2 : Vec Ideal (Sh 1024 2840) .bf16) :
    List (View.Piece (Elt Ideal) S2x1024x128 .f32) :=
  [⟨Rect.unit (s := S2x1024x128) ![1, 0, 0] ![1, 1024, 128] (by decide),
      shapeCast S1x1024x128 (extractStridedSlice (Sh 1024 128) ![0, 128] (prod 2048 256 (by decide) (by decide) x0 x1 x2) (by decide)) (by decide)⟩,
    ⟨Rect.unit (s := S2x1024x128) ![0, 0, 0] ![1, 1024, 128] (by decide),
      shapeCast S1x1024x128 (extractStridedSlice (Sh 1024 128) ![0, 0] (prod 2048 256 (by decide) (by decide) x0 x1 x2) (by decide)) (by decide)⟩]

/-- The kept columns' tile of 128 lanes from lane `128 k`: one plane's rows, every sixteenth. -/
def kPiece {sig' : RefSig} {κ' : Kind} {sp : Space} (v : View sig' κ' sp S2x1024x128 .f32)
    (x0 : Vec Ideal (Sh 1024 1024) .f32) (x1 : Vec Ideal (Sh 1 1024) .f32) (x2 : Vec Ideal (Sh 1024 2840) .bf16) (k : Fin 32) : View.Piece (Elt Ideal) (Sh 64 4096) .bf16 :=
  ⟨Rect.unit (s := Sh 64 4096) ![0, 128 * k.val] ![64, 128] (chunk_ok k),
    truncf (F := Ideal) (s := Sh 64 128) (φ := .f32) .bf16 (shapeCast (s := S1x64x128) (Sh 64 128) (View.readCov (Val := Elt Ideal) v (planes x0 x1 x2)
      (⟨![k.val % 2, k.val / 2, 0], ![1, 64, 128], ![1, 16, 1], every_ok k⟩ : LoadRect S2x1024x128)) (by decide)) bits_lt⟩

section Body

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2840 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S64x4096 .bf16) (harg11 : arg11.IsWhole) (arg12 : Memref sig .tc .vmem S1024x1024 .bf16) (harg12 : arg12.IsWhole) (arg13 : Memref sig .tc .vmem S1024x256 .f32) (harg13 : arg13.IsWhole) (arg14 : Memref sig .tc .vmem S2x1024x128 .f32) (harg14 : arg14.IsWhole)
  (x0 : Vec Ideal S1024x1024 .f32) (x1 : Vec Ideal S1x1024 .f32) (x2 : Vec Ideal S1024x2840 .bf16) (x3 : Vec Ideal S1024x256 .bf16) (x4 : Vec Ideal S1024x128 .f32) (x5 : Vec Ideal S1024x128 .f32) (x6 : Vec Ideal S1024x128 .f32)

theorem piecesC :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 =
      [⟨Rect.unit (s := Sh 1024 512) ![0, 0] ![1024, 512] (by decide), truncf .bf16 (mulf (prod 1024 512 (by decide) (by decide) x0 x1 x2) (prod 0 512 (by decide) (by decide) x0 x1 x2)) bits_lt⟩] := by
  refine Eq.trans (b := [⟨Rect.unit (s := Sh 1024 512) ![0, 0] ![1024, 512] (by decide), truncf .bf16 (mulf (prod 1024 512 (by decide) (by decide) (arg1.view.read (Elt Ideal) (harg1.unread x0)) (arg2.view.read (Elt Ideal) (harg2.unread x1)) (arg3.view.read (Elt Ideal) (harg3.unread x2))) (prod 0 512 (by decide) (by decide) (arg1.view.read (Elt Ideal) (harg1.unread x0)) (arg2.view.read (Elt Ideal) (harg2.unread x1)) (arg3.view.read (Elt Ideal) (harg3.unread x2)))) bits_lt⟩]) ?_ ?_
  · rfl
  · rw [harg1.read_unread, harg2.read_unread, harg3.read_unread]

theorem piecesG :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1 =
      [⟨Rect.unit (s := Sh 1024 512) ![0, 0] ![1024, 512] (by decide), truncf .bf16 (prod 512 512 (by decide) (by decide) x0 x1 x2) bits_lt⟩] := by
  refine Eq.trans (b := [⟨Rect.unit (s := Sh 1024 512) ![0, 0] ![1024, 512] (by decide), truncf .bf16 (prod 512 512 (by decide) (by decide) (arg1.view.read (Elt Ideal) (harg1.unread x0)) (arg2.view.read (Elt Ideal) (harg2.unread x1)) (arg3.view.read (Elt Ideal) (harg3.unread x2))) bits_lt⟩]) ?_ ?_
  · rfl
  · rw [harg1.read_unread, harg2.read_unread, harg3.read_unread]

theorem piecesQ :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.1 =
      ([3, 2, 1, 0] : List (Fin 4)).map (qPiece x0 x1 x2 x4 x5) := by
  refine Eq.trans (b := ([3, 2, 1, 0] : List (Fin 4)).map (qPiece (arg1.view.read (Elt Ideal) (harg1.unread x0)) (arg2.view.read (Elt Ideal) (harg2.unread x1)) (arg3.view.read (Elt Ideal) (harg3.unread x2)) (arg5.view.read (Elt Ideal) (harg5.unread x4)) (arg6.view.read (Elt Ideal) (harg6.unread x5)))) ?_ ?_
  · rfl
  · rw [harg1.read_unread, harg2.read_unread, harg3.read_unread, harg5.read_unread, harg6.read_unread]

theorem piecesK :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.1 =
      ([31, 30, 29, 28, 27, 26, 25, 24, 23, 22, 21, 20, 19, 18, 17, 16, 15, 14, 13, 12, 11, 10, 9, 8, 7, 6, 5, 4, 3, 2, 1, 0] : List (Fin 32)).map (kPiece arg14.view x0 x1 x2) := by
  refine Eq.trans (b := ([31, 30, 29, 28, 27, 26, 25, 24, 23, 22, 21, 20, 19, 18, 17, 16, 15, 14, 13, 12, 11, 10, 9, 8, 7, 6, 5, 4, 3, 2, 1, 0] : List (Fin 32)).map (kPiece arg14.view (arg1.view.read (Elt Ideal) (harg1.unread x0)) (arg2.view.read (Elt Ideal) (harg2.unread x1)) (arg3.view.read (Elt Ideal) (harg3.unread x2)))) ?_ ?_
  · rfl
  · rw [harg1.read_unread, harg2.read_unread, harg3.read_unread]

end Body

end Cert.Proj

end
-- ==== Proof.ProjOut.lean ====
/- The projection call's block: what a step leaves in each of its windows. -/
module

public import proofs.«01_k».proof.Proof.ProjStep

@[expose] public section

set_option maxRecDepth 16384

noncomputable section

namespace Cert.Proj

open Cert.Kernel3Ideal Cert.Kernel3Ideal.Gen
open Idealize.ShloMosaic
open Cert.Attend (Sh ix2_of zero_at bits_lt ld2_of cast2)
open Cert.Mix (rmsAt mm mm_apply full full_eq)

/-- A tile that is `G` at its own place in a block is `G` where it is stored. -/
theorem tile_of {R C a b : ℕ} (G : Fin R → Fin C → EReal) (off : ℕ) (ha : a = R) (inb) (T : (Sh a b).Idx → EReal)
    (hT : ∀ (r : Fin a) (c : Fin b) (r' : Fin R) (C' : Fin C), r'.val = r.val → C'.val = off + c.val → T (ix2 r c) = G r' C')
    (x : (Rect.unit (s := Sh R C) ![0, off] ![a, b] inb).shape.Idx) :
    T x = G ((Rect.unit (s := Sh R C) ![0, off] ![a, b] inb).emb x 0) ((Rect.unit (s := Sh R C) ![0, off] ![a, b] inb).emb x 1) := by
  have e0 : ((Rect.unit (s := Sh R C) ![0, off] ![a, b] inb).emb x 0).val = 0 + (x 0).val := Rect.idx_unit_val _ _ inb x 0
  have e1 : ((Rect.unit (s := Sh R C) ![0, off] ![a, b] inb).emb x 1).val = off + (x 1).val := Rect.idx_unit_val _ _ inb x 1
  have hx : x = ix2 (x 0) (x 1) := ix2_of x (x 0) (x 1) rfl rfl
  exact (congrArg T hx).trans (hT (x 0) (x 1) _ _ (e0.trans (Nat.zero_add _)) e1)

/-- The scale the kernel gives the queries: the layer's, in base two. -/
abbrev qscale : EReal := (((1 / 8) * (Real.log 2)⁻¹ : ℝ) : EReal)

theorem named_q : qs3 = qscale :=
  IdealRules.named_const.ideal_named_scalar _ _ _ _ rfl

/-- Column `o + C` of the weights. -/
def col {n : ℕ} (o : ℕ) (h : o + n ≤ 2840) (C : Fin n) : Fin 2840 := ⟨o + C.val, by have := C.isLt; omega⟩

/-- The lane of its tile of 128. -/
def lane (C : Fin 512) : Fin 128 := ⟨C.val % 128, Nat.mod_lt _ (by decide)⟩

/-- A turned and scaled query at a lane. -/
def qAt (p : Fin 2840 → EReal) (a b : Fin 128 → EReal) (C : Fin 512) : EReal :=
  (p (col 1536 (by decide) C) * a (lane C) + p (col 1536 (by decide) (pair (by decide) C)) * b (lane C)) * qscale

/-- The row of sixteen and the column a kept lane comes from. -/
def kRow (j : Fin 64) (C : Fin 4096) : Fin 1024 := ⟨16 * j.val + C.val / 256, by have := j.isLt; have := C.isLt; omega⟩

def kCol (C : Fin 4096) : Fin 256 := ⟨C.val % 256, Nat.mod_lt _ (by decide)⟩

theorem col_pair (k : Fin 4) (c : Fin 128) (C : Fin 512) (hC : C.val = 128 * k.val + c.val) :
    (pair (n := 512) (by decide) C).val = 128 * k.val + (pair (n := 128) (by decide) c).val := by
  unfold pair
  have := c.isLt
  split_ifs <;> (simp only []; omega)

theorem qPiece_apply (x0 : Vec Ideal (Sh 1024 1024) .f32) (x1 : Vec Ideal (Sh 1 1024) .f32) (x2 : Vec Ideal (Sh 1024 2840) .bf16) (x4 x5 : Vec Ideal (Sh 1024 128) .f32)
    (k : Fin 4) (x : (qPiece x0 x1 x2 x4 x5 k).1.shape.Idx) :
    (qPiece x0 x1 x2 x4 x5 k).2 x = (fun (r : Fin 1024) (C : Fin 512) => qAt (pj x0 x1 x2 r) (fun l => x4 (ix2 r l)) (fun l => x5 (ix2 r l)) C)
      ((qPiece x0 x1 x2 x4 x5 k).1.emb x 0) ((qPiece x0 x1 x2 x4 x5 k).1.emb x 1) := by
  refine tile_of (fun (r : Fin 1024) (C : Fin 512) => qAt (pj x0 x1 x2 r) (fun l => x4 (ix2 r l)) (fun l => x5 (ix2 r l)) C) (128 * k.val) rfl (lanes_ok k) _ (fun r c r' C hr hC => ?_) x
  have hr' : r' = r := Fin.ext hr
  subst hr'
  have hk := k.isLt
  have hl : lane C = c := Fin.ext (by have := c.isLt; show C.val % 128 = c.val; omega)
  have hs : ∀ (c : Fin 128) (C : Fin 512), C.val = 128 * k.val + c.val →
      extractStridedSlice (Sh 1024 128) ![0, 128 * (k.val % 2)] (prod (1536 + 256 * (k.val / 2)) 256 (cols_ok k) (by decide) x0 x1 x2) (slice_ok k) (ix2 r' c)
        = pj x0 x1 x2 r' (col 1536 (by decide) C) := fun c C hC => by
    have hc := c.isLt
    refine Eq.trans (congrArg (prod (1536 + 256 * (k.val / 2)) 256 (cols_ok k) (by decide) x0 x1 x2)
      (ix2_of _ r' (⟨128 * (k.val % 2) + c.val, by omega⟩ : Fin 256) (Nat.zero_add _) rfl)) ?_
    exact prod_apply _ _ _ _ x0 x1 x2 r' _ _ (by show 1536 + C.val = 1536 + 256 * (k.val / 2) + (128 * (k.val % 2) + c.val); omega)
  show turn qs3 (extractStridedSlice (Sh 1024 128) ![0, 128 * (k.val % 2)] (prod (1536 + 256 * (k.val / 2)) 256 (cols_ok k) (by decide) x0 x1 x2) (slice_ok k))
    (full x4 (by decide)) (full x5 (by decide)) (ix2 r' c) = _
  rw [named_q, turn_apply, hs c C hC, hs _ _ (col_pair k c C hC), full_eq (a := 1024) (b := 128) x4, full_eq (a := 1024) (b := 128) x5]
  show _ = qAt _ _ _ C
  unfold qAt
  rw [hl]

/-- The scratch's planes at an index. -/
def planeAt (x0 : Vec Ideal (Sh 1024 1024) .f32) (x1 : Vec Ideal (Sh 1 1024) .f32) (x2 : Vec Ideal (Sh 1024 2840) .bf16) (y : S2x1024x128.Idx) : EReal :=
  pj x0 x1 x2 (y 1) ⟨2048 + 128 * (y 0).val + (y 2).val, by have h0 : (y 0).val < 2 := (y 0).isLt; have h2 : (y 2).val < 128 := (y 2).isLt; omega⟩

theorem plane_apply (x0 : Vec Ideal (Sh 1024 1024) .f32) (x1 : Vec Ideal (Sh 1 1024) .f32) (x2 : Vec Ideal (Sh 1024 2840) .bf16) (o : ℕ) (ho : (Sh 1024 256).Slices ![0, 128 * o] (Sh 1024 128))
    (inb) (hc) (x : (Rect.unit (s := S2x1024x128) ![o, 0, 0] ![1, 1024, 128] inb).shape.Idx) :
    (shapeCast S1x1024x128 (extractStridedSlice (Sh 1024 128) ![0, 128 * o] (prod 2048 256 (by decide) (by decide) x0 x1 x2) ho) hc) x
      = planeAt x0 x1 x2 ((Rect.unit (s := S2x1024x128) ![o, 0, 0] ![1, 1024, 128] inb).emb x) := by
  have e0 : ((Rect.unit (s := S2x1024x128) ![o, 0, 0] ![1, 1024, 128] inb).emb x 0).val = o + (x 0).val := Rect.idx_unit_val _ _ inb x 0
  have e1 : ((Rect.unit (s := S2x1024x128) ![o, 0, 0] ![1, 1024, 128] inb).emb x 1).val = 0 + (x 1).val := Rect.idx_unit_val _ _ inb x 1
  have e2 : ((Rect.unit (s := S2x1024x128) ![o, 0, 0] ![1, 1024, 128] inb).emb x 2).val = 0 + (x 2).val := Rect.idx_unit_val _ _ inb x 2
  have h0 : (x 0).val < 1 := (x 0).isLt
  have h2 : (x 2).val < 128 := (x 2).isLt
  have hO : o + 1 ≤ 2 := inb 0
  have hx : (shapeCast S1x1024x128 (extractStridedSlice (Sh 1024 128) ![0, 128 * o] (prod 2048 256 (by decide) (by decide) x0 x1 x2) ho) hc) x
      = prod 2048 256 (by decide) (by decide) x0 x1 x2 (ix2 (x 1) (⟨128 * o + (x 2).val, by omega⟩ : Fin 256)) := by
    pointwise []
  refine hx.trans ?_
  unfold planeAt
  rw [show (Rect.unit (s := S2x1024x128) ![o, 0, 0] ![1, 1024, 128] inb).emb x 1 = x 1 from Fin.ext (e1.trans (Nat.zero_add _))]
  exact prod_apply _ _ _ _ x0 x1 x2 _ _ _ (by show 2048 + 128 * _ + _ = 2048 + (128 * o + (x 2).val); omega)

theorem planes_apply (x0 : Vec Ideal (Sh 1024 1024) .f32) (x1 : Vec Ideal (Sh 1 1024) .f32) (x2 : Vec Ideal (Sh 1024 2840) .bf16) (y : S2x1024x128.Idx) :
    View.canon (Val := Elt Ideal) (planes x0 x1 x2) y = planeAt x0 x1 x2 y := by
  refine View.canon_apply_of_pieces (planeAt x0 x1 x2) _ (fun pc hp => ?_) y
    (View.cover_of_tiledL (planes x0 x1 x2) ![1, 1024, 128] (by rfl) y)
  unfold planes at hp
  simp only [List.mem_cons, List.not_mem_nil, or_false] at hp
  rcases hp with rfl | rfl
  · exact plane_apply x0 x1 x2 1 (by decide) (by decide) (by decide)
  · exact plane_apply x0 x1 x2 0 (by decide) (by decide) (by decide)

theorem kPiece_apply {sig' : RefSig} {κ' : Kind} {sp : Space} (v : View sig' κ' sp S2x1024x128 .f32)
    (x0 : Vec Ideal (Sh 1024 1024) .f32) (x1 : Vec Ideal (Sh 1 1024) .f32) (x2 : Vec Ideal (Sh 1024 2840) .bf16) (k : Fin 32) (x : (kPiece v x0 x1 x2 k).1.shape.Idx) :
    (kPiece v x0 x1 x2 k).2 x = (fun (j : Fin 64) (C : Fin 4096) => pj x0 x1 x2 (kRow j C) (col 2048 (by decide) (kCol C)))
      ((kPiece v x0 x1 x2 k).1.emb x 0) ((kPiece v x0 x1 x2 k).1.emb x 1) := by
  refine tile_of (fun (j : Fin 64) (C : Fin 4096) => pj x0 x1 x2 (kRow j C) (col 2048 (by decide) (kCol C))) (128 * k.val) rfl (chunk_ok k) _ (fun r c r' C hr hC => ?_) x
  have hk := k.isLt
  have hc := c.isLt
  have hr0 := r.isLt
  have e : (shapeCast (s := S1x64x128) (Sh 64 128) (View.readCov (Val := Elt Ideal) v (planes x0 x1 x2)
      (⟨![k.val % 2, k.val / 2, 0], ![1, 64, 128], ![1, 16, 1], every_ok k⟩ : LoadRect S2x1024x128)) (by decide)) (ix2 r c)
      = planeAt x0 x1 x2 (ix3 (⟨k.val % 2, by omega⟩ : Fin 2) (⟨k.val / 2 + 16 * r.val, by omega⟩ : Fin 1024) c) := by
    rw [View.readCov_eq_canon']
    pointwise []
    rw [planes_apply]
  refine Eq.trans e ?_
  unfold planeAt
  refine congrArg₂ (pj x0 x1 x2) (Fin.ext ?_) (Fin.ext ?_)
  · show k.val / 2 + 16 * r.val = 16 * r'.val + C.val / 256
    omega
  · show 2048 + 128 * (k.val % 2) + c.val = 2048 + C.val % 256
    omega

section Body

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2840 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S64x4096 .bf16) (harg11 : arg11.IsWhole) (arg12 : Memref sig .tc .vmem S1024x1024 .bf16) (harg12 : arg12.IsWhole) (arg13 : Memref sig .tc .vmem S1024x256 .f32) (harg13 : arg13.IsWhole) (arg14 : Memref sig .tc .vmem S2x1024x128 .f32) (harg14 : arg14.IsWhole)
  (x0 : Vec Ideal S1024x1024 .f32) (x1 : Vec Ideal S1x1024 .f32) (x2 : Vec Ideal S1024x2840 .bf16) (x3 : Vec Ideal S1024x256 .bf16) (x4 : Vec Ideal S1024x128 .f32) (x5 : Vec Ideal S1024x128 .f32) (x6 : Vec Ideal S1024x128 .f32)

theorem outC : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => pj x0 x1 x2 (y 0) (col 1024 (by decide) (y 1)) * pj x0 x1 x2 (y 0) (col 0 (by decide) (y 1)) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6), piecesC]
  funext y
  rw [View.canon_unit_zero (by funext a; fin_cases a <;> rfl)]
  have hy : y = ix2 (y 0) (y 1) := ix2_of y (y 0) (y 1) rfl rfl
  exact (congrArg _ hy).trans (congrArg₂ (· * ·) (prod_apply 1024 512 (by decide) (by decide) x0 x1 x2 (y 0) (y 1) _ rfl)
    (prod_apply 0 512 (by decide) (by decide) x0 x1 x2 (y 0) (y 1) _ rfl))

theorem outG : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => pj x0 x1 x2 (y 0) (col 512 (by decide) (y 1)) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6), piecesG]
  funext y
  rw [View.canon_unit_zero (by funext a; fin_cases a <;> rfl)]
  have hy : y = ix2 (y 0) (y 1) := ix2_of y (y 0) (y 1) rfl rfl
  exact (congrArg _ hy).trans (prod_apply 512 512 (by decide) (by decide) x0 x1 x2 (y 0) (y 1) _ rfl)

theorem outQ : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => (fun (r : Fin 1024) (C : Fin 512) => qAt (pj x0 x1 x2 r) (fun l => x4 (ix2 r l)) (fun l => x5 (ix2 r l)) C) (y 0) (y 1) := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  refine View.canon_apply_of_pieces (fun y : S1024x512.Idx => (fun (r : Fin 1024) (C : Fin 512) => qAt (pj x0 x1 x2 r) (fun l => x4 (ix2 r l)) (fun l => x5 (ix2 r l)) C) (y 0) (y 1)) _ (fun pc hp => ?_) y
    (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)
  rw [piecesQ] at hp
  obtain ⟨k, -, rfl⟩ := List.mem_map.1 hp
  exact qPiece_apply x0 x1 x2 x4 x5 k

theorem outK : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => (fun (j : Fin 64) (C : Fin 4096) => pj x0 x1 x2 (kRow j C) (col 2048 (by decide) (kCol C))) (y 0) (y 1) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  refine View.canon_apply_of_pieces (fun y : S64x4096.Idx => (fun (j : Fin 64) (C : Fin 4096) => pj x0 x1 x2 (kRow j C) (col 2048 (by decide) (kCol C))) (y 0) (y 1)) _ (fun pc hp => ?_) y
    (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)
  rw [piecesK] at hp
  obtain ⟨k, -, rfl⟩ := List.mem_map.1 hp
  exact kPiece_apply arg14.view x0 x1 x2 k

end Body

end Cert.Proj

end
-- ==== Proof.ProjKV.lean ====
/- The projection call's keys, values and gates: what a step stores, and what it leaves in their windows. -/
module

public import proofs.«01_k».proof.Proof.ProjOut
public import proofs.«01_k».proof.Proof.Head

@[expose] public section

set_option maxRecDepth 16384

noncomputable section

namespace Cert.Proj

open Cert.Kernel3Ideal Cert.Kernel3Ideal.Gen
open Idealize.ShloMosaic
open Cert.Attend (Sh ix2_of zero_at bits_lt ld2_of cast2 first_half)
open Cert.Mix (rmsAt mm mm_apply full full_eq sel_if zero_bits)

theorem kvCols_ok : ∀ (k : Fin 8) (a : Fin 2), (![0, 2304 + 256 * (k.val / 4)] : Fin 2 → ℕ) a + (![1024, 256] : Fin 2 → ℕ) a ≤ (Sh 1024 2840).size a := by decide

theorem kvSlice_ok : ∀ k : Fin 8, (Sh 1024 256).Slices ![0, 128 * (k.val % 2)] (Sh 1024 128) := by decide

theorem kvLanes_ok : ∀ (k : Fin 8) (a : Fin 2), (![0, 128 * k.val] : Fin 2 → ℕ) a + (![1024, 128] : Fin 2 → ℕ) a ≤ (Sh 1024 1024).size a := by decide

/-- The lanes of a tile that hold a head: its first sixty-four. -/
def inHead : IVec (Sh 1024 128) 1 :=
  cmpi .slt (iota .tc (Sh 1024 128) 32 [1] (by decide)) (broadcast (Sh 1024 128) 64#32)

theorem inHead_apply (r : Fin 1024) (c : Fin 128) : inHead (ix2 r c) = if c.val < 64 then 1#1 else 0#1 := by
  refine Eq.trans ?_ (first_half c)
  unfold inHead
  pointwise []

/-- What the tile's other lanes hold: the block's number one-hot with the selected keys, zeros with the window's keys, ones with the values. -/
def kvFill (x6 : Vec Ideal (Sh 1024 128) .f32) (k : Fin 8) : FVec Ideal (Sh 1024 128) .f32 :=
  if k.val % 2 = 1 then select inHead (broadcast (Sh 1024 128) (Scalar.ofBits .f32 0x00000000#32)) (broadcast (Sh 1024 128) (Scalar.ofBits .f32 0x3F800000#32))
  else if k.val < 4 then shapeCast (Sh 1024 128) (full x6 (by decide)) (by decide)
  else broadcast (Sh 1024 128) (Scalar.ofBits .f32 0x00000000#32)

/-- Both heads' columns of the tile. -/
def kvCols (x0 : Vec Ideal (Sh 1024 1024) .f32) (x1 : Vec Ideal (Sh 1 1024) .f32) (x2 : Vec Ideal (Sh 1024 2840) .bf16) (k : Fin 8) : FVec Ideal (Sh 1024 128) .f32 :=
  extractStridedSlice (Sh 1024 128) ![0, 128 * (k.val % 2)] (prod (2304 + 256 * (k.val / 4)) 256 (kvCols_ok k) (by decide) x0 x1 x2) (kvSlice_ok k)

/-- Both heads' keys, turned, or both heads' values. -/
def kvPair (x0 : Vec Ideal (Sh 1024 1024) .f32) (x1 : Vec Ideal (Sh 1 1024) .f32) (x2 : Vec Ideal (Sh 1024 2840) .bf16) (x4 x5 : Vec Ideal (Sh 1024 128) .f32) (k : Fin 8) : FVec Ideal (Sh 1024 128) .f32 :=
  if k.val % 2 = 1 then kvCols x0 x1 x2 k else turned (kvCols x0 x1 x2 k) (full x4 (by decide)) (full x5 (by decide))

/-- The tile's head, in its first sixty-four lanes. -/
def kvHead (x0 : Vec Ideal (Sh 1024 1024) .f32) (x1 : Vec Ideal (Sh 1 1024) .f32) (x2 : Vec Ideal (Sh 1024 2840) .bf16) (x4 x5 : Vec Ideal (Sh 1024 128) .f32) (k : Fin 8) : FVec Ideal (Sh 1024 128) .f32 :=
  if k.val / 2 % 2 = 1 then dynamicRotate 1 64#32 none (kvPair x0 x1 x2 x4 x5 k) (by decide) else kvPair x0 x1 x2 x4 x5 k

/-- The tile of 128 lanes from lane `128 k` of the keys and values. -/
def kvPiece (x0 : Vec Ideal (Sh 1024 1024) .f32) (x1 : Vec Ideal (Sh 1 1024) .f32) (x2 : Vec Ideal (Sh 1024 2840) .bf16) (x4 x5 x6 : Vec Ideal (Sh 1024 128) .f32)
    (k : Fin 8) : View.Piece (Elt Ideal) (Sh 1024 1024) .bf16 :=
  ⟨Rect.unit (s := Sh 1024 1024) ![0, 128 * k.val] ![1024, 128] (kvLanes_ok k), truncf (F := Ideal) (s := Sh 1024 128) (φ := .f32) .bf16 (select inHead (kvHead x0 x1 x2 x4 x5 k) (kvFill x6 k)) bits_lt⟩

/-- The gates: the sigmoid of the rows' products with the gates' weights. -/
def gate (x0 : Vec Ideal (Sh 1024 1024) .f32) (x1 : Vec Ideal (Sh 1 1024) .f32) (x3 : Vec Ideal (Sh 1024 256) .bf16) : FVec Ideal (Sh 1024 256) .f32 :=
  divf (broadcast (Sh 1024 256) (Scalar.ofBits .f32 0x3F800000#32)) (addf (broadcast (Sh 1024 256) (Scalar.ofBits .f32 0x3F800000#32))
    (exp (subf (broadcast (Sh 1024 256) (Scalar.ofBits .f32 0x00000000#32))
      (mm (nP (full x0 (by decide)) (full x1 (by decide))) (shapeCast (Sh 1024 256) (full x3 (by decide)) (by decide))))))

theorem kvCols_apply (x0 : Vec Ideal (Sh 1024 1024) .f32) (x1 : Vec Ideal (Sh 1 1024) .f32) (x2 : Vec Ideal (Sh 1024 2840) .bf16) (k : Fin 8) (r : Fin 1024) (c : Fin 128) (D : Fin 512)
    (hD : D.val = 256 * (k.val / 4) + 128 * (k.val % 2) + c.val) : kvCols x0 x1 x2 k (ix2 r c) = pj x0 x1 x2 r (col 2304 (by decide) D) := by
  have hc := c.isLt
  unfold kvCols
  refine Eq.trans (congrArg (prod (2304 + 256 * (k.val / 4)) 256 (kvCols_ok k) (by decide) x0 x1 x2)
    (ix2_of _ r (⟨128 * (k.val % 2) + c.val, by omega⟩ : Fin 256) (Nat.zero_add _) rfl)) ?_
  exact prod_apply _ _ _ _ x0 x1 x2 r _ _ (by show 2304 + D.val = 2304 + 256 * (k.val / 4) + (128 * (k.val % 2) + c.val); omega)

/-- The column, among the keys' and values' of both branches, that a lane of a head comes from. -/
def kvD (C : Fin 1024) : Fin 512 := ⟨256 * (C.val / 512) + 128 * (C.val / 128 % 2) + 64 * (C.val / 256 % 2) + C.val % 64, by have := C.isLt; omega⟩

/-- A value, or a turned key, at a column. -/
def kvOf (v : Prop) [Decidable v] (p : Fin 2840 → EReal) (a b : Fin 128 → EReal) (D : Fin 512) : EReal :=
  if v then p (col 2304 (by decide) D) else p (col 2304 (by decide) D) * a (lane D) + p (col 2304 (by decide) (pair (by decide) D)) * b (lane D)

theorem kvPair_apply (x0 : Vec Ideal (Sh 1024 1024) .f32) (x1 : Vec Ideal (Sh 1 1024) .f32) (x2 : Vec Ideal (Sh 1024 2840) .bf16) (x4 x5 : Vec Ideal (Sh 1024 128) .f32) (k : Fin 8) (r : Fin 1024) (c : Fin 128) (D : Fin 512)
    (hD : D.val = 256 * (k.val / 4) + 128 * (k.val % 2) + c.val) :
    kvPair x0 x1 x2 x4 x5 k (ix2 r c) = kvOf (k.val % 2 = 1) (pj x0 x1 x2 r) (fun l => x4 (ix2 r l)) (fun l => x5 (ix2 r l)) D := by
  have hk := k.isLt
  have hl : lane D = c := Fin.ext (by have := c.isLt; show D.val % 128 = c.val; omega)
  unfold kvPair kvOf
  rw [hl]
  split_ifs with h
  · exact kvCols_apply x0 x1 x2 k r c D hD
  · have hp := col_pair (⟨2 * (k.val / 4) + k.val % 2, by omega⟩ : Fin 4) c D (by show D.val = 128 * (2 * (k.val / 4) + k.val % 2) + c.val; omega)
    rw [turned_apply, kvCols_apply x0 x1 x2 k r c D hD,
      kvCols_apply x0 x1 x2 k r _ (pair (by decide) D) (hp.trans (by show 128 * (2 * (k.val / 4) + k.val % 2) + _ = _; omega)),
      full_eq (a := 1024) (b := 128) x4, full_eq (a := 1024) (b := 128) x5]

theorem kvHead_apply (x0 : Vec Ideal (Sh 1024 1024) .f32) (x1 : Vec Ideal (Sh 1 1024) .f32) (x2 : Vec Ideal (Sh 1024 2840) .bf16) (x4 x5 : Vec Ideal (Sh 1024 128) .f32) (k : Fin 8) (r : Fin 1024) (c : Fin 128) (hc : c.val < 64) :
    kvHead x0 x1 x2 x4 x5 k (ix2 r c) = kvPair x0 x1 x2 x4 x5 k (ix2 r (⟨64 * (k.val / 2 % 2) + c.val, by omega⟩ : Fin 128)) := by
  unfold kvHead
  split_ifs with h
  · refine dynamicRotate_apply (s := Sh 1024 128) (1 : Fin 2) 64#32 _ (by decide) _ _ fun b => ?_
    match b with
    | ⟨0, _⟩ => rfl
    | ⟨1, _⟩ =>
      change 64 * (k.val / 2 % 2) + c.val = (c.val + 128 - 64 % 128) % 128
      omega
  · refine congrArg (fun c => kvPair x0 x1 x2 x4 x5 k (ix2 r c)) (Fin.ext ?_)
    show c.val = 64 * (k.val / 2 % 2) + c.val
    omega

/-- The keys and values of a row, tile by tile, with what fills the tiles. -/
def kvG (x0 : Vec Ideal (Sh 1024 1024) .f32) (x1 : Vec Ideal (Sh 1 1024) .f32) (x2 : Vec Ideal (Sh 1024 2840) .bf16) (x4 x5 x6 : Vec Ideal (Sh 1024 128) .f32) (r : Fin 1024) (C : Fin 1024) : EReal :=
  if C.val % 128 < 64 then kvOf (C.val / 128 % 2 = 1) (pj x0 x1 x2 r) (fun l => x4 (ix2 r l)) (fun l => x5 (ix2 r l)) (kvD C)
  else kvFill x6 ⟨C.val / 128, by have := C.isLt; omega⟩ (ix2 r ⟨C.val % 128, Nat.mod_lt _ (by decide)⟩)

theorem kvPiece_apply (x0 : Vec Ideal (Sh 1024 1024) .f32) (x1 : Vec Ideal (Sh 1 1024) .f32) (x2 : Vec Ideal (Sh 1024 2840) .bf16) (x4 x5 x6 : Vec Ideal (Sh 1024 128) .f32)
    (k : Fin 8) (x : (kvPiece x0 x1 x2 x4 x5 x6 k).1.shape.Idx) :
    (kvPiece x0 x1 x2 x4 x5 x6 k).2 x = kvG x0 x1 x2 x4 x5 x6 ((kvPiece x0 x1 x2 x4 x5 x6 k).1.emb x 0) ((kvPiece x0 x1 x2 x4 x5 x6 k).1.emb x 1) := by
  refine tile_of (kvG x0 x1 x2 x4 x5 x6) (128 * k.val) rfl (kvLanes_ok k) _ (fun r c r' C hr hC => ?_) x
  have hr' : r' = r := Fin.ext hr
  subst hr'
  have hk := k.isLt
  have hc := c.isLt
  have hl : (⟨C.val % 128, Nat.mod_lt _ (by decide)⟩ : Fin 128) = c := Fin.ext (by show C.val % 128 = c.val; omega)
  have ht : (⟨C.val / 128, by have := C.isLt; omega⟩ : Fin 8) = k := Fin.ext (by show C.val / 128 = k.val; omega)
  show Scalar.select (inHead (ix2 r' c)) (kvHead x0 x1 x2 x4 x5 k (ix2 r' c)) (kvFill x6 k (ix2 r' c)) = _
  rw [inHead_apply, sel_if]
  unfold kvG
  rw [hl, ht, show C.val % 128 = c.val by omega, show C.val / 128 = k.val by omega]
  by_cases h : c.val < 64
  · rw [if_pos h, if_pos h, kvHead_apply x0 x1 x2 x4 x5 k r' c h]
    exact kvPair_apply x0 x1 x2 x4 x5 k r' _ (kvD C) (by
      show 256 * (C.val / 512) + 128 * (C.val / 128 % 2) + 64 * (C.val / 256 % 2) + C.val % 64 = 256 * (k.val / 4) + 128 * (k.val % 2) + (64 * (k.val / 2 % 2) + c.val)
      omega)
  · rw [if_neg h, if_neg h]

/-- A gate's logit. -/
def gj (x0 : Vec Ideal (Sh 1024 1024) .f32) (x1 : Vec Ideal (Sh 1 1024) .f32) (x3 : Vec Ideal (Sh 1024 256) .bf16) (r : Fin 1024) (C : Fin 256) : EReal :=
  ∑ k : Fin 1024, rmsAt 0x44800000#32 (fun k => x0 (ix2 r k)) (fun k => x1 (ix2 (0 : Fin 1) k)) k * x3 (ix2 k C)

theorem gate_apply (x0 : Vec Ideal (Sh 1024 1024) .f32) (x1 : Vec Ideal (Sh 1 1024) .f32) (x3 : Vec Ideal (Sh 1024 256) .bf16) (r : Fin 1024) (c : Fin 256) :
    gate x0 x1 x3 (ix2 r c) = Cert.Attend.sgm (gj x0 x1 x3 r c) := by
  have e : mm (nP (full x0 (by decide)) (full x1 (by decide))) (shapeCast (Sh 1024 256) (full x3 (by decide)) (by decide)) (ix2 r c) = gj x0 x1 x3 r c := by
    rw [mm_apply, cast2, full_eq (a := 1024) (b := 1024) x0, full_eq (a := 1) (b := 1024) x1, full_eq (a := 1024) (b := 256) x3]
    exact Finset.sum_congr rfl fun k _ => congrArg (· * x3 (ix2 k c)) (nP_apply x0 x1 r k)
  unfold gate
  show Ideal.div _ (_ + Ideal.exp (Ideal.ofBits .f32 0x00000000#32 - _)) = _
  rw [e, zero_bits, zero_sub]
  rfl

section Body

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2840 .bf16) (harg3 : arg3.IsWhole) (arg4 : Memref sig .tc .vmem S1024x256 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S64x4096 .bf16) (harg11 : arg11.IsWhole) (arg12 : Memref sig .tc .vmem S1024x1024 .bf16) (harg12 : arg12.IsWhole) (arg13 : Memref sig .tc .vmem S1024x256 .f32) (harg13 : arg13.IsWhole) (arg14 : Memref sig .tc .vmem S2x1024x128 .f32) (harg14 : arg14.IsWhole)
  (x0 : Vec Ideal S1024x1024 .f32) (x1 : Vec Ideal S1x1024 .f32) (x2 : Vec Ideal S1024x2840 .bf16) (x3 : Vec Ideal S1024x256 .bf16) (x4 : Vec Ideal S1024x128 .f32) (x5 : Vec Ideal S1024x128 .f32) (x6 : Vec Ideal S1024x128 .f32)

theorem piecesV :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.2.1 =
      ([7, 6, 5, 4, 3, 2, 1, 0] : List (Fin 8)).map (kvPiece x0 x1 x2 x4 x5 x6) := by
  refine Eq.trans (b := ([7, 6, 5, 4, 3, 2, 1, 0] : List (Fin 8)).map (kvPiece (arg1.view.read (Elt Ideal) (harg1.unread x0)) (arg2.view.read (Elt Ideal) (harg2.unread x1)) (arg3.view.read (Elt Ideal) (harg3.unread x2)) (arg5.view.read (Elt Ideal) (harg5.unread x4)) (arg6.view.read (Elt Ideal) (harg6.unread x5)) (arg7.view.read (Elt Ideal) (harg7.unread x6)))) ?_ ?_
  · rfl
  · rw [harg1.read_unread, harg2.read_unread, harg3.read_unread, harg5.read_unread, harg6.read_unread, harg7.read_unread]

theorem piecesS :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.2.2.2.2.1 =
      [⟨Rect.unit (s := Sh 1024 256) ![0, 0] ![1024, 256] (by decide), gate x0 x1 x3⟩] := by
  refine Eq.trans (b := [⟨Rect.unit (s := Sh 1024 256) ![0, 0] ![1024, 256] (by decide), gate (arg1.view.read (Elt Ideal) (harg1.unread x0)) (arg2.view.read (Elt Ideal) (harg2.unread x1)) (arg4.view.read (Elt Ideal) (harg4.unread x3))⟩]) ?_ ?_
  · rfl
  · rw [harg1.read_unread, harg2.read_unread, harg4.read_unread]

theorem outV : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => kvG x0 x1 x2 x4 x5 x6 (y 0) (y 1) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6)]
  funext y
  refine View.canon_apply_of_pieces (fun y : S1024x1024.Idx => kvG x0 x1 x2 x4 x5 x6 (y 0) (y 1)) _ (fun pc hp => ?_) y
    (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)
  rw [piecesV] at hp
  obtain ⟨k, -, rfl⟩ := List.mem_map.1 hp
  exact kvPiece_apply x0 x1 x2 x4 x5 x6 k

theorem outS : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = fun y => Cert.Attend.sgm (gj x0 x1 x3 (y 0) (y 1)) := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6), piecesS]
  funext y
  rw [View.canon_unit_zero (by funext a; fin_cases a <;> rfl)]
  have hy : y = ix2 (y 0) (y 1) := ix2_of y (y 0) (y 1) rfl rfl
  exact (congrArg _ hy).trans (gate_apply x0 x1 x3 (y 0) (y 1))

end Body

end Cert.Proj

end
-- ==== Proof.ProjValue.lean ====
/- The projection call's arrays after its steps, block by block. -/
module

public import proofs.«01_k».proof.Proof.Gen.Kernel3Ideal.Frame
public import Idealize.ShloMosaic.Lib.Pipeline.Value

@[expose] public section

set_option maxRecDepth 16384

noncomputable section

namespace Cert.Proj.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The six results' windows. -/
abbrev out (w : Fin 6) : Fin cfg0.W := ⟨7 + w.val, by have := w.isLt; show 7 + w.val < 13; omega⟩

/-- Two steps write different blocks of a result. -/
theorem idx_inj : ∀ (w : Fin 6) (t t' : Fin cfg0.N), (cfg0.win (out w)).index t = (cfg0.win (out w)).index t' → t = t' := by
  decide +kernel

theorem whole : ∀ w : Fin 6, (cfg0.win (out w)).kind = Pipeline.WinKind.blocked := by
  decide

/-- Block `t` of a result's final array is what step `t` wrote back. -/
theorem blocks (w : Fin 6) (c : Dev nD) (t : Fin cfg0.N) (hf : (cfg0.win (out w)).flush t = true) :
    ((cfg0.win (out w)).blk t).view.read (Elt Ideal) ((dats m 0 c).arrAt (out w) cfg0.N) = (dats m 0 c).flushed (out w) t :=
  (dats m 0 c).read_blk_arrAt_eq_flushed (out w) (fun t t' _ _ hne => (cfg0.win (out w)).disjoint_blk (fun h => hne (idx_inj w t t' h)) (whole w)) cfg0.N t t.isLt hf

theorem flushed7 (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7, outsAt0]

theorem flushed8 (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8, outsAt0]

theorem flushed9 (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9, outsAt0]

theorem flushed10 (c : Dev nD) (t : Fin cfg0.N) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10, outsAt0]

theorem flushed11 (c : Dev nD) (t : Fin cfg0.N) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 11).cut (grid0.coords t) ((dats m 0 c).after 11 t) = _
  rw [after0_11, outsAt0]

theorem flushed12 (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t)) := by
  show (cfg0.win 12).cut (grid0.coords t) ((dats m 0 c).after 12 t) = _
  rw [after0_12, outsAt0]

/-- The arrays as the call's steps leave them: the results' are the steps', the others as they were. -/
abbrev W (c : Dev nD) : Valuation τ sig (Elt Ideal) :=
  Pipeline.withArrays (cfgs 0).spec c (V0 m c) fun w => (dats m 0 c).arrAt w (cfgs 0).N

theorem arr_inj : Function.Injective (Pipeline.arrRef (cfgs 0).spec) := by
  decide +kernel

theorem W_arr (c : Dev nD) (w : Fin cfg0.W) : W m c (Proc.devRef .tc (Pipeline.arrRef (cfgs 0).spec w)) = (dats m 0 c).arrAt w cfg0.N :=
  Pipeline.withArrays_arr (cfgs 0).spec arr_inj c (V0 m c) _ w

end Cert.Proj.Value

end
-- ==== Proof.ProjArray.lean ====
/- The projection call's arrays, row by row, in the arrays it is given. -/
module

public import proofs.«01_k».proof.Proof.ProjKV
public import proofs.«01_k».proof.Proof.ProjValue
public import Idealize.ShloMosaic.Lib.Pipeline.ValueKit.Geometry

@[expose] public section

set_option maxRecDepth 16384

noncomputable section

namespace Cert.Proj

open Cert.Kernel3Ideal Cert.Kernel3Ideal.Gen
open Idealize.ShloMosaic Idealize.ShloMosaic.TcCoe
open Idealize.ShloMosaic.Pipeline (Dat Cfg Window)
open Cert.Attend (Sh ix2_of)
open Cert.Mix (rmsAt)

variable (m : (ℓ : Loc nD τ sig) → Buf (Elt Ideal) ℓ)

/-- Row `r` of the step's block of 1024. -/
def rowOf (t : Fin 32) (r : Fin 1024) : Fin 32768 := ⟨1024 * t.val + r.val, by omega⟩

/-- A row's position in its sequence. -/
def posOf (R : Fin 32768) : Fin 2048 := ⟨R.val % 2048, Nat.mod_lt _ (by decide)⟩

theorem pt0 : ∀ t : Fin cfg0.N, win0_0.index t 0 = t.val ∧ win0_0.index t 1 = 0 :=
  (by decide +kernel : ∀ t : Fin grid0.N, win0_0.index t 0 = t.val ∧ win0_0.index t 1 = 0)

theorem block0 (c : Dev nD) (t : Fin cfg0.N) (r : Fin 1024) (d : Fin 1024) : iblk m c 0 t (ix2 r d) = V m c main_v37 (ix2 (rowOf t r) d) := by
  show V m c main_v37 ((win0_0.blk t).view.emb (ix2 r d)) = _
  refine congrArg (V m c main_v37) (ix2_of _ _ _ ?_ ?_)
  · show ((win0_0.blk t).view.emb (ix2 r d) 0).val = 1024 * t.val + r.val
    blk_simp [(pt0 t).1]
    show t.val * 1024 + r.val = _
    omega
  · show ((win0_0.blk t).view.emb (ix2 r d) 1).val = d.val
    blk_simp [(pt0 t).2]

theorem pt1 : ∀ t : Fin cfg0.N, win0_1.index t 0 = 0 ∧ win0_1.index t 1 = 0 :=
  (by decide +kernel : ∀ t : Fin grid0.N, win0_1.index t 0 = 0 ∧ win0_1.index t 1 = 0)

theorem block1 (c : Dev nD) (t : Fin cfg0.N) (r : Fin 1) (d : Fin 1024) : iblk m c 1 t (ix2 r d) = V m c main_v38 (ix2 r d) := by
  show V m c main_v38 ((win0_1.blk t).view.emb (ix2 r d)) = _
  refine congrArg (V m c main_v38) (ix2_of _ _ _ ?_ ?_)
  · show ((win0_1.blk t).view.emb (ix2 r d) 0).val = r.val
    blk_simp [(pt1 t).1]
  · show ((win0_1.blk t).view.emb (ix2 r d) 1).val = d.val
    blk_simp [(pt1 t).2]

theorem pt2 : ∀ t : Fin cfg0.N, win0_2.index t 0 = 0 ∧ win0_2.index t 1 = 0 :=
  (by decide +kernel : ∀ t : Fin grid0.N, win0_2.index t 0 = 0 ∧ win0_2.index t 1 = 0)

theorem block2 (c : Dev nD) (t : Fin cfg0.N) (r : Fin 1024) (d : Fin 2840) : iblk m c 2 t (ix2 r d) = V m c main_v39 (ix2 r d) := by
  show V m c main_v39 ((win0_2.blk t).view.emb (ix2 r d)) = _
  refine congrArg (V m c main_v39) (ix2_of _ _ _ ?_ ?_)
  · show ((win0_2.blk t).view.emb (ix2 r d) 0).val = r.val
    blk_simp [(pt2 t).1]
  · show ((win0_2.blk t).view.emb (ix2 r d) 1).val = d.val
    blk_simp [(pt2 t).2]

theorem pt4 : ∀ t : Fin cfg0.N, win0_4.index t 0 = t.val % 2 ∧ win0_4.index t 1 = 0 :=
  (by decide +kernel : ∀ t : Fin grid0.N, win0_4.index t 0 = t.val % 2 ∧ win0_4.index t 1 = 0)

theorem block4 (c : Dev nD) (t : Fin cfg0.N) (r : Fin 1024) (d : Fin 128) : iblk m c 4 t (ix2 r d) = V m c main_v24 (ix2 (posOf (rowOf t r)) d) := by
  show V m c main_v24 ((win0_4.blk t).view.emb (ix2 r d)) = _
  refine congrArg (V m c main_v24) (ix2_of _ _ _ ?_ ?_)
  · show ((win0_4.blk t).view.emb (ix2 r d) 0).val = (1024 * t.val + r.val) % 2048
    blk_simp [(pt4 t).1]
    show t.val % 2 * 1024 + r.val = _
    omega
  · show ((win0_4.blk t).view.emb (ix2 r d) 1).val = d.val
    blk_simp [(pt4 t).2]

theorem pt5 : ∀ t : Fin cfg0.N, win0_5.index t 0 = t.val % 2 ∧ win0_5.index t 1 = 0 :=
  (by decide +kernel : ∀ t : Fin grid0.N, win0_5.index t 0 = t.val % 2 ∧ win0_5.index t 1 = 0)

theorem block5 (c : Dev nD) (t : Fin cfg0.N) (r : Fin 1024) (d : Fin 128) : iblk m c 5 t (ix2 r d) = V m c main_v25 (ix2 (posOf (rowOf t r)) d) := by
  show V m c main_v25 ((win0_5.blk t).view.emb (ix2 r d)) = _
  refine congrArg (V m c main_v25) (ix2_of _ _ _ ?_ ?_)
  · show ((win0_5.blk t).view.emb (ix2 r d) 0).val = (1024 * t.val + r.val) % 2048
    blk_simp [(pt5 t).1]
    show t.val % 2 * 1024 + r.val = _
    omega
  · show ((win0_5.blk t).view.emb (ix2 r d) 1).val = d.val
    blk_simp [(pt5 t).2]

theorem pt3 : ∀ t : Fin cfg0.N, win0_3.index t 0 = 0 ∧ win0_3.index t 1 = 0 :=
  (by decide +kernel : ∀ t : Fin grid0.N, win0_3.index t 0 = 0 ∧ win0_3.index t 1 = 0)

theorem block3 (c : Dev nD) (t : Fin cfg0.N) (r : Fin 1024) (d : Fin 256) : iblk m c 3 t (ix2 r d) = V m c main_v44 (ix2 r d) := by
  show V m c main_v44 ((win0_3.blk t).view.emb (ix2 r d)) = _
  refine congrArg (V m c main_v44) (ix2_of _ _ _ ?_ ?_)
  · show ((win0_3.blk t).view.emb (ix2 r d) 0).val = r.val
    blk_simp [(pt3 t).1]
  · show ((win0_3.blk t).view.emb (ix2 r d) 1).val = d.val
    blk_simp [(pt3 t).2]

/-- Row `R`'s product with column `C` of the weights. -/
def pK (c : Dev nD) (R : Fin 32768) (C : Fin 2840) : EReal :=
  ∑ k : Fin 1024, rmsAt 0x44800000#32 (fun k => V m c main_v37 (ix2 R k)) (fun k => V m c main_v38 (ix2 (0 : Fin 1) k)) k * V m c main_v39 (ix2 k C)

theorem pj_blk (c : Dev nD) (t : Fin cfg0.N) (r : Fin 1024) (C : Fin 2840) :
    pj (iblk m c 0 t) (iblk m c 1 t) (iblk m c 2 t) r C = pK m c (rowOf t r) C := by
  unfold pj pK
  simp only [block0, block1, block2]

theorem row_cover (R : Fin 32768) : rowOf (⟨R.val / 1024, by omega⟩ : Fin 32) ⟨R.val % 1024, Nat.mod_lt _ (by decide)⟩ = R := Fin.ext (Nat.div_add_mod _ _)

/-- The gated input of the convolution. -/
theorem finalC (c : Dev nD) (R : Fin 32768) (C : Fin 512) :
    ((dats m 0 c).arrAt 7 cfg0.N : S32768x512.Idx → EReal) (ix2 R C) = pK m c R (col 1024 (by decide) C) * pK m c R (col 0 (by decide) C) := by
  have key : ∀ (t : Fin cfg0.N) (r : Fin 1024), ((dats m 0 c).arrAt 7 cfg0.N : S32768x512.Idx → EReal) (ix2 (rowOf t r) C) = pK m c (rowOf t r) (col 1024 (by decide) C) * pK m c (rowOf t r) (col 0 (by decide) C) := by
    intro t r
    have hb := congrFun ((Value.blocks m 0 c t (flush0_7 t)).trans (Value.flushed7 m c t)) (ix2 r C)
    rw [outC] at hb
    have he : (win0_7.blk t).view.emb (ix2 r C) = ix2 (rowOf t r) C := by
      have hp := (by decide +kernel : ∀ t : Fin grid0.N, win0_7.index t 0 = t.val ∧ win0_7.index t 1 = 0) t
      refine ix2_of _ _ _ ?_ ?_
      · show ((win0_7.blk t).view.emb (ix2 r C) 0).val = 1024 * t.val + r.val
        blk_simp [hp.1]
        show t.val * 1024 + r.val = _
        omega
      · show ((win0_7.blk t).view.emb (ix2 r C) 1).val = C.val
        blk_simp [hp.2]
    rw [← he]
    refine hb.trans ?_
    exact congrArg₂ (· * ·) (pj_blk m c t r _) (pj_blk m c t r _)
  rw [← row_cover R]
  exact key _ _

/-- The convolution's gate. -/
theorem finalG (c : Dev nD) (R : Fin 32768) (C : Fin 512) :
    ((dats m 0 c).arrAt 8 cfg0.N : S32768x512.Idx → EReal) (ix2 R C) = pK m c R (col 512 (by decide) C) := by
  have key : ∀ (t : Fin cfg0.N) (r : Fin 1024), ((dats m 0 c).arrAt 8 cfg0.N : S32768x512.Idx → EReal) (ix2 (rowOf t r) C) = pK m c (rowOf t r) (col 512 (by decide) C) := by
    intro t r
    have hb := congrFun ((Value.blocks m 1 c t (flush0_8 t)).trans (Value.flushed8 m c t)) (ix2 r C)
    rw [outG] at hb
    have he : (win0_8.blk t).view.emb (ix2 r C) = ix2 (rowOf t r) C := by
      have hp := (by decide +kernel : ∀ t : Fin grid0.N, win0_8.index t 0 = t.val ∧ win0_8.index t 1 = 0) t
      refine ix2_of _ _ _ ?_ ?_
      · show ((win0_8.blk t).view.emb (ix2 r C) 0).val = 1024 * t.val + r.val
        blk_simp [hp.1]
        show t.val * 1024 + r.val = _
        omega
      · show ((win0_8.blk t).view.emb (ix2 r C) 1).val = C.val
        blk_simp [hp.2]
    rw [← he]
    refine hb.trans ?_
    exact pj_blk m c t r _
  rw [← row_cover R]
  exact key _ _

/-- The queries. -/
theorem finalQ (c : Dev nD) (R : Fin 32768) (C : Fin 512) :
    ((dats m 0 c).arrAt 9 cfg0.N : S32768x512.Idx → EReal) (ix2 R C) = qAt (pK m c R) (fun l => V m c main_v24 (ix2 (posOf R) l)) (fun l => V m c main_v25 (ix2 (posOf R) l)) C := by
  have key : ∀ (t : Fin cfg0.N) (r : Fin 1024), ((dats m 0 c).arrAt 9 cfg0.N : S32768x512.Idx → EReal) (ix2 (rowOf t r) C) = qAt (pK m c (rowOf t r)) (fun l => V m c main_v24 (ix2 (posOf (rowOf t r)) l)) (fun l => V m c main_v25 (ix2 (posOf (rowOf t r)) l)) C := by
    intro t r
    have hb := congrFun ((Value.blocks m 2 c t (flush0_9 t)).trans (Value.flushed9 m c t)) (ix2 r C)
    rw [outQ] at hb
    have he : (win0_9.blk t).view.emb (ix2 r C) = ix2 (rowOf t r) C := by
      have hp := (by decide +kernel : ∀ t : Fin grid0.N, win0_9.index t 0 = t.val ∧ win0_9.index t 1 = 0) t
      refine ix2_of _ _ _ ?_ ?_
      · show ((win0_9.blk t).view.emb (ix2 r C) 0).val = 1024 * t.val + r.val
        blk_simp [hp.1]
        show t.val * 1024 + r.val = _
        omega
      · show ((win0_9.blk t).view.emb (ix2 r C) 1).val = C.val
        blk_simp [hp.2]
    rw [← he]
    refine hb.trans ?_
    show qAt (pj (iblk m c 0 t) (iblk m c 1 t) (iblk m c 2 t) r) (fun l => iblk m c 4 t (ix2 r l)) (fun l => iblk m c 5 t (ix2 r l)) C = _
    rw [show pj (iblk m c 0 t) (iblk m c 1 t) (iblk m c 2 t) r = pK m c (rowOf t r) from funext fun C => pj_blk m c t r C]
    simp only [block4, block5]
  rw [← row_cover R]
  exact key _ _

/-- Row `j` of the step's block of 64. -/
def rowOf64 (t : Fin 32) (j : Fin 64) : Fin 2048 := ⟨64 * t.val + j.val, by omega⟩

/-- The token a kept row's lane comes from. -/
def tokOf (J : Fin 2048) (C : Fin 4096) : Fin 32768 := ⟨16 * J.val + C.val / 256, by have := J.isLt; have := C.isLt; omega⟩

/-- The keys and values to compress. -/
theorem finalK (c : Dev nD) (J : Fin 2048) (C : Fin 4096) :
    ((dats m 0 c).arrAt 10 cfg0.N : S2048x4096.Idx → EReal) (ix2 J C) = pK m c (tokOf J C) (col 2048 (by decide) (kCol C)) := by
  have key : ∀ (t : Fin cfg0.N) (j : Fin 64), ((dats m 0 c).arrAt 10 cfg0.N : S2048x4096.Idx → EReal) (ix2 (rowOf64 t j) C) = pK m c (tokOf (rowOf64 t j) C) (col 2048 (by decide) (kCol C)) := by
    intro t j
    have hb := congrFun ((Value.blocks m 3 c t (flush0_10 t)).trans (Value.flushed10 m c t)) (ix2 j C)
    rw [outK] at hb
    have he : (win0_10.blk t).view.emb (ix2 j C) = ix2 (rowOf64 t j) C := by
      have hp := (by decide +kernel : ∀ t : Fin grid0.N, win0_10.index t 0 = t.val ∧ win0_10.index t 1 = 0) t
      refine ix2_of _ _ _ ?_ ?_
      · show ((win0_10.blk t).view.emb (ix2 j C) 0).val = 64 * t.val + j.val
        blk_simp [hp.1]
        show t.val * 64 + j.val = _
        omega
      · show ((win0_10.blk t).view.emb (ix2 j C) 1).val = C.val
        blk_simp [hp.2]
    rw [← he]
    refine hb.trans ((pj_blk m c t (kRow j C) _).trans (congrArg (fun R => pK m c R _) (Fin.ext ?_)))
    show 1024 * t.val + (16 * j.val + C.val / 256) = 16 * (64 * t.val + j.val) + C.val / 256
    omega
  have hJ : rowOf64 (⟨J.val / 64, by omega⟩ : Fin 32) ⟨J.val % 64, Nat.mod_lt _ (by decide)⟩ = J := Fin.ext (Nat.div_add_mod _ _)
  rw [← hJ]
  exact key _ _

/-- The keys, turned, and the values of the two other branches, in the lanes that hold a head. -/
theorem finalV (c : Dev nD) (R : Fin 32768) (C : Fin 1024) (hC : C.val % 128 < 64) :
    ((dats m 0 c).arrAt 11 cfg0.N : S32768x1024.Idx → EReal) (ix2 R C) = kvOf (C.val / 128 % 2 = 1) (pK m c R) (fun l => V m c main_v24 (ix2 (posOf R) l)) (fun l => V m c main_v25 (ix2 (posOf R) l)) (kvD C) := by
  have key : ∀ (t : Fin cfg0.N) (r : Fin 1024), ((dats m 0 c).arrAt 11 cfg0.N : S32768x1024.Idx → EReal) (ix2 (rowOf t r) C) = kvOf (C.val / 128 % 2 = 1) (pK m c (rowOf t r)) (fun l => V m c main_v24 (ix2 (posOf (rowOf t r)) l)) (fun l => V m c main_v25 (ix2 (posOf (rowOf t r)) l)) (kvD C) := by
    intro t r
    have hb := congrFun ((Value.blocks m 4 c t (flush0_11 t)).trans (Value.flushed11 m c t)) (ix2 r C)
    rw [outV] at hb
    have he : (win0_11.blk t).view.emb (ix2 r C) = ix2 (rowOf t r) C := by
      have hp := (by decide +kernel : ∀ t : Fin grid0.N, win0_11.index t 0 = t.val ∧ win0_11.index t 1 = 0) t
      refine ix2_of _ _ _ ?_ ?_
      · show ((win0_11.blk t).view.emb (ix2 r C) 0).val = 1024 * t.val + r.val
        blk_simp [hp.1]
        show t.val * 1024 + r.val = _
        omega
      · show ((win0_11.blk t).view.emb (ix2 r C) 1).val = C.val
        blk_simp [hp.2]
    rw [← he]
    refine hb.trans ?_
    show kvG (iblk m c 0 t) (iblk m c 1 t) (iblk m c 2 t) (iblk m c 4 t) (iblk m c 5 t) (iblk m c 6 t) r C = _
    unfold kvG
    rw [if_pos hC, show pj (iblk m c 0 t) (iblk m c 1 t) (iblk m c 2 t) r = pK m c (rowOf t r) from funext fun C => pj_blk m c t r C]
    simp only [block4, block5]
  rw [← row_cover R]
  exact key _ _

/-- A row's logit of a gate. -/
def gK (c : Dev nD) (R : Fin 32768) (C : Fin 256) : EReal :=
  ∑ k : Fin 1024, rmsAt 0x44800000#32 (fun k => V m c main_v37 (ix2 R k)) (fun k => V m c main_v38 (ix2 (0 : Fin 1) k)) k * V m c main_v44 (ix2 k C)

/-- The gates. -/
theorem finalS (c : Dev nD) (R : Fin 32768) (C : Fin 256) :
    ((dats m 0 c).arrAt 12 cfg0.N : S32768x256.Idx → EReal) (ix2 R C) = Cert.Attend.sgm (gK m c R C) := by
  have key : ∀ (t : Fin cfg0.N) (r : Fin 1024), ((dats m 0 c).arrAt 12 cfg0.N : S32768x256.Idx → EReal) (ix2 (rowOf t r) C) = Cert.Attend.sgm (gK m c (rowOf t r) C) := by
    intro t r
    have hb := congrFun ((Value.blocks m 5 c t (flush0_12 t)).trans (Value.flushed12 m c t)) (ix2 r C)
    rw [outS] at hb
    have he : (win0_12.blk t).view.emb (ix2 r C) = ix2 (rowOf t r) C := by
      have hp := (by decide +kernel : ∀ t : Fin grid0.N, win0_12.index t 0 = t.val ∧ win0_12.index t 1 = 0) t
      refine ix2_of _ _ _ ?_ ?_
      · show ((win0_12.blk t).view.emb (ix2 r C) 0).val = 1024 * t.val + r.val
        blk_simp [hp.1]
        show t.val * 1024 + r.val = _
        omega
      · show ((win0_12.blk t).view.emb (ix2 r C) 1).val = C.val
        blk_simp [hp.2]
    rw [← he]
    refine hb.trans ?_
    refine congrArg Cert.Attend.sgm ?_
    show gj (iblk m c 0 t) (iblk m c 1 t) (iblk m c 3 t) r C = _
    unfold gj gK
    simp only [block0, block1, block3]
  rw [← row_cover R]
  exact key _ _

end Cert.Proj

end
-- ==== Proof.ProjRef.lean ====
/- The projection call's reference at an index. -/
module

public import proofs.«01_k».proof.Proof.MixRef
public import proofs.«01_k».proof.Proof.ProjOut
public import proofs.«01_k».proof.Proof.Head
public import proofs.«01_k».proof.Proof.Gen.Reference3Ideal.Read

@[expose] public section

set_option maxRecDepth 16384

noncomputable section

namespace Cert.Proj.Ref

open Cert.Reference3Ideal Cert.Reference3Ideal.Gen Cert.Reference3Ideal.Read
open Idealize.ShloMosaic Idealize.ShloMosaic.TcCoe
open Cert.Mix.Ref (at1 at2 at3 seqOf posOf rowsOf)
open Cert.Mix (rmsAt zero_bits)
open Cert.Attend (eighth eighth_eq)

theorem at4 {a b c d : ℕ} (f : (⟨4, ![a, b, c, d]⟩ : Shape).Idx) (i : Fin a) (j : Fin b) (k : Fin c) (l : Fin d)
    (h0 : (f 0).val = i.val) (h1 : (f 1).val = j.val) (h2 : (f 2).val = k.val) (h3 : (f 3).val = l.val) : f = ix4 i j k l := by
  funext e
  refine Fin.ext ?_
  match e with
  | ⟨0, _⟩ => exact h0
  | ⟨1, _⟩ => exact h1
  | ⟨2, _⟩ => exact h2
  | ⟨3, _⟩ => exact h3

/-- The angle of a position at one of the thirty-two frequencies. -/
def ang (p : Fin 2048) (l : Fin 32) : EReal := val_main_v16 (F := Ideal) (ix2 p l)

/-- The cosine and the signed sine of a lane of a tile of two heads. -/
def cosT (p : Fin 2048) (l : Fin 128) : EReal := Ideal.cos (ang p ⟨l.val % 32, Nat.mod_lt _ (by decide)⟩)

def sinT (p : Fin 2048) (l : Fin 128) : EReal :=
  if l.val % 64 < 32 then - Ideal.sin (ang p ⟨l.val % 32, Nat.mod_lt _ (by decide)⟩) else Ideal.sin (ang p ⟨l.val % 32, Nat.mod_lt _ (by decide)⟩)

theorem angle_at (p : Fin 2048) (l : Fin 64) : val_main_v17 (F := Ideal) (ix2 p l) = ang p ⟨l.val % 32, Nat.mod_lt _ (by decide)⟩ := by
  unfold val_main_v17
  by_cases h : l.val < 32
  · exact concatenate_pair_apply_left (t := S2048x64) (s₁ := S2048x32) (s₂ := S2048x32) 1 _ _ _ (ix2 p l) rfl
      (ix2 p (⟨l.val % 32, Nat.mod_lt _ (by decide)⟩ : Fin 32)) (fun c => match c with | ⟨0, _⟩ => rfl | ⟨1, _⟩ => Nat.mod_eq_of_lt h)
  · exact concatenate_pair_apply_right (t := S2048x64) (s₁ := S2048x32) (s₂ := S2048x32) 1 _ _ _ (ix2 p l) rfl rfl
      (ix2 p (⟨l.val % 32, Nat.mod_lt _ (by decide)⟩ : Fin 32)) (fun c => match c with | ⟨0, _⟩ => fun _ => rfl | ⟨1, _⟩ => fun h => absurd rfl h)
      (by have := l.isLt; show l.val % 32 + 32 = l.val; omega)

variable (x0 : S16x2048x1024.Idx → EReal) (x1 : S1024.Idx → EReal) (x2 : S1024x2840.Idx → EReal)

/-- A token's projections. -/
def pR (R : Fin 32768) (C : Fin 2840) : EReal :=
  ∑ k : Fin 1024, rmsAt 0x44800000#32 (rowsOf x0 R) (fun k => x1 (ix1 k)) k * x2 (ix2 k C)

theorem rms_at (R : Fin 32768) (c : Fin 1024) : rowsOf (val_main_v32 (F := Ideal) x0 x1) R c =
    rmsAt 0x44800000#32 (rowsOf x0 R) (fun c => x1 (ix1 c)) c := by
  unfold rmsAt rowsOf
  rw [val_main_v32_apply, val_main_v29_apply, val_main_v31_apply, val_main_v30_apply, val_main_v28_apply, val_main_v27_apply, val_main_v26_apply, val_main_v25_apply, val_main_cst_5_apply, val_main_v24_apply, val_main_v23_apply, val_main_cst_4_apply, val_main_v22_apply, val_main_v21_apply, val_main_cst_3_apply]
  refine congrArg₂ (· * ·) (congrArg₂ (· * ·) rfl (congrArg Ideal.rsqrt (congrArg (· + _) (congrArg (Ideal.div · _) ?_)))) (congrArg x1 (at1 _ _ rfl))
  refine (congrArg (· + _) zero_bits).trans ((zero_add _).trans (Finset.sum_congr rfl fun k _ => ?_))
  exact congrArg (fun i => x0 i * x0 i) (at3 _ _ _ k rfl rfl rfl)

theorem proj_at (R : Fin 32768) (C : Fin 2840) : rowsOf (val_main_v33 (F := Ideal) x0 x1 x2) R C = pR x0 x1 x2 R C := by
  unfold rowsOf pR
  rw [val_main_v33_apply]
  refine Finset.sum_congr rfl fun k _ => congrArg₂ (· * ·) ((congrArg _ (at3 _ _ _ k rfl rfl rfl)).trans (rms_at x0 x1 R k)) (congrArg x2 (at2 _ k C rfl rfl))

theorem proj_of (i : S16x2048x2840.Idx) (R : Fin 32768) (C : Fin 2840) (h0 : (i 0).val = (seqOf R).val) (h1 : (i 1).val = (posOf R).val) (h2 : (i 2).val = C.val) :
    val_main_v33 (F := Ideal) x0 x1 x2 i = pR x0 x1 x2 R C :=
  (congrArg _ (at3 i _ _ _ h0 h1 h2)).trans (proj_at x0 x1 x2 R C)

theorem c_at (R : Fin 32768) (C : Fin 512) : val_main_v96 (F := Ideal) x0 x1 x2 (ix2 R C) =
    pR x0 x1 x2 R (col 1024 (by decide) C) * pR x0 x1 x2 R (col 0 (by decide) C) := by
  have hR := R.isLt
  have hC := C.isLt
  rw [val_main_v96_apply, val_main_v95_apply, val_main_v94_apply, val_main_v36_apply, val_main_v34_apply]
  refine congrArg₂ (· * ·) (proj_of x0 x1 x2 _ R _ ?_ ?_ ?_) (proj_of x0 x1 x2 _ R _ ?_ ?_ ?_)
  · show (R.val * 512 + C.val) / 1048576 = R.val / 2048; omega
  · show (R.val * 512 + C.val) / 512 % 2048 = R.val % 2048; omega
  · show 1024 + (R.val * 512 + C.val) % 512 = 1024 + C.val; omega
  · show (R.val * 512 + C.val) / 1048576 = R.val / 2048; omega
  · show (R.val * 512 + C.val) / 512 % 2048 = R.val % 2048; omega
  · show (R.val * 512 + C.val) % 512 = 0 + C.val; omega

theorem g_at (R : Fin 32768) (C : Fin 512) : val_main_v98 (F := Ideal) x0 x1 x2 (ix2 R C) = pR x0 x1 x2 R (col 512 (by decide) C) := by
  have hR := R.isLt
  have hC := C.isLt
  rw [val_main_v98_apply, val_main_v97_apply, val_main_v35_apply]
  refine proj_of x0 x1 x2 _ R _ ?_ ?_ ?_
  · show (R.val * 512 + C.val) / 1048576 = R.val / 2048; omega
  · show (R.val * 512 + C.val) / 512 % 2048 = R.val % 2048; omega
  · show 512 + (R.val * 512 + C.val) % 512 = 512 + C.val; omega

theorem k_at (J : Fin 2048) (C : Fin 4096) (R : Fin 32768) (hR : R.val = 16 * J.val + C.val / 256) : val_main_v102 (F := Ideal) x0 x1 x2 (ix2 J C) =
    pR x0 x1 x2 R (col 2048 (by decide) (kCol C)) := by
  have hJ := J.isLt
  have hC := C.isLt
  rw [val_main_v102_apply, val_main_v101_apply, val_main_v38_apply]
  refine proj_of x0 x1 x2 _ R _ ?_ ?_ ?_
  · show (J.val * 4096 + C.val) / 524288 = R.val / 2048; omega
  · show (J.val * 4096 + C.val) / 256 % 2048 = R.val % 2048; omega
  · show 2048 + (J.val * 4096 + C.val) % 256 = 2048 + C.val % 256; omega

/-- The head and the lane of a query's column. -/
def hd (C : Fin 512) : Fin 8 := ⟨C.val / 64, by omega⟩
def ln (C : Fin 512) : Fin 64 := ⟨C.val % 64, Nat.mod_lt _ (by decide)⟩

theorem y_at (R : Fin 32768) (C : Fin 512) (h : Fin 8) (l : Fin 64) (hC : C.val = 64 * h.val + l.val) :
    val_main_v44 (F := Ideal) x0 x1 x2 (ix4 (seqOf R) (posOf R) h l) = pR x0 x1 x2 R (col 1536 (by decide) C) := by
  have hR := R.isLt
  have hh := h.isLt
  have hl := l.isLt
  rw [val_main_v44_apply, val_main_v37_apply]
  refine proj_of x0 x1 x2 _ R _ ?_ ?_ ?_
  · show (((R.val / 2048 * 2048 + R.val % 2048) * 8 + h.val) * 64 + l.val) / 1048576 = R.val / 2048; omega
  · show (((R.val / 2048 * 2048 + R.val % 2048) * 8 + h.val) * 64 + l.val) / 512 % 2048 = R.val % 2048; omega
  · show 1536 + (((R.val / 2048 * 2048 + R.val % 2048) * 8 + h.val) * 64 + l.val) % 512 = 1536 + C.val; omega

theorem cos_at (s : Fin 16) (p : Fin 2048) (h : Fin 8) (l : Fin 64) : val_main_v52 (F := Ideal) (ix4 s p h l) = Ideal.cos (ang p ⟨l.val % 32, Nat.mod_lt _ (by decide)⟩) := by
  rw [val_main_v52_apply, val_main_v51_apply, val_main_v45_apply, val_main_v18_apply]
  exact congrArg Ideal.cos ((congrArg _ (at2 _ p l rfl rfl)).trans (angle_at p l))

theorem sin_at (s : Fin 16) (p : Fin 2048) (h : Fin 8) (l : Fin 64) : val_main_v55 (F := Ideal) (ix4 s p h l) = Ideal.sin (ang p ⟨l.val % 32, Nat.mod_lt _ (by decide)⟩) := by
  rw [val_main_v55_apply, val_main_v54_apply, val_main_v46_apply, val_main_v19_apply]
  exact congrArg Ideal.sin ((congrArg _ (at2 _ p l rfl rfl)).trans (angle_at p l))

/-- The other half of the pair, with its sign. -/
theorem rot_at (R : Fin 32768) (C : Fin 512) : val_main_v50 (F := Ideal) x0 x1 x2 (ix4 (seqOf R) (posOf R) (hd C) (ln C)) =
    if C.val % 64 < 32 then - pR x0 x1 x2 R (col 1536 (by decide) (pair (by decide) C)) else pR x0 x1 x2 R (col 1536 (by decide) (pair (by decide) C)) := by
  have hC := C.isLt
  unfold val_main_v50
  by_cases h : C.val % 64 < 32
  · rw [if_pos h]
    refine (concatenate_pair_apply_left (t := S16x2048x8x64) (s₁ := S16x2048x8x32) (s₂ := S16x2048x8x32) 3 _ _ _ (ix4 (seqOf R) (posOf R) (hd C) (ln C)) rfl
      (ix4 (seqOf R) (posOf R) (hd C) (⟨C.val % 64, h⟩ : Fin 32)) (fun c => match c with | ⟨0, _⟩ => rfl | ⟨1, _⟩ => rfl | ⟨2, _⟩ => rfl | ⟨3, _⟩ => rfl)).trans ?_
    rw [val_main_v49_apply, val_main_v48_apply]
    refine congrArg (fun z : EReal => - z) ((congrArg _ (at4 _ (seqOf R) (posOf R) (hd C) (⟨32 + C.val % 64, by omega⟩ : Fin 64) rfl rfl rfl rfl)).trans (y_at x0 x1 x2 R _ _ _ ?_))
    unfold pair
    rw [dif_pos h]
    show C.val + 32 = 64 * (C.val / 64) + (32 + C.val % 64); omega
  · rw [if_neg h]
    refine (concatenate_pair_apply_right (t := S16x2048x8x64) (s₁ := S16x2048x8x32) (s₂ := S16x2048x8x32) 3 _ _ _ (ix4 (seqOf R) (posOf R) (hd C) (ln C)) rfl rfl
      (ix4 (seqOf R) (posOf R) (hd C) (⟨C.val % 64 - 32, by omega⟩ : Fin 32)) (fun c => match c with | ⟨0, _⟩ => fun _ => rfl | ⟨1, _⟩ => fun _ => rfl | ⟨2, _⟩ => fun _ => rfl | ⟨3, _⟩ => fun h => absurd rfl h)
      (by show C.val % 64 - 32 + 32 = C.val % 64; omega)).trans ?_
    rw [val_main_v47_apply]
    refine (congrArg _ (at4 _ (seqOf R) (posOf R) (hd C) (⟨C.val % 64 - 32, by omega⟩ : Fin 64) rfl rfl rfl rfl)).trans (y_at x0 x1 x2 R _ _ _ ?_)
    unfold pair
    rw [dif_neg h]
    show C.val - 32 = 64 * (C.val / 64) + (C.val % 64 - 32); omega

theorem two_bits : Ideal.ofBits .f32 0x40000000#32 = ((2 : ℝ) : EReal) := by
  simp [Ideal.ofBits, Ideal.ieee, -EReal.coe_mul]
  norm_num

/-- The layer's scale, over the logarithm of two, is the kernel's. -/
theorem scale_eq (y : EReal) : Ideal.div (y * eighth) (Ideal.log (Ideal.ofBits .f32 0x40000000#32)) = y * qscale := by
  have h2 : Real.log 2 ≠ 0 := (Real.log_pos (by norm_num)).ne'
  rw [two_bits, Ideal.log_coe, if_neg (by norm_num), Ideal.div_coe h2, eighth_eq, mul_assoc, ← EReal.coe_mul, one_div (Real.log 2)]

theorem q_at (R : Fin 32768) (C : Fin 512) : val_main_v100 (F := Ideal) x0 x1 x2 (ix2 R C) =
    qAt (pR x0 x1 x2 R) (cosT (posOf R)) (sinT (posOf R)) C := by
  have hR := R.isLt
  have hC := C.isLt
  have hi : idx_main_v99 (ix2 R C) = ix4 (seqOf R) (posOf R) (hd C) (ln C) := by
    refine at4 _ _ _ _ _ ?_ ?_ ?_ ?_
    · show (R.val * 512 + C.val) / 1048576 = R.val / 2048; omega
    · show (R.val * 512 + C.val) / 512 % 2048 = R.val % 2048; omega
    · show (R.val * 512 + C.val) / 64 % 8 = C.val / 64; omega
    · show (R.val * 512 + C.val) % 64 = C.val % 64; omega
  rw [val_main_v100_apply, val_main_v99_apply, hi, val_main_v63_apply, val_main_v59_apply, val_main_v57_apply, val_main_v53_apply, val_main_v56_apply,
    y_at x0 x1 x2 R C (hd C) (ln C) (by show C.val = 64 * (C.val / 64) + C.val % 64; omega), rot_at, cos_at, sin_at]
  refine Eq.trans (scale_eq _) (congrArg (fun z : EReal => z * qscale) (congrArg₂ (· + ·) (congrArg₂ (· * ·) rfl (congrArg Ideal.cos (congrArg (ang _) (Fin.ext ?_)))) ?_))
  · show C.val % 64 % 32 = C.val % 128 % 32; omega
  · have ha : (⟨(ln C).val % 32, Nat.mod_lt _ (by decide)⟩ : Fin 32) = ⟨(lane C).val % 32, Nat.mod_lt _ (by decide)⟩ := Fin.ext (by show C.val % 64 % 32 = C.val % 128 % 32; omega)
    have hl : (lane C).val % 64 = C.val % 64 := by show C.val % 128 % 64 = C.val % 64; omega
    unfold sinT
    rw [ha, hl]
    by_cases h : C.val % 64 < 32
    · rw [if_pos h, if_pos h]
      exact (neg_mul _ _).trans (mul_neg _ _).symm
    · rw [if_neg h, if_neg h]
      rfl

end Cert.Proj.Ref

end
-- ==== Proof.ProjHost.lean ====
/- What the projection call is given, and its arrays in the arguments. -/
module

public import proofs.«01_k».proof.Proof.ProjArray
public import proofs.«01_k».proof.Proof.ProjRef
public import proofs.«01_k».proof.Proof.MixHost

@[expose] public section

set_option maxRecDepth 16384

noncomputable section

namespace Cert.Proj

open Cert.Kernel3Ideal Cert.Kernel3Ideal.Gen
open Idealize.ShloMosaic Idealize.ShloMosaic.TcCoe
open Idealize.ShloMosaic.Pipeline (Dat Cfg Window)
open Cert.Attend (Sh ix2_of)
open Cert.Mix (flat_at lift_row rmsAt)
open Cert.Mix.Ref (rowsOf at2)
open Cert.Proj.Ref (pR ang cosT sinT)

variable (m : (ℓ : Loc nD τ sig) → Buf (Elt Ideal) ℓ)

theorem V_37 (c : Dev nD) : V m c main_v37 = shapeCast S32768x1024 (m ((c : Thread nD τ).loc main_arg0)) shapeCasts_S16x2048x1024_S32768x1024 := by
  simp only [V, V0, List.flatten_cons, List.flatten_nil, List.append_nil, List.cons_append, List.nil_append]
  after_results
  all_goals rfl

theorem V_38 (c : Dev nD) : V m c main_v38 = broadcastInDim S1x1024 ![1] bcast_S1024_S1x1024_1 (m ((c : Thread nD τ).loc main_arg1)) := by
  simp only [V, V0, List.flatten_cons, List.flatten_nil, List.append_nil, List.cons_append, List.nil_append]
  after_results
  all_goals rfl

theorem V_39 (c : Dev nD) : V m c main_v39 = truncf (F := Ideal) (φ := .f32) .bf16 (m ((c : Thread nD τ).loc main_arg2)) bitsLt_bf16_f32 := by
  simp only [V, V0, List.flatten_cons, List.flatten_nil, List.append_nil, List.cons_append, List.nil_append]
  after_results
  all_goals rfl

/-- The kernel's projections are the layer's. -/
theorem pK_eq (c : Dev nD) (R : Fin 32768) (C : Fin 2840) :
    pK m c R C = pR (m ((c : Thread nD τ).loc main_arg0)) (m ((c : Thread nD τ).loc main_arg1)) (m ((c : Thread nD τ).loc main_arg2)) R C := by
  unfold pK pR
  rw [V_37, V_38, V_39]
  have h0 : (fun k : Fin 1024 => shapeCast S32768x1024 (m ((c : Thread nD τ).loc main_arg0)) shapeCasts_S16x2048x1024_S32768x1024 (ix2 R k)) = rowsOf (m ((c : Thread nD τ).loc main_arg0)) R :=
    funext fun k => flat_at (N := 1024) (m ((c : Thread nD τ).loc main_arg0)) shapeCasts_S16x2048x1024_S32768x1024 R k
  have h1 : (fun k : Fin 1024 => broadcastInDim S1x1024 ![1] bcast_S1024_S1x1024_1 (m ((c : Thread nD τ).loc main_arg1)) (ix2 (0 : Fin 1) k)) = fun k => (m ((c : Thread nD τ).loc main_arg1)) (ix1 k) :=
    funext fun k => lift_row (N := 1024) (m ((c : Thread nD τ).loc main_arg1)) bcast_S1024_S1x1024_1 k
  rw [h0, h1]
  rfl

/-- The angles, as the reference's program computes them. -/
abbrev angles : S2048x32.Idx → EReal := Cert.Reference3Ideal.Read.val_main_v16 (F := Ideal)

/-- Two halves side by side. -/
theorem halves {n N : ℕ} (X Y : (Sh 2048 n).Idx → EReal) (h : Shape.Concatenates [Sh 2048 n, Sh 2048 n] (Sh 2048 N) 1) (hN : N = 2 * n) (p : Fin 2048) (l : Fin N) (r : Fin n) (hr : r.val = l.val % n) :
    concatenate (Sh 2048 N) 1 [⟨Sh 2048 n, X⟩, ⟨Sh 2048 n, Y⟩] h (ix2 p l) = if l.val < n then X (ix2 p r) else Y (ix2 p r) := by
  by_cases hl : l.val < n
  · rw [if_pos hl]
    exact concatenate_pair_apply_left (t := Sh 2048 N) (s₁ := Sh 2048 n) (s₂ := Sh 2048 n) 1 X Y h (ix2 p l) rfl (ix2 p r)
      (fun a => match a with | ⟨0, _⟩ => rfl | ⟨1, _⟩ => hr.trans (Nat.mod_eq_of_lt hl))
  · rw [if_neg hl]
    refine concatenate_pair_apply_right (t := Sh 2048 N) (s₁ := Sh 2048 n) (s₂ := Sh 2048 n) 1 X Y h (ix2 p l) rfl rfl (ix2 p r)
      (fun a => match a with | ⟨0, _⟩ => fun _ => rfl | ⟨1, _⟩ => fun h => absurd rfl h) ?_
    have := l.isLt
    show r.val + n = l.val
    rw [hr, Nat.mod_eq_sub_mod (by omega), Nat.mod_eq_of_lt (by omega)]
    omega

/-- A table of half a head's width over a tile of two heads. -/
theorem quarters (X Y : (Sh 2048 32).Idx → EReal) (h : Shape.Concatenates [Sh 2048 32, Sh 2048 32] (Sh 2048 64) 1) (h' : Shape.Concatenates [Sh 2048 64, Sh 2048 64] (Sh 2048 128) 1) (p : Fin 2048) (l : Fin 128) :
    concatenate (Sh 2048 128) 1 [⟨Sh 2048 64, concatenate (Sh 2048 64) 1 [⟨Sh 2048 32, X⟩, ⟨Sh 2048 32, Y⟩] h⟩, ⟨Sh 2048 64, concatenate (Sh 2048 64) 1 [⟨Sh 2048 32, X⟩, ⟨Sh 2048 32, Y⟩] h⟩] h' (ix2 p l)
      = if l.val % 64 < 32 then X (ix2 p ⟨l.val % 32, Nat.mod_lt _ (by decide)⟩) else Y (ix2 p ⟨l.val % 32, Nat.mod_lt _ (by decide)⟩) := by
  refine (halves (n := 64) (N := 128) _ _ h' rfl p l ⟨l.val % 64, Nat.mod_lt _ (by decide)⟩ rfl).trans ((ite_self _).trans ?_)
  exact halves (n := 32) (N := 64) X Y h rfl p ⟨l.val % 64, Nat.mod_lt _ (by decide)⟩ ⟨l.val % 32, Nat.mod_lt _ (by decide)⟩ (by show l.val % 32 = l.val % 64 % 32; omega)

theorem V_24 (c : Dev nD) : V m c main_v24 = concatenate S2048x128 1
    [⟨S2048x64, concatenate S2048x64 1 [⟨S2048x32, Host.cos (F := Ideal) (φ := .f32) angles⟩, ⟨S2048x32, Host.cos (F := Ideal) (φ := .f32) angles⟩] concatenates_S2048x32_S2048x32_S2048x64_d1⟩,
     ⟨S2048x64, concatenate S2048x64 1 [⟨S2048x32, Host.cos (F := Ideal) (φ := .f32) angles⟩, ⟨S2048x32, Host.cos (F := Ideal) (φ := .f32) angles⟩] concatenates_S2048x32_S2048x32_S2048x64_d1⟩] concatenates_S2048x64_S2048x64_S2048x128_d1 := by
  simp only [V, V0, List.flatten_cons, List.flatten_nil, List.append_nil, List.cons_append, List.nil_append]
  after_results
  all_goals rfl

theorem V_25 (c : Dev nD) : V m c main_v25 = concatenate S2048x128 1
    [⟨S2048x64, concatenate S2048x64 1 [⟨S2048x32, Host.negf (F := Ideal) (φ := .f32) (Host.sin (F := Ideal) (φ := .f32) angles)⟩, ⟨S2048x32, Host.sin (F := Ideal) (φ := .f32) angles⟩] concatenates_S2048x32_S2048x32_S2048x64_d1⟩,
     ⟨S2048x64, concatenate S2048x64 1 [⟨S2048x32, Host.negf (F := Ideal) (φ := .f32) (Host.sin (F := Ideal) (φ := .f32) angles)⟩, ⟨S2048x32, Host.sin (F := Ideal) (φ := .f32) angles⟩] concatenates_S2048x32_S2048x32_S2048x64_d1⟩] concatenates_S2048x64_S2048x64_S2048x128_d1 := by
  simp only [V, V0, List.flatten_cons, List.flatten_nil, List.append_nil, List.cons_append, List.nil_append]
  after_results
  all_goals rfl

theorem cos_eq (c : Dev nD) (p : Fin 2048) : (fun l : Fin 128 => V m c main_v24 (ix2 p l)) = cosT p := by
  rw [V_24]
  funext l
  exact (quarters _ _ _ _ p l).trans (ite_self _)

theorem sin_eq (c : Dev nD) (p : Fin 2048) : (fun l : Fin 128 => V m c main_v25 (ix2 p l)) = sinT p := by
  rw [V_25]
  funext l
  exact quarters _ _ _ _ p l

theorem ext2 {a b : ℕ} (X Y : (Sh a b).Idx → EReal) (h : ∀ r c, X (ix2 r c) = Y (ix2 r c)) : X = Y :=
  funext fun i => (congrArg X (ix2_of i (i 0) (i 1) rfl rfl)).trans ((h (i 0) (i 1)).trans (congrArg Y (ix2_of i (i 0) (i 1) rfl rfl)).symm)

/-- The call's four arrays, in the arguments. -/
theorem arrayC (c : Dev nD) : (Cert.Reference3Ideal.Read.val_main_v96 (F := Ideal) (m ((c : Thread nD τ).loc main_arg0)) (m ((c : Thread nD τ).loc main_arg1)) (m ((c : Thread nD τ).loc main_arg2)) : S32768x512.Idx → EReal)
    = ((dats m 0 c).arrAt 7 cfg0.N : S32768x512.Idx → EReal) := by
  refine ext2 (a := 32768) (b := 512) _ _ fun R C => ?_
  refine (Ref.c_at _ _ _ R C).trans (Eq.symm ((finalC m c R C).trans ?_))
  rw [pK_eq, pK_eq]

theorem arrayG (c : Dev nD) : (Cert.Reference3Ideal.Read.val_main_v98 (F := Ideal) (m ((c : Thread nD τ).loc main_arg0)) (m ((c : Thread nD τ).loc main_arg1)) (m ((c : Thread nD τ).loc main_arg2)) : S32768x512.Idx → EReal)
    = ((dats m 0 c).arrAt 8 cfg0.N : S32768x512.Idx → EReal) := by
  refine ext2 (a := 32768) (b := 512) _ _ fun R C => ?_
  exact (Ref.g_at _ _ _ R C).trans (Eq.symm ((finalG m c R C).trans (pK_eq m c R _)))

theorem arrayQ (c : Dev nD) : (Cert.Reference3Ideal.Read.val_main_v100 (F := Ideal) (m ((c : Thread nD τ).loc main_arg0)) (m ((c : Thread nD τ).loc main_arg1)) (m ((c : Thread nD τ).loc main_arg2)) : S32768x512.Idx → EReal)
    = ((dats m 0 c).arrAt 9 cfg0.N : S32768x512.Idx → EReal) := by
  refine ext2 (a := 32768) (b := 512) _ _ fun R C => ?_
  refine (Ref.q_at _ _ _ R C).trans (Eq.symm ((finalQ m c R C).trans ?_))
  rw [cos_eq, sin_eq, show pK m c R = _ from funext fun C => pK_eq m c R C]
  rfl

theorem arrayK (c : Dev nD) : (Cert.Reference3Ideal.Read.val_main_v102 (F := Ideal) (m ((c : Thread nD τ).loc main_arg0)) (m ((c : Thread nD τ).loc main_arg1)) (m ((c : Thread nD τ).loc main_arg2)) : S2048x4096.Idx → EReal)
    = ((dats m 0 c).arrAt 10 cfg0.N : S2048x4096.Idx → EReal) := by
  refine ext2 (a := 2048) (b := 4096) _ _ fun R C => ?_
  exact (Ref.k_at _ _ _ R C (tokOf R C) rfl).trans (Eq.symm ((finalK m c R C).trans (pK_eq m c (tokOf R C) _)))

end Cert.Proj

end
-- ==== Proof.ProjRefKV.lean ====
/- The projection call's reference at an index: the two other branches' keys and values, and the gates. -/
module

public import proofs.«01_k».proof.Proof.ProjRef
public import proofs.«01_k».proof.Proof.ProjKV

@[expose] public section

set_option maxRecDepth 16384

noncomputable section

namespace Cert.Proj.Ref

open Cert.Reference3Ideal Cert.Reference3Ideal.Gen Cert.Reference3Ideal.Read
open Idealize.ShloMosaic Idealize.ShloMosaic.TcCoe
open Cert.Mix.Ref (at1 at2 at3 seqOf posOf rowsOf)
open Cert.Attend (sgm)

/-- Two halves of a head side by side. -/
theorem sides (A B : S16x2048x2x32.Idx → EReal) (hc : Shape.Concatenates [S16x2048x2x32, S16x2048x2x32] S16x2048x2x64 3) (s : Fin 16) (p : Fin 2048) (h : Fin 2) (l : Fin 64) :
    concatenate S16x2048x2x64 3 [⟨S16x2048x2x32, A⟩, ⟨S16x2048x2x32, B⟩] hc (ix4 s p h l)
      = if l.val < 32 then A (ix4 s p h ⟨l.val % 32, Nat.mod_lt _ (by decide)⟩) else B (ix4 s p h ⟨l.val % 32, Nat.mod_lt _ (by decide)⟩) := by
  have hl := l.isLt
  by_cases hh : l.val < 32
  · rw [if_pos hh]
    exact concatenate_pair_apply_left (t := S16x2048x2x64) (s₁ := S16x2048x2x32) (s₂ := S16x2048x2x32) 3 A B hc (ix4 s p h l) rfl
      (ix4 s p h (⟨l.val % 32, Nat.mod_lt _ (by decide)⟩ : Fin 32)) (fun c => match c with | ⟨0, _⟩ => rfl | ⟨1, _⟩ => rfl | ⟨2, _⟩ => rfl | ⟨3, _⟩ => Nat.mod_eq_of_lt hh)
  · rw [if_neg hh]
    exact concatenate_pair_apply_right (t := S16x2048x2x64) (s₁ := S16x2048x2x32) (s₂ := S16x2048x2x32) 3 A B hc (ix4 s p h l) rfl rfl
      (ix4 s p h (⟨l.val % 32, Nat.mod_lt _ (by decide)⟩ : Fin 32)) (fun c => match c with | ⟨0, _⟩ => fun _ => rfl | ⟨1, _⟩ => fun _ => rfl | ⟨2, _⟩ => fun _ => rfl | ⟨3, _⟩ => fun h => absurd rfl h)
      (by show l.val % 32 + 32 = l.val; omega)

/-- A turned key: what the layer's rotation leaves at a lane of a head. -/
theorem turned_at (v : Prop) [Decidable v] (hv : ¬ v) (p : Fin 2840 → EReal) (P : Fin 2048) (s : Fin 16) (h : Fin 2) (l : Fin 64) (D : Fin 512) (o : ℕ) (ho : 64 ∣ o) (hD : D.val = o + l.val)
    (Y : S16x2048x2x64.Idx → EReal) (A B : S16x2048x2x32.Idx → EReal) (hc : Shape.Concatenates [S16x2048x2x32, S16x2048x2x32] S16x2048x2x64 3)
    (hY : ∀ (l : Fin 64) (D : Fin 512), D.val = o + l.val → Y (ix4 s P h l) = p (col 2304 (by decide) D))
    (hA : ∀ l : Fin 32, A (ix4 s P h l) = - Y (ix4 s P h (⟨32 + l.val, by omega⟩ : Fin 64)))
    (hB : ∀ l : Fin 32, B (ix4 s P h l) = Y (ix4 s P h (⟨l.val, by omega⟩ : Fin 64))) :
    Y (ix4 s P h l) * Ideal.cos (ang P ⟨l.val % 32, Nat.mod_lt _ (by decide)⟩)
      + concatenate S16x2048x2x64 3 [⟨S16x2048x2x32, A⟩, ⟨S16x2048x2x32, B⟩] hc (ix4 s P h l) * Ideal.sin (ang P ⟨l.val % 32, Nat.mod_lt _ (by decide)⟩)
      = kvOf v p (cosT P) (sinT P) D := by
  have hl := l.isLt
  have hDl := D.isLt
  have ha : (⟨l.val % 32, Nat.mod_lt _ (by decide)⟩ : Fin 32) = ⟨(lane D).val % 32, Nat.mod_lt _ (by decide)⟩ := Fin.ext (by show l.val % 32 = D.val % 128 % 32; omega)
  have hm : (lane D).val % 64 = l.val := by show D.val % 128 % 64 = l.val; omega
  rw [sides]
  unfold kvOf
  rw [if_neg hv, hY l D hD]
  refine congrArg₂ (· + ·) (congrArg₂ (· * ·) rfl (congrArg Ideal.cos (congrArg (ang _) ha))) ?_
  unfold sinT
  rw [hm]
  by_cases hh : l.val < 32
  · rw [if_pos hh, if_pos hh, hA, hY _ (pair (by decide) D) ?_]
    · rw [ha]
      exact (neg_mul _ _).trans (mul_neg _ _).symm
    · unfold pair
      rw [dif_pos (by omega)]
      show D.val + 32 = o + (32 + l.val % 32); omega
  · rw [if_neg hh, if_neg hh, hB, hY _ (pair (by decide) D) ?_]
    · rw [ha]
    · unfold pair
      rw [dif_neg (by omega)]
      show D.val - 32 = o + l.val % 32; omega

variable (x0 : S16x2048x1024.Idx → EReal) (x1 : S1024.Idx → EReal) (x2 : S1024x2840.Idx → EReal)

theorem flat4 (R : Fin 32768) (h : Fin 2) (l : Fin 64) (i : S16x2048x2x64.Idx) (h0 : (i 0).val = ((R.val * 2 + h.val) * 64 + l.val) / 262144) (h1 : (i 1).val = ((R.val * 2 + h.val) * 64 + l.val) / 128 % 2048)
    (h2 : (i 2).val = ((R.val * 2 + h.val) * 64 + l.val) / 64 % 2) (h3 : (i 3).val = ((R.val * 2 + h.val) * 64 + l.val) % 64) : i = ix4 (seqOf R) (posOf R) h l := by
  have hR := R.isLt
  have hh := h.isLt
  have hl := l.isLt
  refine at4 _ _ _ _ _ ?_ ?_ ?_ ?_
  · refine h0.trans ?_; show _ = R.val / 2048; omega
  · refine h1.trans ?_; show _ = R.val % 2048; omega
  · refine h2.trans ?_; omega
  · refine h3.trans ?_; omega

theorem flat3 (R : Fin 32768) (h : Fin 2) (l : Fin 64) (o : ℕ) (ho : o + 128 ≤ 512) (D : Fin 512) (hD : D.val = o + (64 * h.val + l.val)) (i : S16x2048x2840.Idx)
    (h0 : (i 0).val = (((R.val / 2048 * 2048 + R.val % 2048) * 2 + h.val) * 64 + l.val) / 262144) (h1 : (i 1).val = (((R.val / 2048 * 2048 + R.val % 2048) * 2 + h.val) * 64 + l.val) / 128 % 2048)
    (h2 : (i 2).val = 2304 + o + (((R.val / 2048 * 2048 + R.val % 2048) * 2 + h.val) * 64 + l.val) % 128) :
    val_main_v33 (F := Ideal) x0 x1 x2 i = pR x0 x1 x2 R (col 2304 (by decide) D) := by
  have hR := R.isLt
  have hh := h.isLt
  have hl := l.isLt
  refine proj_of x0 x1 x2 _ R _ ?_ ?_ ?_
  · refine h0.trans ?_; show _ = R.val / 2048; omega
  · refine h1.trans ?_; show _ = R.val % 2048; omega
  · refine h2.trans ?_; show _ = 2304 + D.val; omega

theorem yks_at (R : Fin 32768) (h : Fin 2) (l : Fin 64) (D : Fin 512) (hD : D.val = 0 + (64 * h.val + l.val)) :
    val_main_v64 (F := Ideal) x0 x1 x2 (ix4 (seqOf R) (posOf R) h l) = pR x0 x1 x2 R (col 2304 (by decide) D) := by
  rw [val_main_v64_apply, val_main_v39_apply]
  exact flat3 x0 x1 x2 R h l 0 (by decide) D hD _ rfl rfl rfl

theorem yvs_at (R : Fin 32768) (h : Fin 2) (l : Fin 64) (D : Fin 512) (hD : D.val = 128 + (64 * h.val + l.val)) :
    val_main_v65 (F := Ideal) x0 x1 x2 (ix4 (seqOf R) (posOf R) h l) = pR x0 x1 x2 R (col 2304 (by decide) D) := by
  rw [val_main_v65_apply, val_main_v40_apply]
  exact flat3 x0 x1 x2 R h l 128 (by decide) D hD _ rfl rfl rfl

theorem ykw_at (R : Fin 32768) (h : Fin 2) (l : Fin 64) (D : Fin 512) (hD : D.val = 256 + (64 * h.val + l.val)) :
    val_main_v66 (F := Ideal) x0 x1 x2 (ix4 (seqOf R) (posOf R) h l) = pR x0 x1 x2 R (col 2304 (by decide) D) := by
  rw [val_main_v66_apply, val_main_v41_apply]
  exact flat3 x0 x1 x2 R h l 256 (by decide) D hD _ rfl rfl rfl

theorem yvw_at (R : Fin 32768) (h : Fin 2) (l : Fin 64) (D : Fin 512) (hD : D.val = 384 + (64 * h.val + l.val)) :
    val_main_v67 (F := Ideal) x0 x1 x2 (ix4 (seqOf R) (posOf R) h l) = pR x0 x1 x2 R (col 2304 (by decide) D) := by
  rw [val_main_v67_apply, val_main_v42_apply]
  exact flat3 x0 x1 x2 R h l 384 (by decide) D hD _ rfl rfl rfl

/-- The selected branch's keys. -/
theorem ks_at (v : Prop) [Decidable v] (hv : ¬ v) (R : Fin 32768) (h : Fin 2) (l : Fin 64) (D : Fin 512) (hD : D.val = 0 + (64 * h.val + l.val)) :
    val_main_v104 (F := Ideal) x0 x1 x2 (ix3 R h l) = kvOf v (pR x0 x1 x2 R) (cosT (posOf R)) (sinT (posOf R)) D := by
  have hi : idx_main_v103 (ix3 R h l) = ix4 (seqOf R) (posOf R) h l := flat4 R h l _ rfl rfl rfl rfl
  rw [val_main_v104_apply, val_main_v103_apply, hi, val_main_v80_apply, val_main_v76_apply, val_main_v79_apply, val_main_v75_apply, val_main_v74_apply, val_main_v68_apply, val_main_v18_apply,
    val_main_v78_apply, val_main_v77_apply, val_main_v69_apply, val_main_v19_apply]
  refine Eq.trans ?_ (turned_at v hv (pR x0 x1 x2 R) (posOf R) (seqOf R) h l D (0 + 64 * h.val) (by omega) (by omega) (val_main_v64 (F := Ideal) x0 x1 x2) (val_main_v72 (F := Ideal) x0 x1 x2) (val_main_v70 (F := Ideal) x0 x1 x2)
    (by decide)
    (fun l D hD => yks_at x0 x1 x2 R h l D (by omega)) (fun l => ?_) (fun l => ?_))
  · exact congrArg₂ (· + ·) (congrArg₂ (· * ·) rfl (congrArg Ideal.cos ((congrArg _ (at2 _ (posOf R) l rfl rfl)).trans (angle_at _ l))))
      (congrArg₂ (· * ·) rfl (congrArg Ideal.sin ((congrArg _ (at2 _ (posOf R) l rfl rfl)).trans (angle_at _ l))))
  · rw [val_main_v72_apply, val_main_v71_apply]
    exact congrArg (fun z : EReal => - z) (congrArg _ (at4 _ (seqOf R) (posOf R) h (⟨32 + l.val, by omega⟩ : Fin 64) rfl rfl rfl rfl))
  · rw [val_main_v70_apply]
    exact congrArg _ (at4 _ (seqOf R) (posOf R) h (⟨l.val, by omega⟩ : Fin 64) rfl rfl rfl rfl)

/-- The window's keys. -/
theorem kw_at (v : Prop) [Decidable v] (hv : ¬ v) (R : Fin 32768) (h : Fin 2) (l : Fin 64) (D : Fin 512) (hD : D.val = 256 + (64 * h.val + l.val)) :
    val_main_v108 (F := Ideal) x0 x1 x2 (ix3 R h l) = kvOf v (pR x0 x1 x2 R) (cosT (posOf R)) (sinT (posOf R)) D := by
  have hi : idx_main_v107 (ix3 R h l) = ix4 (seqOf R) (posOf R) h l := flat4 R h l _ rfl rfl rfl rfl
  rw [val_main_v108_apply, val_main_v107_apply, hi, val_main_v93_apply, val_main_v89_apply, val_main_v92_apply, val_main_v88_apply, val_main_v87_apply, val_main_v81_apply, val_main_v18_apply,
    val_main_v91_apply, val_main_v90_apply, val_main_v82_apply, val_main_v19_apply]
  refine Eq.trans ?_ (turned_at v hv (pR x0 x1 x2 R) (posOf R) (seqOf R) h l D (256 + 64 * h.val) (by omega) (by omega) (val_main_v66 (F := Ideal) x0 x1 x2) (val_main_v85 (F := Ideal) x0 x1 x2) (val_main_v83 (F := Ideal) x0 x1 x2)
    (by decide)
    (fun l D hD => ykw_at x0 x1 x2 R h l D (by omega)) (fun l => ?_) (fun l => ?_))
  · exact congrArg₂ (· + ·) (congrArg₂ (· * ·) rfl (congrArg Ideal.cos ((congrArg _ (at2 _ (posOf R) l rfl rfl)).trans (angle_at _ l))))
      (congrArg₂ (· * ·) rfl (congrArg Ideal.sin ((congrArg _ (at2 _ (posOf R) l rfl rfl)).trans (angle_at _ l))))
  · rw [val_main_v85_apply, val_main_v84_apply]
    exact congrArg (fun z : EReal => - z) (congrArg _ (at4 _ (seqOf R) (posOf R) h (⟨32 + l.val, by omega⟩ : Fin 64) rfl rfl rfl rfl))
  · rw [val_main_v83_apply]
    exact congrArg _ (at4 _ (seqOf R) (posOf R) h (⟨l.val, by omega⟩ : Fin 64) rfl rfl rfl rfl)

/-- The selected branch's values. -/
theorem vs_at (v : Prop) [Decidable v] (hv : v) (a b : Fin 128 → EReal) (R : Fin 32768) (h : Fin 2) (l : Fin 64) (D : Fin 512) (hD : D.val = 128 + (64 * h.val + l.val)) :
    val_main_v106 (F := Ideal) x0 x1 x2 (ix3 R h l) = kvOf v (pR x0 x1 x2 R) a b D := by
  have hi : idx_main_v105 (ix3 R h l) = ix4 (seqOf R) (posOf R) h l := flat4 R h l _ rfl rfl rfl rfl
  rw [val_main_v106_apply, val_main_v105_apply, hi, yvs_at x0 x1 x2 R h l D hD]
  exact (if_pos hv).symm

/-- The window's values. -/
theorem vw_at (v : Prop) [Decidable v] (hv : v) (a b : Fin 128 → EReal) (R : Fin 32768) (h : Fin 2) (l : Fin 64) (D : Fin 512) (hD : D.val = 384 + (64 * h.val + l.val)) :
    val_main_v110 (F := Ideal) x0 x1 x2 (ix3 R h l) = kvOf v (pR x0 x1 x2 R) a b D := by
  have hi : idx_main_v109 (ix3 R h l) = ix4 (seqOf R) (posOf R) h l := flat4 R h l _ rfl rfl rfl rfl
  rw [val_main_v110_apply, val_main_v109_apply, hi, yvw_at x0 x1 x2 R h l D hD]
  exact (if_pos hv).symm

/-- The column of a group's gate. -/
def gateCol (h : Fin 2) (j : Fin 12) : Fin 2840 := ⟨2816 + (12 * h.val + j.val), by omega⟩

theorem gates_at (R : Fin 32768) (h : Fin 2) (j : Fin 12) :
    val_main_v117 (F := Ideal) x0 x1 x2 (ix3 R h j) = sgm (pR x0 x1 x2 R (gateCol h j)) := by
  have hR := R.isLt
  have hh := h.isLt
  have hj := j.isLt
  rw [val_main_v117_apply, val_main_v116_apply, val_main_v115_apply, val_main_v114_apply, val_main_v113_apply, val_main_v112_apply, val_main_v111_apply, val_main_v43_apply, val_main_cst_8_apply, val_main_cst_9_apply]
  refine congrArg sgm (proj_of x0 x1 x2 _ R (gateCol h j) ?_ ?_ ?_)
  · show ((R.val * 2 + h.val) * 12 + j.val) / 49152 = R.val / 2048; omega
  · show ((R.val * 2 + h.val) * 12 + j.val) / 24 % 2048 = R.val % 2048; omega
  · show 2816 + ((R.val * 2 + h.val) * 12 + j.val) % 24 = 2816 + (12 * h.val + j.val); omega

end Cert.Proj.Ref

end
-- ==== Proof.ProjTail.lean ====
/- The projection call's last five results: what the program takes of the call's arrays, in the arguments. -/
module

public import proofs.«01_k».proof.Proof.ProjHost
public import proofs.«01_k».proof.Proof.ProjRefKV

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat Cfg Window)
open Cert.Attend (Sh ix2_of sgm)
open Cert.Mix (rmsAt)
open Cert.Proj.Ref (pR cosT sinT gateCol)

variable (m : (ℓ : Loc nD τ sig) → Buf (Elt Ideal) ℓ)

/-- The gates' columns: a group's twelve, zeros beside them. -/
abbrev gateCols (w : S1024x2840.Idx → EReal) : List ((s : Shape) × (s.Idx → EReal)) :=
    [⟨S1024x12, extractStridedSlice S1024x12 ![0, 2816] w slices_S1024x2840_S1024x12_0_2816⟩,
     ⟨S1024x116, broadcastInDim S1024x116 ![] bcast_S_S1024x116 (constant (F := Ideal) S_ .f32 0x00000000#32)⟩,
     ⟨S1024x12, extractStridedSlice S1024x12 ![0, 2828] w slices_S1024x2840_S1024x12_0_2828⟩,
     ⟨S1024x116, broadcastInDim S1024x116 ![] bcast_S_S1024x116 (constant (F := Ideal) S_ .f32 0x00000000#32)⟩]

/-- The gates' weights. -/
theorem V_44 (c : Dev nD) : V m c main_v44 = truncf (F := Ideal) (φ := .f32) .bf16 (concatenate S1024x256 1
    (gateCols (m ((c : Thread nD τ).loc main_arg2))) concatenates_S1024x12_S1024x116_S1024x12_S1024x116_S1024x256_d1) bitsLt_bf16_f32 := by
  simp only [V, V0, List.flatten_cons, List.flatten_nil, List.append_nil, List.cons_append, List.nil_append]
  after_results
  all_goals rfl

/-- The lane of a group's gate. -/
def gateLane (h : Fin 2) (j : Fin 12) : Fin 256 := ⟨128 * h.val + j.val, by omega⟩

theorem w44 (c : Dev nD) (k : Fin 1024) (h : Fin 2) (j : Fin 12) :
    V m c main_v44 (ix2 k (gateLane h j)) = m ((c : Thread nD τ).loc main_arg2) (ix2 k (gateCol h j)) := by
  rw [V_44]
  match h with
  | ⟨0, _⟩ =>
    refine Eq.trans (concatenate_apply_piece (t := S1024x256) 1 (gateCols (m ((c : Thread nD τ).loc main_arg2))) concatenates_S1024x12_S1024x116_S1024x12_S1024x116_S1024x256_d1 _ 0 (by simp) S1024x12 _ rfl rfl 0 rfl (ix2 k j)
      (fun b => match b with | ⟨0, _⟩ => fun _ => rfl | ⟨1, _⟩ => fun h => absurd rfl h) ?_) ?_
    · show 0 + j.val = 128 * 0 + j.val
      omega
    · exact congrArg (m ((c : Thread nD τ).loc main_arg2)) (ix2_of (a := 1024) (b := 2840) _ k (gateCol 0 j) (Nat.zero_add _) (by show 2816 + j.val = 2816 + (12 * 0 + j.val); omega))
  | ⟨1, _⟩ =>
    refine Eq.trans (concatenate_apply_piece (t := S1024x256) 1 (gateCols (m ((c : Thread nD τ).loc main_arg2))) concatenates_S1024x12_S1024x116_S1024x12_S1024x116_S1024x256_d1 _ 2 (by simp) S1024x12 _ rfl rfl 128 rfl (ix2 k j)
      (fun b => match b with | ⟨0, _⟩ => fun _ => rfl | ⟨1, _⟩ => fun h => absurd rfl h) ?_) ?_
    · show 128 + j.val = 128 * 1 + j.val
      omega
    · exact congrArg (m ((c : Thread nD τ).loc main_arg2)) (ix2_of (a := 1024) (b := 2840) _ k (gateCol 1 j) (Nat.zero_add _) (by show 2828 + j.val = 2816 + (12 * 1 + j.val); omega))

/-- The kernel's gates' logits are the layer's. -/
theorem gK_eq (c : Dev nD) (R : Fin 32768) (h : Fin 2) (j : Fin 12) : gK m c R (gateLane h j) = pK m c R (gateCol h j) := by
  unfold gK pK
  refine Finset.sum_congr rfl fun k _ => congrArg₂ (fun a b : EReal => a * b) rfl ((w44 m c k h j).trans ?_)
  rw [V_39]
  rfl

/-- What the program takes of the keys' and values' array: branch `i`'s keys (`j` zero) or values (`j` one). -/
abbrev takeKV (X : S32768x1024.Idx → EReal) (i j : ℕ) (h : S32768x2x2x2x64.Slices ![0, i, 0, j, 0] S32768x1x2x1x64) : S32768x2x64.Idx → EReal :=
  shapeCast S32768x2x64 (extractStridedSlice S32768x1x2x1x64 ![0, i, 0, j, 0] (extractStridedSlice S32768x2x2x2x64 ![0, 0, 0, 0, 0] (shapeCast S32768x2x2x2x128 X
    shapeCasts_S32768x1024_S32768x2x2x2x128) slices_S32768x2x2x2x128_S32768x2x2x2x64_0_0_0_0_0) h) shapeCasts_S32768x1x2x1x64_S32768x2x64

/-- … and of the gates'. -/
abbrev takeS (X : S32768x256.Idx → EReal) : S32768x2x12.Idx → EReal :=
  extractStridedSlice S32768x2x12 ![0, 0, 0] (shapeCast S32768x2x128 X shapeCasts_S32768x256_S32768x2x128) slices_S32768x2x128_S32768x2x12_0_0_0

/-- The lane of a head's tile. -/
def kvLane (i j h : Fin 2) (l : Fin 64) : Fin 1024 := ⟨128 * (4 * i.val + 2 * h.val + j.val) + l.val, by omega⟩

theorem takeKV_apply (X : S32768x1024.Idx → EReal) (i j : Fin 2) (hs) (R : Fin 32768) (h : Fin 2) (l : Fin 64) :
    takeKV X i.val j.val hs (ix3 R h l) = X (ix2 R (kvLane i j h l)) := by
  have hR := R.isLt
  have hh := h.isLt
  have hl := l.isLt
  have hi := i.isLt
  have hj := j.isLt
  refine (shapeCast_apply _ _ _ (ix5 R (0 : Fin 1) h (0 : Fin 1) l) ?_).trans
    ((extractStridedSlice_apply _ _ _ _ (ix5 R i h j l) fun a => ?_).trans ((extractStridedSlice_apply _ _ _ _ (ix5 R i h j (⟨l.val, by omega⟩ : Fin 128)) fun a => ?_).trans (shapeCast_apply _ _ _ _ ?_)))
  · rw [Shape.rowMajor_val_five, Shape.rowMajor_val_three]
    show (((R.val * 1 + 0) * 2 + h.val) * 1 + 0) * 64 + l.val = (R.val * 2 + h.val) * 64 + l.val
    omega
  · match a with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm
  · rw [Shape.rowMajor_val_two, Shape.rowMajor_val_five]
    show R.val * 1024 + (128 * (4 * i.val + 2 * h.val + j.val) + l.val) = (((R.val * 2 + i.val) * 2 + h.val) * 2 + j.val) * 128 + l.val
    omega

theorem takeS_apply (X : S32768x256.Idx → EReal) (R : Fin 32768) (h : Fin 2) (j : Fin 12) : takeS X (ix3 R h j) = X (ix2 R (gateLane h j)) := by
  have hj := j.isLt
  refine (extractStridedSlice_apply _ _ _ _ (ix3 R h (⟨j.val, by omega⟩ : Fin 128)) fun a => ?_).trans (shapeCast_apply _ _ _ _ ?_)
  · match a with
    | ⟨0, _⟩ => exact (Nat.zero_add _).symm
    | ⟨1, _⟩ => exact (Nat.zero_add _).symm
    | ⟨2, _⟩ => exact (Nat.zero_add _).symm
  · rw [Shape.rowMajor_val_two, Shape.rowMajor_val_three]
    show R.val * 256 + (128 * h.val + j.val) = (R.val * 2 + h.val) * 128 + j.val
    omega

theorem tail49 (X : Valuation τ sig (Elt Ideal)) : StableHlo.after (τ := τ) ([hostOps1] : List (List (HloOp τ sig (Elt Ideal)))).flatten X (Proc.devRef .tc main_v49) = takeS (X (Proc.devRef .tc main_v45_5)) := by
  simp only [List.flatten_cons, List.flatten_nil, List.append_nil, List.cons_append, List.nil_append]
  after_results
  all_goals rfl

theorem tail51 (X : Valuation τ sig (Elt Ideal)) : StableHlo.after (τ := τ) ([hostOps1] : List (List (HloOp τ sig (Elt Ideal)))).flatten X (Proc.devRef .tc main_v51) = takeKV (X (Proc.devRef .tc main_v45_4)) 0 0 (by decide) := by
  simp only [List.flatten_cons, List.flatten_nil, List.append_nil, List.cons_append, List.nil_append]
  after_results
  all_goals rfl

theorem tail53 (X : Valuation τ sig (Elt Ideal)) : StableHlo.after (τ := τ) ([hostOps1] : List (List (HloOp τ sig (Elt Ideal)))).flatten X (Proc.devRef .tc main_v53) = takeKV (X (Proc.devRef .tc main_v45_4)) 0 1 (by decide) := by
  simp only [List.flatten_cons, List.flatten_nil, List.append_nil, List.cons_append, List.nil_append]
  after_results
  all_goals rfl

theorem tail55 (X : Valuation τ sig (Elt Ideal)) : StableHlo.after (τ := τ) ([hostOps1] : List (List (HloOp τ sig (Elt Ideal)))).flatten X (Proc.devRef .tc main_v55) = takeKV (X (Proc.devRef .tc main_v45_4)) 1 0 (by decide) := by
  simp only [List.flatten_cons, List.flatten_nil, List.append_nil, List.cons_append, List.nil_append]
  after_results
  all_goals rfl

theorem tail57 (X : Valuation τ sig (Elt Ideal)) : StableHlo.after (τ := τ) ([hostOps1] : List (List (HloOp τ sig (Elt Ideal)))).flatten X (Proc.devRef .tc main_v57) = takeKV (X (Proc.devRef .tc main_v45_4)) 1 1 (by decide) := by
  simp only [List.flatten_cons, List.flatten_nil, List.append_nil, List.cons_append, List.nil_append]
  after_results
  all_goals rfl

/-- The program's run: its nine results, and its arguments as they were. -/
theorem run (ρ : Dev nD → PrngReg) : θ_run defs (onTc (τ := τ) (main (F := Ideal))) ⟨m, fun _ => 0, ρ⟩ (fun r => ∀ c : Dev nD,
      r.2.mem ((c : Thread nD τ).loc main_v45_0) = (dats m 0 c).arrAt 7 cfg0.N
      ∧ r.2.mem ((c : Thread nD τ).loc main_v45_1) = (dats m 0 c).arrAt 8 cfg0.N
      ∧ r.2.mem ((c : Thread nD τ).loc main_v45_2) = (dats m 0 c).arrAt 9 cfg0.N
      ∧ r.2.mem ((c : Thread nD τ).loc main_v45_3) = (dats m 0 c).arrAt 10 cfg0.N
      ∧ r.2.mem ((c : Thread nD τ).loc main_v51) = takeKV ((dats m 0 c).arrAt 11 cfg0.N : S32768x1024.Idx → EReal) 0 0 (by decide)
      ∧ r.2.mem ((c : Thread nD τ).loc main_v53) = takeKV ((dats m 0 c).arrAt 11 cfg0.N : S32768x1024.Idx → EReal) 0 1 (by decide)
      ∧ r.2.mem ((c : Thread nD τ).loc main_v55) = takeKV ((dats m 0 c).arrAt 11 cfg0.N : S32768x1024.Idx → EReal) 1 0 (by decide)
      ∧ r.2.mem ((c : Thread nD τ).loc main_v57) = takeKV ((dats m 0 c).arrAt 11 cfg0.N : S32768x1024.Idx → EReal) 1 1 (by decide)
      ∧ r.2.mem ((c : Thread nD τ).loc main_v49) = takeS ((dats m 0 c).arrAt 12 cfg0.N : S32768x256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.2 c).1 7,
    (h.2 c).1 8,
    (h.2 c).1 9,
    (h.2 c).1 10,
    ((h.2 c).2 main_v51 (Pipeline.mem_restRefs_of main_v51 (by decide) (by decide))).trans ((tail51 (Value.W m c)).trans (congrArg (fun X : S32768x1024.Idx → EReal => takeKV X _ _ (by decide)) (Value.W_arr m c 11))),
    ((h.2 c).2 main_v53 (Pipeline.mem_restRefs_of main_v53 (by decide) (by decide))).trans ((tail53 (Value.W m c)).trans (congrArg (fun X : S32768x1024.Idx → EReal => takeKV X _ _ (by decide)) (Value.W_arr m c 11))),
    ((h.2 c).2 main_v55 (Pipeline.mem_restRefs_of main_v55 (by decide) (by decide))).trans ((tail55 (Value.W m c)).trans (congrArg (fun X : S32768x1024.Idx → EReal => takeKV X _ _ (by decide)) (Value.W_arr m c 11))),
    ((h.2 c).2 main_v57 (Pipeline.mem_restRefs_of main_v57 (by decide) (by decide))).trans ((tail57 (Value.W m c)).trans (congrArg (fun X : S32768x1024.Idx → EReal => takeKV X _ _ (by decide)) (Value.W_arr m c 11))),
    ((h.2 c).2 main_v49 (Pipeline.mem_restRefs_of main_v49 (by decide) (by decide))).trans ((tail49 (Value.W m c)).trans (congrArg (fun X : S32768x256.Idx → EReal => takeS X) (Value.W_arr m c 12))), h.1 c⟩) (θ_run_and (unchanged m ρ) (run_main m ρ))

theorem ext3 {a b c : ℕ} (X Y : (⟨3, ![a, b, c]⟩ : Shape).Idx → EReal) (h : ∀ i j k, X (ix3 i j k) = Y (ix3 i j k)) : X = Y :=
  funext fun i => (congrArg X (Cert.Mix.Ref.at3 i (i 0) (i 1) (i 2) rfl rfl rfl)).trans ((h (i 0) (i 1) (i 2)).trans (congrArg Y (Cert.Mix.Ref.at3 i (i 0) (i 1) (i 2) rfl rfl rfl)).symm)

/-- A head's lane of the keys' and values' array, in the arguments. -/
theorem kv_lane (c : Dev nD) (i j : Fin 2) (hs) (R : Fin 32768) (h : Fin 2) (l : Fin 64) (D : Fin 512) (hD : D.val = (256 * i.val + 128 * j.val) + (64 * h.val + l.val)) :
    takeKV ((dats m 0 c).arrAt 11 cfg0.N : S32768x1024.Idx → EReal) i.val j.val hs (ix3 R h l)
      = kvOf ((kvLane i j h l).val / 128 % 2 = 1) (pR (m ((c : Thread nD τ).loc main_arg0)) (m ((c : Thread nD τ).loc main_arg1)) (m ((c : Thread nD τ).loc main_arg2)) R) (cosT (posOf R)) (sinT (posOf R)) D := by
  have hh := h.isLt
  have hl := l.isLt
  have hi := i.isLt
  have hj := j.isLt
  have hv : (kvLane i j h l).val = 128 * (4 * i.val + 2 * h.val + j.val) + l.val := rfl
  have hd : kvD (kvLane i j h l) = D := by
    refine Fin.ext ?_
    show 256 * ((kvLane i j h l).val / 512) + 128 * ((kvLane i j h l).val / 128 % 2) + 64 * ((kvLane i j h l).val / 256 % 2) + (kvLane i j h l).val % 64 = D.val
    have e1 : (kvLane i j h l).val / 512 = i.val := by omega
    have e2 : (kvLane i j h l).val / 128 % 2 = j.val := by omega
    have e5 : (kvLane i j h l).val / 256 = 2 * i.val + h.val := by omega
    have e3 : (kvLane i j h l).val / 256 % 2 = h.val := by rw [e5]; omega
    have e4 : (kvLane i j h l).val % 64 = l.val := by omega
    rw [e1, e2, e3, e4]
    omega
  rw [takeKV_apply, finalV m c R (kvLane i j h l) (by rw [hv]; omega), cos_eq, sin_eq, hd, show pK m c R = _ from funext fun C => pK_eq m c R C]

/-- The results after the call's own, in the arguments. -/
theorem arrayKs (c : Dev nD) : (Cert.Reference3Ideal.Read.val_main_v104 (F := Ideal) (m ((c : Thread nD τ).loc main_arg0)) (m ((c : Thread nD τ).loc main_arg1)) (m ((c : Thread nD τ).loc main_arg2)) : S32768x2x64.Idx → EReal)
    = takeKV ((dats m 0 c).arrAt 11 cfg0.N : S32768x1024.Idx → EReal) 0 0 (by decide) := by
  refine ext3 (a := 32768) (b := 2) (c := 64) _ _ fun R h l => ?_
  have hD : 0 + (64 * h.val + l.val) < 512 := by omega
  exact (Ref.ks_at _ _ _ ((kvLane 0 0 h l).val / 128 % 2 = 1) (by show ¬ (128 * (4 * 0 + 2 * h.val + 0) + l.val) / 128 % 2 = 1; omega) R h l ⟨0 + (64 * h.val + l.val), hD⟩ rfl).trans
    (kv_lane m c 0 0 (by decide) R h l ⟨0 + (64 * h.val + l.val), hD⟩ rfl).symm

theorem arrayVs (c : Dev nD) : (Cert.Reference3Ideal.Read.val_main_v106 (F := Ideal) (m ((c : Thread nD τ).loc main_arg0)) (m ((c : Thread nD τ).loc main_arg1)) (m ((c : Thread nD τ).loc main_arg2)) : S32768x2x64.Idx → EReal)
    = takeKV ((dats m 0 c).arrAt 11 cfg0.N : S32768x1024.Idx → EReal) 0 1 (by decide) := by
  refine ext3 (a := 32768) (b := 2) (c := 64) _ _ fun R h l => ?_
  have hD : 128 + (64 * h.val + l.val) < 512 := by omega
  exact (Ref.vs_at _ _ _ ((kvLane 0 1 h l).val / 128 % 2 = 1) (by show (128 * (4 * 0 + 2 * h.val + 1) + l.val) / 128 % 2 = 1; omega) _ _ R h l ⟨128 + (64 * h.val + l.val), hD⟩ rfl).trans
    (kv_lane m c 0 1 (by decide) R h l ⟨128 + (64 * h.val + l.val), hD⟩ rfl).symm

theorem arrayKw (c : Dev nD) : (Cert.Reference3Ideal.Read.val_main_v108 (F := Ideal) (m ((c : Thread nD τ).loc main_arg0)) (m ((c : Thread nD τ).loc main_arg1)) (m ((c : Thread nD τ).loc main_arg2)) : S32768x2x64.Idx → EReal)
    = takeKV ((dats m 0 c).arrAt 11 cfg0.N : S32768x1024.Idx → EReal) 1 0 (by decide) := by
  refine ext3 (a := 32768) (b := 2) (c := 64) _ _ fun R h l => ?_
  have hD : 256 + (64 * h.val + l.val) < 512 := by omega
  exact (Ref.kw_at _ _ _ ((kvLane 1 0 h l).val / 128 % 2 = 1) (by show ¬ (128 * (4 * 1 + 2 * h.val + 0) + l.val) / 128 % 2 = 1; omega) R h l ⟨256 + (64 * h.val + l.val), hD⟩ rfl).trans
    (kv_lane m c 1 0 (by decide) R h l ⟨256 + (64 * h.val + l.val), hD⟩ rfl).symm

theorem arrayVw (c : Dev nD) : (Cert.Reference3Ideal.Read.val_main_v110 (F := Ideal) (m ((c : Thread nD τ).loc main_arg0)) (m ((c : Thread nD τ).loc main_arg1)) (m ((c : Thread nD τ).loc main_arg2)) : S32768x2x64.Idx → EReal)
    = takeKV ((dats m 0 c).arrAt 11 cfg0.N : S32768x1024.Idx → EReal) 1 1 (by decide) := by
  refine ext3 (a := 32768) (b := 2) (c := 64) _ _ fun R h l => ?_
  have hD : 384 + (64 * h.val + l.val) < 512 := by omega
  exact (Ref.vw_at _ _ _ ((kvLane 1 1 h l).val / 128 % 2 = 1) (by show (128 * (4 * 1 + 2 * h.val + 1) + l.val) / 128 % 2 = 1; omega) _ _ R h l ⟨384 + (64 * h.val + l.val), hD⟩ rfl).trans
    (kv_lane m c 1 1 (by decide) R h l ⟨384 + (64 * h.val + l.val), hD⟩ rfl).symm

theorem arrayS (c : Dev nD) : (Cert.Reference3Ideal.Read.val_main_v117 (F := Ideal) (m ((c : Thread nD τ).loc main_arg0)) (m ((c : Thread nD τ).loc main_arg1)) (m ((c : Thread nD τ).loc main_arg2)) : S32768x2x12.Idx → EReal)
    = takeS ((dats m 0 c).arrAt 12 cfg0.N : S32768x256.Idx → EReal) := by
  refine ext3 (a := 32768) (b := 2) (c := 12) _ _ fun R h j => ?_
  refine (Ref.gates_at _ _ _ R h j).trans (Eq.symm ((takeS_apply _ R h j).trans ((finalS m c R _).trans ?_)))
  rw [gK_eq, pK_eq]

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Reference3Ideal.Run
public import proofs.«01_k».proof.Proof.RefAt
public import proofs.«01_k».proof.Proof.MixHost
public import proofs.«01_k».proof.Proof.ProjTail
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and no semaphore counter is left raised: it has none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two rewritten constants are the named ones: the mask value and the query scale. -/
theorem preserves : Cert.preserves_Kernel_KernelIdeal :=
  ⟨IdealRules.named_const.statement Cert.KernelIdeal.κ "mask" .f32 0xF149F2CA#32 ⊥ rfl,
   IdealRules.named_const.statement Cert.KernelIdeal.κ "q_scale" .f32 0x3E38AA3B#32 (((1 / 8) * (Real.log 2)⁻¹ : ℝ) : EReal) rfl⟩

open Cert.KernelIdeal Cert.KernelIdeal.Gen in
/-- The call's array is the reference's, index by index. -/
theorem arrays (m : (ℓ : Loc Cert.KernelIdeal.nD Cert.KernelIdeal.τ Cert.KernelIdeal.sig) → Buf (Elt Ideal) ℓ) (c : Dev Cert.KernelIdeal.nD) :
    (Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Cert.KernelIdeal.S32768x512.Idx → EReal)
      = (Cert.KernelIdeal.Gen.dats m 0 c).arrAt 14 cfg0.N := by
  funext i
  have hR : (i 0).val < 32768 := (i 0).isLt
  have hC : (i 1).val < 512 := (i 1).isLt
  have key : ∀ (b : Fin 16) (n : Fin 2048) (h : Fin 8) (l : Fin 64), (i 0).val = 2048 * b.val + n.val → (i 1).val = 64 * h.val + l.val →
      (Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Cert.KernelIdeal.S32768x512.Idx → EReal) (ix2 (i 0) (i 1))
        = ((Cert.KernelIdeal.Gen.dats m 0 c).arrAt 14 cfg0.N : Cert.KernelIdeal.S32768x512.Idx → EReal) (ix2 (i 0) (i 1)) :=
    fun b n h l e1 e2 => (Cert.Attend.Ref.reference_at _ _ _ _ _ _ _ _ b n h l (i 0) (i 1) e1 e2).trans
      (Cert.Attend.kernel_at m c b n h l (i 0) (i 1) e1 e2).symm
  rw [eq_ix2 i]
  exact key (⟨(i 0).val / 2048, by omega⟩ : Fin 16) (⟨(i 0).val % 2048, by omega⟩ : Fin 2048)
      (⟨(i 1).val / 64, by omega⟩ : Fin 8) (⟨(i 1).val % 64, by omega⟩ : Fin 64)
      (Nat.div_add_mod (i 0).val 2048).symm (Nat.div_add_mod (i 1).val 64).symm

theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v81_eq, h0, h1, h2, h3, h4, h5, h6, h7]
  exact arrays m c

/-- The last call's reference runs, its arguments end unchanged, and no semaphore counter is left raised: it has none. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Kernel2Ideal Cert.Kernel2Ideal.Gen in
/-- The last call's array is its reference's, index by index. -/
theorem arrays2 (m : (ℓ : Loc Cert.Kernel2Ideal.nD Cert.Kernel2Ideal.τ Cert.Kernel2Ideal.sig) → Buf (Elt Ideal) ℓ) (c : Dev Cert.Kernel2Ideal.nD) :
    (Cert.Reference2Ideal.Read.val_main_v129 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) : Cert.Kernel2Ideal.S32768x1024.Idx → EReal)
      = (Cert.Kernel2Ideal.Gen.dats m 0 c).arrAt 18 cfg0.N := by
  funext i
  rw [eq_ix2 i]
  exact Cert.Mix.arrays_at m c (i 0) (i 1)

theorem algebraic2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10, h11, h12, h13, h14, h15, h16, h17⟩ := hagree c
  rw [Cert.Reference2Ideal.Read.val_main_v129_eq]
  show Cert.Reference2Ideal.Read.val_main_v129 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) (m' ((c.tc : Thread Cert.Reference2Ideal.nD Cert.Reference2Ideal.τ).loc Cert.Reference2Ideal.main_arg16)) (m' ((c.tc : Thread Cert.Reference2Ideal.nD Cert.Reference2Ideal.τ).loc Cert.Reference2Ideal.main_arg17)) = _
  rw [h0, h1, h2, h3, h4, h5, h6, h7, h8, h9, h10, h11, h12, h13, h14, h15, h16, h17]
  exact arrays2 m c

/-- The projection call's reference runs, its arguments end unchanged, and no semaphore counter is left raised: it has none. -/
theorem frame_reference3 : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

/-- The projection call's rewritten constant is the named query scale. -/
theorem preserves3 : Cert.preserves_Kernel3_Kernel3Ideal :=
  IdealRules.named_const.statement Cert.Kernel3Ideal.κ "q_scale" .f32 0x3E38AA3B#32 (((1 / 8) * (Real.log 2)⁻¹ : ℝ) : EReal) rfl

theorem algebraic3 : Cert.algebraic_Kernel3Ideal_Reference3Ideal := by
  intro m ρ m' ρ' _ hagree
  refine ⟨_, _, _, _, _, _, _, _, _, (θ_run Cert.Kernel3Ideal.defs _ _).mono (fun _ h c => h c)
    (Cert.Proj.run m ρ), ?_⟩
  refine (θ_run Cert.Reference3Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
    (Cert.Reference3Ideal.Value.run (F := Ideal) m' ρ')
  · obtain ⟨h0, h1, h2⟩ := hagree c
    rw [Cert.Reference3Ideal.Read.val_main_v96_eq]
    show Cert.Reference3Ideal.Read.val_main_v96 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayC m c
  · obtain ⟨h0, h1, h2⟩ := hagree c
    rw [Cert.Reference3Ideal.Read.val_main_v98_eq]
    show Cert.Reference3Ideal.Read.val_main_v98 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayG m c
  · obtain ⟨h0, h1, h2⟩ := hagree c
    rw [Cert.Reference3Ideal.Read.val_main_v100_eq]
    show Cert.Reference3Ideal.Read.val_main_v100 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayQ m c
  · obtain ⟨h0, h1, h2⟩ := hagree c
    rw [Cert.Reference3Ideal.Read.val_main_v102_eq]
    show Cert.Reference3Ideal.Read.val_main_v102 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayK m c
  · obtain ⟨h0, h1, h2⟩ := hagree c
    rw [Cert.Reference3Ideal.Read.val_main_v104_eq]
    show Cert.Reference3Ideal.Read.val_main_v104 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayKs m c
  · obtain ⟨h0, h1, h2⟩ := hagree c
    rw [Cert.Reference3Ideal.Read.val_main_v106_eq]
    show Cert.Reference3Ideal.Read.val_main_v106 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayVs m c
  · obtain ⟨h0, h1, h2⟩ := hagree c
    rw [Cert.Reference3Ideal.Read.val_main_v108_eq]
    show Cert.Reference3Ideal.Read.val_main_v108 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayKw m c
  · obtain ⟨h0, h1, h2⟩ := hagree c
    rw [Cert.Reference3Ideal.Read.val_main_v110_eq]
    show Cert.Reference3Ideal.Read.val_main_v110 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayVw m c
  · obtain ⟨h0, h1, h2⟩ := hagree c
    rw [Cert.Reference3Ideal.Read.val_main_v117_eq]
    show Cert.Reference3Ideal.Read.val_main_v117 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [h0, h1, h2]
    exact Cert.Proj.arrayS m c

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   fun m ρ _ => Cert.Kernel.Gen.frame m ρ, fun m ρ _ => Cert.KernelIdeal.Gen.frame m ρ, frame_reference,
   fun m ρ _ => Cert.Kernel2.Gen.frame m ρ, fun m ρ _ => Cert.Kernel2Ideal.Gen.frame m ρ, frame_reference2,
   fun m ρ _ => Cert.Kernel3.Gen.frame m ρ, fun m ρ _ => Cert.Kernel3Ideal.Gen.frame m ρ, frame_reference3,
   preserves, algebraic, trivial, algebraic2, preserves3, algebraic3⟩

end Cert.Proof

end
